-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3)
      ∧ r.2.mem ((c.tc : Thread Cert.Kernel47.nD Cert.Kernel47.τ).loc Cert.Kernel47.main_arg4) = m ((c.tc : Thread Cert.Kernel47.nD Cert.Kernel47.τ).loc Cert.Kernel47.main_arg4))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
      ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3)
      ∧ r.2.mem ((c.tc : Thread Cert.Reference47Ideal.nD Cert.Reference47Ideal.τ).loc Cert.Reference47Ideal.main_arg4) = m ((c.tc : Thread Cert.Reference47Ideal.nD Cert.Reference47Ideal.τ).loc Cert.Reference47Ideal.main_arg4))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_5) = v0 c
          ∧ r.2.mem ((c.tc : Thread Cert.ReferenceIdeal.nD Cert.ReferenceIdeal.τ).loc Cert.ReferenceIdeal.main_v8_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v10) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v33) = v0 c
          ∧ r.2.mem ((c.tc : Thread Cert.Reference22Ideal.nD Cert.Reference22Ideal.τ).loc Cert.Reference22Ideal.main_v34) = v1 c
          ∧ r.2.mem ((c.tc : Thread Cert.Reference22Ideal.nD Cert.Reference22Ideal.τ).loc Cert.Reference22Ideal.main_v35) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v81) = v0 c
          ∧ r.2.mem ((c.tc : Thread Cert.Reference23Ideal.nD Cert.Reference23Ideal.τ).loc Cert.Reference23Ideal.main_v76) = v1 c
          ∧ r.2.mem ((c.tc : Thread Cert.Reference23Ideal.nD Cert.Reference23Ideal.τ).loc Cert.Reference23Ideal.main_v67) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v17) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v50) = v0 c
          ∧ r.2.mem ((c.tc : Thread Cert.Reference25Ideal.nD Cert.Reference25Ideal.τ).loc Cert.Reference25Ideal.main_v71) = v1 c
          ∧ r.2.mem ((c.tc : Thread Cert.Reference25Ideal.nD Cert.Reference25Ideal.τ).loc Cert.Reference25Ideal.main_v54) = v2 c
          ∧ r.2.mem ((c.tc : Thread Cert.Reference25Ideal.nD Cert.Reference25Ideal.τ).loc Cert.Reference25Ideal.main_v33) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v16) = v0 c
          ∧ r.2.mem ((c.tc : Thread Cert.Reference26Ideal.nD Cert.Reference26Ideal.τ).loc Cert.Reference26Ideal.main_v36) = v1 c
          ∧ r.2.mem ((c.tc : Thread Cert.Reference26Ideal.nD Cert.Reference26Ideal.τ).loc Cert.Reference26Ideal.main_v19) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_3)) (v2 : (c : Dev Cert.Kernel27Ideal.nD) → Buf (Elt Ideal) ((c.tc : Thread Cert.Kernel27Ideal.nD Cert.Kernel27Ideal.τ).loc Cert.Kernel27Ideal.main_v0_4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_3) = v1 c
          ∧ r.2.mem ((c.tc : Thread Cert.Kernel27Ideal.nD Cert.Kernel27Ideal.τ).loc Cert.Kernel27Ideal.main_v0_4) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v60) = v0 c
          ∧ r.2.mem ((c.tc : Thread Cert.Reference27Ideal.nD Cert.Reference27Ideal.τ).loc Cert.Reference27Ideal.main_v64) = v1 c
          ∧ r.2.mem ((c.tc : Thread Cert.Reference27Ideal.nD Cert.Reference27Ideal.τ).loc Cert.Reference27Ideal.main_v43) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v37) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg4) = v0 c
          ∧ r.2.mem ((c.tc : Thread Cert.Reference30Ideal.nD Cert.Reference30Ideal.τ).loc Cert.Reference30Ideal.main_v49) = v1 c
          ∧ r.2.mem ((c.tc : Thread Cert.Reference30Ideal.nD Cert.Reference30Ideal.τ).loc Cert.Reference30Ideal.main_v50) = v2 c
          ∧ r.2.mem ((c.tc : Thread Cert.Reference30Ideal.nD Cert.Reference30Ideal.τ).loc Cert.Reference30Ideal.main_v29) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0_1)) (v1 : (c : Dev Cert.Kernel41Ideal.nD) → Buf (Elt Ideal) ((c.tc : Thread Cert.Kernel41Ideal.nD Cert.Kernel41Ideal.τ).loc Cert.Kernel41Ideal.main_v0_0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_1) = v0 c
          ∧ r.2.mem ((c.tc : Thread Cert.Kernel41Ideal.nD Cert.Kernel41Ideal.τ).loc Cert.Kernel41Ideal.main_v0_0) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v15) = v0 c
          ∧ r.2.mem ((c.tc : Thread Cert.Reference41Ideal.nD Cert.Reference41Ideal.τ).loc Cert.Reference41Ideal.main_v14) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v8) = v0 c
          ∧ r.2.mem ((c.tc : Thread Cert.Reference42Ideal.nD Cert.Reference42Ideal.τ).loc Cert.Reference42Ideal.main_v13) = v1 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v31) = v0 c
          ∧ r.2.mem ((c.tc : Thread Cert.Reference43Ideal.nD Cert.Reference43Ideal.τ).loc Cert.Reference43Ideal.main_v32) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v12) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v12) = v0 c
          ∧ r.2.mem ((c.tc : Thread Cert.Reference45Ideal.nD Cert.Reference45Ideal.τ).loc Cert.Reference45Ideal.main_v25) = v1 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v12) = v0 c
          ∧ r.2.mem ((c.tc : Thread Cert.Reference46Ideal.nD Cert.Reference46Ideal.τ).loc Cert.Reference46Ideal.main_v13) = v1 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)
      ∧ m' ((c.tc : Thread Cert.Reference47Ideal.nD Cert.Reference47Ideal.τ).loc Cert.Reference47Ideal.main_arg4) = m ((c.tc : Thread Cert.Kernel47Ideal.nD Cert.Kernel47Ideal.τ).loc Cert.Kernel47Ideal.main_arg4)) →
    ∃ (v0 : (c : Dev Cert.Kernel47Ideal.nD) → Buf (Elt Ideal) ((c.tc : Thread Cert.Kernel47Ideal.nD Cert.Kernel47Ideal.τ).loc Cert.Kernel47Ideal.main_v0_0)) (v1 : (c : Dev Cert.Kernel47Ideal.nD) → Buf (Elt Ideal) ((c.tc : Thread Cert.Kernel47Ideal.nD Cert.Kernel47Ideal.τ).loc Cert.Kernel47Ideal.main_v0_1)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0_0) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
          ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v19) = v0 c
          ∧ r.2.mem ((c.tc : Thread Cert.Reference47Ideal.nD Cert.Reference47Ideal.τ).loc Cert.Reference47Ideal.main_v32) = v1 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3)
          ∧ r.2.mem ((c.tc : Thread Cert.Reference47Ideal.nD Cert.Reference47Ideal.τ).loc Cert.Reference47Ideal.main_arg4) = m' ((c.tc : Thread Cert.Reference47Ideal.nD Cert.Reference47Ideal.τ).loc Cert.Reference47Ideal.main_arg4))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v19) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)) →
    ∃ (v0 : (c : Dev Cert.Kernel49Ideal.nD) → Buf (Elt Ideal) ((c.tc : Thread Cert.Kernel49Ideal.nD Cert.Kernel49Ideal.τ).loc Cert.Kernel49Ideal.main_v0)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v4) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v15) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
-- ==== Pre_finite.lean ====
abbrev S2048x2816 : Shape := ⟨2, ![2048, 2816]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel

variable [Facts]

def fn {F : FTy → Type} [FloatOps F] (main_arg0 : FVec F S2048x2816 .f32) (main_arg1 : FVec F S2048x2816 .f32) (main_arg2 : FVec F S2048x2816 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  let main_v9 : FVec F S2048x2816 .f32 := Host.absf main_arg2
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  let main_c_3 : IVec S_ 1 := constantI S_ 1 1#1
  let main_v12 : IVec S_ 1 := (fun x v => Host.reduce IntOp.andi x v reducesTo_S2048x2816_S_d0_1 h_S_) main_v11 main_c_3
  let main_v13 : IVec S_ 1 := andi main_v8 main_v12
  main_v13
-- ==== Kernel.lean ====
abbrev S2048x2816 : Shape := ⟨2, ![2048, 2816]⟩
abbrev S2048x256 : Shape := ⟨2, ![2048, 256]⟩
abbrev S8x256 : Shape := ⟨2, ![8, 256]⟩
abbrev S1x256 : Shape := ⟨2, ![1, 256]⟩

abbrev nBuf : Space → Nat
  | .hbm => 6
  | .vmem => 17
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c256_i32 : BitVec 32 := 256#32
  let v2 : BitVec 32 := Scalar.addi c0_i32 c256_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v4 : BitVec 32 := Scalar.muli arg4 c8_i32
  v4
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v4 : BitVec 32 := Scalar.muli arg4 c8_i32
  let v5 : BitVec 32 := v4
  let v6 : Index := Scalar.indexCast v5
  let c0 : Index := 0#32
  ![v6.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32_16 : BitVec 32 := 8#32
  let v47 : BitVec 32 := Scalar.muli arg4 c8_i32_16
  let c7_i32 : BitVec 32 := 7#32
  let v48 : BitVec 32 := Scalar.addi v47 c7_i32
  let v49 : Index := Scalar.indexCast v48
  let c0_17 : Index := 0#32
  ![v49.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![11], ![false]⟩

@[reducible] def k1_t1_loop : Scf.Loop 32 :=
  let c0_i32 : BitVec 32 := 0#32
  let c256_i32 : BitVec 32 := 256#32
  let v12 : BitVec 32 := Scalar.addi c0_i32 c256_i32
  let c1_i32 : BitVec 32 := 1#32
  ⟨c0_i32, v12, c1_i32⟩
def k1_mult1 (k1_t1 : Fin k1_t1_loop.trips) : BitVec 32 :=
  let c255_i32 : BitVec 32 := 255#32
  let c0_i32 : BitVec 32 := 0#32
  let c1_i32 : BitVec 32 := 1#32
  let arg7 : BitVec 32 := Scf.iv c0_i32 c1_i32 k1_t1
  let v26 : BitVec 32 := Scalar.subi c255_i32 arg7
  let c8_i32 : BitVec 32 := 8#32
  let v27 : BitVec 32 := Scalar.muli v26 c8_i32
  v27
def k1_off1 (k1_t1 : Fin k1_t1_loop.trips) : Fin 2 → Nat :=
  let c255_i32 : BitVec 32 := 255#32
  let c0_i32 : BitVec 32 := 0#32
  let c1_i32 : BitVec 32 := 1#32
  let arg7 : BitVec 32 := Scf.iv c0_i32 c1_i32 k1_t1
  let v26 : BitVec 32 := Scalar.subi c255_i32 arg7
  let c8_i32 : BitVec 32 := 8#32
  let v27 : BitVec 32 := Scalar.muli v26 c8_i32
  let v28 : BitVec 32 := v27
  let v29 : Index := Scalar.indexCast v28
  let c0_15 : Index := 0#32
  ![v29.toNat, 0]
def k1_off2 (k1_t1 : Fin k1_t1_loop.trips) : Fin 2 → Nat :=
  let c255_i32 : BitVec 32 := 255#32
  let c0_i32 : BitVec 32 := 0#32
  let c1_i32 : BitVec 32 := 1#32
  let arg7 : BitVec 32 := Scf.iv c0_i32 c1_i32 k1_t1
  let v26 : BitVec 32 := Scalar.subi c255_i32 arg7
  let c8_i32_30 : BitVec 32 := 8#32
  let v70 : BitVec 32 := Scalar.muli v26 c8_i32_30
  let c0_i32_31 : BitVec 32 := 0#32
  let v71 : BitVec 32 := Scalar.addi v70 c0_i32_31
  let v72 : Index := Scalar.indexCast v71
  let c0_32 : Index := 0#32
  ![v72.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2048x2816 : Shape := ⟨2, ![2048, 2816]⟩
abbrev S_ : Shape := ⟨0, ![]⟩
abbrev S2816 : Shape := ⟨1, ![2816]⟩
abbrev S1x2816 : Shape := ⟨2, ![1, 2816]⟩

abbrev nBuf : Space → Nat
  | .hbm => 76
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S_, .f32⟩
  | .hbm, ⟨4, _⟩ => ⟨S2816, .f32⟩
  | .hbm, ⟨5, _⟩ => ⟨S_, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S_, .i32⟩
  | .hbm, ⟨10, _⟩ => ⟨S2048x2816, .f32⟩
  | .hbm, ⟨11, _⟩ => ⟨S2048x2816, .f32⟩
  | .hbm, ⟨12, _⟩ => ⟨S_, .i32⟩
  | .hbm, ⟨13, _⟩ => ⟨S2816, .f32⟩
  | .hbm, ⟨14, _⟩ => ⟨S2048x2816, .f32⟩
  | .hbm, ⟨15, _⟩ => ⟨S2048x2816, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x2816, .f32⟩
  | .hbm, ⟨20, _⟩ => ⟨S2816, .f32⟩
  | .hbm, ⟨21, _⟩ => ⟨S_, .i32⟩
  | .hbm, ⟨22, _⟩ => ⟨S1x2816, .f32⟩
  | .hbm, ⟨23, _⟩ => ⟨S2816, .f32⟩
  | .hbm, ⟨24, _⟩ => ⟨S2816, .f32⟩
  | .hbm, ⟨25, _⟩ => ⟨S2816, .f32⟩
  | .hbm, ⟨26, _⟩ => ⟨S1x2816, .f32⟩
  | .hbm, ⟨27, _⟩ => ⟨S_, .i32⟩
  | .hbm, ⟨28, _⟩ => ⟨S2048x2816, .f32⟩
  | .hbm, ⟨29, _⟩ => ⟨S1x2816, .f32⟩
  | .hbm, ⟨30, _⟩ => ⟨S_, .i32⟩
  | .hbm, ⟨31, _⟩ => ⟨S2048x2816, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S2816, .f32⟩
  | .hbm, ⟨36, _⟩ => ⟨S_, .f32⟩
  | .hbm, ⟨37, _⟩ => ⟨S2816, .f32⟩
  | .hbm, ⟨38, _⟩ => ⟨S_, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S_, .i32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S_, .i32⟩
  | .hbm, ⟨47, _⟩ => ⟨S2816, .f32⟩
  | .hbm, ⟨48, _⟩ => ⟨S2048x2816, .f32⟩
  | .hbm, ⟨49, _⟩ => ⟨S2048x2816, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x2816, .f32⟩
  | .hbm, ⟨58, _⟩ => ⟨S2816, .f32⟩
  | .hbm, ⟨59, _⟩ => ⟨S_, .i32⟩
  | .hbm, ⟨60, _⟩ => ⟨S1x2816, .f32⟩
  | .hbm, ⟨61, _⟩ => ⟨S2816, .f32⟩
  | .hbm, ⟨62, _⟩ => ⟨S_, .i32⟩
  | .hbm, ⟨63, _⟩ => ⟨S1x2816, .f32⟩
  | .hbm, ⟨64, _⟩ => ⟨S2816, .f32⟩
  | .hbm, ⟨65, _⟩ => ⟨S2816, .f32⟩
  | .hbm, ⟨66, _⟩ => ⟨S2816, .f32⟩
  | .hbm, ⟨67, _⟩ => ⟨S2816, .f32⟩
  | .hbm, ⟨68, _⟩ => ⟨S1x2816, .f32⟩
  | .hbm, ⟨69, _⟩ => ⟨S_, .i32⟩
  | .hbm, ⟨70, _⟩ => ⟨S2048x2816, .f32⟩
  | .hbm, ⟨71, _⟩ => ⟨S1x2816, .f32⟩
  | .hbm, ⟨72, _⟩ => ⟨S_, .i32⟩
  | .hbm, ⟨73, _⟩ => ⟨S2048x2816, .f32⟩
  | .hbm, ⟨74, _⟩ => ⟨S_, .i32⟩
  | .hbm, ⟨75, _⟩ => ⟨S_, .i32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_12 : Ref sig .tc := ⟨.hbm, 16, rfl⟩
abbrev main_while0c_v9 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_call2_v0 : Ref sig .tc := ⟨.hbm, 26, rfl⟩
abbrev main_while0b_call2_c : Ref sig .tc := ⟨.hbm, 27, rfl⟩
abbrev main_while0b_v13 : Ref sig .tc := ⟨.hbm, 28, rfl⟩
abbrev main_while0b_call3_v0 : Ref sig .tc := ⟨.hbm, 29, rfl⟩
abbrev main_while0b_call3_c : Ref sig .tc := ⟨.hbm, 30, rfl⟩
abbrev main_while0b_v14 : Ref sig .tc := ⟨.hbm, 31, rfl⟩
abbrev main_while0b_c_12 : Ref sig .tc := ⟨.hbm, 32, rfl⟩
abbrev main_while0b_v15 : Ref sig .tc := ⟨.hbm, 33, rfl⟩
abbrev main_cst_2 : Ref sig .tc := ⟨.hbm, 34, rfl⟩
abbrev main_v4 : Ref sig .tc := ⟨.hbm, 35, rfl⟩
abbrev main_cst_3 : Ref sig .tc := ⟨.hbm, 36, rfl⟩
abbrev main_v5 : Ref sig .tc := ⟨.hbm, 37, rfl⟩
abbrev main_cst_4 : Ref sig .tc := ⟨.hbm, 38, rfl⟩
abbrev main_v6 : Ref sig .tc := ⟨.hbm, 39, rfl⟩
abbrev main_cst_5 : Ref sig .tc := ⟨.hbm, 40, rfl⟩
abbrev main_v7 : Ref sig .tc := ⟨.hbm, 41, rfl⟩
abbrev main_c_6 : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_while1c_c_13 : Ref sig .tc := ⟨.hbm, 50, rfl⟩
abbrev main_while1c_v9 : Ref sig .tc := ⟨.hbm, 51, rfl⟩
abbrev main_while1b_c_13 : Ref sig .tc := ⟨.hbm, 52, rfl⟩
abbrev main_while1b_v9 : Ref sig .tc := ⟨.hbm, 53, rfl⟩
abbrev main_while1b_c_14 : Ref sig .tc := ⟨.hbm, 54, rfl⟩
abbrev main_while1b_v10 : Ref sig .tc := ⟨.hbm, 55, rfl⟩
abbrev main_while1b_call4_c : Ref sig .tc := ⟨.hbm, 56, rfl⟩
abbrev main_while1b_call4_v0 : Ref sig .tc := ⟨.hbm, 57, rfl⟩
abbrev main_while1b_v11 : Ref sig .tc := ⟨.hbm, 58, rfl⟩
abbrev main_while1b_call5_c : Ref sig .tc := ⟨.hbm, 59, rfl⟩
abbrev main_while1b_call5_v0 : Ref sig .tc := ⟨.hbm, 60, rfl⟩
abbrev main_while1b_v12 : Ref sig .tc := ⟨.hbm, 61, rfl⟩
abbrev main_while1b_call6_c : Ref sig .tc := ⟨.hbm, 62, rfl⟩
abbrev main_while1b_call6_v0 : Ref sig .tc := ⟨.hbm, 63, rfl⟩
abbrev main_while1b_v13 : Ref sig .tc := ⟨.hbm, 64, rfl⟩
abbrev main_while1b_v14 : Ref sig .tc := ⟨.hbm, 65, rfl⟩
abbrev main_while1b_v15 : Ref sig .tc := ⟨.hbm, 66, rfl⟩
abbrev main_while1b_v16 : Ref sig .tc := ⟨.hbm, 67, rfl⟩
abbrev main_while1b_call7_v0 : Ref sig .tc := ⟨.hbm, 68, rfl⟩
abbrev main_while1b_call7_c : Ref sig .tc := ⟨.hbm, 69, rfl⟩
abbrev main_while1b_v17 : Ref sig .tc := ⟨.hbm, 70, rfl⟩
abbrev main_while1b_call8_v0 : Ref sig .tc := ⟨.hbm, 71, rfl⟩
abbrev main_while1b_call8_c : Ref sig .tc := ⟨.hbm, 72, rfl⟩
abbrev main_while1b_v18 : Ref sig .tc := ⟨.hbm, 73, rfl⟩
abbrev main_while1b_c_15 : Ref sig .tc := ⟨.hbm, 74, rfl⟩
abbrev main_while1b_v19 : Ref sig .tc := ⟨.hbm, 75, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x2048 : Shape := ⟨2, ![2048, 2048]⟩
abbrev S2048x11264 : Shape := ⟨2, ![2048, 11264]⟩
abbrev S4x2048x2816 : Shape := ⟨3, ![4, 2048, 2816]⟩
abbrev S2048x256 : Shape := ⟨2, ![2048, 256]⟩
abbrev S1x2048x256 : Shape := ⟨3, ![1, 2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x2048x2816, .bf16⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S1x2048x256, .bf16⟩
  | .local _ .vmem, ⟨4, _⟩ => ⟨S1x2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x11264 : Shape := ⟨2, ![2048, 11264]⟩
abbrev S_ : Shape := ⟨0, ![]⟩
abbrev S4x2048x2816 : Shape := ⟨3, ![4, 2048, 2816]⟩
abbrev S2048x4x2816 : Shape := ⟨3, ![2048, 4, 2816]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S4x2048x2816, .f32⟩
  | .hbm, ⟨4, _⟩ => ⟨S2048x2048, .f32⟩
  | .hbm, ⟨5, _⟩ => ⟨S2048x4x2816, .f32⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S2048x11264 : Shape := ⟨2, ![2048, 11264]⟩
abbrev S4x2048x2816 : Shape := ⟨3, ![4, 2048, 2816]⟩
abbrev S2048x2048 : Shape := ⟨2, ![2048, 2048]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .f32⟩
  | .local _ .vmem, ⟨5, _⟩ => ⟨S2048x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x11264 : Shape := ⟨2, ![2048, 11264]⟩
abbrev S4x2048x2816 : Shape := ⟨3, ![4, 2048, 2816]⟩
abbrev S_ : Shape := ⟨0, ![]⟩
abbrev S2048x2048 : Shape := ⟨2, ![2048, 2048]⟩
abbrev S2048x4x2816 : Shape := ⟨3, ![2048, 4, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S_, .f32⟩
  | .hbm, ⟨3, _⟩ => ⟨S2048x2048, .f32⟩
  | .hbm, ⟨4, _⟩ => ⟨S2048x4x2816, .bf16⟩
  | .hbm, ⟨5, _⟩ => ⟨S2048x11264, .bf16⟩
  | .hbm, ⟨6, _⟩ => ⟨S2048x11264, .f32⟩
  | .hbm, ⟨7, _⟩ => ⟨S2048x11264, .f32⟩
  | .hbm, ⟨8, _⟩ => ⟨S2048x11264, .f32⟩
  | .hbm, ⟨9, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S4x2048x2816 : Shape := ⟨3, ![4, 2048, 2816]⟩
abbrev S2048x11264 : Shape := ⟨2, ![2048, 11264]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x5632 : Shape := ⟨2, ![2048, 5632]⟩
abbrev S5632x2048 : Shape := ⟨2, ![5632, 2048]⟩
abbrev S2048x2048 : Shape := ⟨2, ![2048, 2048]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1024, .f32⟩
  | .local _ .vmem, ⟨5, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2048x2048 : Shape := ⟨2, ![2048, 2048]⟩
abbrev S2048x7168 : Shape := ⟨2, ![2048, 7168]⟩
abbrev S4x2048x1792 : Shape := ⟨3, ![4, 2048, 1792]⟩
abbrev S2048x896 : Shape := ⟨2, ![2048, 896]⟩
abbrev S1x2048x896 : Shape := ⟨3, ![1, 2048, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S4x2048x1792, .bf16⟩
  | .local _ .vmem, ⟨0, _⟩ => ⟨S2048x2048, .bf16⟩
  | .local _ .vmem, ⟨1, _⟩ => ⟨S2048x896, .bf16⟩
  | .local _ .vmem, ⟨2, _⟩ => ⟨S2048x896, .bf16⟩
  | .local _ .vmem, ⟨3, _⟩ => ⟨S1x2048x896, .bf16⟩
  | .local _ .vmem, ⟨4, _⟩ => ⟨S1x2048x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x7168 : Shape := ⟨2, ![2048, 7168]⟩
abbrev S_ : Shape := ⟨0, ![]⟩
abbrev S4x2048x1792 : Shape := ⟨3, ![4, 2048, 1792]⟩
abbrev S2048x4x1792 : Shape := ⟨3, ![2048, 4, 1792]⟩
abbrev S7168x2048 : Shape := ⟨2, ![7168, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S_, .f32⟩
  | .hbm, ⟨3, _⟩ => ⟨S4x2048x1792, .f32⟩
  | .hbm, ⟨4, _⟩ => ⟨S2048x2048, .f32⟩
  | .hbm, ⟨5, _⟩ => ⟨S2048x4x1792, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S7168x2048, .f32⟩
  | .hbm, ⟨10, _⟩ => ⟨S2048x7168, .f32⟩
  | .hbm, ⟨11, _⟩ => ⟨S2048x4x1792, .f32⟩
  | .hbm, ⟨12, _⟩ => ⟨S4x2048x1792, .f32⟩
  | .hbm, ⟨13, _⟩ => ⟨S4x2048x1792, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S2048x7168 : Shape := ⟨2, ![2048, 7168]⟩
abbrev S4x2048x1792 : Shape := ⟨3, ![4, 2048, 1792]⟩
abbrev S2048x2048 : Shape := ⟨2, ![2048, 2048]⟩
abbrev S2048x896 : Shape := ⟨2, ![2048, 896]⟩
abbrev S1x1024x896 : Shape := ⟨3, ![1, 1024, 896]⟩
abbrev S2048x1024 : Shape := ⟨2, ![2048, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x7168, .bf16⟩
  | .hbm, ⟨1, _⟩ => ⟨S4x2048x1792, .bf16⟩
  | .hbm, ⟨2, _⟩ => ⟨S2048x2048, .f32⟩
  | .local _ .vmem, ⟨0, _⟩ => ⟨S2048x896, .bf16⟩
  | .local _ .vmem, ⟨1, _⟩ => ⟨S2048x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S2048x1024, .f32⟩
  | .local _ .vmem, ⟨5, _⟩ => ⟨S2048x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x7168 : Shape := ⟨2, ![2048, 7168]⟩
abbrev S4x2048x1792 : Shape := ⟨3, ![4, 2048, 1792]⟩
abbrev S_ : Shape := ⟨0, ![]⟩
abbrev S2048x2048 : Shape := ⟨2, ![2048, 2048]⟩
abbrev S2048x4x1792 : Shape := ⟨3, ![2048, 4, 1792]⟩

abbrev nBuf : Space → Nat
  | .hbm => 10
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S4x2048x1792, .bf16⟩
  | .hbm, ⟨2, _⟩ => ⟨S_, .f32⟩
  | .hbm, ⟨3, _⟩ => ⟨S2048x2048, .f32⟩
  | .hbm, ⟨4, _⟩ => ⟨S2048x4x1792, .bf16⟩
  | .hbm, ⟨5, _⟩ => ⟨S2048x7168, .bf16⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S2048x2048, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S4x2048x1792 : Shape := ⟨3, ![4, 2048, 1792]⟩
abbrev S2048x7168 : Shape := ⟨2, ![2048, 7168]⟩
abbrev S1x2048x896 : Shape := ⟨3, ![1, 2048, 896]⟩
abbrev S2048x896 : Shape := ⟨2, ![2048, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x7168, .f32⟩
  | .local _ .vmem, ⟨0, _⟩ => ⟨S2048x2048, .bf16⟩
  | .local _ .vmem, ⟨1, _⟩ => ⟨S1x2048x896, .bf16⟩
  | .local _ .vmem, ⟨2, _⟩ => ⟨S1x2048x896, .bf16⟩
  | .local _ .vmem, ⟨3, _⟩ => ⟨S2048x896, .f32⟩
  | .local _ .vmem, ⟨4, _⟩ => ⟨S2048x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S4x2048x1792 : Shape := ⟨3, ![4, 2048, 1792]⟩
abbrev S2048x4x1792 : Shape := ⟨3, ![2048, 4, 1792]⟩
abbrev S2048x7168 : Shape := ⟨2, ![2048, 7168]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x2048, .f32⟩
  | .hbm, ⟨3, _⟩ => ⟨S2048x4x1792, .bf16⟩
  | .hbm, ⟨4, _⟩ => ⟨S2048x7168, .bf16⟩
  | .hbm, ⟨5, _⟩ => ⟨S2048x7168, .f32⟩
  | .hbm, ⟨6, _⟩ => ⟨S2048x7168, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1408 : Shape := ⟨2, ![2048, 1408]⟩
abbrev S1x2048x1408 : Shape := ⟨3, ![1, 2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x2048, .bf16⟩
  | .local _ .vmem, ⟨1, _⟩ => ⟨S2048x1408, .bf16⟩
  | .local _ .vmem, ⟨2, _⟩ => ⟨S2048x1408, .bf16⟩
  | .local _ .vmem, ⟨3, _⟩ => ⟨S1x2048x1408, .bf16⟩
  | .local _ .vmem, ⟨4, _⟩ => ⟨S1x2048x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S2048x4x1408 : Shape := ⟨3, ![2048, 4, 1408]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S4x2048x1408, .f32⟩
  | .hbm, ⟨4, _⟩ => ⟨S2048x2048, .f32⟩
  | .hbm, ⟨5, _⟩ => ⟨S2048x4x1408, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel12.lean ====
abbrev S2048x5632 : Shape := ⟨2, ![2048, 5632]⟩
abbrev S4x2048x1408 : Shape := ⟨3, ![4, 2048, 1408]⟩
abbrev S2048x2048 : Shape := ⟨2, ![2048, 2048]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .f32⟩
  | .local _ .vmem, ⟨5, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S_, .f32⟩
  | .hbm, ⟨3, _⟩ => ⟨S2048x2048, .f32⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x2048, .f32⟩
  | .hbm, ⟨3, _⟩ => ⟨S2048x4x1408, .bf16⟩
  | .hbm, ⟨4, _⟩ => ⟨S2048x5632, .bf16⟩
  | .hbm, ⟨5, _⟩ => ⟨S2048x5632, .f32⟩
  | .hbm, ⟨6, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S2048x2816 : Shape := ⟨2, ![2048, 2816]⟩
abbrev S2048x2048 : Shape := ⟨2, ![2048, 2048]⟩
abbrev S2816x2048 : Shape := ⟨2, ![2816, 2048]⟩
abbrev S2048x256 : Shape := ⟨2, ![2048, 256]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x2048, .bf16⟩
  | .hbm, ⟨2, _⟩ => ⟨S2816x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2816 : Shape := ⟨2, ![2048, 2816]⟩
abbrev S2048x2048 : Shape := ⟨2, ![2048, 2048]⟩
abbrev S_ : Shape := ⟨0, ![]⟩
abbrev S2816x2048 : Shape := ⟨2, ![2816, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2048, .bf16⟩
  | .hbm, ⟨2, _⟩ => ⟨S_, .f32⟩
  | .hbm, ⟨3, _⟩ => ⟨S2816x2048, .f32⟩
  | .hbm, ⟨4, _⟩ => ⟨S2048x2816, .f32⟩
  | .hbm, ⟨5, _⟩ => ⟨S2048x2048, .f32⟩
  | .hbm, ⟨6, _⟩ => ⟨S2048x2048, .f32⟩
  | .hbm, ⟨7, _⟩ => ⟨S2048x2816, .f32⟩
  | .hbm, ⟨8, _⟩ => ⟨S2816x2048, .f32⟩
  | .hbm, ⟨9, _⟩ => ⟨S2816x2048, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S2048x2048 : Shape := ⟨2, ![2048, 2048]⟩
abbrev S2816x2048 : Shape := ⟨2, ![2816, 2048]⟩
abbrev S2048x2816 : Shape := ⟨2, ![2048, 2816]⟩
abbrev S256x2048 : Shape := ⟨2, ![256, 2048]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2816x2048, .bf16⟩
  | .hbm, ⟨2, _⟩ => ⟨S2048x2816, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S2816x2048 : Shape := ⟨2, ![2816, 2048]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2816x2048, .bf16⟩
  | .hbm, ⟨2, _⟩ => ⟨S_, .f32⟩
  | .hbm, ⟨3, _⟩ => ⟨S2048x2816, .f32⟩
  | .hbm, ⟨4, _⟩ => ⟨S2816x2048, .f32⟩
  | .hbm, ⟨5, _⟩ => ⟨S2048x2048, .f32⟩
  | .hbm, ⟨6, _⟩ => ⟨S2048x2048, .f32⟩
  | .hbm, ⟨7, _⟩ => ⟨S2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x2816 : Shape := ⟨2, ![2048, 2816]⟩
abbrev S2816x2048 : Shape := ⟨2, ![2816, 2048]⟩
abbrev S2048x2048 : Shape := ⟨2, ![2048, 2048]⟩
abbrev S2816x512 : Shape := ⟨2, ![2816, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2816x2048, .bf16⟩
  | .hbm, ⟨2, _⟩ => ⟨S2048x2048, .f32⟩
  | .local _ .vmem, ⟨0, _⟩ => ⟨S2048x2816, .bf16⟩
  | .local _ .vmem, ⟨1, _⟩ => ⟨S2816x512, .bf16⟩
  | .local _ .vmem, ⟨2, _⟩ => ⟨S2816x512, .bf16⟩
  | .local _ .vmem, ⟨3, _⟩ => ⟨S2048x512, .f32⟩
  | .local _ .vmem, ⟨4, _⟩ => ⟨S2048x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2816 : Shape := ⟨2, ![2048, 2816]⟩
abbrev S2816x2048 : Shape := ⟨2, ![2816, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x2048, .bf16⟩
  | .hbm, ⟨2, _⟩ => ⟨S2048x2816, .f32⟩
  | .hbm, ⟨3, _⟩ => ⟨S2816x2048, .f32⟩
  | .hbm, ⟨4, _⟩ => ⟨S2048x2048, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S2048x256 : Shape := ⟨2, ![2048, 256]⟩
abbrev S2048x2048 : Shape := ⟨2, ![2048, 2048]⟩
abbrev S4x256x512 : Shape := ⟨3, ![4, 256, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S4x256x512, .bf16⟩
  | .local _ .vmem, ⟨0, _⟩ => ⟨S2048x256, .bf16⟩
  | .local _ .vmem, ⟨1, _⟩ => ⟨S2048x512, .bf16⟩
  | .local _ .vmem, ⟨2, _⟩ => ⟨S2048x512, .bf16⟩
  | .local _ .vmem, ⟨3, _⟩ => ⟨S1x256x512, .bf16⟩
  | .local _ .vmem, ⟨4, _⟩ => ⟨S1x256x512, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x256 : Shape := ⟨2, ![2048, 256]⟩
abbrev S2048x2048 : Shape := ⟨2, ![2048, 2048]⟩
abbrev S_ : Shape := ⟨0, ![]⟩
abbrev S4x256x512 : Shape := ⟨3, ![4, 256, 512]⟩
abbrev S256x4x512 : Shape := ⟨3, ![256, 4, 512]⟩
abbrev S256x2048 : Shape := ⟨2, ![256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S_, .f32⟩
  | .hbm, ⟨3, _⟩ => ⟨S4x256x512, .f32⟩
  | .hbm, ⟨4, _⟩ => ⟨S2048x256, .f32⟩
  | .hbm, ⟨5, _⟩ => ⟨S256x4x512, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x256, .f32⟩
  | .hbm, ⟨10, _⟩ => ⟨S256x2048, .f32⟩
  | .hbm, ⟨11, _⟩ => ⟨S256x4x512, .f32⟩
  | .hbm, ⟨12, _⟩ => ⟨S4x256x512, .f32⟩
  | .hbm, ⟨13, _⟩ => ⟨S4x256x512, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel21.lean ====
abbrev S2048x256 : Shape := ⟨2, ![2048, 256]⟩
abbrev S4x256x512 : Shape := ⟨3, ![4, 256, 512]⟩
abbrev S2048x2048 : Shape := ⟨2, ![2048, 2048]⟩
abbrev S1x256x512 : Shape := ⟨3, ![1, 256, 512]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S4x256x512, .bf16⟩
  | .hbm, ⟨2, _⟩ => ⟨S2048x2048, .f32⟩
  | .local _ .vmem, ⟨0, _⟩ => ⟨S2048x256, .bf16⟩
  | .local _ .vmem, ⟨1, _⟩ => ⟨S1x256x512, .bf16⟩
  | .local _ .vmem, ⟨2, _⟩ => ⟨S1x256x512, .bf16⟩
  | .local _ .vmem, ⟨3, _⟩ => ⟨S2048x512, .f32⟩
  | .local _ .vmem, ⟨4, _⟩ => ⟨S2048x512, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x256 : Shape := ⟨2, ![2048, 256]⟩
abbrev S4x256x512 : Shape := ⟨3, ![4, 256, 512]⟩
abbrev S256x4x512 : Shape := ⟨3, ![256, 4, 512]⟩
abbrev S256x2048 : Shape := ⟨2, ![256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S4x256x512, .bf16⟩
  | .hbm, ⟨2, _⟩ => ⟨S2048x256, .f32⟩
  | .hbm, ⟨3, _⟩ => ⟨S256x4x512, .bf16⟩
  | .hbm, ⟨4, _⟩ => ⟨S256x2048, .bf16⟩
  | .hbm, ⟨5, _⟩ => ⟨S256x2048, .f32⟩
  | .hbm, ⟨6, _⟩ => ⟨S2048x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S2048x2816 : Shape := ⟨2, ![2048, 2816]⟩
abbrev S4x11x64x256 : Shape := ⟨4, ![4, 11, 64, 256]⟩
abbrev S2048x256 : Shape := ⟨2, ![2048, 256]⟩
abbrev S4x1x64x256 : Shape := ⟨4, ![4, 1, 64, 256]⟩
abbrev S1x1x64x256 : Shape := ⟨4, ![1, 1, 64, 256]⟩
abbrev S64x256 : Shape := ⟨2, ![64, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S4x11x64x256, .bf16⟩
  | .hbm, ⟨2, _⟩ => ⟨S4x11x64x256, .bf16⟩
  | .hbm, ⟨3, _⟩ => ⟨S2048x2816, .bf16⟩
  | .hbm, ⟨4, _⟩ => ⟨S2048x2816, .bf16⟩
  | .hbm, ⟨5, _⟩ => ⟨S2048x2816, .f32⟩
  | .hbm, ⟨6, _⟩ => ⟨S4x11x64x256, .bf16⟩
  | .hbm, ⟨7, _⟩ => ⟨S4x11x64x256, .bf16⟩
  | .local _ .vmem, ⟨0, _⟩ => ⟨S2048x256, .bf16⟩
  | .local _ .vmem, ⟨1, _⟩ => ⟨S2048x256, .bf16⟩
  | .local _ .vmem, ⟨2, _⟩ => ⟨S4x1x64x256, .bf16⟩
  | .local _ .vmem, ⟨3, _⟩ => ⟨S4x1x64x256, .bf16⟩
  | .local _ .vmem, ⟨4, _⟩ => ⟨S4x1x64x256, .bf16⟩
  | .local _ .vmem, ⟨5, _⟩ => ⟨S4x1x64x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S4x1x64x256, .bf16⟩
  | .local _ .vmem, ⟨13, _⟩ => ⟨S4x1x64x256, .bf16⟩
  | .local _ .vmem, ⟨14, _⟩ => ⟨S4x1x64x256, .bf16⟩
  | .local _ .vmem, ⟨15, _⟩ => ⟨S4x1x64x256, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x2816 : Shape := ⟨2, ![2048, 2816]⟩
abbrev S4x11x64x256 : Shape := ⟨4, ![4, 11, 64, 256]⟩
abbrev S2048x11x256 : Shape := ⟨3, ![2048, 11, 256]⟩
abbrev S11x4x64x256 : Shape := ⟨4, ![11, 4, 64, 256]⟩
abbrev S11x256x256 : Shape := ⟨3, ![11, 256, 256]⟩
abbrev S11x256x2048 : Shape := ⟨3, ![11, 256, 2048]⟩
abbrev S11x2048x256 : Shape := ⟨3, ![11, 2048, 256]⟩

abbrev nBuf : Space → Nat
  | .hbm => 41
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S4x11x64x256, .bf16⟩
  | .hbm, ⟨2, _⟩ => ⟨S4x11x64x256, .bf16⟩
  | .hbm, ⟨3, _⟩ => ⟨S2048x2816, .bf16⟩
  | .hbm, ⟨4, _⟩ => ⟨S2048x2816, .bf16⟩
  | .hbm, ⟨5, _⟩ => ⟨S2048x2816, .f32⟩
  | .hbm, ⟨6, _⟩ => ⟨S4x11x64x256, .f32⟩
  | .hbm, ⟨7, _⟩ => ⟨S4x11x64x256, .f32⟩
  | .hbm, ⟨8, _⟩ => ⟨S2048x11x256, .f32⟩
  | .hbm, ⟨9, _⟩ => ⟨S11x4x64x256, .f32⟩
  | .hbm, ⟨10, _⟩ => ⟨S11x256x256, .f32⟩
  | .hbm, ⟨11, _⟩ => ⟨S11x256x2048, .f32⟩
  | .hbm, ⟨12, _⟩ => ⟨S2048x11x256, .f32⟩
  | .hbm, ⟨13, _⟩ => ⟨S2048x2816, .f32⟩
  | .hbm, ⟨14, _⟩ => ⟨S11x4x64x256, .f32⟩
  | .hbm, ⟨15, _⟩ => ⟨S11x256x256, .f32⟩
  | .hbm, ⟨16, _⟩ => ⟨S11x256x2048, .f32⟩
  | .hbm, ⟨17, _⟩ => ⟨S2048x11x256, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x11x256, .f32⟩
  | .hbm, ⟨22, _⟩ => ⟨S11x256x2048, .f32⟩
  | .hbm, ⟨23, _⟩ => ⟨S11x2048x256, .f32⟩
  | .hbm, ⟨24, _⟩ => ⟨S2048x11x256, .f32⟩
  | .hbm, ⟨25, _⟩ => ⟨S11x256x256, .f32⟩
  | .hbm, ⟨26, _⟩ => ⟨S11x256x256, .f32⟩
  | .hbm, ⟨27, _⟩ => ⟨S11x4x64x256, .f32⟩
  | .hbm, ⟨28, _⟩ => ⟨S4x11x64x256, .f32⟩
  | .hbm, ⟨29, _⟩ => ⟨S2048x11x256, .f32⟩
  | .hbm, ⟨30, _⟩ => ⟨S11x256x2048, .f32⟩
  | .hbm, ⟨31, _⟩ => ⟨S11x2048x256, .f32⟩
  | .hbm, ⟨32, _⟩ => ⟨S2048x11x256, .f32⟩
  | .hbm, ⟨33, _⟩ => ⟨S2048x11x256, .f32⟩
  | .hbm, ⟨34, _⟩ => ⟨S11x256x256, .f32⟩
  | .hbm, ⟨35, _⟩ => ⟨S11x256x256, .f32⟩
  | .hbm, ⟨36, _⟩ => ⟨S11x4x64x256, .f32⟩
  | .hbm, ⟨37, _⟩ => ⟨S4x11x64x256, .f32⟩
  | .hbm, ⟨38, _⟩ => ⟨S2048x2816, .f32⟩
  | .hbm, ⟨39, _⟩ => ⟨S4x11x64x256, .bf16⟩
  | .hbm, ⟨40, _⟩ => ⟨S4x11x64x256, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Kernel23.lean ====
abbrev S2048x5632 : Shape := ⟨2, ![2048, 5632]⟩
abbrev S4x2816 : Shape := ⟨2, ![4, 2816]⟩
abbrev S2048x2816 : Shape := ⟨2, ![2048, 2816]⟩
abbrev S1x2816 : Shape := ⟨2, ![1, 2816]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S4x2816, .f32⟩
  | .hbm, ⟨2, _⟩ => ⟨S2048x2816, .f32⟩
  | .hbm, ⟨3, _⟩ => ⟨S2048x2816, .f32⟩
  | .hbm, ⟨4, _⟩ => ⟨S2048x2816, .bf16⟩
  | .hbm, ⟨5, _⟩ => ⟨S4x2816, .f32⟩
  | .hbm, ⟨6, _⟩ => ⟨S1x2816, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2048x5632 : Shape := ⟨2, ![2048, 5632]⟩
abbrev S4x2816 : Shape := ⟨2, ![4, 2816]⟩
abbrev S2048x2816 : Shape := ⟨2, ![2048, 2816]⟩
abbrev S_ : Shape := ⟨0, ![]⟩
abbrev S1x2816 : Shape := ⟨2, ![1, 2816]⟩
abbrev S3x2816 : Shape := ⟨2, ![3, 2816]⟩
abbrev S2051x2816 : Shape := ⟨2, ![2051, 2816]⟩
abbrev S2816 : Shape := ⟨1, ![2816]⟩

abbrev nBuf : Space → Nat
  | .hbm => 106
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S4x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S1x2816, .f32⟩
  | .hbm, ⟨6, _⟩ => ⟨S2048x2816, .f32⟩
  | .hbm, ⟨7, _⟩ => ⟨S_, .f32⟩
  | .hbm, ⟨8, _⟩ => ⟨S3x2816, .f32⟩
  | .hbm, ⟨9, _⟩ => ⟨S2051x2816, .f32⟩
  | .hbm, ⟨10, _⟩ => ⟨S_, .f32⟩
  | .hbm, ⟨11, _⟩ => ⟨S3x2816, .f32⟩
  | .hbm, ⟨12, _⟩ => ⟨S2048x2816, .f32⟩
  | .hbm, ⟨13, _⟩ => ⟨S1x2816, .f32⟩
  | .hbm, ⟨14, _⟩ => ⟨S2816, .f32⟩
  | .hbm, ⟨15, _⟩ => ⟨S1x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S1x2816, .f32⟩
  | .hbm, ⟨36, _⟩ => ⟨S2816, .f32⟩
  | .hbm, ⟨37, _⟩ => ⟨S1x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2816, .f32⟩
  | .hbm, ⟨45, _⟩ => ⟨S1x2816, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2816, .f32⟩
  | .hbm, ⟨50, _⟩ => ⟨S1x2816, .f32⟩
  | .hbm, ⟨51, _⟩ => ⟨S_, .f32⟩
  | .hbm, ⟨52, _⟩ => ⟨S4x2816, .f32⟩
  | .hbm, ⟨53, _⟩ => ⟨S_, .f32⟩
  | .hbm, ⟨54, _⟩ => ⟨S2051x2816, .f32⟩
  | .hbm, ⟨55, _⟩ => ⟨S2048x2816, .f32⟩
  | .hbm, ⟨56, _⟩ => ⟨S_, .f32⟩
  | .hbm, ⟨57, _⟩ => ⟨S2816, .f32⟩
  | .hbm, ⟨58, _⟩ => ⟨S1x2816, .f32⟩
  | .hbm, ⟨59, _⟩ => ⟨S2048x2816, .f32⟩
  | .hbm, ⟨60, _⟩ => ⟨S2048x2816, .f32⟩
  | .hbm, ⟨61, _⟩ => ⟨S_, .f32⟩
  | .hbm, ⟨62, _⟩ => ⟨S2816, .f32⟩
  | .hbm, ⟨63, _⟩ => ⟨S1x2816, .f32⟩
  | .hbm, ⟨64, _⟩ => ⟨S_, .f32⟩
  | .hbm, ⟨65, _⟩ => ⟨S4x2816, .f32⟩
  | .hbm, ⟨66, _⟩ => ⟨S4x2816, .f32⟩
  | .hbm, ⟨67, _⟩ => ⟨S_, .f32⟩
  | .hbm, ⟨68, _⟩ => ⟨S2051x2816, .f32⟩
  | .hbm, ⟨69, _⟩ => ⟨S2051x2816, .f32⟩
  | .hbm, ⟨70, _⟩ => ⟨S2048x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S2048x2816, .f32⟩
  | .hbm, ⟨75, _⟩ => ⟨S2048x2816, .f32⟩
  | .hbm, ⟨76, _⟩ => ⟨S_, .f32⟩
  | .hbm, ⟨77, _⟩ => ⟨S2816, .f32⟩
  | .hbm, ⟨78, _⟩ => ⟨S1x2816, .f32⟩
  | .hbm, ⟨79, _⟩ => ⟨S_, .f32⟩
  | .hbm, ⟨80, _⟩ => ⟨S4x2816, .f32⟩
  | .hbm, ⟨81, _⟩ => ⟨S4x2816, .f32⟩
  | .hbm, ⟨82, _⟩ => ⟨S_, .f32⟩
  | .hbm, ⟨83, _⟩ => ⟨S2051x2816, .f32⟩
  | .hbm, ⟨84, _⟩ => ⟨S2051x2816, .f32⟩
  | .hbm, ⟨85, _⟩ => ⟨S_, .f32⟩
  | .hbm, ⟨86, _⟩ => ⟨S2816, .f32⟩
  | .hbm, ⟨87, _⟩ => ⟨S1x2816, .f32⟩
  | .hbm, ⟨88, _⟩ => ⟨S2048x2816, .f32⟩
  | .hbm, ⟨89, _⟩ => ⟨S_, .f32⟩
  | .hbm, ⟨90, _⟩ => ⟨S2816, .f32⟩
  | .hbm, ⟨91, _⟩ => ⟨S1x2816, .f32⟩
  | .hbm, ⟨92, _⟩ => ⟨S2048x2816, .f32⟩
  | .hbm, ⟨93, _⟩ => ⟨S2048x2816, .f32⟩
  | .hbm, ⟨94, _⟩ => ⟨S_, .f32⟩
  | .hbm, ⟨95, _⟩ => ⟨S2816, .f32⟩
  | .hbm, ⟨96, _⟩ => ⟨S1x2816, .f32⟩
  | .hbm, ⟨97, _⟩ => ⟨S_, .f32⟩
  | .hbm, ⟨98, _⟩ => ⟨S4x2816, .f32⟩
  | .hbm, ⟨99, _⟩ => ⟨S4x2816, .f32⟩
  | .hbm, ⟨100, _⟩ => ⟨S_, .f32⟩
  | .hbm, ⟨101, _⟩ => ⟨S2051x2816, .f32⟩
  | .hbm, ⟨102, _⟩ => ⟨S2051x2816, .f32⟩
  | .hbm, ⟨103, _⟩ => ⟨S3x2816, .f32⟩
  | .hbm, ⟨104, _⟩ => ⟨S2048x2816, .f32⟩
  | .hbm, ⟨105, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Kernel24.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel25.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference25Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x2048, .f32⟩
  | .hbm, ⟨81, _⟩ => ⟨S2048x2048, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel26.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference26Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel27.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference27Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 110
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S2048x2048, .f32⟩
  | .hbm, ⟨95, _⟩ => ⟨S2048x2048, .f32⟩
  | .hbm, ⟨96, _⟩ => ⟨S2048x1, .f32⟩
  | .hbm, ⟨97, _⟩ => ⟨S_, .f32⟩
  | .hbm, ⟨98, _⟩ => ⟨S2048x1, .f32⟩
  | .hbm, ⟨99, _⟩ => ⟨S2048x1, .f32⟩
  | .hbm, ⟨100, _⟩ => ⟨S_, .f32⟩
  | .hbm, ⟨101, _⟩ => ⟨S2048, .f32⟩
  | .hbm, ⟨102, _⟩ => ⟨S2048x2048, .f32⟩
  | .hbm, ⟨103, _⟩ => ⟨S2048x2048, .f32⟩
  | .hbm, ⟨104, _⟩ => ⟨S2048x2048, .f32⟩
  | .hbm, ⟨105, _⟩ => ⟨S2048x2048, .f32⟩
  | .hbm, ⟨106, _⟩ => ⟨S2048x2048, .f32⟩
  | .hbm, ⟨107, _⟩ => ⟨S2048x2048, .f32⟩
  | .hbm, ⟨108, _⟩ => ⟨S2048x2048, .f32⟩
  | .hbm, ⟨109, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Kernel28.lean ====
abbrev S2048x11264 : Shape := ⟨2, ![2048, 11264]⟩
abbrev S2048x5632 : Shape := ⟨2, ![2048, 5632]⟩
abbrev S128x5632 : Shape := ⟨2, ![128, 5632]⟩
abbrev S128x11264 : Shape := ⟨2, ![128, 11264]⟩

abbrev nBuf : Space → Nat
  | .hbm => 3
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S2048x11264, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .f32⟩
  | .local _ .vmem, ⟨5, _⟩ => ⟨S128x5632, .f32⟩
  | .local _ .vmem, ⟨6, _⟩ => ⟨S128x11264, .bf16⟩
  | .local _ .vmem, ⟨7, _⟩ => ⟨S128x11264, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x11264, .f32⟩
  | .hbm, ⟨25, _⟩ => ⟨S2048x11264, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel29.lean ====
abbrev S2048x5632 : Shape := ⟨2, ![2048, 5632]⟩
abbrev S2048x2816 : Shape := ⟨2, ![2048, 2816]⟩
abbrev S128x2816 : Shape := ⟨2, ![128, 2816]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .bf16⟩
  | .hbm, ⟨4, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .bf16⟩
  | .local _ .vmem, ⟨7, _⟩ => ⟨S128x2816, .bf16⟩
  | .local _ .vmem, ⟨8, _⟩ => ⟨S128x2816, .f32⟩
  | .local _ .vmem, ⟨9, _⟩ => ⟨S128x2816, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel30.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference30Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x2048, .f32⟩
  | .hbm, ⟨50, _⟩ => ⟨S2048x2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .bf16⟩
  | .hbm, ⟨66, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel31.lean ====
abbrev S2048x1792 : Shape := ⟨2, ![2048, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4096x2816 : Shape := ⟨2, ![4096, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S_, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2816x2048 : Shape := ⟨2, ![2816, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S2816x2048 : Shape := ⟨2, ![2816, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S_, .f32⟩
  | .hbm, ⟨5, _⟩ => ⟨S2816x2048, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S_, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S_, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S_, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S2816x2048, .f32⟩
  | .hbm, ⟨26, _⟩ => ⟨S_, .f32⟩
  | .hbm, ⟨27, _⟩ => ⟨S2816x2048, .f32⟩
  | .hbm, ⟨28, _⟩ => ⟨S2816x2048, .f32⟩
  | .hbm, ⟨29, _⟩ => ⟨S2816x2048, .f32⟩
  | .hbm, ⟨30, _⟩ => ⟨S_, .f32⟩
  | .hbm, ⟨31, _⟩ => ⟨S2816x2048, .f32⟩
  | .hbm, ⟨32, _⟩ => ⟨S2816x2048, .f32⟩
  | .hbm, ⟨33, _⟩ => ⟨S2816x2048, .f32⟩
  | .hbm, ⟨34, _⟩ => ⟨S_, .f32⟩
  | .hbm, ⟨35, _⟩ => ⟨S2816x2048, .f32⟩
  | .hbm, ⟨36, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S704x256 : Shape := ⟨2, ![704, 256]⟩

abbrev nBuf : Space → Nat
  | .hbm => 7
  | .vmem => 7
  | .smem => 0
  | _ => 0

abbrev bufTy : (tb : Table) → Fin (tcTables nBuf tb) → BufTy
  | .hbm, ⟨0, _⟩ => ⟨S704x256, .f32⟩
  | .hbm, ⟨1, _⟩ => ⟨S704x256, .f32⟩
  | .hbm, ⟨2, _⟩ => ⟨S704x256, .f32⟩
  | .hbm, ⟨3, _⟩ => ⟨S704x256, .f32⟩
  | .hbm, ⟨4, _⟩ => ⟨S704x256, .f32⟩
  | .hbm, ⟨5, _⟩ => ⟨S704x256, .f32⟩
  | .hbm, ⟨6, _⟩ => ⟨S704x256, .f32⟩
  | .local _ .vmem, ⟨0, _⟩ => ⟨S704x256, .f32⟩
  | .local _ .vmem, ⟨1, _⟩ => ⟨S704x256, .f32⟩
  | .local _ .vmem, ⟨2, _⟩ => ⟨S704x256, .f32⟩
  | .local _ .vmem, ⟨3, _⟩ => ⟨S704x256, .f32⟩
  | .local _ .vmem, ⟨4, _⟩ => ⟨S704x256, .f32⟩
  | .local _ .vmem, ⟨5, _⟩ => ⟨S704x256, .f32⟩
  | .local _ .vmem, ⟨6, _⟩ => ⟨S704x256, .f32⟩
  | _, _ => ⟨S704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S704x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S704x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S704x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S704x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S704x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S704x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S704x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S704x256 : Shape := ⟨2, ![704, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x256, .f32⟩
  | .hbm, ⟨1, _⟩ => ⟨S704x256, .f32⟩
  | .hbm, ⟨2, _⟩ => ⟨S704x256, .f32⟩
  | .hbm, ⟨3, _⟩ => ⟨S704x256, .f32⟩
  | .hbm, ⟨4, _⟩ => ⟨S_, .f32⟩
  | .hbm, ⟨5, _⟩ => ⟨S704x256, .f32⟩
  | .hbm, ⟨6, _⟩ => ⟨S704x256, .f32⟩
  | .hbm, ⟨7, _⟩ => ⟨S_, .f32⟩
  | .hbm, ⟨8, _⟩ => ⟨S704x256, .f32⟩
  | .hbm, ⟨9, _⟩ => ⟨S704x256, .f32⟩
  | .hbm, ⟨10, _⟩ => ⟨S704x256, .f32⟩
  | .hbm, ⟨11, _⟩ => ⟨S_, .f32⟩
  | .hbm, ⟨12, _⟩ => ⟨S704x256, .f32⟩
  | .hbm, ⟨13, _⟩ => ⟨S704x256, .f32⟩
  | .hbm, ⟨14, _⟩ => ⟨S704x256, .f32⟩
  | .hbm, ⟨15, _⟩ => ⟨S_, .f32⟩
  | .hbm, ⟨16, _⟩ => ⟨S704x256, .f32⟩
  | .hbm, ⟨17, _⟩ => ⟨S704x256, .f32⟩
  | .hbm, ⟨18, _⟩ => ⟨S704x256, .f32⟩
  | .hbm, ⟨19, _⟩ => ⟨S_, .f32⟩
  | .hbm, ⟨20, _⟩ => ⟨S704x256, .f32⟩
  | .hbm, ⟨21, _⟩ => ⟨S704x256, .f32⟩
  | .hbm, ⟨22, _⟩ => ⟨S_, .f32⟩
  | .hbm, ⟨23, _⟩ => ⟨S704x256, .f32⟩
  | .hbm, ⟨24, _⟩ => ⟨S704x256, .f32⟩
  | .hbm, ⟨25, _⟩ => ⟨S704x256, .f32⟩
  | .hbm, ⟨26, _⟩ => ⟨S_, .f32⟩
  | .hbm, ⟨27, _⟩ => ⟨S704x256, .f32⟩
  | .hbm, ⟨28, _⟩ => ⟨S704x256, .f32⟩
  | .hbm, ⟨29, _⟩ => ⟨S704x256, .f32⟩
  | .hbm, ⟨30, _⟩ => ⟨S_, .f32⟩
  | .hbm, ⟨31, _⟩ => ⟨S704x256, .f32⟩
  | .hbm, ⟨32, _⟩ => ⟨S704x256, .f32⟩
  | .hbm, ⟨33, _⟩ => ⟨S704x256, .f32⟩
  | .hbm, ⟨34, _⟩ => ⟨S_, .f32⟩
  | .hbm, ⟨35, _⟩ => ⟨S704x256, .f32⟩
  | .hbm, ⟨36, _⟩ => ⟨S704x256, .f32⟩
  | _, _ => ⟨S704x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S704x2048 : Shape := ⟨2, ![704, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference39Ideal.lean ====
abbrev S704x2048 : Shape := ⟨2, ![704, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S_, .f32⟩
  | .hbm, ⟨5, _⟩ => ⟨S704x2048, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S224x128 : Shape := ⟨2, ![224, 128]⟩

abbrev nBuf : Space → Nat
  | .hbm => 7
  | .vmem => 7
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S224x128, .f32⟩
  | .hbm, ⟨5, _⟩ => ⟨S224x128, .f32⟩
  | .hbm, ⟨6, _⟩ => ⟨S224x128, .f32⟩
  | .local _ .vmem, ⟨0, _⟩ => ⟨S224x128, .f32⟩
  | .local _ .vmem, ⟨1, _⟩ => ⟨S224x128, .f32⟩
  | .local _ .vmem, ⟨2, _⟩ => ⟨S224x128, .f32⟩
  | .local _ .vmem, ⟨3, _⟩ => ⟨S224x128, .f32⟩
  | .local _ .vmem, ⟨4, _⟩ => ⟨S224x128, .f32⟩
  | .local _ .vmem, ⟨5, _⟩ => ⟨S224x128, .f32⟩
  | .local _ .vmem, ⟨6, _⟩ => ⟨S224x128, .f32⟩
  | _, _ => ⟨S224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S224x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S224x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference40Ideal.lean ====
abbrev S224x128 : Shape := ⟨2, ![224, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S_, .f32⟩
  | .hbm, ⟨5, _⟩ => ⟨S224x128, .f32⟩
  | .hbm, ⟨6, _⟩ => ⟨S224x128, .f32⟩
  | .hbm, ⟨7, _⟩ => ⟨S_, .f32⟩
  | .hbm, ⟨8, _⟩ => ⟨S224x128, .f32⟩
  | .hbm, ⟨9, _⟩ => ⟨S224x128, .f32⟩
  | .hbm, ⟨10, _⟩ => ⟨S224x128, .f32⟩
  | .hbm, ⟨11, _⟩ => ⟨S_, .f32⟩
  | .hbm, ⟨12, _⟩ => ⟨S224x128, .f32⟩
  | .hbm, ⟨13, _⟩ => ⟨S224x128, .f32⟩
  | .hbm, ⟨14, _⟩ => ⟨S224x128, .f32⟩
  | .hbm, ⟨15, _⟩ => ⟨S_, .f32⟩
  | .hbm, ⟨16, _⟩ => ⟨S224x128, .f32⟩
  | .hbm, ⟨17, _⟩ => ⟨S224x128, .f32⟩
  | .hbm, ⟨18, _⟩ => ⟨S224x128, .f32⟩
  | .hbm, ⟨19, _⟩ => ⟨S_, .f32⟩
  | .hbm, ⟨20, _⟩ => ⟨S224x128, .f32⟩
  | .hbm, ⟨21, _⟩ => ⟨S224x128, .f32⟩
  | .hbm, ⟨22, _⟩ => ⟨S_, .f32⟩
  | .hbm, ⟨23, _⟩ => ⟨S224x128, .f32⟩
  | .hbm, ⟨24, _⟩ => ⟨S224x128, .f32⟩
  | .hbm, ⟨25, _⟩ => ⟨S224x128, .f32⟩
  | .hbm, ⟨26, _⟩ => ⟨S_, .f32⟩
  | .hbm, ⟨27, _⟩ => ⟨S224x128, .f32⟩
  | .hbm, ⟨28, _⟩ => ⟨S224x128, .f32⟩
  | .hbm, ⟨29, _⟩ => ⟨S224x128, .f32⟩
  | .hbm, ⟨30, _⟩ => ⟨S_, .f32⟩
  | .hbm, ⟨31, _⟩ => ⟨S224x128, .f32⟩
  | .hbm, ⟨32, _⟩ => ⟨S224x128, .f32⟩
  | .hbm, ⟨33, _⟩ => ⟨S224x128, .f32⟩
  | .hbm, ⟨34, _⟩ => ⟨S_, .f32⟩
  | .hbm, ⟨35, _⟩ => ⟨S224x128, .f32⟩
  | .hbm, ⟨36, _⟩ => ⟨S224x128, .f32⟩
  | _, _ => ⟨S224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference41Ideal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel42.lean ====
abbrev S2048x2816 : Shape := ⟨2, ![2048, 2816]⟩
abbrev S4x11x64x256 : Shape := ⟨4, ![4, 11, 64, 256]⟩
abbrev S2048x256 : Shape := ⟨2, ![2048, 256]⟩
abbrev S4x1x64x256 : Shape := ⟨4, ![4, 1, 64, 256]⟩
abbrev S1x1x64x256 : Shape := ⟨4, ![1, 1, 64, 256]⟩
abbrev S64x256 : Shape := ⟨2, ![64, 256]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S4x11x64x256, .bf16⟩
  | .hbm, ⟨2, _⟩ => ⟨S4x11x64x256, .bf16⟩
  | .hbm, ⟨3, _⟩ => ⟨S2048x2816, .f32⟩
  | .hbm, ⟨4, _⟩ => ⟨S2048x2816, .f32⟩
  | .local _ .vmem, ⟨0, _⟩ => ⟨S2048x256, .bf16⟩
  | .local _ .vmem, ⟨1, _⟩ => ⟨S2048x256, .bf16⟩
  | .local _ .vmem, ⟨2, _⟩ => ⟨S4x1x64x256, .bf16⟩
  | .local _ .vmem, ⟨3, _⟩ => ⟨S4x1x64x256, .bf16⟩
  | .local _ .vmem, ⟨4, _⟩ => ⟨S4x1x64x256, .bf16⟩
  | .local _ .vmem, ⟨5, _⟩ => ⟨S4x1x64x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference42Ideal.lean ====
abbrev S2048x2816 : Shape := ⟨2, ![2048, 2816]⟩
abbrev S4x11x64x256 : Shape := ⟨4, ![4, 11, 64, 256]⟩
abbrev S2048x11x256 : Shape := ⟨3, ![2048, 11, 256]⟩
abbrev S11x4x64x256 : Shape := ⟨4, ![11, 4, 64, 256]⟩
abbrev S11x256x256 : Shape := ⟨3, ![11, 256, 256]⟩
abbrev S11x256x2048 : Shape := ⟨3, ![11, 256, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S4x11x64x256, .bf16⟩
  | .hbm, ⟨2, _⟩ => ⟨S4x11x64x256, .bf16⟩
  | .hbm, ⟨3, _⟩ => ⟨S2048x2816, .f32⟩
  | .hbm, ⟨4, _⟩ => ⟨S4x11x64x256, .f32⟩
  | .hbm, ⟨5, _⟩ => ⟨S4x11x64x256, .f32⟩
  | .hbm, ⟨6, _⟩ => ⟨S2048x11x256, .f32⟩
  | .hbm, ⟨7, _⟩ => ⟨S11x4x64x256, .f32⟩
  | .hbm, ⟨8, _⟩ => ⟨S11x256x256, .f32⟩
  | .hbm, ⟨9, _⟩ => ⟨S11x256x2048, .f32⟩
  | .hbm, ⟨10, _⟩ => ⟨S2048x11x256, .f32⟩
  | .hbm, ⟨11, _⟩ => ⟨S2048x2816, .f32⟩
  | .hbm, ⟨12, _⟩ => ⟨S11x4x64x256, .f32⟩
  | .hbm, ⟨13, _⟩ => ⟨S11x256x256, .f32⟩
  | .hbm, ⟨14, _⟩ => ⟨S11x256x2048, .f32⟩
  | .hbm, ⟨15, _⟩ => ⟨S2048x11x256, .f32⟩
  | .hbm, ⟨16, _⟩ => ⟨S2048x2816, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel43.lean ====
abbrev S2048x5632 : Shape := ⟨2, ![2048, 5632]⟩
abbrev S4x2816 : Shape := ⟨2, ![4, 2816]⟩
abbrev S1x2816 : Shape := ⟨2, ![1, 2816]⟩
abbrev S2048x2816 : Shape := ⟨2, ![2048, 2816]⟩
abbrev S2048x256 : Shape := ⟨2, ![2048, 256]⟩
abbrev S4x256 : Shape := ⟨2, ![4, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S4x2816, .f32⟩
  | .hbm, ⟨2, _⟩ => ⟨S1x2816, .f32⟩
  | .hbm, ⟨3, _⟩ => ⟨S2048x2816, .f32⟩
  | .hbm, ⟨4, _⟩ => ⟨S2048x2816, .bf16⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference43Ideal.lean ====
abbrev S2048x5632 : Shape := ⟨2, ![2048, 5632]⟩
abbrev S4x2816 : Shape := ⟨2, ![4, 2816]⟩
abbrev S1x2816 : Shape := ⟨2, ![1, 2816]⟩
abbrev S2048x2816 : Shape := ⟨2, ![2048, 2816]⟩
abbrev S_ : Shape := ⟨0, ![]⟩
abbrev S3x2816 : Shape := ⟨2, ![3, 2816]⟩
abbrev S2051x2816 : Shape := ⟨2, ![2051, 2816]⟩
abbrev S2816 : Shape := ⟨1, ![2816]⟩

abbrev nBuf : Space → Nat
  | .hbm => 37
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S4x2816, .f32⟩
  | .hbm, ⟨2, _⟩ => ⟨S1x2816, .f32⟩
  | .hbm, ⟨3, _⟩ => ⟨S2048x2816, .f32⟩
  | .hbm, ⟨4, _⟩ => ⟨S_, .f32⟩
  | .hbm, ⟨5, _⟩ => ⟨S3x2816, .f32⟩
  | .hbm, ⟨6, _⟩ => ⟨S2051x2816, .f32⟩
  | .hbm, ⟨7, _⟩ => ⟨S2048x2816, .f32⟩
  | .hbm, ⟨8, _⟩ => ⟨S1x2816, .f32⟩
  | .hbm, ⟨9, _⟩ => ⟨S2816, .f32⟩
  | .hbm, ⟨10, _⟩ => ⟨S1x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S1x2816, .f32⟩
  | .hbm, ⟨31, _⟩ => ⟨S2816, .f32⟩
  | .hbm, ⟨32, _⟩ => ⟨S1x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Kernel44.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference44Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel45.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference45Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel46.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference46Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel47.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference47Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel48.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference48Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel49.lean ====
abbrev S2048x11264 : Shape := ⟨2, ![2048, 11264]⟩
abbrev S2048x5632 : Shape := ⟨2, ![2048, 5632]⟩
abbrev S128x5632 : Shape := ⟨2, ![128, 5632]⟩

abbrev nBuf : Space → Nat
  | .hbm => 2
  | .vmem => 6
  | .smem => 0
  | _ => 0

abbrev bufTy : (tb : Table) → Fin (tcTables nBuf tb) → BufTy
  | .hbm, ⟨0, _⟩ => ⟨S2048x11264, .f32⟩
  | .hbm, ⟨1, _⟩ => ⟨S2048x5632, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .bf16⟩
  | .local _ .vmem, ⟨5, _⟩ => ⟨S128x5632, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference49Ideal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel50.lean ====
abbrev S2048x5632 : Shape := ⟨2, ![2048, 5632]⟩
abbrev S2048x2816 : Shape := ⟨2, ![2048, 2816]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .bf16⟩
  | .local _ .vmem, ⟨5, _⟩ => ⟨S128x2816, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference50Ideal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S_, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Products.FfnUpWeightGrad.lean ====
module

public import proofs.«01_k».proof.Proof.Gen.Kernel2Ideal.Value
public import proofs.«01_k».proof.Proof.Gen.Reference2Ideal.Run
public import Idealize.ShloMosaic.Lib.Pipeline.ValueKit

/-! Kernel2 computes the gradient of the feed-forward layer's first product with respect to its weight: its result array is what the reference computes. -/

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2048x11264 .bf16) : FVec Ideal S4x2048x2816 .bf16 :=
  truncf .bf16 (transpose Cert.Reference2Ideal.S4x2048x2816 [1, 0, 2] (shapeCast _ (transpose Cert.Reference2Ideal.S2048x11264 [1, 0] (Host.dotGeneral Cert.Reference2Ideal.dot_S2048x11264_S2048x2048_S11264x2048_0_0_1_1_n_n none (extf .f32 B Cert.Reference2Ideal.Gen.bitsLt_bf16_f32) (extf .f32 A Cert.Reference2Ideal.Gen.bitsLt_bf16_f32)) Cert.Reference2Ideal.Gen.transposes_S11264x2048_S2048x11264_1_0) Cert.Reference2Ideal.Gen.shapeCasts_S2048x11264_S2048x4x2816) Cert.Reference2Ideal.Gen.transposes_S2048x4x2816_S4x2048x2816_1_0_2) Cert.Reference2Ideal.Gen.bitsLt_bf16_f32

/-- Where each window's block lies at point `t`. -/
theorem idx : ∀ t : Fin cfg0.N, win0_0.index t = ![0, 0] ∧ win0_1.index t = ![0, t.val] ∧ win0_2.index t = ![t.val / 11, 0, t.val % 11] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Value

end
-- ==== Proof.Products.FfnUpInputGrad.lean ====
module

public import proofs.«01_k».proof.Proof.Gen.Kernel3Ideal.Value
public import proofs.«01_k».proof.Proof.Gen.Reference3Ideal.Run
public import Idealize.ShloMosaic.Lib.Pipeline.ValueKit

/-! Kernel3 computes the gradient of the feed-forward layer's first product with respect to its input: its result array is what the reference computes. -/

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x11264 .bf16) (B : FVec Ideal S4x2048x2816 .bf16) : FVec Ideal S2048x2048 .f32 :=
  Host.dotGeneral Cert.Reference3Ideal.dot_S2048x11264_S2048x11264_S2048x2048_1_1_0_0_n_n none (extf .f32 A Cert.Reference3Ideal.Gen.bitsLt_bf16_f32) (extf .f32 (shapeCast _ (transpose Cert.Reference3Ideal.S2048x4x2816 [1, 0, 2] B Cert.Reference3Ideal.Gen.transposes_S4x2048x2816_S2048x4x2816_1_0_2) Cert.Reference3Ideal.Gen.shapeCasts_S2048x4x2816_S2048x11264) Cert.Reference3Ideal.Gen.bitsLt_bf16_f32)

/-- Where each window's block lies at point `t`. -/
theorem idx : ∀ t : Fin cfg0.N, win0_0.index t = ![0, t.val % 8] ∧ win0_1.index t = ![t.val % 8 / 2, t.val / 8, t.val % 8 % 2] ∧ win0_2.index t = ![0, t.val / 8] :=
  (by decide +kernel : ∀ t : Fin grid0.N, _)

/-- The first point of a run stores a part of the sum. -/
theorem first (a b y) : k0_pay1 (F := Ideal) a b y = ∑ k : Fin 1408, a (ix2 (y 0) k) * b (ix3 0 (y 1) k) := by
  pointwise [k0_pay1]

/-- Every later one adds its part. -/
theorem later (acc a b y) : k0_pay2 (F := Ideal) a b acc y = acc y + ∑ k : Fin 1408, a (ix2 (y 0) k) * b (ix3 0 (y 1) k) := by
  pointwise [k0_pay2, k0_pay1]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [first, zero_add])
    (fun t h j => by rw [outsAt0_B m c t h (by omega)]; frame_out; rw [later])
    t ((flush0_2 t).mp hf) _, zero_add]
  pointwise [want]
  refine Fin.sum_mul_add_congr fun s k hl => ?_
  blk_point [iblk, V, idx t, idx ⟨_, Pipeline.run_point_lt_of_flush t ((flush0_2 t).mp hf) s⟩]

end Cert.Kernel3Ideal.Value

end
-- ==== Proof.Products.FfnUpForward.lean ====
module

public import proofs.«01_k».proof.Proof.Gen.Kernel4Ideal.Value
public import proofs.«01_k».proof.Proof.Gen.Reference4Ideal.Run
public import Idealize.ShloMosaic.Lib.Pipeline.ValueKit

/-! Kernel4 computes the feed-forward layer's first product: its result array is what the reference computes. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S4x2048x2816 .bf16) : FVec Ideal S2048x11264 .f32 :=
  Host.dotGeneral Cert.Reference4Ideal.dot_S2048x2048_S2048x11264_S2048x11264_1_0_0_1_n_n none (extf .f32 A Cert.Reference4Ideal.Gen.bitsLt_bf16_f32) (extf .f32 (shapeCast _ (transpose Cert.Reference4Ideal.S2048x4x2816 [1, 0, 2] B Cert.Reference4Ideal.Gen.transposes_S4x2048x2816_S2048x4x2816_1_0_2) Cert.Reference4Ideal.Gen.shapeCasts_S2048x4x2816_S2048x11264) Cert.Reference4Ideal.Gen.bitsLt_bf16_f32)

/-- Where each window's block lies at point `t`. -/
theorem idx : ∀ t : Fin cfg0.N, win0_0.index t = ![0, 0] ∧ win0_1.index t = ![t.val / 11, 0, t.val % 11] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Value

end
-- ==== Proof.Products.FfnDownWeightGrad.lean ====
module

public import proofs.«01_k».proof.Proof.Gen.Kernel5Ideal.Value
public import proofs.«01_k».proof.Proof.Gen.Reference5Ideal.Run
public import Idealize.ShloMosaic.Lib.Pipeline.ValueKit

/-! Kernel5 computes the gradient of the feed-forward layer's second product with respect to its weight: its result array is what the reference computes. -/

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x5632 .bf16) (B : FVec Ideal S2048x2048 .bf16) : FVec Ideal S5632x2048 .bf16 :=
  truncf .bf16 (transpose Cert.Reference5Ideal.S5632x2048 [1, 0] (Host.dotGeneral Cert.Reference5Ideal.dot_S2048x2048_S2048x5632_S2048x5632_0_0_1_1_n_n none (extf .f32 B Cert.Reference5Ideal.Gen.bitsLt_bf16_f32) (extf .f32 A Cert.Reference5Ideal.Gen.bitsLt_bf16_f32)) Cert.Reference5Ideal.Gen.transposes_S2048x5632_S5632x2048_1_0) Cert.Reference5Ideal.Gen.bitsLt_bf16_f32

/-- Where each window's block lies at point `t`. -/
theorem idx : ∀ t : Fin cfg0.N, win0_0.index t = ![0, t.val] ∧ win0_1.index t = ![0, 0] ∧ win0_2.index t = ![t.val, 0] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.Value

end
-- ==== Proof.Products.FfnDownInputGrad.lean ====
module

public import proofs.«01_k».proof.Proof.Gen.Kernel6Ideal.Value
public import proofs.«01_k».proof.Proof.Gen.Reference6Ideal.Run
public import Idealize.ShloMosaic.Lib.Pipeline.ValueKit

/-! Kernel6 computes the gradient of the feed-forward layer's second product with respect to its input: its result array is what the reference computes. -/

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S5632x2048 .bf16) : FVec Ideal S2048x5632 .f32 :=
  Host.dotGeneral Cert.Reference6Ideal.dot_S2048x2048_S5632x2048_S2048x5632_1_1_0_0_n_n none (extf .f32 A Cert.Reference6Ideal.Gen.bitsLt_bf16_f32) (extf .f32 B Cert.Reference6Ideal.Gen.bitsLt_bf16_f32)

/-- Where each window's block lies at point `t`. -/
theorem idx : ∀ t : Fin cfg0.N, win0_0.index t = ![0, 0] ∧ win0_1.index t = ![t.val, 0] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel6Ideal.Value

end
-- ==== Proof.Products.FfnDownForward.lean ====
module

public import proofs.«01_k».proof.Proof.Gen.Kernel7Ideal.Value
public import proofs.«01_k».proof.Proof.Gen.Reference7Ideal.Run
public import Idealize.ShloMosaic.Lib.Pipeline.ValueKit

/-! Kernel7 computes the feed-forward layer's second product: its result array is what the reference computes. -/

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x5632 .bf16) (B : FVec Ideal S5632x2048 .bf16) : FVec Ideal S2048x2048 .f32 :=
  Host.dotGeneral Cert.Reference7Ideal.dot_S2048x5632_S5632x2048_S2048x2048_1_0_0_1_n_n none (extf .f32 A Cert.Reference7Ideal.Gen.bitsLt_bf16_f32) (extf .f32 B Cert.Reference7Ideal.Gen.bitsLt_bf16_f32)

/-- Where each window's block lies at point `t`. -/
theorem idx : ∀ t : Fin cfg0.N, win0_0.index t = ![0, t.val % 4] ∧ win0_1.index t = ![t.val % 4, t.val / 4] ∧ win0_2.index t = ![0, t.val / 4] :=
  (by decide +kernel : ∀ t : Fin grid0.N, _)

/-- The first point of a run stores a part of the sum. -/
theorem first (a b y) : k0_pay1 (F := Ideal) a b y = ∑ k : Fin 1408, a (ix2 (y 0) k) * b (ix2 k (y 1)) := by
  pointwise [k0_pay1]

/-- Every later one adds its part. -/
theorem later (acc a b y) : k0_pay2 (F := Ideal) a b acc y = acc y + ∑ k : Fin 1408, a (ix2 (y 0) k) * b (ix2 k (y 1)) := by
  pointwise [k0_pay2, k0_pay1]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first, zero_add])
    (fun t h j => by rw [outsAt0_B m c t h (by omega)]; frame_out; rw [later])
    t ((flush0_2 t).mp hf) _, zero_add]
  pointwise [want]
  refine Fin.sum_mul_add_congr fun s k hl => ?_
  blk_point [iblk, V, idx t, idx ⟨_, Pipeline.run_point_lt_of_flush t ((flush0_2 t).mp hf) s⟩]

end Cert.Kernel7Ideal.Value

end
-- ==== Proof.Products.InEvenWeightGrad.lean ====
module

public import proofs.«01_k».proof.Proof.Gen.Kernel8Ideal.Value
public import proofs.«01_k».proof.Proof.Gen.Reference8Ideal.Run
public import Idealize.ShloMosaic.Lib.Pipeline.ValueKit

/-! Kernel8 computes the gradient of the even mixer's first product with respect to its weight: its result array is what the reference computes. -/

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2048x7168 .bf16) : FVec Ideal S4x2048x1792 .bf16 :=
  truncf .bf16 (transpose Cert.Reference8Ideal.S4x2048x1792 [1, 0, 2] (shapeCast _ (transpose Cert.Reference8Ideal.S2048x7168 [1, 0] (Host.dotGeneral Cert.Reference8Ideal.dot_S2048x7168_S2048x2048_S7168x2048_0_0_1_1_n_n none (extf .f32 B Cert.Reference8Ideal.Gen.bitsLt_bf16_f32) (extf .f32 A Cert.Reference8Ideal.Gen.bitsLt_bf16_f32)) Cert.Reference8Ideal.Gen.transposes_S7168x2048_S2048x7168_1_0) Cert.Reference8Ideal.Gen.shapeCasts_S2048x7168_S2048x4x1792) Cert.Reference8Ideal.Gen.transposes_S2048x4x1792_S4x2048x1792_1_0_2) Cert.Reference8Ideal.Gen.bitsLt_bf16_f32

/-- Where each window's block lies at point `t`. -/
theorem idx : ∀ t : Fin cfg0.N, win0_0.index t = ![0, 0] ∧ win0_1.index t = ![0, t.val] ∧ win0_2.index t = ![t.val / 2, 0, t.val % 2] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Value

end
-- ==== Proof.Products.InEvenInputGrad.lean ====
module

public import proofs.«01_k».proof.Proof.Gen.Kernel9Ideal.Value
public import proofs.«01_k».proof.Proof.Gen.Reference9Ideal.Run
public import Idealize.ShloMosaic.Lib.Pipeline.ValueKit

/-! Kernel9 computes the gradient of the even mixer's first product with respect to its input: its result array is what the reference computes. -/

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x7168 .bf16) (B : FVec Ideal S4x2048x1792 .bf16) : FVec Ideal S2048x2048 .f32 :=
  Host.dotGeneral Cert.Reference9Ideal.dot_S2048x7168_S2048x7168_S2048x2048_1_1_0_0_n_n none (extf .f32 A Cert.Reference9Ideal.Gen.bitsLt_bf16_f32) (extf .f32 (shapeCast _ (transpose Cert.Reference9Ideal.S2048x4x1792 [1, 0, 2] B Cert.Reference9Ideal.Gen.transposes_S4x2048x1792_S2048x4x1792_1_0_2) Cert.Reference9Ideal.Gen.shapeCasts_S2048x4x1792_S2048x7168) Cert.Reference9Ideal.Gen.bitsLt_bf16_f32)

/-- Where each window's block lies at point `t`. -/
theorem idx : ∀ t : Fin cfg0.N, win0_0.index t = ![0, t.val % 8] ∧ win0_1.index t = ![t.val % 8 / 2, t.val / 8, t.val % 8 % 2] ∧ win0_2.index t = ![0, t.val / 8] :=
  (by decide +kernel : ∀ t : Fin grid0.N, _)

/-- The first point of a run stores a part of the sum. -/
theorem first (a b y) : k0_pay1 (F := Ideal) a b y = ∑ k : Fin 896, a (ix2 (y 0) k) * b (ix3 0 (y 1) k) := by
  pointwise [k0_pay1]

/-- Every later one adds its part. -/
theorem later (acc a b y) : k0_pay2 (F := Ideal) a b acc y = acc y + ∑ k : Fin 896, a (ix2 (y 0) k) * b (ix3 0 (y 1) k) := by
  pointwise [k0_pay2, k0_pay1]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h (by omega)]; frame_out; rw [first, zero_add])
    (fun t h j => by rw [outsAt0_B m c t h (by omega)]; frame_out; rw [later])
    t ((flush0_2 t).mp hf) _, zero_add]
  pointwise [want]
  refine Fin.sum_mul_add_congr fun s k hl => ?_
  blk_point [iblk, V, idx t, idx ⟨_, Pipeline.run_point_lt_of_flush t ((flush0_2 t).mp hf) s⟩]

end Cert.Kernel9Ideal.Value

end
-- ==== Proof.Products.InEvenForward.lean ====
module

public import proofs.«01_k».proof.Proof.Gen.Kernel10Ideal.Value
public import proofs.«01_k».proof.Proof.Gen.Reference10Ideal.Run
public import Idealize.ShloMosaic.Lib.Pipeline.ValueKit

/-! Kernel10 computes the even mixer's first product: its result array is what the reference computes. -/

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S4x2048x1792 .bf16) : FVec Ideal S2048x7168 .f32 :=
  Host.dotGeneral Cert.Reference10Ideal.dot_S2048x2048_S2048x7168_S2048x7168_1_0_0_1_n_n none (extf .f32 A Cert.Reference10Ideal.Gen.bitsLt_bf16_f32) (extf .f32 (shapeCast _ (transpose Cert.Reference10Ideal.S2048x4x1792 [1, 0, 2] B Cert.Reference10Ideal.Gen.transposes_S4x2048x1792_S2048x4x1792_1_0_2) Cert.Reference10Ideal.Gen.shapeCasts_S2048x4x1792_S2048x7168) Cert.Reference10Ideal.Gen.bitsLt_bf16_f32)

/-- Where each window's block lies at point `t`. -/
theorem idx : ∀ t : Fin cfg0.N, win0_0.index t = ![0, 0] ∧ win0_1.index t = ![t.val / 2, 0, t.val % 2] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Value

end
-- ==== Proof.Products.InOddWeightGrad.lean ====
module

public import proofs.«01_k».proof.Proof.Gen.Kernel11Ideal.Value
public import proofs.«01_k».proof.Proof.Gen.Reference11Ideal.Run
public import Idealize.ShloMosaic.Lib.Pipeline.ValueKit

/-! Kernel11 computes the gradient of the odd mixer's first product with respect to its weight: its result array is what the reference computes. -/

@[expose] public section

set_option maxRecDepth 16384

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2048x5632 .bf16) : FVec Ideal S4x2048x1408 .bf16 :=
  truncf .bf16 (transpose Cert.Reference11Ideal.S4x2048x1408 [1, 0, 2] (shapeCast _ (transpose Cert.Reference11Ideal.S2048x5632 [1, 0] (Host.dotGeneral Cert.Reference11Ideal.dot_S2048x5632_S2048x2048_S5632x2048_0_0_1_1_n_n none (extf .f32 B Cert.Reference11Ideal.Gen.bitsLt_bf16_f32) (extf .f32 A Cert.Reference11Ideal.Gen.bitsLt_bf16_f32)) Cert.Reference11Ideal.Gen.transposes_S5632x2048_S2048x5632_1_0) Cert.Reference11Ideal.Gen.shapeCasts_S2048x5632_S2048x4x1408) Cert.Reference11Ideal.Gen.transposes_S2048x4x1408_S4x2048x1408_1_0_2) Cert.Reference11Ideal.Gen.bitsLt_bf16_f32

/-- Where each window's block lies at point `t`. -/
theorem idx : ∀ t : Fin cfg0.N, win0_0.index t = ![0, 0] ∧ win0_1.index t = ![0, t.val] ∧ win0_2.index t = ![t.val, 0, 0] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.Value

end
-- ==== Proof.Products.InOddInputGrad.lean ====
module

public import proofs.«01_k».proof.Proof.Gen.Kernel12Ideal.Value
public import proofs.«01_k».proof.Proof.Gen.Reference12Ideal.Run
public import Idealize.ShloMosaic.Lib.Pipeline.ValueKit

/-! Kernel12 computes the gradient of the odd mixer's first product with respect to its input: its result array is what the reference computes. -/

@[expose] public section

set_option maxRecDepth 16384

noncomputable section

namespace Cert.Kernel12Ideal.Value

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x5632 .bf16) (B : FVec Ideal S4x2048x1408 .bf16) : FVec Ideal S2048x2048 .f32 :=
  Host.dotGeneral Cert.Reference12Ideal.dot_S2048x5632_S2048x5632_S2048x2048_1_1_0_0_n_n none (extf .f32 A Cert.Reference12Ideal.Gen.bitsLt_bf16_f32) (extf .f32 (shapeCast _ (transpose Cert.Reference12Ideal.S2048x4x1408 [1, 0, 2] B Cert.Reference12Ideal.Gen.transposes_S4x2048x1408_S2048x4x1408_1_0_2) Cert.Reference12Ideal.Gen.shapeCasts_S2048x4x1408_S2048x5632) Cert.Reference12Ideal.Gen.bitsLt_bf16_f32)

/-- Where each window's block lies at point `t`. -/
theorem idx : ∀ t : Fin cfg0.N, win0_0.index t = ![0, t.val % 4] ∧ win0_1.index t = ![t.val % 4, t.val / 4, 0] ∧ win0_2.index t = ![0, t.val / 4] :=
  (by decide +kernel : ∀ t : Fin grid0.N, _)

/-- The first point of a run stores a part of the sum. -/
theorem first (a b y) : k0_pay1 (F := Ideal) a b y = ∑ k : Fin 1408, a (ix2 (y 0) k) * b (ix3 0 (y 1) k) := by
  pointwise [k0_pay1]

/-- Every later one adds its part. -/
theorem later (acc a b y) : k0_pay2 (F := Ideal) a b acc y = acc y + ∑ k : Fin 1408, a (ix2 (y 0) k) * b (ix3 0 (y 1) k) := by
  pointwise [k0_pay2, k0_pay1]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first, zero_add])
    (fun t h j => by rw [outsAt0_B m c t h (by omega)]; frame_out; rw [later])
    t ((flush0_2 t).mp hf) _, zero_add]
  pointwise [want]
  refine Fin.sum_mul_add_congr fun s k hl => ?_
  blk_point [iblk, V, idx t, idx ⟨_, Pipeline.run_point_lt_of_flush t ((flush0_2 t).mp hf) s⟩]

end Cert.Kernel12Ideal.Value

end
-- ==== Proof.Products.InOddForward.lean ====
module

public import proofs.«01_k».proof.Proof.Gen.Kernel13Ideal.Value
public import proofs.«01_k».proof.Proof.Gen.Reference13Ideal.Run
public import Idealize.ShloMosaic.Lib.Pipeline.ValueKit

/-! Kernel13 computes the odd mixer's first product: its result array is what the reference computes. -/

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S4x2048x1408 .bf16) : FVec Ideal S2048x5632 .f32 :=
  Host.dotGeneral Cert.Reference13Ideal.dot_S2048x2048_S2048x5632_S2048x5632_1_0_0_1_n_n none (extf .f32 A Cert.Reference13Ideal.Gen.bitsLt_bf16_f32) (extf .f32 (shapeCast _ (transpose Cert.Reference13Ideal.S2048x4x1408 [1, 0, 2] B Cert.Reference13Ideal.Gen.transposes_S4x2048x1408_S2048x4x1408_1_0_2) Cert.Reference13Ideal.Gen.shapeCasts_S2048x4x1408_S2048x5632) Cert.Reference13Ideal.Gen.bitsLt_bf16_f32)

/-- Where each window's block lies at point `t`. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel13Ideal.Value

end
-- ==== Proof.Products.OutOddWeightGrad.lean ====
module

public import proofs.«01_k».proof.Proof.Gen.Kernel14Ideal.Value
public import proofs.«01_k».proof.Proof.Gen.Reference14Ideal.Run
public import Idealize.ShloMosaic.Lib.Pipeline.ValueKit

/-! Kernel14 computes the gradient of the odd mixer's last product with respect to its weight: its result array is what the reference computes. -/

@[expose] public section

set_option maxRecDepth 16384

noncomputable section

namespace Cert.Kernel14Ideal.Value

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2816 .bf16) (B : FVec Ideal S2048x2048 .bf16) : FVec Ideal S2816x2048 .bf16 :=
  truncf .bf16 (transpose Cert.Reference14Ideal.S2816x2048 [1, 0] (Host.dotGeneral Cert.Reference14Ideal.dot_S2048x2048_S2048x2816_S2048x2816_0_0_1_1_n_n none (extf .f32 B Cert.Reference14Ideal.Gen.bitsLt_bf16_f32) (extf .f32 A Cert.Reference14Ideal.Gen.bitsLt_bf16_f32)) Cert.Reference14Ideal.Gen.transposes_S2048x2816_S2816x2048_1_0) Cert.Reference14Ideal.Gen.bitsLt_bf16_f32

/-- Where each window's block lies at point `t`. -/
theorem idx : ∀ t : Fin cfg0.N, win0_0.index t = ![0, t.val] ∧ win0_1.index t = ![0, 0] ∧ win0_2.index t = ![t.val, 0] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel14Ideal.Value

end
-- ==== Proof.Products.OutOddInputGrad.lean ====
module

public import proofs.«01_k».proof.Proof.Gen.Kernel15Ideal.Value
public import proofs.«01_k».proof.Proof.Gen.Reference15Ideal.Run
public import Idealize.ShloMosaic.Lib.Pipeline.ValueKit

/-! Kernel15 computes the gradient of the odd mixer's last product with respect to its input: its result array is what the reference computes. -/

@[expose] public section

set_option maxRecDepth 16384

noncomputable section

namespace Cert.Kernel15Ideal.Value

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2816x2048 .bf16) : FVec Ideal S2048x2816 .f32 :=
  Host.dotGeneral Cert.Reference15Ideal.dot_S2048x2048_S2816x2048_S2048x2816_1_1_0_0_n_n none (extf .f32 A Cert.Reference15Ideal.Gen.bitsLt_bf16_f32) (extf .f32 B Cert.Reference15Ideal.Gen.bitsLt_bf16_f32)

/-- Where each window's block lies at point `t`. -/
theorem idx : ∀ t : Fin cfg0.N, win0_0.index t = ![0, 0] ∧ win0_1.index t = ![t.val, 0] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel15Ideal.Value

end
-- ==== Proof.Products.OutOddForward.lean ====
module

public import proofs.«01_k».proof.Proof.Gen.Kernel16Ideal.Value
public import proofs.«01_k».proof.Proof.Gen.Reference16Ideal.Run
public import Idealize.ShloMosaic.Lib.Pipeline.ValueKit

/-! Kernel16 computes the odd mixer's last product: its result array is what the reference computes. -/

@[expose] public section

set_option maxRecDepth 16384

noncomputable section

namespace Cert.Kernel16Ideal.Value

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2816 .bf16) (B : FVec Ideal S2816x2048 .bf16) : FVec Ideal S2048x2048 .f32 :=
  Host.dotGeneral Cert.Reference16Ideal.dot_S2048x2816_S2816x2048_S2048x2048_1_0_0_1_n_n none (extf .f32 A Cert.Reference16Ideal.Gen.bitsLt_bf16_f32) (extf .f32 B Cert.Reference16Ideal.Gen.bitsLt_bf16_f32)

/-- Where each window's block lies at point `t`. -/
theorem idx : ∀ t : Fin cfg0.N, win0_0.index t = ![0, 0] ∧ win0_1.index t = ![0, t.val] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel16Ideal.Value

end
-- ==== Proof.Products.OutEvenWeightGrad.lean ====
module

public import proofs.«01_k».proof.Proof.Gen.Kernel17Ideal.Value
public import proofs.«01_k».proof.Proof.Gen.Reference17Ideal.Run
public import Idealize.ShloMosaic.Lib.Pipeline.ValueKit

/-! Kernel17 computes the gradient of the even mixer's last product (of the same shape as the per-layer embedding's gate product) with respect to its weight: its result array is what the reference computes. -/

@[expose] public section

set_option maxRecDepth 16384

noncomputable section

namespace Cert.Kernel17Ideal.Value

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2048x2048 .bf16) : FVec Ideal S2048x2048 .bf16 :=
  truncf .bf16 (transpose Cert.Reference17Ideal.S2048x2048 [1, 0] (Host.dotGeneral Cert.Reference17Ideal.dot_S2048x2048_S2048x2048_S2048x2048_0_0_1_1_n_n none (extf .f32 B Cert.Reference17Ideal.Gen.bitsLt_bf16_f32) (extf .f32 A Cert.Reference17Ideal.Gen.bitsLt_bf16_f32)) Cert.Reference17Ideal.Gen.transposes_S2048x2048_S2048x2048_1_0) Cert.Reference17Ideal.Gen.bitsLt_bf16_f32

/-- Where each window's block lies at point `t`. -/
theorem idx : ∀ t : Fin cfg0.N, win0_0.index t = ![0, 0] ∧ win0_1.index t = ![0, t.val] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel17Ideal.Value

end
-- ==== Proof.Products.OutEvenInputGrad.lean ====
module

public import proofs.«01_k».proof.Proof.Gen.Kernel18Ideal.Value
public import proofs.«01_k».proof.Proof.Gen.Reference18Ideal.Run
public import Idealize.ShloMosaic.Lib.Pipeline.ValueKit

/-! Kernel18 computes the gradient of the even mixer's last product (of the same shape as the per-layer embedding's gate product) with respect to its input: its result array is what the reference computes. -/

@[expose] public section

set_option maxRecDepth 16384

noncomputable section

namespace Cert.Kernel18Ideal.Value

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2048x2048 .bf16) : FVec Ideal S2048x2048 .f32 :=
  Host.dotGeneral Cert.Reference18Ideal.dot_S2048x2048_S2048x2048_S2048x2048_1_1_0_0_n_n none (extf .f32 A Cert.Reference18Ideal.Gen.bitsLt_bf16_f32) (extf .f32 B Cert.Reference18Ideal.Gen.bitsLt_bf16_f32)

/-- Where each window's block lies at point `t`. -/
theorem idx : ∀ t : Fin cfg0.N, win0_0.index t = ![0, 0] ∧ win0_1.index t = ![t.val, 0] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel18Ideal.Value

end
-- ==== Proof.Products.OutEvenForward.lean ====
module

public import proofs.«01_k».proof.Proof.Gen.Kernel19Ideal.Value
public import proofs.«01_k».proof.Proof.Gen.Reference19Ideal.Run
public import Idealize.ShloMosaic.Lib.Pipeline.ValueKit

/-! Kernel19 computes the even mixer's last product (of the same shape as the per-layer embedding's gate product): its result array is what the reference computes. -/

@[expose] public section

set_option maxRecDepth 16384

noncomputable section

namespace Cert.Kernel19Ideal.Value

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x2048 .bf16) (B : FVec Ideal S2048x2048 .bf16) : FVec Ideal S2048x2048 .f32 :=
  Host.dotGeneral Cert.Reference19Ideal.dot_S2048x2048_S2048x2048_S2048x2048_1_0_0_1_n_n none (extf .f32 A Cert.Reference19Ideal.Gen.bitsLt_bf16_f32) (extf .f32 B Cert.Reference19Ideal.Gen.bitsLt_bf16_f32)

/-- Where each window's block lies at point `t`. -/
theorem idx : ∀ t : Fin cfg0.N, win0_0.index t = ![0, 0] ∧ win0_1.index t = ![0, t.val] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel19Ideal.Value

end
-- ==== Proof.Products.PleUpWeightGrad.lean ====
module

public import proofs.«01_k».proof.Proof.Gen.Kernel20Ideal.Value
public import proofs.«01_k».proof.Proof.Gen.Reference20Ideal.Run
public import Idealize.ShloMosaic.Lib.Pipeline.ValueKit

/-! Kernel20 computes the gradient of the per-layer embedding's product with respect to its weight: its result array is what the reference computes. -/

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x256 .bf16) (B : FVec Ideal S2048x2048 .bf16) : FVec Ideal S4x256x512 .bf16 :=
  truncf .bf16 (transpose Cert.Reference20Ideal.S4x256x512 [1, 0, 2] (shapeCast _ (transpose Cert.Reference20Ideal.S256x2048 [1, 0] (Host.dotGeneral Cert.Reference20Ideal.dot_S2048x2048_S2048x256_S2048x256_0_0_1_1_n_n none (extf .f32 B Cert.Reference20Ideal.Gen.bitsLt_bf16_f32) (extf .f32 A Cert.Reference20Ideal.Gen.bitsLt_bf16_f32)) Cert.Reference20Ideal.Gen.transposes_S2048x256_S256x2048_1_0) Cert.Reference20Ideal.Gen.shapeCasts_S256x2048_S256x4x512) Cert.Reference20Ideal.Gen.transposes_S256x4x512_S4x256x512_1_0_2) Cert.Reference20Ideal.Gen.bitsLt_bf16_f32

/-- Where each window's block lies at point `t`. -/
theorem idx : ∀ t : Fin cfg0.N, win0_0.index t = ![0, 0] ∧ win0_1.index t = ![0, t.val] ∧ win0_2.index t = ![t.val, 0, 0] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  refine Fin.sum_fin_congr fun x => ?_
  refine Eq.trans (mul_comm (G := EReal) _ _) ?_
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel20Ideal.Value

end
-- ==== Proof.Products.PleUpForward.lean ====
module

public import proofs.«01_k».proof.Proof.Gen.Kernel21Ideal.Value
public import proofs.«01_k».proof.Proof.Gen.Reference21Ideal.Run
public import Idealize.ShloMosaic.Lib.Pipeline.ValueKit

/-! Kernel21 computes the per-layer embedding's product: its result array is what the reference computes. -/

@[expose] public section

set_option maxRecDepth 16384

noncomputable section

namespace Cert.Kernel21Ideal.Value

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- What the reference computes from the two arrays. -/
abbrev want (A : FVec Ideal S2048x256 .bf16) (B : FVec Ideal S4x256x512 .bf16) : FVec Ideal S2048x2048 .f32 :=
  Host.dotGeneral Cert.Reference21Ideal.dot_S2048x256_S256x2048_S2048x2048_1_0_0_1_n_n none (extf .f32 A Cert.Reference21Ideal.Gen.bitsLt_bf16_f32) (extf .f32 (shapeCast _ (transpose Cert.Reference21Ideal.S256x4x512 [1, 0, 2] B Cert.Reference21Ideal.Gen.transposes_S4x256x512_S256x4x512_1_0_2) Cert.Reference21Ideal.Gen.shapeCasts_S256x4x512_S256x2048) Cert.Reference21Ideal.Gen.bitsLt_bf16_f32)

/-- Where each window's block lies at point `t`. -/
theorem idx : ∀ t : Fin cfg0.N, win0_0.index t = ![0, 0] ∧ win0_1.index t = ![t.val, 0, 0] ∧ win0_2.index t = ![0, t.val] :=
  (by decide +kernel : ∀ t : Fin grid0.N, _)

/-- What point `t` stores at an index of its block is the reference's value where that index lies in the array. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run is what the reference computes. -/
theorem final (c : Dev nD) : (dats m 0 c).arrAt 2 (cfgs 0).N = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel21Ideal.Value

end
-- ==== Proof.Products.Claims.lean ====
module

public import proofs.«01_k».proof.Defs
public import proofs.«01_k».proof.Proof.Gen.Kernel2
public import proofs.«01_k».proof.Proof.Products.FfnUpWeightGrad
public import proofs.«01_k».proof.Proof.Gen.Kernel3
public import proofs.«01_k».proof.Proof.Products.FfnUpInputGrad
public import proofs.«01_k».proof.Proof.Gen.Kernel4
public import proofs.«01_k».proof.Proof.Products.FfnUpForward
public import proofs.«01_k».proof.Proof.Gen.Kernel5
public import proofs.«01_k».proof.Proof.Products.FfnDownWeightGrad
public import proofs.«01_k».proof.Proof.Gen.Kernel6
public import proofs.«01_k».proof.Proof.Products.FfnDownInputGrad
public import proofs.«01_k».proof.Proof.Gen.Kernel7
public import proofs.«01_k».proof.Proof.Products.FfnDownForward
public import proofs.«01_k».proof.Proof.Gen.Kernel8
public import proofs.«01_k».proof.Proof.Products.InEvenWeightGrad
public import proofs.«01_k».proof.Proof.Gen.Kernel9
public import proofs.«01_k».proof.Proof.Products.InEvenInputGrad
public import proofs.«01_k».proof.Proof.Gen.Kernel10
public import proofs.«01_k».proof.Proof.Products.InEvenForward
public import proofs.«01_k».proof.Proof.Gen.Kernel11
public import proofs.«01_k».proof.Proof.Products.InOddWeightGrad
public import proofs.«01_k».proof.Proof.Gen.Kernel12
public import proofs.«01_k».proof.Proof.Products.InOddInputGrad
public import proofs.«01_k».proof.Proof.Gen.Kernel13
public import proofs.«01_k».proof.Proof.Products.InOddForward
public import proofs.«01_k».proof.Proof.Gen.Kernel14
public import proofs.«01_k».proof.Proof.Products.OutOddWeightGrad
public import proofs.«01_k».proof.Proof.Gen.Kernel15
public import proofs.«01_k».proof.Proof.Products.OutOddInputGrad
public import proofs.«01_k».proof.Proof.Gen.Kernel16
public import proofs.«01_k».proof.Proof.Products.OutOddForward
public import proofs.«01_k».proof.Proof.Gen.Kernel17
public import proofs.«01_k».proof.Proof.Products.OutEvenWeightGrad
public import proofs.«01_k».proof.Proof.Gen.Kernel18
public import proofs.«01_k».proof.Proof.Products.OutEvenInputGrad
public import proofs.«01_k».proof.Proof.Gen.Kernel19
public import proofs.«01_k».proof.Proof.Products.OutEvenForward
public import proofs.«01_k».proof.Proof.Gen.Kernel20
public import proofs.«01_k».proof.Proof.Products.PleUpWeightGrad
public import proofs.«01_k».proof.Proof.Gen.Kernel21
public import proofs.«01_k».proof.Proof.Products.PleUpForward

/-! The claims about the products, each from its kernel's run and its reference's. -/

@[expose] public section

noncomputable section

namespace Cert.Proof.Products

open Idealize.ShloMosaic Idealize.SL.Sem

/-- FfnUpWeightGrad: the program on float words and its idealization have one table of kernel bodies. -/
theorem defs_eq2 : Cert.Kernel2.defs (F := Bits) = Cert.Kernel2Ideal.defs (F := Bits) := by
  have h : Cert.Kernel2.defs₀ (F := Bits) = Cert.Kernel2Ideal.defs₀ (F := Bits) := by
    unfold Cert.Kernel2.defs₀ Cert.Kernel2Ideal.defs₀
    congr 1
    funext l a
    match l, a with
    | ⟨0, _⟩, _ => rfl
  unfold Cert.Kernel2.defs Cert.Kernel2Ideal.defs
  rw [h]
  rfl

/-- FfnUpWeightGrad: the kernel's run on float words. -/
theorem frame_kernel2 : Cert.quiescent_Kernel2 := fun m ρ _ => by
  rw [defs_eq2]
  exact Cert.Kernel2Ideal.Gen.frame (F := Bits) m ρ

/-- FfnUpWeightGrad: the kernel's run over the extended reals. -/
theorem frame_kernel2Ideal : Cert.quiescent_Kernel2Ideal := fun m ρ _ => Cert.Kernel2Ideal.Gen.frame m ρ

/-- FfnUpWeightGrad: the reference's run. -/
theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- FfnUpWeightGrad: over the extended reals the kernel's result array is the gradient of the feed-forward layer's first product with respect to its weight. -/
theorem algebraic2 : Cert.algebraic_Kernel2Ideal_Reference2Ideal := by
  intro m g m' g' _ heq
  refine ⟨fun c => Cert.Kernel2Ideal.Value.want (m ((c.tc : Thread _ _).loc Cert.Kernel2Ideal.main_arg0)) (m ((c.tc : Thread _ _).loc Cert.Kernel2Ideal.main_arg1)), ?_, ?_⟩
  · exact (θ_run Cert.Kernel2Ideal.defs _ _).mono (fun r h c => ⟨(h c).1.trans (Cert.Kernel2Ideal.Value.final m c), (h c).2⟩) (Cert.Kernel2Ideal.Value.run_blocks m g)
  · refine (θ_run Cert.Reference2Ideal.defs _ _).mono (fun r h c => ⟨(h c).1.trans ?_, (h c).2⟩) (Cert.Reference2Ideal.Value.run (F := Ideal) m' g')
    rw [(heq c).1, (heq c).2]

/-- FfnUpInputGrad: the program on float words and its idealization have one table of kernel bodies. -/
theorem defs_eq3 : Cert.Kernel3.defs (F := Bits) = Cert.Kernel3Ideal.defs (F := Bits) := by
  have h : Cert.Kernel3.defs₀ (F := Bits) = Cert.Kernel3Ideal.defs₀ (F := Bits) := by
    unfold Cert.Kernel3.defs₀ Cert.Kernel3Ideal.defs₀
    congr 1
    funext l a
    match l, a with
    | ⟨0, _⟩, _ => rfl
  unfold Cert.Kernel3.defs Cert.Kernel3Ideal.defs
  rw [h]
  rfl

/-- FfnUpInputGrad: the kernel's run on float words. -/
theorem frame_kernel3 : Cert.quiescent_Kernel3 := fun m ρ _ => by
  rw [defs_eq3]
  exact Cert.Kernel3Ideal.Gen.frame (F := Bits) m ρ

/-- FfnUpInputGrad: the kernel's run over the extended reals. -/
theorem frame_kernel3Ideal : Cert.quiescent_Kernel3Ideal := fun m ρ _ => Cert.Kernel3Ideal.Gen.frame m ρ

/-- FfnUpInputGrad: the reference's run. -/
theorem frame_reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- FfnUpInputGrad: over the extended reals the kernel's result array is the gradient of the feed-forward layer's first product with respect to its input. -/
theorem algebraic3 : Cert.algebraic_Kernel3Ideal_Reference3Ideal := by
  intro m g m' g' _ heq
  refine ⟨fun c => Cert.Kernel3Ideal.Value.want (m ((c.tc : Thread _ _).loc Cert.Kernel3Ideal.main_arg0)) (m ((c.tc : Thread _ _).loc Cert.Kernel3Ideal.main_arg1)), ?_, ?_⟩
  · exact (θ_run Cert.Kernel3Ideal.defs _ _).mono (fun r h c => ⟨(h c).1.trans (Cert.Kernel3Ideal.Value.final m c), (h c).2⟩) (Cert.Kernel3Ideal.Value.run_blocks m g)
  · refine (θ_run Cert.Reference3Ideal.defs _ _).mono (fun r h c => ⟨(h c).1.trans ?_, (h c).2⟩) (Cert.Reference3Ideal.Value.run (F := Ideal) m' g')
    rw [(heq c).1, (heq c).2]

/-- FfnUpForward: the program on float words and its idealization have one table of kernel bodies. -/
theorem defs_eq4 : Cert.Kernel4.defs (F := Bits) = Cert.Kernel4Ideal.defs (F := Bits) := by
  have h : Cert.Kernel4.defs₀ (F := Bits) = Cert.Kernel4Ideal.defs₀ (F := Bits) := by
    unfold Cert.Kernel4.defs₀ Cert.Kernel4Ideal.defs₀
    congr 1
    funext l a
    match l, a with
    | ⟨0, _⟩, _ => rfl
  unfold Cert.Kernel4.defs Cert.Kernel4Ideal.defs
  rw [h]
  rfl

/-- FfnUpForward: the kernel's run on float words. -/
theorem frame_kernel4 : Cert.quiescent_Kernel4 := fun m ρ _ => by
  rw [defs_eq4]
  exact Cert.Kernel4Ideal.Gen.frame (F := Bits) m ρ

/-- FfnUpForward: the kernel's run over the extended reals. -/
theorem frame_kernel4Ideal : Cert.quiescent_Kernel4Ideal := fun m ρ _ => Cert.Kernel4Ideal.Gen.frame m ρ

/-- FfnUpForward: the reference's run. -/
theorem frame_reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- FfnUpForward: over the extended reals the kernel's result array is the feed-forward layer's first product. -/
theorem algebraic4 : Cert.algebraic_Kernel4Ideal_Reference4Ideal := by
  intro m g m' g' _ heq
  refine ⟨fun c => Cert.Kernel4Ideal.Value.want (m ((c.tc : Thread _ _).loc Cert.Kernel4Ideal.main_arg0)) (m ((c.tc : Thread _ _).loc Cert.Kernel4Ideal.main_arg1)), ?_, ?_⟩
  · exact (θ_run Cert.Kernel4Ideal.defs _ _).mono (fun r h c => ⟨(h c).1.trans (Cert.Kernel4Ideal.Value.final m c), (h c).2⟩) (Cert.Kernel4Ideal.Value.run_blocks m g)
  · refine (θ_run Cert.Reference4Ideal.defs _ _).mono (fun r h c => ⟨(h c).1.trans ?_, (h c).2⟩) (Cert.Reference4Ideal.Value.run (F := Ideal) m' g')
    rw [(heq c).1, (heq c).2]

/-- FfnDownWeightGrad: the program on float words and its idealization have one table of kernel bodies. -/
theorem defs_eq5 : Cert.Kernel5.defs (F := Bits) = Cert.Kernel5Ideal.defs (F := Bits) := by
  have h : Cert.Kernel5.defs₀ (F := Bits) = Cert.Kernel5Ideal.defs₀ (F := Bits) := by
    unfold Cert.Kernel5.defs₀ Cert.Kernel5Ideal.defs₀
    congr 1
    funext l a
    match l, a with
    | ⟨0, _⟩, _ => rfl
  unfold Cert.Kernel5.defs Cert.Kernel5Ideal.defs
  rw [h]
  rfl

/-- FfnDownWeightGrad: the kernel's run on float words. -/
theorem frame_kernel5 : Cert.quiescent_Kernel5 := fun m ρ _ => by
  rw [defs_eq5]
  exact Cert.Kernel5Ideal.Gen.frame (F := Bits) m ρ

/-- FfnDownWeightGrad: the kernel's run over the extended reals. -/
theorem frame_kernel5Ideal : Cert.quiescent_Kernel5Ideal := fun m ρ _ => Cert.Kernel5Ideal.Gen.frame m ρ

/-- FfnDownWeightGrad: the reference's run. -/
theorem frame_reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- FfnDownWeightGrad: over the extended reals the kernel's result array is the gradient of the feed-forward layer's second product with respect to its weight. -/
theorem algebraic5 : Cert.algebraic_Kernel5Ideal_Reference5Ideal := by
  intro m g m' g' _ heq
  refine ⟨fun c => Cert.Kernel5Ideal.Value.want (m ((c.tc : Thread _ _).loc Cert.Kernel5Ideal.main_arg0)) (m ((c.tc : Thread _ _).loc Cert.Kernel5Ideal.main_arg1)), ?_, ?_⟩
  · exact (θ_run Cert.Kernel5Ideal.defs _ _).mono (fun r h c => ⟨(h c).1.trans (Cert.Kernel5Ideal.Value.final m c), (h c).2⟩) (Cert.Kernel5Ideal.Value.run_blocks m g)
  · refine (θ_run Cert.Reference5Ideal.defs _ _).mono (fun r h c => ⟨(h c).1.trans ?_, (h c).2⟩) (Cert.Reference5Ideal.Value.run (F := Ideal) m' g')
    rw [(heq c).1, (heq c).2]

/-- FfnDownInputGrad: the program on float words and its idealization have one table of kernel bodies. -/
theorem defs_eq6 : Cert.Kernel6.defs (F := Bits) = Cert.Kernel6Ideal.defs (F := Bits) := by
  have h : Cert.Kernel6.defs₀ (F := Bits) = Cert.Kernel6Ideal.defs₀ (F := Bits) := by
    unfold Cert.Kernel6.defs₀ Cert.Kernel6Ideal.defs₀
    congr 1
    funext l a
    match l, a with
    | ⟨0, _⟩, _ => rfl
  unfold Cert.Kernel6.defs Cert.Kernel6Ideal.defs
  rw [h]
  rfl

/-- FfnDownInputGrad: the kernel's run on float words. -/
theorem frame_kernel6 : Cert.quiescent_Kernel6 := fun m ρ _ => by
  rw [defs_eq6]
  exact Cert.Kernel6Ideal.Gen.frame (F := Bits) m ρ

/-- FfnDownInputGrad: the kernel's run over the extended reals. -/
theorem frame_kernel6Ideal : Cert.quiescent_Kernel6Ideal := fun m ρ _ => Cert.Kernel6Ideal.Gen.frame m ρ

/-- FfnDownInputGrad: the reference's run. -/
theorem frame_reference6Ideal : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- FfnDownInputGrad: over the extended reals the kernel's result array is the gradient of the feed-forward layer's second product with respect to its input. -/
theorem algebraic6 : Cert.algebraic_Kernel6Ideal_Reference6Ideal := by
  intro m g m' g' _ heq
  refine ⟨fun c => Cert.Kernel6Ideal.Value.want (m ((c.tc : Thread _ _).loc Cert.Kernel6Ideal.main_arg0)) (m ((c.tc : Thread _ _).loc Cert.Kernel6Ideal.main_arg1)), ?_, ?_⟩
  · exact (θ_run Cert.Kernel6Ideal.defs _ _).mono (fun r h c => ⟨(h c).1.trans (Cert.Kernel6Ideal.Value.final m c), (h c).2⟩) (Cert.Kernel6Ideal.Value.run_blocks m g)
  · refine (θ_run Cert.Reference6Ideal.defs _ _).mono (fun r h c => ⟨(h c).1.trans ?_, (h c).2⟩) (Cert.Reference6Ideal.Value.run (F := Ideal) m' g')
    rw [(heq c).1, (heq c).2]

/-- FfnDownForward: the program on float words and its idealization have one table of kernel bodies. -/
theorem defs_eq7 : Cert.Kernel7.defs (F := Bits) = Cert.Kernel7Ideal.defs (F := Bits) := by
  have h : Cert.Kernel7.defs₀ (F := Bits) = Cert.Kernel7Ideal.defs₀ (F := Bits) := by
    unfold Cert.Kernel7.defs₀ Cert.Kernel7Ideal.defs₀
    congr 1
    funext l a
    match l, a with
    | ⟨0, _⟩, _ => rfl
  unfold Cert.Kernel7.defs Cert.Kernel7Ideal.defs
  rw [h]
  rfl

/-- FfnDownForward: the kernel's run on float words. -/
theorem frame_kernel7 : Cert.quiescent_Kernel7 := fun m ρ _ => by
  rw [defs_eq7]
  exact Cert.Kernel7Ideal.Gen.frame (F := Bits) m ρ

/-- FfnDownForward: the kernel's run over the extended reals. -/
theorem frame_kernel7Ideal : Cert.quiescent_Kernel7Ideal := fun m ρ _ => Cert.Kernel7Ideal.Gen.frame m ρ

/-- FfnDownForward: the reference's run. -/
theorem frame_reference7Ideal : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- FfnDownForward: over the extended reals the kernel's result array is the feed-forward layer's second product. -/
theorem algebraic7 : Cert.algebraic_Kernel7Ideal_Reference7Ideal := by
  intro m g m' g' _ heq
  refine ⟨fun c => Cert.Kernel7Ideal.Value.want (m ((c.tc : Thread _ _).loc Cert.Kernel7Ideal.main_arg0)) (m ((c.tc : Thread _ _).loc Cert.Kernel7Ideal.main_arg1)), ?_, ?_⟩
  · exact (θ_run Cert.Kernel7Ideal.defs _ _).mono (fun r h c => ⟨(h c).1.trans (Cert.Kernel7Ideal.Value.final m c), (h c).2⟩) (Cert.Kernel7Ideal.Value.run_blocks m g)
  · refine (θ_run Cert.Reference7Ideal.defs _ _).mono (fun r h c => ⟨(h c).1.trans ?_, (h c).2⟩) (Cert.Reference7Ideal.Value.run (F := Ideal) m' g')
    rw [(heq c).1, (heq c).2]

/-- InEvenWeightGrad: the program on float words and its idealization have one table of kernel bodies. -/
theorem defs_eq8 : Cert.Kernel8.defs (F := Bits) = Cert.Kernel8Ideal.defs (F := Bits) := by
  have h : Cert.Kernel8.defs₀ (F := Bits) = Cert.Kernel8Ideal.defs₀ (F := Bits) := by
    unfold Cert.Kernel8.defs₀ Cert.Kernel8Ideal.defs₀
    congr 1
    funext l a
    match l, a with
    | ⟨0, _⟩, _ => rfl
  unfold Cert.Kernel8.defs Cert.Kernel8Ideal.defs
  rw [h]
  rfl

/-- InEvenWeightGrad: the kernel's run on float words. -/
theorem frame_kernel8 : Cert.quiescent_Kernel8 := fun m ρ _ => by
  rw [defs_eq8]
  exact Cert.Kernel8Ideal.Gen.frame (F := Bits) m ρ

/-- InEvenWeightGrad: the kernel's run over the extended reals. -/
theorem frame_kernel8Ideal : Cert.quiescent_Kernel8Ideal := fun m ρ _ => Cert.Kernel8Ideal.Gen.frame m ρ

/-- InEvenWeightGrad: the reference's run. -/
theorem frame_reference8Ideal : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- InEvenWeightGrad: over the extended reals the kernel's result array is the gradient of the even mixer's first product with respect to its weight. -/
theorem algebraic8 : Cert.algebraic_Kernel8Ideal_Reference8Ideal := by
  intro m g m' g' _ heq
  refine ⟨fun c => Cert.Kernel8Ideal.Value.want (m ((c.tc : Thread _ _).loc Cert.Kernel8Ideal.main_arg0)) (m ((c.tc : Thread _ _).loc Cert.Kernel8Ideal.main_arg1)), ?_, ?_⟩
  · exact (θ_run Cert.Kernel8Ideal.defs _ _).mono (fun r h c => ⟨(h c).1.trans (Cert.Kernel8Ideal.Value.final m c), (h c).2⟩) (Cert.Kernel8Ideal.Value.run_blocks m g)
  · refine (θ_run Cert.Reference8Ideal.defs _ _).mono (fun r h c => ⟨(h c).1.trans ?_, (h c).2⟩) (Cert.Reference8Ideal.Value.run (F := Ideal) m' g')
    rw [(heq c).1, (heq c).2]

/-- InEvenInputGrad: the program on float words and its idealization have one table of kernel bodies. -/
theorem defs_eq9 : Cert.Kernel9.defs (F := Bits) = Cert.Kernel9Ideal.defs (F := Bits) := by
  have h : Cert.Kernel9.defs₀ (F := Bits) = Cert.Kernel9Ideal.defs₀ (F := Bits) := by
    unfold Cert.Kernel9.defs₀ Cert.Kernel9Ideal.defs₀
    congr 1
    funext l a
    match l, a with
    | ⟨0, _⟩, _ => rfl
  unfold Cert.Kernel9.defs Cert.Kernel9Ideal.defs
  rw [h]
  rfl

/-- InEvenInputGrad: the kernel's run on float words. -/
theorem frame_kernel9 : Cert.quiescent_Kernel9 := fun m ρ _ => by
  rw [defs_eq9]
  exact Cert.Kernel9Ideal.Gen.frame (F := Bits) m ρ

/-- InEvenInputGrad: the kernel's run over the extended reals. -/
theorem frame_kernel9Ideal : Cert.quiescent_Kernel9Ideal := fun m ρ _ => Cert.Kernel9Ideal.Gen.frame m ρ

/-- InEvenInputGrad: the reference's run. -/
theorem frame_reference9Ideal : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- InEvenInputGrad: over the extended reals the kernel's result array is the gradient of the even mixer's first product with respect to its input. -/
theorem algebraic9 : Cert.algebraic_Kernel9Ideal_Reference9Ideal := by
  intro m g m' g' _ heq
  refine ⟨fun c => Cert.Kernel9Ideal.Value.want (m ((c.tc : Thread _ _).loc Cert.Kernel9Ideal.main_arg0)) (m ((c.tc : Thread _ _).loc Cert.Kernel9Ideal.main_arg1)), ?_, ?_⟩
  · exact (θ_run Cert.Kernel9Ideal.defs _ _).mono (fun r h c => ⟨(h c).1.trans (Cert.Kernel9Ideal.Value.final m c), (h c).2⟩) (Cert.Kernel9Ideal.Value.run_blocks m g)
  · refine (θ_run Cert.Reference9Ideal.defs _ _).mono (fun r h c => ⟨(h c).1.trans ?_, (h c).2⟩) (Cert.Reference9Ideal.Value.run (F := Ideal) m' g')
    rw [(heq c).1, (heq c).2]

/-- InEvenForward: the program on float words and its idealization have one table of kernel bodies. -/
theorem defs_eq10 : Cert.Kernel10.defs (F := Bits) = Cert.Kernel10Ideal.defs (F := Bits) := by
  have h : Cert.Kernel10.defs₀ (F := Bits) = Cert.Kernel10Ideal.defs₀ (F := Bits) := by
    unfold Cert.Kernel10.defs₀ Cert.Kernel10Ideal.defs₀
    congr 1
    funext l a
    match l, a with
    | ⟨0, _⟩, _ => rfl
  unfold Cert.Kernel10.defs Cert.Kernel10Ideal.defs
  rw [h]
  rfl

/-- InEvenForward: the kernel's run on float words. -/
theorem frame_kernel10 : Cert.quiescent_Kernel10 := fun m ρ _ => by
  rw [defs_eq10]
  exact Cert.Kernel10Ideal.Gen.frame (F := Bits) m ρ

/-- InEvenForward: the kernel's run over the extended reals. -/
theorem frame_kernel10Ideal : Cert.quiescent_Kernel10Ideal := fun m ρ _ => Cert.Kernel10Ideal.Gen.frame m ρ

/-- InEvenForward: the reference's run. -/
theorem frame_reference10Ideal : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- InEvenForward: over the extended reals the kernel's result array is the even mixer's first product. -/
theorem algebraic10 : Cert.algebraic_Kernel10Ideal_Reference10Ideal := by
  intro m g m' g' _ heq
  refine ⟨fun c => Cert.Kernel10Ideal.Value.want (m ((c.tc : Thread _ _).loc Cert.Kernel10Ideal.main_arg0)) (m ((c.tc : Thread _ _).loc Cert.Kernel10Ideal.main_arg1)), ?_, ?_⟩
  · exact (θ_run Cert.Kernel10Ideal.defs _ _).mono (fun r h c => ⟨(h c).1.trans (Cert.Kernel10Ideal.Value.final m c), (h c).2⟩) (Cert.Kernel10Ideal.Value.run_blocks m g)
  · refine (θ_run Cert.Reference10Ideal.defs _ _).mono (fun r h c => ⟨(h c).1.trans ?_, (h c).2⟩) (Cert.Reference10Ideal.Value.run (F := Ideal) m' g')
    rw [(heq c).1, (heq c).2]

/-- InOddWeightGrad: the program on float words and its idealization have one table of kernel bodies. -/
theorem defs_eq11 : Cert.Kernel11.defs (F := Bits) = Cert.Kernel11Ideal.defs (F := Bits) := by
  have h : Cert.Kernel11.defs₀ (F := Bits) = Cert.Kernel11Ideal.defs₀ (F := Bits) := by
    unfold Cert.Kernel11.defs₀ Cert.Kernel11Ideal.defs₀
    congr 1
    funext l a
    match l, a with
    | ⟨0, _⟩, _ => rfl
  unfold Cert.Kernel11.defs Cert.Kernel11Ideal.defs
  rw [h]
  rfl

/-- InOddWeightGrad: the kernel's run on float words. -/
theorem frame_kernel11 : Cert.quiescent_Kernel11 := fun m ρ _ => by
  rw [defs_eq11]
  exact Cert.Kernel11Ideal.Gen.frame (F := Bits) m ρ

/-- InOddWeightGrad: the kernel's run over the extended reals. -/
theorem frame_kernel11Ideal : Cert.quiescent_Kernel11Ideal := fun m ρ _ => Cert.Kernel11Ideal.Gen.frame m ρ

/-- InOddWeightGrad: the reference's run. -/
theorem frame_reference11Ideal : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

/-- InOddWeightGrad: over the extended reals the kernel's result array is the gradient of the odd mixer's first product with respect to its weight. -/
theorem algebraic11 : Cert.algebraic_Kernel11Ideal_Reference11Ideal := by
  intro m g m' g' _ heq
  refine ⟨fun c => Cert.Kernel11Ideal.Value.want (m ((c.tc : Thread _ _).loc Cert.Kernel11Ideal.main_arg0)) (m ((c.tc : Thread _ _).loc Cert.Kernel11Ideal.main_arg1)), ?_, ?_⟩
  · exact (θ_run Cert.Kernel11Ideal.defs _ _).mono (fun r h c => ⟨(h c).1.trans (Cert.Kernel11Ideal.Value.final m c), (h c).2⟩) (Cert.Kernel11Ideal.Value.run_blocks m g)
  · refine (θ_run Cert.Reference11Ideal.defs _ _).mono (fun r h c => ⟨(h c).1.trans ?_, (h c).2⟩) (Cert.Reference11Ideal.Value.run (F := Ideal) m' g')
    rw [(heq c).1, (heq c).2]

/-- InOddInputGrad: the program on float words and its idealization have one table of kernel bodies. -/
theorem defs_eq12 : Cert.Kernel12.defs (F := Bits) = Cert.Kernel12Ideal.defs (F := Bits) := by
  have h : Cert.Kernel12.defs₀ (F := Bits) = Cert.Kernel12Ideal.defs₀ (F := Bits) := by
    unfold Cert.Kernel12.defs₀ Cert.Kernel12Ideal.defs₀
    congr 1
    funext l a
    match l, a with
    | ⟨0, _⟩, _ => rfl
  unfold Cert.Kernel12.defs Cert.Kernel12Ideal.defs
  rw [h]
  rfl

/-- InOddInputGrad: the kernel's run on float words. -/
theorem frame_kernel12 : Cert.quiescent_Kernel12 := fun m ρ _ => by
  rw [defs_eq12]
  exact Cert.Kernel12Ideal.Gen.frame (F := Bits) m ρ

/-- InOddInputGrad: the kernel's run over the extended reals. -/
theorem frame_kernel12Ideal : Cert.quiescent_Kernel12Ideal := fun m ρ _ => Cert.Kernel12Ideal.Gen.frame m ρ

/-- InOddInputGrad: the reference's run. -/
theorem frame_reference12Ideal : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- InOddInputGrad: over the extended reals the kernel's result array is the gradient of the odd mixer's first product with respect to its input. -/
theorem algebraic12 : Cert.algebraic_Kernel12Ideal_Reference12Ideal := by
  intro m g m' g' _ heq
  refine ⟨fun c => Cert.Kernel12Ideal.Value.want (m ((c.tc : Thread _ _).loc Cert.Kernel12Ideal.main_arg0)) (m ((c.tc : Thread _ _).loc Cert.Kernel12Ideal.main_arg1)), ?_, ?_⟩
  · exact (θ_run Cert.Kernel12Ideal.defs _ _).mono (fun r h c => ⟨(h c).1.trans (Cert.Kernel12Ideal.Value.final m c), (h c).2⟩) (Cert.Kernel12Ideal.Value.run_blocks m g)
  · refine (θ_run Cert.Reference12Ideal.defs _ _).mono (fun r h c => ⟨(h c).1.trans ?_, (h c).2⟩) (Cert.Reference12Ideal.Value.run (F := Ideal) m' g')
    rw [(heq c).1, (heq c).2]

/-- InOddForward: the program on float words and its idealization have one table of kernel bodies. -/
theorem defs_eq13 : Cert.Kernel13.defs (F := Bits) = Cert.Kernel13Ideal.defs (F := Bits) := by
  have h : Cert.Kernel13.defs₀ (F := Bits) = Cert.Kernel13Ideal.defs₀ (F := Bits) := by
    unfold Cert.Kernel13.defs₀ Cert.Kernel13Ideal.defs₀
    congr 1
    funext l a
    match l, a with
    | ⟨0, _⟩, _ => rfl
  unfold Cert.Kernel13.defs Cert.Kernel13Ideal.defs
  rw [h]
  rfl

/-- InOddForward: the kernel's run on float words. -/
theorem frame_kernel13 : Cert.quiescent_Kernel13 := fun m ρ _ => by
  rw [defs_eq13]
  exact Cert.Kernel13Ideal.Gen.frame (F := Bits) m ρ

/-- InOddForward: the kernel's run over the extended reals. -/
theorem frame_kernel13Ideal : Cert.quiescent_Kernel13Ideal := fun m ρ _ => Cert.Kernel13Ideal.Gen.frame m ρ

/-- InOddForward: the reference's run. -/
theorem frame_reference13Ideal : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

/-- InOddForward: over the extended reals the kernel's result array is the odd mixer's first product. -/
theorem algebraic13 : Cert.algebraic_Kernel13Ideal_Reference13Ideal := by
  intro m g m' g' _ heq
  refine ⟨fun c => Cert.Kernel13Ideal.Value.want (m ((c.tc : Thread _ _).loc Cert.Kernel13Ideal.main_arg0)) (m ((c.tc : Thread _ _).loc Cert.Kernel13Ideal.main_arg1)), ?_, ?_⟩
  · exact (θ_run Cert.Kernel13Ideal.defs _ _).mono (fun r h c => ⟨(h c).1.trans (Cert.Kernel13Ideal.Value.final m c), (h c).2⟩) (Cert.Kernel13Ideal.Value.run_blocks m g)
  · refine (θ_run Cert.Reference13Ideal.defs _ _).mono (fun r h c => ⟨(h c).1.trans ?_, (h c).2⟩) (Cert.Reference13Ideal.Value.run (F := Ideal) m' g')
    rw [(heq c).1, (heq c).2]

/-- OutOddWeightGrad: the program on float words and its idealization have one table of kernel bodies. -/
theorem defs_eq14 : Cert.Kernel14.defs (F := Bits) = Cert.Kernel14Ideal.defs (F := Bits) := by
  have h : Cert.Kernel14.defs₀ (F := Bits) = Cert.Kernel14Ideal.defs₀ (F := Bits) := by
    unfold Cert.Kernel14.defs₀ Cert.Kernel14Ideal.defs₀
    congr 1
    funext l a
    match l, a with
    | ⟨0, _⟩, _ => rfl
  unfold Cert.Kernel14.defs Cert.Kernel14Ideal.defs
  rw [h]
  rfl

/-- OutOddWeightGrad: the kernel's run on float words. -/
theorem frame_kernel14 : Cert.quiescent_Kernel14 := fun m ρ _ => by
  rw [defs_eq14]
  exact Cert.Kernel14Ideal.Gen.frame (F := Bits) m ρ

/-- OutOddWeightGrad: the kernel's run over the extended reals. -/
theorem frame_kernel14Ideal : Cert.quiescent_Kernel14Ideal := fun m ρ _ => Cert.Kernel14Ideal.Gen.frame m ρ

/-- OutOddWeightGrad: the reference's run. -/
theorem frame_reference14Ideal : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

/-- OutOddWeightGrad: over the extended reals the kernel's result array is the gradient of the odd mixer's last product with respect to its weight. -/
theorem algebraic14 : Cert.algebraic_Kernel14Ideal_Reference14Ideal := by
  intro m g m' g' _ heq
  refine ⟨fun c => Cert.Kernel14Ideal.Value.want (m ((c.tc : Thread _ _).loc Cert.Kernel14Ideal.main_arg0)) (m ((c.tc : Thread _ _).loc Cert.Kernel14Ideal.main_arg1)), ?_, ?_⟩
  · exact (θ_run Cert.Kernel14Ideal.defs _ _).mono (fun r h c => ⟨(h c).1.trans (Cert.Kernel14Ideal.Value.final m c), (h c).2⟩) (Cert.Kernel14Ideal.Value.run_blocks m g)
  · refine (θ_run Cert.Reference14Ideal.defs _ _).mono (fun r h c => ⟨(h c).1.trans ?_, (h c).2⟩) (Cert.Reference14Ideal.Value.run (F := Ideal) m' g')
    rw [(heq c).1, (heq c).2]

/-- OutOddInputGrad: the program on float words and its idealization have one table of kernel bodies. -/
theorem defs_eq15 : Cert.Kernel15.defs (F := Bits) = Cert.Kernel15Ideal.defs (F := Bits) := by
  have h : Cert.Kernel15.defs₀ (F := Bits) = Cert.Kernel15Ideal.defs₀ (F := Bits) := by
    unfold Cert.Kernel15.defs₀ Cert.Kernel15Ideal.defs₀
    congr 1
    funext l a
    match l, a with
    | ⟨0, _⟩, _ => rfl
  unfold Cert.Kernel15.defs Cert.Kernel15Ideal.defs
  rw [h]
  rfl

/-- OutOddInputGrad: the kernel's run on float words. -/
theorem frame_kernel15 : Cert.quiescent_Kernel15 := fun m ρ _ => by
  rw [defs_eq15]
  exact Cert.Kernel15Ideal.Gen.frame (F := Bits) m ρ

/-- OutOddInputGrad: the kernel's run over the extended reals. -/
theorem frame_kernel15Ideal : Cert.quiescent_Kernel15Ideal := fun m ρ _ => Cert.Kernel15Ideal.Gen.frame m ρ

/-- OutOddInputGrad: the reference's run. -/
theorem frame_reference15Ideal : Cert.quiescent_Reference15Ideal := fun m ρ _ =>
  (θ_run Cert.Reference15Ideal.defs _ _).mono (fun r h => ⟨fun c => (h c).2, sem_eq_zero_of_no_sems (by decide) r.2⟩) (Cert.Reference15Ideal.Value.run (F := Ideal) m ρ)

/-- OutOddInputGrad: over the extended reals the kernel's result array is the gradient of the odd mixer's last product with respect to its input. -/
theorem algebraic15 : Cert.algebraic_Kernel15Ideal_Reference15Ideal := by
  intro m g m' g' _ heq
  refine ⟨fun c => Cert.Kernel15Ideal.Value.want (m ((c.tc : Thread _ _).loc Cert.Kernel15Ideal.main_arg0)) (m ((c.tc : Thread _ _).loc Cert.Kernel15Ideal.main_arg1)), ?_, ?_⟩
  · exact (θ_run Cert.Kernel15Ideal.defs _ _).mono (fun r h c => ⟨(h c).1.trans (Cert.Kernel15Ideal.Value.final m c), (h c).2⟩) (Cert.Kernel15Ideal.Value.run_blocks m g)
  · refine (θ_run Cert.Reference15Ideal.defs _ _).mono (fun r h c => ⟨(h c).1.trans ?_, (h c).2⟩) (Cert.Reference15Ideal.Value.run (F := Ideal) m' g')
    rw [(heq c).1, (heq c).2]

/-- OutOddForward: the program on float words and its idealization have one table of kernel bodies. -/
theorem defs_eq16 : Cert.Kernel16.defs (F := Bits) = Cert.Kernel16Ideal.defs (F := Bits) := by
  have h : Cert.Kernel16.defs₀ (F := Bits) = Cert.Kernel16Ideal.defs₀ (F := Bits) := by
    unfold Cert.Kernel16.defs₀ Cert.Kernel16Ideal.defs₀
    congr 1
    funext l a
    match l, a with
    | ⟨0, _⟩, _ => rfl
  unfold Cert.Kernel16.defs Cert.Kernel16Ideal.defs
  rw [h]
  rfl

/-- OutOddForward: the kernel's run on float words. -/
theorem frame_kernel16 : Cert.quiescent_Kernel16 := fun m ρ _ => by
  rw [defs_eq16]
  exact Cert.Kernel16Ideal.Gen.frame (F := Bits) m ρ

/-- OutOddForward: the kernel's run over the extended reals. -/
theorem frame_kernel16Ideal : Cert.quiescent_Kernel16Ideal := fun m ρ _ => Cert.Kernel16Ideal.Gen.frame m ρ

/-- OutOddForward: the reference's run. -/
theorem frame_reference16Ideal : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)

/-- OutOddForward: over the extended reals the kernel's result array is the odd mixer's last product. -/
theorem algebraic16 : Cert.algebraic_Kernel16Ideal_Reference16Ideal := by
  intro m g m' g' _ heq
  refine ⟨fun c => Cert.Kernel16Ideal.Value.want (m ((c.tc : Thread _ _).loc Cert.Kernel16Ideal.main_arg0)) (m ((c.tc : Thread _ _).loc Cert.Kernel16Ideal.main_arg1)), ?_, ?_⟩
  · exact (θ_run Cert.Kernel16Ideal.defs _ _).mono (fun r h c => ⟨(h c).1.trans (Cert.Kernel16Ideal.Value.final m c), (h c).2⟩) (Cert.Kernel16Ideal.Value.run_blocks m g)
  · refine (θ_run Cert.Reference16Ideal.defs _ _).mono (fun r h c => ⟨(h c).1.trans ?_, (h c).2⟩) (Cert.Reference16Ideal.Value.run (F := Ideal) m' g')
    rw [(heq c).1, (heq c).2]

/-- OutEvenWeightGrad: the program on float words and its idealization have one table of kernel bodies. -/
theorem defs_eq17 : Cert.Kernel17.defs (F := Bits) = Cert.Kernel17Ideal.defs (F := Bits) := by
  have h : Cert.Kernel17.defs₀ (F := Bits) = Cert.Kernel17Ideal.defs₀ (F := Bits) := by
    unfold Cert.Kernel17.defs₀ Cert.Kernel17Ideal.defs₀
    congr 1
    funext l a
    match l, a with
    | ⟨0, _⟩, _ => rfl
  unfold Cert.Kernel17.defs Cert.Kernel17Ideal.defs
  rw [h]
  rfl

/-- OutEvenWeightGrad: the kernel's run on float words. -/
theorem frame_kernel17 : Cert.quiescent_Kernel17 := fun m ρ _ => by
  rw [defs_eq17]
  exact Cert.Kernel17Ideal.Gen.frame (F := Bits) m ρ

/-- OutEvenWeightGrad: the kernel's run over the extended reals. -/
theorem frame_kernel17Ideal : Cert.quiescent_Kernel17Ideal := fun m ρ _ => Cert.Kernel17Ideal.Gen.frame m ρ

/-- OutEvenWeightGrad: the reference's run. -/
theorem frame_reference17Ideal : Cert.quiescent_Reference17Ideal := fun m ρ _ =>
  (θ_run Cert.Reference17Ideal.defs _ _).mono (fun r h => ⟨fun c => (h c).2, sem_eq_zero_of_no_sems (by decide) r.2⟩) (Cert.Reference17Ideal.Value.run (F := Ideal) m ρ)

/-- OutEvenWeightGrad: over the extended reals the kernel's result array is the gradient of the even mixer's last product (of the same shape as the per-layer embedding's gate product) with respect to its weight. -/
theorem algebraic17 : Cert.algebraic_Kernel17Ideal_Reference17Ideal := by
  intro m g m' g' _ heq
  refine ⟨fun c => Cert.Kernel17Ideal.Value.want (m ((c.tc : Thread _ _).loc Cert.Kernel17Ideal.main_arg0)) (m ((c.tc : Thread _ _).loc Cert.Kernel17Ideal.main_arg1)), ?_, ?_⟩
  · exact (θ_run Cert.Kernel17Ideal.defs _ _).mono (fun r h c => ⟨(h c).1.trans (Cert.Kernel17Ideal.Value.final m c), (h c).2⟩) (Cert.Kernel17Ideal.Value.run_blocks m g)
  · refine (θ_run Cert.Reference17Ideal.defs _ _).mono (fun r h c => ⟨(h c).1.trans ?_, (h c).2⟩) (Cert.Reference17Ideal.Value.run (F := Ideal) m' g')
    rw [(heq c).1, (heq c).2]

/-- OutEvenInputGrad: the program on float words and its idealization have one table of kernel bodies. -/
theorem defs_eq18 : Cert.Kernel18.defs (F := Bits) = Cert.Kernel18Ideal.defs (F := Bits) := by
  have h : Cert.Kernel18.defs₀ (F := Bits) = Cert.Kernel18Ideal.defs₀ (F := Bits) := by
    unfold Cert.Kernel18.defs₀ Cert.Kernel18Ideal.defs₀
    congr 1
    funext l a
    match l, a with
    | ⟨0, _⟩, _ => rfl
  unfold Cert.Kernel18.defs Cert.Kernel18Ideal.defs
  rw [h]
  rfl

/-- OutEvenInputGrad: the kernel's run on float words. -/
theorem frame_kernel18 : Cert.quiescent_Kernel18 := fun m ρ _ => by
  rw [defs_eq18]
  exact Cert.Kernel18Ideal.Gen.frame (F := Bits) m ρ

/-- OutEvenInputGrad: the kernel's run over the extended reals. -/
theorem frame_kernel18Ideal : Cert.quiescent_Kernel18Ideal := fun m ρ _ => Cert.Kernel18Ideal.Gen.frame m ρ

/-- OutEvenInputGrad: the reference's run. -/
theorem frame_reference18Ideal : Cert.quiescent_Reference18Ideal := fun m ρ _ =>
  (θ_run Cert.Reference18Ideal.defs _ _).mono (fun r h => ⟨fun c => (h c).2, sem_eq_zero_of_no_sems (by decide) r.2⟩) (Cert.Reference18Ideal.Value.run (F := Ideal) m ρ)

/-- OutEvenInputGrad: over the extended reals the kernel's result array is the gradient of the even mixer's last product (of the same shape as the per-layer embedding's gate product) with respect to its input. -/
theorem algebraic18 : Cert.algebraic_Kernel18Ideal_Reference18Ideal := by
  intro m g m' g' _ heq
  refine ⟨fun c => Cert.Kernel18Ideal.Value.want (m ((c.tc : Thread _ _).loc Cert.Kernel18Ideal.main_arg0)) (m ((c.tc : Thread _ _).loc Cert.Kernel18Ideal.main_arg1)), ?_, ?_⟩
  · exact (θ_run Cert.Kernel18Ideal.defs _ _).mono (fun r h c => ⟨(h c).1.trans (Cert.Kernel18Ideal.Value.final m c), (h c).2⟩) (Cert.Kernel18Ideal.Value.run_blocks m g)
  · refine (θ_run Cert.Reference18Ideal.defs _ _).mono (fun r h c => ⟨(h c).1.trans ?_, (h c).2⟩) (Cert.Reference18Ideal.Value.run (F := Ideal) m' g')
    rw [(heq c).1, (heq c).2]

/-- OutEvenForward: the program on float words and its idealization have one table of kernel bodies. -/
theorem defs_eq19 : Cert.Kernel19.defs (F := Bits) = Cert.Kernel19Ideal.defs (F := Bits) := by
  have h : Cert.Kernel19.defs₀ (F := Bits) = Cert.Kernel19Ideal.defs₀ (F := Bits) := by
    unfold Cert.Kernel19.defs₀ Cert.Kernel19Ideal.defs₀
    congr 1
    funext l a
    match l, a with
    | ⟨0, _⟩, _ => rfl
  unfold Cert.Kernel19.defs Cert.Kernel19Ideal.defs
  rw [h]
  rfl

/-- OutEvenForward: the kernel's run on float words. -/
theorem frame_kernel19 : Cert.quiescent_Kernel19 := fun m ρ _ => by
  rw [defs_eq19]
  exact Cert.Kernel19Ideal.Gen.frame (F := Bits) m ρ

/-- OutEvenForward: the kernel's run over the extended reals. -/
theorem frame_kernel19Ideal : Cert.quiescent_Kernel19Ideal := fun m ρ _ => Cert.Kernel19Ideal.Gen.frame m ρ

/-- OutEvenForward: the reference's run. -/
theorem frame_reference19Ideal : Cert.quiescent_Reference19Ideal := fun m ρ _ =>
  (θ_run Cert.Reference19Ideal.defs _ _).mono (fun r h => ⟨fun c => (h c).2, sem_eq_zero_of_no_sems (by decide) r.2⟩) (Cert.Reference19Ideal.Value.run (F := Ideal) m ρ)

/-- OutEvenForward: over the extended reals the kernel's result array is the even mixer's last product (of the same shape as the per-layer embedding's gate product). -/
theorem algebraic19 : Cert.algebraic_Kernel19Ideal_Reference19Ideal := by
  intro m g m' g' _ heq
  refine ⟨fun c => Cert.Kernel19Ideal.Value.want (m ((c.tc : Thread _ _).loc Cert.Kernel19Ideal.main_arg0)) (m ((c.tc : Thread _ _).loc Cert.Kernel19Ideal.main_arg1)), ?_, ?_⟩
  · exact (θ_run Cert.Kernel19Ideal.defs _ _).mono (fun r h c => ⟨(h c).1.trans (Cert.Kernel19Ideal.Value.final m c), (h c).2⟩) (Cert.Kernel19Ideal.Value.run_blocks m g)
  · refine (θ_run Cert.Reference19Ideal.defs _ _).mono (fun r h c => ⟨(h c).1.trans ?_, (h c).2⟩) (Cert.Reference19Ideal.Value.run (F := Ideal) m' g')
    rw [(heq c).1, (heq c).2]

/-- PleUpWeightGrad: the program on float words and its idealization have one table of kernel bodies. -/
theorem defs_eq20 : Cert.Kernel20.defs (F := Bits) = Cert.Kernel20Ideal.defs (F := Bits) := by
  have h : Cert.Kernel20.defs₀ (F := Bits) = Cert.Kernel20Ideal.defs₀ (F := Bits) := by
    unfold Cert.Kernel20.defs₀ Cert.Kernel20Ideal.defs₀
    congr 1
    funext l a
    match l, a with
    | ⟨0, _⟩, _ => rfl
  unfold Cert.Kernel20.defs Cert.Kernel20Ideal.defs
  rw [h]
  rfl

/-- PleUpWeightGrad: the kernel's run on float words. -/
theorem frame_kernel20 : Cert.quiescent_Kernel20 := fun m ρ _ => by
  rw [defs_eq20]
  exact Cert.Kernel20Ideal.Gen.frame (F := Bits) m ρ

/-- PleUpWeightGrad: the kernel's run over the extended reals. -/
theorem frame_kernel20Ideal : Cert.quiescent_Kernel20Ideal := fun m ρ _ => Cert.Kernel20Ideal.Gen.frame m ρ

/-- PleUpWeightGrad: the reference's run. -/
theorem frame_reference20Ideal : Cert.quiescent_Reference20Ideal := fun m ρ _ =>
  (θ_run Cert.Reference20Ideal.defs _ _).mono (fun r h => ⟨fun c => (h c).2, sem_eq_zero_of_no_sems (by decide) r.2⟩) (Cert.Reference20Ideal.Value.run (F := Ideal) m ρ)

/-- PleUpWeightGrad: over the extended reals the kernel's result array is the gradient of the per-layer embedding's product with respect to its weight. -/
theorem algebraic20 : Cert.algebraic_Kernel20Ideal_Reference20Ideal := by
  intro m g m' g' _ heq
  refine ⟨fun c => Cert.Kernel20Ideal.Value.want (m ((c.tc : Thread _ _).loc Cert.Kernel20Ideal.main_arg0)) (m ((c.tc : Thread _ _).loc Cert.Kernel20Ideal.main_arg1)), ?_, ?_⟩
  · exact (θ_run Cert.Kernel20Ideal.defs _ _).mono (fun r h c => ⟨(h c).1.trans (Cert.Kernel20Ideal.Value.final m c), (h c).2⟩) (Cert.Kernel20Ideal.Value.run_blocks m g)
  · refine (θ_run Cert.Reference20Ideal.defs _ _).mono (fun r h c => ⟨(h c).1.trans ?_, (h c).2⟩) (Cert.Reference20Ideal.Value.run (F := Ideal) m' g')
    rw [(heq c).1, (heq c).2]

/-- PleUpForward: the program on float words and its idealization have one table of kernel bodies. -/
theorem defs_eq21 : Cert.Kernel21.defs (F := Bits) = Cert.Kernel21Ideal.defs (F := Bits) := by
  have h : Cert.Kernel21.defs₀ (F := Bits) = Cert.Kernel21Ideal.defs₀ (F := Bits) := by
    unfold Cert.Kernel21.defs₀ Cert.Kernel21Ideal.defs₀
    congr 1
    funext l a
    match l, a with
    | ⟨0, _⟩, _ => rfl
  unfold Cert.Kernel21.defs Cert.Kernel21Ideal.defs
  rw [h]
  rfl

/-- PleUpForward: the kernel's run on float words. -/
theorem frame_kernel21 : Cert.quiescent_Kernel21 := fun m ρ _ => by
  rw [defs_eq21]
  exact Cert.Kernel21Ideal.Gen.frame (F := Bits) m ρ

/-- PleUpForward: the kernel's run over the extended reals. -/
theorem frame_kernel21Ideal : Cert.quiescent_Kernel21Ideal := fun m ρ _ => Cert.Kernel21Ideal.Gen.frame m ρ

/-- PleUpForward: the reference's run. -/
theorem frame_reference21Ideal : Cert.quiescent_Reference21Ideal := fun m ρ _ =>
  (θ_run Cert.Reference21Ideal.defs _ _).mono (fun r h => ⟨fun c => (h c).2, sem_eq_zero_of_no_sems (by decide) r.2⟩) (Cert.Reference21Ideal.Value.run (F := Ideal) m ρ)

/-- PleUpForward: over the extended reals the kernel's result array is the per-layer embedding's product. -/
theorem algebraic21 : Cert.algebraic_Kernel21Ideal_Reference21Ideal := by
  intro m g m' g' _ heq
  refine ⟨fun c => Cert.Kernel21Ideal.Value.want (m ((c.tc : Thread _ _).loc Cert.Kernel21Ideal.main_arg0)) (m ((c.tc : Thread _ _).loc Cert.Kernel21Ideal.main_arg1)), ?_, ?_⟩
  · exact (θ_run Cert.Kernel21Ideal.defs _ _).mono (fun r h c => ⟨(h c).1.trans (Cert.Kernel21Ideal.Value.final m c), (h c).2⟩) (Cert.Kernel21Ideal.Value.run_blocks m g)
  · refine (θ_run Cert.Reference21Ideal.defs _ _).mono (fun r h c => ⟨(h c).1.trans ?_, (h c).2⟩) (Cert.Reference21Ideal.Value.run (F := Ideal) m' g')
    rw [(heq c).1, (heq c).2]

end Cert.Proof.Products

end
-- ==== Proof.Local.BlockProductsBackward.lean ====
module

public import proofs.«01_k».proof.Proof.Gen.Kernel22Ideal.Value
public import proofs.«01_k».proof.Proof.Gen.Reference22Ideal.Run
public import Idealize.ShloMosaic.Lib.Pipeline.ValueKit

/-! Kernel22 computes the backward pass of the two block-diagonal products of the gates: its results are what the reference computes. -/

@[expose] public section

set_option maxRecDepth 16384

noncomputable section

namespace Cert.Reference22Ideal.Gen

open Cert.Reference22Ideal Idealize.ShloMosaic

/-- What the reference computes: the input's gradient. -/
def _root_.Cert.Kernel22Ideal.Value.want5 (A1 : FVec Ideal Cert.Kernel22Ideal.S4x11x64x256 .bf16) (A2 : FVec Ideal Cert.Kernel22Ideal.S4x11x64x256 .bf16) (A3 : FVec Ideal Cert.Kernel22Ideal.S2048x2816 .bf16) (A4 : FVec Ideal Cert.Kernel22Ideal.S2048x2816 .bf16) : FVec Ideal Cert.Kernel22Ideal.S2048x2816 .f32 :=
  shapeCast _ (addf (transpose S2048x11x256 [1, 0, 2] (Host.dotGeneral dot_S11x256x2048_S11x256x256_S11x2048x256_1_2_2_1_0_0 none (transpose S11x256x2048 [1, 2, 0] (shapeCast _ (extf .f32 A4 bitsLt_bf16_f32) shapeCasts_S2048x2816_S2048x11x256) transposes_S2048x11x256_S11x256x2048_1_2_0) (shapeCast _ (transpose S11x4x64x256 [1, 0, 2, 3] (extf .f32 A2 bitsLt_bf16_f32) transposes_S4x11x64x256_S11x4x64x256_1_0_2_3) shapeCasts_S11x4x64x256_S11x256x256)) transposes_S11x2048x256_S2048x11x256_1_0_2) (transpose S2048x11x256 [1, 0, 2] (Host.dotGeneral dot_S11x256x2048_S11x256x256_S11x2048x256_1_2_2_1_0_0 none (transpose S11x256x2048 [1, 2, 0] (shapeCast _ (extf .f32 A3 bitsLt_bf16_f32) shapeCasts_S2048x2816_S2048x11x256) transposes_S2048x11x256_S11x256x2048_1_2_0) (shapeCast _ (transpose S11x4x64x256 [1, 0, 2, 3] (extf .f32 A1 bitsLt_bf16_f32) transposes_S4x11x64x256_S11x4x64x256_1_0_2_3) shapeCasts_S11x4x64x256_S11x256x256)) transposes_S11x2048x256_S2048x11x256_1_0_2)) shapeCasts_S2048x11x256_S2048x2816

/-- What the reference computes: the first weight's gradient. -/
def _root_.Cert.Kernel22Ideal.Value.want6 (A0 : FVec Ideal Cert.Kernel22Ideal.S2048x2816 .bf16) (A3 : FVec Ideal Cert.Kernel22Ideal.S2048x2816 .bf16) : FVec Ideal Cert.Kernel22Ideal.S4x11x64x256 .bf16 :=
  truncf .bf16 (transpose S4x11x64x256 [1, 0, 2, 3] (shapeCast _ (transpose S11x256x256 [0, 2, 1] (Host.dotGeneral dot_S11x256x2048_S2048x11x256_S11x256x256_2_0_1_2_0_1 none (transpose S11x256x2048 [1, 2, 0] (shapeCast _ (extf .f32 A3 bitsLt_bf16_f32) shapeCasts_S2048x2816_S2048x11x256) transposes_S2048x11x256_S11x256x2048_1_2_0) (shapeCast _ (extf .f32 A0 bitsLt_bf16_f32) shapeCasts_S2048x2816_S2048x11x256)) transposes_S11x256x256_S11x256x256_0_2_1) shapeCasts_S11x256x256_S11x4x64x256) transposes_S11x4x64x256_S4x11x64x256_1_0_2_3) bitsLt_bf16_f32

/-- What the reference computes: the second weight's gradient. -/
def _root_.Cert.Kernel22Ideal.Value.want7 (A0 : FVec Ideal Cert.Kernel22Ideal.S2048x2816 .bf16) (A4 : FVec Ideal Cert.Kernel22Ideal.S2048x2816 .bf16) : FVec Ideal Cert.Kernel22Ideal.S4x11x64x256 .bf16 :=
  truncf .bf16 (transpose S4x11x64x256 [1, 0, 2, 3] (shapeCast _ (transpose S11x256x256 [0, 2, 1] (Host.dotGeneral dot_S11x256x2048_S2048x11x256_S11x256x256_2_0_1_2_0_1 none (transpose S11x256x2048 [1, 2, 0] (shapeCast _ (extf .f32 A4 bitsLt_bf16_f32) shapeCasts_S2048x2816_S2048x11x256) transposes_S2048x11x256_S11x256x2048_1_2_0) (shapeCast _ (extf .f32 A0 bitsLt_bf16_f32) shapeCasts_S2048x2816_S2048x11x256)) transposes_S11x256x256_S11x256x256_0_2_1) shapeCasts_S11x256x256_S11x4x64x256) transposes_S11x4x64x256_S4x11x64x256_1_0_2_3) bitsLt_bf16_f32

end Cert.Reference22Ideal.Gen

namespace Cert.Kernel22Ideal.Value

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![0, t.val] ∧ win0_1.index t = ![0, t.val, 0, 0] ∧ win0_2.index t = ![0, t.val, 0, 0] ∧ win0_3.index t = ![0, t.val] ∧ win0_4.index t = ![0, t.val] ∧ win0_5.index t = ![0, t.val] ∧ win0_6.index t = ![0, t.val, 0, 0] ∧ win0_7.index t = ![0, t.val, 0, 0] :=
  (by decide +kernel : ∀ t : Fin grid0.N, _)

/-- After the run the result array is the input's gradient. -/
theorem result5 (c : Dev nD) : (dats m 0 c).arrAt 5 (cfgs 0).N = want5 (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay5, k0_pay6, k0_pay7, k0_pay8, k0_pay9, want5]
  refine Eq.trans (add_comm (G := EReal) _ _) ?_
  refine Ideal.add_congr (Fin.sum_fin_congr fun x => ?_) (Fin.sum_fin_congr fun x => ?_)
  · blk_point [iblk, V, idx t]
  · blk_point [iblk, V, idx t]

/-- After the run the result array is the first weight's gradient. -/
theorem result6 (c : Dev nD) : (dats m 0 c).arrAt 6 (cfgs 0).N = want6 (m ((c : Thread nD τ).loc main_arg0)) (m ((c : Thread nD τ).loc main_arg3)) := by
  refine (dats m 0 c).arrAt_eq_of_covers 6 _ (by decide +kernel) fun t _ y => ?_
  blk_simp
  rw [after0_6]; unfold out0_6
  refine (canon6_eq _ _ y).trans ?_
  pointwise [E6, ix6_0, k0_pay10, want6]
  refine Fin.sum_fin_congr fun x => ?_
  refine Eq.trans (mul_comm (G := EReal) _ _) ?_
  blk_point [iblk, V, idx t]

/-- After the run the result array is the second weight's gradient. -/
theorem result7 (c : Dev nD) : (dats m 0 c).arrAt 7 (cfgs 0).N = want7 (m ((c : Thread nD τ).loc main_arg0)) (m ((c : Thread nD τ).loc main_arg4)) := by
  refine (dats m 0 c).arrAt_eq_of_covers 7 _ (by decide +kernel) fun t _ y => ?_
  blk_simp
  rw [after0_7]; unfold out0_7
  refine (canon7_eq _ _ y).trans ?_
  pointwise [E7, ix7_0, k0_pay11, want7]
  refine Fin.sum_fin_congr fun x => ?_
  refine Eq.trans (mul_comm (G := EReal) _ _) ?_
  blk_point [iblk, V, idx t]

end Cert.Kernel22Ideal.Value

end
-- ==== Proof.Local.ConvBackward.lean ====
module

public import proofs.«01_k».proof.Proof.Gen.Kernel23Ideal.Value
public import proofs.«01_k».proof.Proof.Gen.Reference23Ideal.Run
public import Idealize.ShloMosaic.Lib.Pipeline.ValueKit

/-! Kernel23 computes the backward pass of the causal convolution: its results are what the reference computes. -/

@[expose] public section

set_option maxRecDepth 16384

noncomputable section

namespace Cert.Reference23Ideal.Gen

open Cert.Reference23Ideal Idealize.ShloMosaic

/-- What the reference computes: the input's gradient. -/
def _root_.Cert.Kernel23Ideal.Value.want4 (A1 : FVec Ideal Cert.Kernel23Ideal.S4x2816 .f32) (A2 : FVec Ideal Cert.Kernel23Ideal.S2048x2816 .f32) (A3 : FVec Ideal Cert.Kernel23Ideal.S2048x2816 .f32) : FVec Ideal Cert.Kernel23Ideal.S2048x2816 .bf16 :=
  truncf .bf16 (extractStridedSlice S2048x2816 ![3, 0] (addf (addf (addf (pad S2051x2816 ![0, 0] ![3, 0] ![0, 0] (mulf (addf A2 A3) (broadcastInDim S2048x2816 ![0, 1] bcast_S1x2816_S2048x2816_0_1 (broadcastInDim S1x2816 ![1] bcast_S2816_S1x2816_1 (shapeCast _ (extractStridedSlice S1x2816 ![3, 0] A1 slices_S4x2816_S1x2816_3_0) shapeCasts_S1x2816_S2816)))) (constant S_ .f32 0x00000000#32) pads_S2048x2816_S2051x2816_030_000 h_S_) (pad S2051x2816 ![1, 0] ![2, 0] ![0, 0] (mulf (addf A2 A3) (broadcastInDim S2048x2816 ![0, 1] bcast_S1x2816_S2048x2816_0_1 (broadcastInDim S1x2816 ![1] bcast_S2816_S1x2816_1 (shapeCast _ (extractStridedSlice S1x2816 ![2, 0] A1 slices_S4x2816_S1x2816_2_0) shapeCasts_S1x2816_S2816)))) (constant S_ .f32 0x00000000#32) pads_S2048x2816_S2051x2816_120_000 h_S_)) (pad S2051x2816 ![2, 0] ![1, 0] ![0, 0] (mulf (addf A2 A3) (broadcastInDim S2048x2816 ![0, 1] bcast_S1x2816_S2048x2816_0_1 (broadcastInDim S1x2816 ![1] bcast_S2816_S1x2816_1 (shapeCast _ (extractStridedSlice S1x2816 ![1, 0] A1 slices_S4x2816_S1x2816_1_0) shapeCasts_S1x2816_S2816)))) (constant S_ .f32 0x00000000#32) pads_S2048x2816_S2051x2816_210_000 h_S_)) (pad S2051x2816 ![3, 0] ![0, 0] ![0, 0] (mulf (addf A2 A3) (broadcastInDim S2048x2816 ![0, 1] bcast_S1x2816_S2048x2816_0_1 (broadcastInDim S1x2816 ![1] bcast_S2816_S1x2816_1 (shapeCast _ (extractStridedSlice S1x2816 ![0, 0] A1 slices_S4x2816_S1x2816_0_0) shapeCasts_S1x2816_S2816)))) (constant S_ .f32 0x00000000#32) pads_S2048x2816_S2051x2816_300_000 h_S_)) slices_S2051x2816_S2048x2816_3_0) bitsLt_bf16_f32

/-- What the reference computes: the taps' gradient. -/
def _root_.Cert.Kernel23Ideal.Value.want5 (A0 : FVec Ideal Cert.Kernel23Ideal.S2048x5632 .f32) (A2 : FVec Ideal Cert.Kernel23Ideal.S2048x2816 .f32) (A3 : FVec Ideal Cert.Kernel23Ideal.S2048x2816 .f32) : FVec Ideal Cert.Kernel23Ideal.S4x2816 .f32 :=
  addf (addf (addf (pad S4x2816 ![3, 0] ![0, 0] ![0, 0] (broadcastInDim S1x2816 ![1] bcast_S2816_S1x2816_1 (Host.reduceAdd (shapeCast _ (Host.reduceAdd (mulf (extractStridedSlice S2048x2816 ![0, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_0_0) (addf A2 A3)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S4x2816_300_000 h_S_) (pad S4x2816 ![2, 0] ![1, 0] ![0, 0] (broadcastInDim S1x2816 ![1] bcast_S2816_S1x2816_1 (Host.reduceAdd (shapeCast _ (Host.reduceAdd (mulf (extractStridedSlice S2048x2816 ![1, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_1_0) (addf A2 A3)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S4x2816_210_000 h_S_)) (pad S4x2816 ![1, 0] ![2, 0] ![0, 0] (broadcastInDim S1x2816 ![1] bcast_S2816_S1x2816_1 (Host.reduceAdd (shapeCast _ (Host.reduceAdd (mulf (extractStridedSlice S2048x2816 ![2, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_2_0) (addf A2 A3)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S4x2816_120_000 h_S_)) (pad S4x2816 ![0, 0] ![3, 0] ![0, 0] (broadcastInDim S1x2816 ![1] bcast_S2816_S1x2816_1 (Host.reduceAdd (shapeCast _ (Host.reduceAdd (mulf (extractStridedSlice S2048x2816 ![3, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_3_0) (addf A2 A3)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S4x2816_030_000 h_S_)

/-- What the reference computes: the bias's gradient. -/
def _root_.Cert.Kernel23Ideal.Value.want6 (A2 : FVec Ideal Cert.Kernel23Ideal.S2048x2816 .f32) (A3 : FVec Ideal Cert.Kernel23Ideal.S2048x2816 .f32) : FVec Ideal Cert.Kernel23Ideal.S1x2816 .f32 :=
  shapeCast _ (Host.reduceAdd (addf A2 A3) (constant S_ .f32 0x00000000#32) reducesTo_S2048x2816_S2816_d0 h_S_) shapeCasts_S2816_S1x2816

end Cert.Reference23Ideal.Gen

namespace Cert.Kernel23Ideal.Value

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![0, 11 + t.val] ∧ win0_1.index t = ![0, t.val] ∧ win0_2.index t = ![0, t.val] ∧ win0_3.index t = ![0, t.val] ∧ win0_4.index t = ![0, t.val] ∧ win0_5.index t = ![0, t.val] ∧ win0_6.index t = ![0, t.val] :=
  (by decide +kernel : ∀ t : Fin grid0.N, _)

/-- Four terms summed from the last to the first. -/
theorem reversed (a b c d : EReal) : a + b + c + d = d + c + b + a := by
  ac_rfl

/-- A row moved up by `k`, zero in the last `k` rows, times `w`. -/
theorem movedUp (r : Fin 2048) (s k : ℕ) (hk : 0 < k) (hs : s + k = 2048) (f : Fin 2048 → EReal) (w : EReal) (c : Prop) [Decidable c]
    (hc : c ↔ r.val < s) (n : c → Fin 2048) (hn : ∀ h, (n h).val = r.val + k) (h) :
    Scalar.select (IntOp.cmpi .sge (BitVec.ofNat 32 r.val) (BitVec.ofNat 32 s)) 0 (f ⟨(r.val + 2048 - s) % 2048, h⟩ * w)
      = if h : c then f (n h) * w else 0 := by
  have hr := r.isLt
  rw [WordCmp.cmpi_sge_ofNat (by omega) (by omega)]
  by_cases hh : c
  · rw [dif_pos hh]
    have h' : ¬ s ≤ r.val := by have := hc.1 hh; omega
    simp only [h', Scalar.select, if_false]
    exact congrArg (fun i => f i * w) (Fin.ext (by rw [hn hh]; show (r.val + 2048 - s) % 2048 = r.val + k; have := hc.1 hh; omega))
  · rw [dif_neg hh]
    have h' : s ≤ r.val := by by_contra hlt; exact hh (hc.2 (by omega))
    simp [h', Scalar.select]

/-- The two parts of the result's gradient, summed. -/
theorem dy_sum (x0 : Vec Ideal S2048x256 .f32) (x1 : Vec Ideal S4x256 .f32) (x2 x3 : Vec Ideal S2048x256 .f32) :
    k0_pay10 x0 x1 x2 x3 = k0_pay3 x2 x3 := by
  have e : ∀ X : Vec Ideal S2048x256 .f32, View.ld X r0_0 = X := fun X => by funext z; pointwise
  unfold k0_pay10
  rw [e, e]

/-- An entry of a block of the input's gradient is the reference's, when the blocks' columns are the arrays'. -/
theorem at4 (D E : Vec Ideal S2048x256 .f32) (w0 w1 w2 w3 : Vec Ideal S1x256 .f32) (A1 : FVec Ideal S4x2816 .f32)
    (A2 A3 : FVec Ideal S2048x2816 .f32) (q : Fin 256) (j : Fin 2816)
    (hD : ∀ r : Fin 2048, D (ix2 r q) = A2 (ix2 r j)) (hE : ∀ r : Fin 2048, E (ix2 r q) = A3 (ix2 r j))
    (h0 : w0 (ix2 0 q) = A1 (ix2 0 j)) (h1 : w1 (ix2 0 q) = A1 (ix2 1 j)) (h2 : w2 (ix2 0 q) = A1 (ix2 2 j)) (h3 : w3 (ix2 0 q) = A1 (ix2 3 j))
    (r : Fin 2048) :
    k0_pay1 (k0_pay8 (k0_pay3 D E) (k0_pay5 D E w0 w1) (iota .tc S2048x256 32 [0] iota_S2048x256_d0_w32) w2 w3) (ix2 r q)
      = want4 A1 A2 A3 (ix2 r j) := by
  pointwise [k0_pay1, k0_pay8, k0_pay3, k0_pay5, want4]
  rw [h0, h1, h2, h3, hD, hE, hD, hE, hD, hE, hD, hE]
  have up := fun (s k : ℕ) hk hs (w : EReal) (c : Prop) [Decidable c] hc n hn h =>
    movedUp r s k hk hs (fun i => A2 (ix2 i j) + A3 (ix2 i j)) w c hc n hn h
  refine Eq.trans (Ideal.add_congr (Ideal.add_congr (Ideal.add_congr rfl
    (up 2047 1 (by omega) (by omega) _ (2 ≤ 3 + r.val ∧ 3 + r.val - 2 < 2048) (by omega) (fun h => ⟨3 + r.val - 2, h.2⟩) (fun h => by show 3 + r.val - 2 = _; omega) _))
    (up 2046 2 (by omega) (by omega) _ (1 ≤ 3 + r.val ∧ 3 + r.val - 1 < 2048) (by omega) (fun h => ⟨3 + r.val - 1, h.2⟩) (fun h => by show 3 + r.val - 1 = _; omega) _))
    (up 2045 3 (by omega) (by omega) _ (3 + r.val < 2048) (by omega) (fun h => ⟨3 + r.val, h⟩) (fun h => by show 3 + r.val = _; omega) _)) ?_
  exact reversed _ _ _ _

/-- A factor times a row moved down by `k`, zero in the first `k` rows. -/
theorem moved (r : Fin 2048) (k : ℕ) (hk : k < 2048) (f : Fin 2048 → EReal) (d : EReal) (c : Prop) [Decidable c] (hc : c ↔ r.val < k)
    (n : ¬c → Fin 2048) (hn : ∀ h, (n h).val = r.val - k) (h) :
    Scalar.select (IntOp.cmpi .slt (BitVec.ofNat 32 r.val) (BitVec.ofNat 32 k)) 0 (d * f ⟨(r.val + 2048 - k) % 2048, h⟩)
      = (if h : c then 0 else f (n h)) * d := by
  have hr := r.isLt
  rw [WordCmp.cmpi_slt_ofNat (by omega) (by omega)]
  by_cases hh : c
  · rw [dif_pos hh]
    have h' : r.val < k := hc.1 hh
    simp only [h', Scalar.select, if_true]
    exact (zero_mul _).symm
  · rw [dif_neg hh]
    have h' : ¬ r.val < k := fun h => hh (hc.2 h)
    simp only [h', Scalar.select, if_false]
    refine (mul_comm _ _).trans ?_
    exact congrArg (fun i => f i * d) (Fin.ext (by rw [hn hh]; show (r.val + 2048 - k) % 2048 = r.val - k; omega))

/-- The rows from `k` on, each with the row `k` above it: a sum over the rows that are there. -/
theorem shift_sum (k n : ℕ) (hk : k + n = 2048) (g : Fin 2048 → Fin 2048 → EReal) (h : ∀ x : Fin 2048, (x.val + 2048 - k) % 2048 < 2048) :
    ∑ x : Fin 2048, Scalar.select (IntOp.cmpi .slt (BitVec.ofNat 32 x.val) (BitVec.ofNat 32 k)) 0 (g x ⟨(x.val + 2048 - k) % 2048, h x⟩)
      = ∑ x : Fin n, g ⟨k + x.val, by omega⟩ ⟨x.val, by omega⟩ := by
  rw [← Fin.sum_congr' _ hk, Fin.sum_univ_add]
  refine Eq.trans (congrArg₂ (· + ·) (Finset.sum_eq_zero fun x _ => ?_) (Finset.sum_congr rfl fun x _ => ?_)) (zero_add _)
  · have hx := x.isLt
    rw [WordCmp.cmpi_slt_ofNat (by simp; omega) (by omega)]
    simp [Scalar.select]
  · have hx := x.isLt
    rw [WordCmp.cmpi_slt_ofNat (by simp; omega) (by omega)]
    have h' : ¬ (k + x.val < k) := by omega
    simp only [Fin.val_cast, Fin.val_natAdd, h', Scalar.select, if_false]
    refine congrArg₂ g (Fin.ext (by simp)) (Fin.ext ?_)
    show (k + x.val + 2048 - k) % 2048 = x.val
    omega

/-- An entry of row 0 of the taps' gradient is the reference's, when the blocks' columns are the arrays'. -/
theorem tap0 (X D E : Vec Ideal S2048x256 .f32) (A0 : FVec Ideal S2048x5632 .f32) (A2 A3 : FVec Ideal S2048x2816 .f32) (q : Fin 256) (j : Fin 2816)
    (hX : ∀ r : Fin 2048, X (ix2 r q) = A0 (ix2 r (⟨2816 + j.val, by omega⟩ : Fin 5632)))
    (hD : ∀ r : Fin 2048, D (ix2 r q) = A2 (ix2 r j)) (hE : ∀ r : Fin 2048, E (ix2 r q) = A3 (ix2 r j)) :
    k0_pay4 X D E (ix2 0 q) = want5 A0 A2 A3 (ix2 0 j) := by
  pointwise [k0_pay4, k0_pay6, k0_pay7, k0_pay9, k0_pay3, want5]
  simp only [zero_mul, Finset.sum_const_zero, zero_add, Finset.univ_unique, Finset.sum_singleton]
  refine Fin.sum_fin_congr fun x => ?_
  rw [hX, hD, hE, mul_comm]

/-- An entry of row 1 of the taps' gradient is the reference's, when the blocks' columns are the arrays'. -/
theorem tap1 (X D E : Vec Ideal S2048x256 .f32) (A0 : FVec Ideal S2048x5632 .f32) (A2 A3 : FVec Ideal S2048x2816 .f32) (q : Fin 256) (j : Fin 2816)
    (hX : ∀ r : Fin 2048, X (ix2 r q) = A0 (ix2 r (⟨2816 + j.val, by omega⟩ : Fin 5632)))
    (hD : ∀ r : Fin 2048, D (ix2 r q) = A2 (ix2 r j)) (hE : ∀ r : Fin 2048, E (ix2 r q) = A3 (ix2 r j)) :
    k0_pay6 X D E (ix2 0 q) = want5 A0 A2 A3 (ix2 1 j) := by
  pointwise [k0_pay4, k0_pay6, k0_pay7, k0_pay9, k0_pay3, want5]
  simp only [Finset.univ_unique, Finset.sum_singleton]
  refine Fin.sum_fin_congr fun x => ?_
  rw [hX, hD, hE]
  have hx := x.isLt
  exact moved x 1 (by omega) (fun r => A0 (ix2 r (⟨2816 + j.val, by omega⟩ : Fin 5632))) _ _ (by omega) (fun h => ⟨2 + x.val - 3, by omega⟩) (fun h => by show 2 + x.val - 3 = _; omega) _

/-- An entry of row 2 of the taps' gradient is the reference's, when the blocks' columns are the arrays'. -/
theorem tap2 (X D E : Vec Ideal S2048x256 .f32) (A0 : FVec Ideal S2048x5632 .f32) (A2 A3 : FVec Ideal S2048x2816 .f32) (q : Fin 256) (j : Fin 2816)
    (hX : ∀ r : Fin 2048, X (ix2 r q) = A0 (ix2 r (⟨2816 + j.val, by omega⟩ : Fin 5632)))
    (hD : ∀ r : Fin 2048, D (ix2 r q) = A2 (ix2 r j)) (hE : ∀ r : Fin 2048, E (ix2 r q) = A3 (ix2 r j)) :
    k0_pay7 X (k0_pay3 D E) (ix2 0 q) = want5 A0 A2 A3 (ix2 2 j) := by
  pointwise [k0_pay4, k0_pay6, k0_pay7, k0_pay9, k0_pay3, want5]
  simp only [Finset.univ_unique, Finset.sum_singleton]
  refine Fin.sum_fin_congr fun x => ?_
  rw [hX, hD, hE]
  have hx := x.isLt
  exact moved x 2 (by omega) (fun r => A0 (ix2 r (⟨2816 + j.val, by omega⟩ : Fin 5632))) _ _ (by omega) (fun h => ⟨1 + x.val - 3, by omega⟩) (fun h => by show 1 + x.val - 3 = _; omega) _

/-- An entry of row 3 of the taps' gradient is the reference's, when the blocks' columns are the arrays'. -/
theorem tap3 (X D E : Vec Ideal S2048x256 .f32) (A0 : FVec Ideal S2048x5632 .f32) (A2 A3 : FVec Ideal S2048x2816 .f32) (q : Fin 256) (j : Fin 2816)
    (hX : ∀ r : Fin 2048, X (ix2 r q) = A0 (ix2 r (⟨2816 + j.val, by omega⟩ : Fin 5632)))
    (hD : ∀ r : Fin 2048, D (ix2 r q) = A2 (ix2 r j)) (hE : ∀ r : Fin 2048, E (ix2 r q) = A3 (ix2 r j)) :
    k0_pay9 X (k0_pay3 D E) (ix2 0 q) = want5 A0 A2 A3 (ix2 3 j) := by
  pointwise [k0_pay4, k0_pay6, k0_pay7, k0_pay9, k0_pay3, want5]
  refine Eq.trans (shift_sum 3 2045 rfl (fun a b => (D (ix2 a q) + E (ix2 a q)) * X (ix2 b q)) (fun _ => Nat.mod_lt _ (by omega))) ?_
  simp only [zero_mul, Finset.sum_const_zero, zero_add, Finset.univ_unique, Finset.sum_singleton]
  refine Fin.sum_fin_congr fun x => ?_
  rw [hX, hD, hE, mul_comm]

/-- After the run the result array is the input's gradient. -/
theorem result4 (c : Dev nD) : (dats m 0 c).arrAt 4 (cfgs 0).N = want4 (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [dy_sum]
  have ht : t.val < 11 := lt_of_lt_of_eq t.isLt (show cfg0.N = 11 from N_0)
  have hy : y = ix2 (y 0) (y 1) := eq_ix2 y
  have h1 := (y 1).isLt
  have hj : ((cfg0.win 4).blk t).view.emb y = ix2 (y 0) (⟨t.val * 256 + (y 1).val, by simp at h1; omega⟩ : Fin 2816) := by
    funext a; match a with
    | 0 => apply Fin.ext; blk_simp [idx t]
    | 1 => apply Fin.ext; blk_simp [idx t] <;> rfl
  refine Eq.trans ?_ (congrArg (want4 _ _ _) hj.symm)
  refine (congrArg (k0_pay1 _) hy).trans ?_
  refine at4 (iblk m c 2 t) (iblk m c 3 t) (View.ld (iblk m c 1 t) r0_1) (View.ld (iblk m c 1 t) r0_2) (View.ld (iblk m c 1 t) r0_3) (View.ld (iblk m c 1 t) r0_4) _ _ _ (y 1) _ (fun r => ?_) (fun r => ?_) ?_ ?_ ?_ ?_ (y 0)
  all_goals (try pointwise); blk_point [iblk, V, idx t]

/-- After the run the result array is the taps' gradient. -/
theorem result5 (c : Dev nD) : (dats m 0 c).arrAt 5 (cfgs 0).N = want5 (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]; unfold_out out0_5
  have ht : t.val < 11 := lt_of_lt_of_eq t.isLt (show cfg0.N = 11 from N_0)
  canon_tiles x h
  · have hx : x = ix2 0 (x 1) := by
      rw [eq_ix2 x]; exact congrArg (fun k => ix2 k (x 1)) (Fin.ext (by show (x 0).val = 0; omega))
    have hj : (win0_5.blk t).view.emb y = ix2 3 (⟨t.val * 256 + (x 1).val, by omega⟩ : Fin 2816) := by
      funext a; match a with
      | 0 => apply Fin.ext; blk_simp [idx t, h0]; omega
      | 1 => apply Fin.ext; blk_simp [idx t, h1]
    rw [hj]
    refine (congrArg (k0_pay9 _ _) hx).trans ?_
    refine tap3 _ _ _ _ _ _ (x 1) _ (fun r => ?_) (fun r => ?_) (fun r => ?_)
    · pointwise; blk_point [iblk, V, idx t, h0, h1]
    · pointwise; blk_point [iblk, V, idx t, h0, h1]
    · pointwise; blk_point [iblk, V, idx t, h0, h1]
  · have hx : x = ix2 0 (x 1) := by
      rw [eq_ix2 x]; exact congrArg (fun k => ix2 k (x 1)) (Fin.ext (by show (x 0).val = 0; omega))
    have hj : (win0_5.blk t).view.emb y = ix2 2 (⟨t.val * 256 + (x 1).val, by omega⟩ : Fin 2816) := by
      funext a; match a with
      | 0 => apply Fin.ext; blk_simp [idx t, h0]; omega
      | 1 => apply Fin.ext; blk_simp [idx t, h1]
    rw [hj]
    refine (congrArg (k0_pay7 _ _) hx).trans ?_
    refine tap2 _ _ _ _ _ _ (x 1) _ (fun r => ?_) (fun r => ?_) (fun r => ?_)
    · pointwise; blk_point [iblk, V, idx t, h0, h1]
    · pointwise; blk_point [iblk, V, idx t, h0, h1]
    · pointwise; blk_point [iblk, V, idx t, h0, h1]
  · have hx : x = ix2 0 (x 1) := by
      rw [eq_ix2 x]; exact congrArg (fun k => ix2 k (x 1)) (Fin.ext (by show (x 0).val = 0; omega))
    have hj : (win0_5.blk t).view.emb y = ix2 1 (⟨t.val * 256 + (x 1).val, by omega⟩ : Fin 2816) := by
      funext a; match a with
      | 0 => apply Fin.ext; blk_simp [idx t, h0]; omega
      | 1 => apply Fin.ext; blk_simp [idx t, h1]
    rw [hj]
    refine (congrArg (k0_pay6 _ _ _) hx).trans ?_
    refine tap1 _ _ _ _ _ _ (x 1) _ (fun r => ?_) (fun r => ?_) (fun r => ?_)
    · pointwise; blk_point [iblk, V, idx t, h0, h1]
    · pointwise; blk_point [iblk, V, idx t, h0, h1]
    · pointwise; blk_point [iblk, V, idx t, h0, h1]
  · have hx : x = ix2 0 (x 1) := by
      rw [eq_ix2 x]; exact congrArg (fun k => ix2 k (x 1)) (Fin.ext (by show (x 0).val = 0; omega))
    have hj : (win0_5.blk t).view.emb y = ix2 0 (⟨t.val * 256 + (x 1).val, by omega⟩ : Fin 2816) := by
      funext a; match a with
      | 0 => apply Fin.ext; blk_simp [idx t, h0]; omega
      | 1 => apply Fin.ext; blk_simp [idx t, h1]
    rw [hj]
    refine (congrArg (k0_pay4 _ _ _) hx).trans ?_
    refine tap0 _ _ _ _ _ _ (x 1) _ (fun r => ?_) (fun r => ?_) (fun r => ?_)
    · pointwise; blk_point [iblk, V, idx t, h0, h1]
    · pointwise; blk_point [iblk, V, idx t, h0, h1]
    · pointwise; blk_point [iblk, V, idx t, h0, h1]

/-- After the run the result array is the bias's gradient. -/
theorem result6 (c : Dev nD) : (dats m 0 c).arrAt 6 (cfgs 0).N = want6 (m ((c : Thread nD τ).loc main_arg2)) (m ((c : Thread nD τ).loc main_arg3)) := by
  refine (dats m 0 c).arrAt_eq_of_covers 6 _ (by decide +kernel) fun t _ y => ?_
  blk_simp
  rw [after0_6]; frame_out
  pointwise [k0_pay2, k0_pay3, want6]
  refine Fin.sum_fin_congr fun x => ?_
  blk_point [iblk, V, idx t]

end Cert.Kernel23Ideal.Value

end
-- ==== Proof.Local.PreNormBackward.lean ====
module

public import proofs.«01_k».proof.Proof.Gen.Kernel24Ideal.Value
public import proofs.«01_k».proof.Proof.Gen.Reference24Ideal.Run
public import Idealize.ShloMosaic.Lib.Pipeline.ValueKit

/-! Kernel24 computes the gradient of the even mixer's first norm: its results are what the reference computes. -/

@[expose] public section

set_option maxRecDepth 16384

noncomputable section

namespace Cert.Reference24Ideal.Gen

open Cert.Reference24Ideal Idealize.ShloMosaic

/-- What the reference computes: the gradient of the residual stream. -/
def _root_.Cert.Kernel24Ideal.Value.want4 (A0 : FVec Ideal Cert.Kernel24Ideal.S2048x2048 .f32) (A1 : FVec Ideal Cert.Kernel24Ideal.S1x2048 .f32) (A2 : FVec Ideal Cert.Kernel24Ideal.S2048x2048 .f32) (A3 : FVec Ideal Cert.Kernel24Ideal.S2048x2048 .f32) : FVec Ideal Cert.Kernel24Ideal.S2048x2048 .f32 :=
  addf (addf (addf A2 (mulf (mulf A3 (broadcastInDim S2048x2048 ![0, 1] bcast_S1x2048_S2048x2048_0_1 A1)) (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf A0 (broadcastInDim S2048x2048 ![0] bcast_S2048_S2048x2048_0 (Host.reduceAdd (Host.divf (mulf (shapeCast _ (Host.reduceAdd (mulf A0 (mulf A3 (broadcastInDim S2048x2048 ![0, 1] bcast_S1x2048_S2048x2048_0_1 A1))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf A0 (mulf A3 (broadcastInDim S2048x2048 ![0, 1] bcast_S1x2048_S2048x2048_0_1 A1))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) A0)

/-- What the reference computes: the gradient of the gain. -/
def _root_.Cert.Kernel24Ideal.Value.want5 (A0 : FVec Ideal Cert.Kernel24Ideal.S2048x2048 .f32) (A3 : FVec Ideal Cert.Kernel24Ideal.S2048x2048 .f32) : FVec Ideal Cert.Kernel24Ideal.S1x2048 .f32 :=
  shapeCast _ (Host.reduceAdd (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) A3) (constant S_ .f32 0x00000000#32) reducesTo_S2048x2048_S2048_d0 h_S_) shapeCasts_S2048_S1x2048

end Cert.Reference24Ideal.Gen

namespace Cert.Kernel24Ideal.Value

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-- The reciprocal of a row's root mean square. -/
def scale (x : Fin 2048 → EReal) : EReal :=
  Ideal.rsqrt (Ideal.div (∑ k, x k * x k) (Ideal.ofBits .f32 1157627904#32) + Ideal.ofBits .f32 897988541#32)

/-- An entry of a block's rows is the reference's, when the blocks' rows are the arrays'. -/
theorem at4 (X : Vec Ideal S256x2048 .f32) (G : Vec Ideal S1x2048 .f32) (R : Vec Ideal S256x2048 .f32) (D : Vec Ideal S256x2048 .f32) (A0 : FVec Ideal S2048x2048 .f32) (A1 : FVec Ideal S1x2048 .f32) (A2 : FVec Ideal S2048x2048 .f32) (A3 : FVec Ideal S2048x2048 .f32) (i : Fin 256) (p k : Fin 2048)
    (hX : ∀ k, X (ix2 i k) = A0 (ix2 p k)) (hG : ∀ k, G (ix2 0 k) = A1 (ix2 0 k)) (hR : ∀ k, R (ix2 i k) = A2 (ix2 p k)) (hD : ∀ k, D (ix2 i k) = A3 (ix2 p k)) :
    k0_pay6 X G R D (ix2 i k) = want4 A0 A1 A2 A3 (ix2 p k) := by
  pointwise [k0_pay1, k0_pay2, k0_pay3, k0_pay4, k0_pay5, k0_pay6, want4]
  simp only [hX, hG, hR, hD]

/-- What point `t` leaves in the window. -/
theorem left4 (c : Dev nD) (t : Fin cfg0.N) : (outsAt0 m c t.val t.isLt).1 = k0_pay6 (iblk m c 0 t) (iblk m c 1 t) (iblk m c 2 t) (iblk m c 3 t) := by
  by_cases h0 : t.val % 8 = 0
  · rw [outsAt0_A m c t h0]; frame_out
  · rw [outsAt0_B m c t h0]; frame_out

/-- After the run the result array is the gradient of the residual stream. -/
theorem result4 (c : Dev nD) : (dats m 0 c).arrAt 4 (cfgs 0).N = want4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, left4]
  have hy : y = ix2 (y 0) (y 1) := funext fun a => by match a with | 0 => rfl | 1 => rfl
  have hj : ((cfg0.win 4).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at4 _ _ _ _ _ _ _ _ (y 0) _ (y 1) ?_ ?_ ?_ ?_
  all_goals intro k; blk_point [iblk, V, idx t]

/-- A point adds its rows' part of the gain's gradient. -/
theorem add5 (acc : Vec Ideal S1x2048 .f32) (X : Vec Ideal S256x2048 .f32) (D : Vec Ideal S256x2048 .f32) (y : S1x2048.Idx) : k0_pay2 (k0_pay5 X D) acc y
    = acc y + ∑ r : Fin 256, X (ix2 r (y 1)) * scale (fun k => X (ix2 r k)) * D (ix2 r (y 1)) := by
  pointwise [k0_pay1, k0_pay2, k0_pay3, k0_pay4, k0_pay5, k0_pay6, scale]

/-- The first point starts from zero. -/
theorem zero5 (y : S1x2048.Idx) : k0_pay1 (F := Ideal) y = 0 := by
  pointwise [k0_pay1]

/-- After the run the result array is the gradient of the gain. -/
theorem result5 (c : Dev nD) : (dats m 0 c).arrAt 5 (cfgs 0).N = want5 (m ((c : Thread nD τ).loc main_arg0)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 8 (fun _ => 0) _
    (fun t h j => by rw [outsAt0_A m c t h]; frame_out; rw [add5, zero5])
    (fun t h j => by rw [outsAt0_B m c t (by omega)]; frame_out; rw [add5])
    t ((flush0_5 t).mp hf) _, zero_add]
  pointwise [want5]
  refine Fin.sum_mul_add_congr fun s k hl => ?_
  have hp := Pipeline.run_point_lt_of_flush t ((flush0_5 t).mp hf) s
  have hX : ∀ a, iblk m c 0 ⟨_, hp⟩ (ix2 k a) = m ((c : Thread nD τ).loc main_arg0) (ix2 ⟨s.val * 256 + k.val, hl⟩ a) := fun a => by
    blk_point [iblk, V, idx ⟨_, hp⟩]
  have hD : ∀ a, iblk m c 3 ⟨_, hp⟩ (ix2 k a) = m ((c : Thread nD τ).loc main_arg3) (ix2 ⟨s.val * 256 + k.val, hl⟩ a) := fun a => by
    blk_point [iblk, V, idx ⟨_, hp⟩]
  simp only [scale, hX, hD]
  blk_point [iblk, V, idx t, idx ⟨_, hp⟩]

end Cert.Kernel24Ideal.Value

end
-- ==== Proof.Local.PostMixBackward.lean ====
module

public import proofs.«01_k».proof.Proof.Gen.Kernel25Ideal.Value
public import proofs.«01_k».proof.Proof.Gen.Reference25Ideal.Run
public import Idealize.ShloMosaic.Lib.Pipeline.ValueKit

/-! Kernel25 computes the gradient of the two norms between the mixer and the feed-forward layer: its results are what the reference computes. -/

@[expose] public section

set_option maxRecDepth 16384

noncomputable section

namespace Cert.Reference25Ideal.Gen

open Cert.Reference25Ideal Idealize.ShloMosaic

/-- What the reference computes: the gradient of the residual stream. -/
def _root_.Cert.Kernel25Ideal.Value.want6 (A0 : FVec Ideal Cert.Kernel25Ideal.S2048x2048 .f32) (A1 : FVec Ideal Cert.Kernel25Ideal.S2048x2048 .f32) (A2 : FVec Ideal Cert.Kernel25Ideal.S1x2048 .f32) (A3 : FVec Ideal Cert.Kernel25Ideal.S1x2048 .f32) (A4 : FVec Ideal Cert.Kernel25Ideal.S2048x2048 .f32) (A5 : FVec Ideal Cert.Kernel25Ideal.S2048x2048 .f32) : FVec Ideal Cert.Kernel25Ideal.S2048x2048 .f32 :=
  addf (addf (addf A4 (mulf (mulf A5 (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))))

/-- What the reference computes: the gradient of the mixer's result. -/
def _root_.Cert.Kernel25Ideal.Value.want7 (A0 : FVec Ideal Cert.Kernel25Ideal.S2048x2048 .f32) (A1 : FVec Ideal Cert.Kernel25Ideal.S2048x2048 .f32) (A2 : FVec Ideal Cert.Kernel25Ideal.S1x2048 .f32) (A3 : FVec Ideal Cert.Kernel25Ideal.S1x2048 .f32) (A4 : FVec Ideal Cert.Kernel25Ideal.S2048x2048 .f32) (A5 : FVec Ideal Cert.Kernel25Ideal.S2048x2048 .f32) : FVec Ideal Cert.Kernel25Ideal.S2048x2048 .bf16 :=
  truncf .bf16 (addf (addf (mulf (mulf (shapeCast _ (addf (addf (addf A4 (mulf (mulf A5 (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))))) shapeCasts_S2048x2048_S2048x2048) (broadcastInDim S2048x2048 ![0, 1] bcast_S1x2048_S2048x2048_0_1 A2)) (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf A1 (broadcastInDim S2048x2048 ![0] bcast_S2048_S2048x2048_0 (Host.reduceAdd (Host.divf (mulf (shapeCast _ (Host.reduceAdd (mulf A1 (mulf (shapeCast _ (addf (addf (addf A4 (mulf (mulf A5 (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))))) shapeCasts_S2048x2048_S2048x2048) (broadcastInDim S2048x2048 ![0, 1] bcast_S1x2048_S2048x2048_0_1 A2))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf A1 (mulf (shapeCast _ (addf (addf (addf A4 (mulf (mulf A5 (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))))) shapeCasts_S2048x2048_S2048x2048) (broadcastInDim S2048x2048 ![0, 1] bcast_S1x2048_S2048x2048_0_1 A2))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) A1)) bitsLt_bf16_f32

/-- What the reference computes: the gradient of the first norm's gain. -/
def _root_.Cert.Kernel25Ideal.Value.want8 (A0 : FVec Ideal Cert.Kernel25Ideal.S2048x2048 .f32) (A1 : FVec Ideal Cert.Kernel25Ideal.S2048x2048 .f32) (A2 : FVec Ideal Cert.Kernel25Ideal.S1x2048 .f32) (A3 : FVec Ideal Cert.Kernel25Ideal.S1x2048 .f32) (A4 : FVec Ideal Cert.Kernel25Ideal.S2048x2048 .f32) (A5 : FVec Ideal Cert.Kernel25Ideal.S2048x2048 .f32) : FVec Ideal Cert.Kernel25Ideal.S1x2048 .f32 :=
  shapeCast _ (Host.reduceAdd (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (shapeCast _ (addf (addf (addf A4 (mulf (mulf A5 (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (mulf A5 (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))))) shapeCasts_S2048x2048_S2048x2048)) (constant S_ .f32 0x00000000#32) reducesTo_S2048x2048_S2048_d0 h_S_) shapeCasts_S2048_S1x2048

/-- What the reference computes: the gradient of the second norm's gain. -/
def _root_.Cert.Kernel25Ideal.Value.want9 (A0 : FVec Ideal Cert.Kernel25Ideal.S2048x2048 .f32) (A1 : FVec Ideal Cert.Kernel25Ideal.S2048x2048 .f32) (A2 : FVec Ideal Cert.Kernel25Ideal.S1x2048 .f32) (A5 : FVec Ideal Cert.Kernel25Ideal.S2048x2048 .f32) : FVec Ideal Cert.Kernel25Ideal.S1x2048 .f32 :=
  shapeCast _ (Host.reduceAdd (mulf (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) A5) (constant S_ .f32 0x00000000#32) reducesTo_S2048x2048_S2048_d0 h_S_) shapeCasts_S2048_S1x2048

end Cert.Reference25Ideal.Gen

namespace Cert.Kernel25Ideal.Value

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] :=
  (by decide +kernel : ∀ t : Fin grid0.N, _)

/-- The reciprocal of a row's root mean square. -/
def scale (x : Fin 2048 → EReal) : EReal :=
  Ideal.rsqrt (Ideal.div (∑ k, x k * x k) (Ideal.ofBits .f32 1157627904#32) + Ideal.ofBits .f32 897988541#32)

/-- An entry of a block's rows is the reference's, when the blocks' rows are the arrays'. -/
theorem at6 (H : Vec Ideal S256x2048 .f32) (M : Vec Ideal S256x2048 .f32) (G : Vec Ideal S1x2048 .f32) (Q : Vec Ideal S1x2048 .f32) (A : Vec Ideal S256x2048 .f32) (N : Vec Ideal S256x2048 .f32) (A0 : FVec Ideal S2048x2048 .f32) (A1 : FVec Ideal S2048x2048 .f32) (A2 : FVec Ideal S1x2048 .f32) (A3 : FVec Ideal S1x2048 .f32) (A4 : FVec Ideal S2048x2048 .f32) (A5 : FVec Ideal S2048x2048 .f32) (i : Fin 256) (p k : Fin 2048)
    (hH : ∀ k, H (ix2 i k) = A0 (ix2 p k)) (hM : ∀ k, M (ix2 i k) = A1 (ix2 p k)) (hG : ∀ k, G (ix2 0 k) = A2 (ix2 0 k)) (hQ : ∀ k, Q (ix2 0 k) = A3 (ix2 0 k)) (hA : ∀ k, A (ix2 i k) = A4 (ix2 p k)) (hN : ∀ k, N (ix2 i k) = A5 (ix2 p k)) :
    k0_pay14 Q A N (k0_pay9 H M G) (k0_pay11 H M G) (k0_pay12 H M G) (ix2 i k) = want6 A0 A1 A2 A3 A4 A5 (ix2 p k) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, want6]
  simp only [hH, hM, hG, hQ, hA, hN]

/-- What point `t` leaves in the window. -/
theorem left6 (c : Dev nD) (t : Fin cfg0.N) : (outsAt0 m c t.val t.isLt).1 = k0_pay14 (iblk m c 3 t) (iblk m c 4 t) (iblk m c 5 t) (k0_pay9 (iblk m c 0 t) (iblk m c 1 t) (iblk m c 2 t)) (k0_pay11 (iblk m c 0 t) (iblk m c 1 t) (iblk m c 2 t)) (k0_pay12 (iblk m c 0 t) (iblk m c 1 t) (iblk m c 2 t)) := by
  by_cases h0 : t.val % 8 = 0
  · rw [outsAt0_A m c t h0]; frame_out
  · rw [outsAt0_B m c t h0]; frame_out

/-- After the run the result array is the gradient of the residual stream. -/
theorem result6 (c : Dev nD) : (dats m 0 c).arrAt 6 (cfgs 0).N = want6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, left6]
  have hy : y = ix2 (y 0) (y 1) := funext fun a => by match a with | 0 => rfl | 1 => rfl
  have hj : ((cfg0.win 6).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at6 _ _ _ _ _ _ _ _ _ _ _ _ (y 0) _ (y 1) ?_ ?_ ?_ ?_ ?_ ?_
  all_goals intro k; blk_point [iblk, V, idx t]

/-- An entry of a block's rows is the reference's, when the blocks' rows are the arrays'. -/
theorem at7 (H : Vec Ideal S256x2048 .f32) (M : Vec Ideal S256x2048 .f32) (G : Vec Ideal S1x2048 .f32) (Q : Vec Ideal S1x2048 .f32) (A : Vec Ideal S256x2048 .f32) (N : Vec Ideal S256x2048 .f32) (A0 : FVec Ideal S2048x2048 .f32) (A1 : FVec Ideal S2048x2048 .f32) (A2 : FVec Ideal S1x2048 .f32) (A3 : FVec Ideal S1x2048 .f32) (A4 : FVec Ideal S2048x2048 .f32) (A5 : FVec Ideal S2048x2048 .f32) (i : Fin 256) (p k : Fin 2048)
    (hH : ∀ k, H (ix2 i k) = A0 (ix2 p k)) (hM : ∀ k, M (ix2 i k) = A1 (ix2 p k)) (hG : ∀ k, G (ix2 0 k) = A2 (ix2 0 k)) (hQ : ∀ k, Q (ix2 0 k) = A3 (ix2 0 k)) (hA : ∀ k, A (ix2 i k) = A4 (ix2 p k)) (hN : ∀ k, N (ix2 i k) = A5 (ix2 p k)) :
    k0_pay17 M G Q A N (k0_pay6 M) (k0_pay7 M) (k0_pay9 H M G) (k0_pay11 H M G) (k0_pay12 H M G) (ix2 i k) = want7 A0 A1 A2 A3 A4 A5 (ix2 p k) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, want7]
  simp only [hH, hM, hG, hQ, hA, hN]

/-- What point `t` leaves in the window. -/
theorem left7 (c : Dev nD) (t : Fin cfg0.N) : (outsAt0 m c t.val t.isLt).2.1 = k0_pay17 (iblk m c 1 t) (iblk m c 2 t) (iblk m c 3 t) (iblk m c 4 t) (iblk m c 5 t) (k0_pay6 (iblk m c 1 t)) (k0_pay7 (iblk m c 1 t)) (k0_pay9 (iblk m c 0 t) (iblk m c 1 t) (iblk m c 2 t)) (k0_pay11 (iblk m c 0 t) (iblk m c 1 t) (iblk m c 2 t)) (k0_pay12 (iblk m c 0 t) (iblk m c 1 t) (iblk m c 2 t)) := by
  by_cases h0 : t.val % 8 = 0
  · rw [outsAt0_A m c t h0]; frame_out
  · rw [outsAt0_B m c t h0]; frame_out

/-- After the run the result array is the gradient of the mixer's result. -/
theorem result7 (c : Dev nD) : (dats m 0 c).arrAt 7 (cfgs 0).N = want7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, left7]
  have hy : y = ix2 (y 0) (y 1) := funext fun a => by match a with | 0 => rfl | 1 => rfl
  have hj : ((cfg0.win 7).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at7 _ _ _ _ _ _ _ _ _ _ _ _ (y 0) _ (y 1) ?_ ?_ ?_ ?_ ?_ ?_
  all_goals intro k; blk_point [iblk, V, idx t]

/-- A point adds its rows' part of the gain's gradient. -/
theorem add8 (acc : Vec Ideal S1x2048 .f32) (H : Vec Ideal S256x2048 .f32) (M : Vec Ideal S256x2048 .f32) (G : Vec Ideal S1x2048 .f32) (Q : Vec Ideal S1x2048 .f32) (A : Vec Ideal S256x2048 .f32) (N : Vec Ideal S256x2048 .f32) (y : S1x2048.Idx) : k0_pay3 (k0_pay16 Q A N (k0_pay8 M) (k0_pay9 H M G) (k0_pay11 H M G) (k0_pay12 H M G)) acc y
    = acc y + ∑ r : Fin 256, k0_pay8 M (ix2 r (y 1)) * k0_pay14 Q A N (k0_pay9 H M G) (k0_pay11 H M G) (k0_pay12 H M G) (ix2 r (y 1)) := by
  pointwise [k0_pay3, k0_pay16, k0_pay15, scale]

/-- The first point starts from zero. -/
theorem zero8 (y : S1x2048.Idx) : k0_pay1 (F := Ideal) y = 0 := by
  pointwise [k0_pay1]

/-- After the run the result array is the gradient of the first norm's gain. -/
theorem result8 (c : Dev nD) : (dats m 0 c).arrAt 8 (cfgs 0).N = want8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0) _
    (fun t h j => by rw [outsAt0_A m c t h]; frame_out; rw [add8, zero8])
    (fun t h j => by rw [outsAt0_B m c t (by omega)]; frame_out; rw [add8])
    t ((flush0_8 t).mp hf) _, zero_add]
  pointwise [want8]
  refine Fin.sum_mul_add_congr fun s k hl => ?_
  have hp := Pipeline.run_point_lt_of_flush t ((flush0_8 t).mp hf) s
  have hH : ∀ a, iblk m c 0 ⟨_, hp⟩ (ix2 k a) = m ((c : Thread nD τ).loc main_arg0) (ix2 ⟨s.val * 256 + k.val, hl⟩ a) := fun a => by
    blk_point [iblk, V, idx ⟨_, hp⟩]
  have hM : ∀ a, iblk m c 1 ⟨_, hp⟩ (ix2 k a) = m ((c : Thread nD τ).loc main_arg1) (ix2 ⟨s.val * 256 + k.val, hl⟩ a) := fun a => by
    blk_point [iblk, V, idx ⟨_, hp⟩]
  have hA : ∀ a, iblk m c 4 ⟨_, hp⟩ (ix2 k a) = m ((c : Thread nD τ).loc main_arg4) (ix2 ⟨s.val * 256 + k.val, hl⟩ a) := fun a => by
    blk_point [iblk, V, idx ⟨_, hp⟩]
  have hN : ∀ a, iblk m c 5 ⟨_, hp⟩ (ix2 k a) = m ((c : Thread nD τ).loc main_arg5) (ix2 ⟨s.val * 256 + k.val, hl⟩ a) := fun a => by
    blk_point [iblk, V, idx ⟨_, hp⟩]
  have hG : ∀ a, iblk m c 2 ⟨_, hp⟩ (ix2 0 a) = m ((c : Thread nD τ).loc main_arg2) (ix2 0 a) := fun a => by
    blk_point [iblk, V, idx ⟨_, hp⟩]
  have hQ : ∀ a, iblk m c 3 ⟨_, hp⟩ (ix2 0 a) = m ((c : Thread nD τ).loc main_arg3) (ix2 0 a) := fun a => by
    blk_point [iblk, V, idx ⟨_, hp⟩]
  refine (congrArg (fun z => _ * z) (at6 _ _ _ _ _ _ _ _ _ _ _ _ k _ _ hH hM hG hQ hA hN)).trans ?_
  pointwise [k0_pay8, k0_pay6, k0_pay5, want6]
  simp only [hM]
  blk_point [iblk, V, idx t, idx ⟨_, hp⟩]

/-- A point adds its rows' part of the gain's gradient. -/
theorem add9 (acc : Vec Ideal S1x2048 .f32) (H : Vec Ideal S256x2048 .f32) (M : Vec Ideal S256x2048 .f32) (G : Vec Ideal S1x2048 .f32) (N : Vec Ideal S256x2048 .f32) (y : S1x2048.Idx) : k0_pay4 (k0_pay13 H M G N) acc y
    = acc y + ∑ r : Fin 256, (k0_pay9 H M G (ix2 r (y 1)) * k0_pay11 H M G (ix2 r 0)) * N (ix2 r (y 1)) := by
  pointwise [k0_pay4, k0_pay13, scale]

/-- The first point starts from zero. -/
theorem zero9 (y : S1x2048.Idx) : k0_pay2 (F := Ideal) y = 0 := by
  pointwise [k0_pay2]

/-- After the run the result array is the gradient of the second norm's gain. -/
theorem result9 (c : Dev nD) : (dats m 0 c).arrAt 9 (cfgs 0).N = want9 (m ((c : Thread nD τ).loc main_arg0)) (m ((c : Thread nD τ).loc main_arg1)) (m ((c : Thread nD τ).loc main_arg2)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0) _
    (fun t h j => by rw [outsAt0_A m c t h]; frame_out; rw [add9, zero9])
    (fun t h j => by rw [outsAt0_B m c t (by omega)]; frame_out; rw [add9])
    t ((flush0_9 t).mp hf) _, zero_add]
  pointwise [want9]
  refine Fin.sum_mul_add_congr fun s k hl => ?_
  have hp := Pipeline.run_point_lt_of_flush t ((flush0_9 t).mp hf) s
  have hH : ∀ a, iblk m c 0 ⟨_, hp⟩ (ix2 k a) = m ((c : Thread nD τ).loc main_arg0) (ix2 ⟨s.val * 256 + k.val, hl⟩ a) := fun a => by
    blk_point [iblk, V, idx ⟨_, hp⟩]
  have hM : ∀ a, iblk m c 1 ⟨_, hp⟩ (ix2 k a) = m ((c : Thread nD τ).loc main_arg1) (ix2 ⟨s.val * 256 + k.val, hl⟩ a) := fun a => by
    blk_point [iblk, V, idx ⟨_, hp⟩]
  have hN : ∀ a, iblk m c 5 ⟨_, hp⟩ (ix2 k a) = m ((c : Thread nD τ).loc main_arg5) (ix2 ⟨s.val * 256 + k.val, hl⟩ a) := fun a => by
    blk_point [iblk, V, idx ⟨_, hp⟩]
  have hG : ∀ a, iblk m c 2 ⟨_, hp⟩ (ix2 0 a) = m ((c : Thread nD τ).loc main_arg2) (ix2 0 a) := fun a => by
    blk_point [iblk, V, idx ⟨_, hp⟩]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  simp only [hH, hM, hG, hN]
  blk_point [iblk, V, idx t, idx ⟨_, hp⟩]

end Cert.Kernel25Ideal.Value

end
-- ==== Proof.Local.PostFfnBackward.lean ====
module

public import proofs.«01_k».proof.Proof.Gen.Kernel26Ideal.Value
public import proofs.«01_k».proof.Proof.Gen.Reference26Ideal.Run
public import Idealize.ShloMosaic.Lib.Pipeline.ValueKit

/-! Kernel26 computes the gradient of the norm after the feed-forward layer: its results are what the reference computes. -/

@[expose] public section

set_option maxRecDepth 16384

noncomputable section

namespace Cert.Reference26Ideal.Gen

open Cert.Reference26Ideal Idealize.ShloMosaic

/-- What the reference computes: the gradient of the residual stream. -/
def _root_.Cert.Kernel26Ideal.Value.want5 (A3 : FVec Ideal Cert.Kernel26Ideal.S2048x2048 .f32) (A4 : FVec Ideal Cert.Kernel26Ideal.S2048x2048 .f32) : FVec Ideal Cert.Kernel26Ideal.S2048x2048 .f32 :=
  addf A3 A4

/-- What the reference computes: the gradient of the layer's product. -/
def _root_.Cert.Kernel26Ideal.Value.want6 (A1 : FVec Ideal Cert.Kernel26Ideal.S2048x2048 .f32) (A2 : FVec Ideal Cert.Kernel26Ideal.S1x2048 .f32) (A3 : FVec Ideal Cert.Kernel26Ideal.S2048x2048 .f32) (A4 : FVec Ideal Cert.Kernel26Ideal.S2048x2048 .f32) : FVec Ideal Cert.Kernel26Ideal.S2048x2048 .bf16 :=
  truncf .bf16 (addf (addf (mulf (mulf (addf A3 A4) (broadcastInDim S2048x2048 ![0, 1] bcast_S1x2048_S2048x2048_0_1 A2)) (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf A1 (broadcastInDim S2048x2048 ![0] bcast_S2048_S2048x2048_0 (Host.reduceAdd (Host.divf (mulf (shapeCast _ (Host.reduceAdd (mulf A1 (mulf (addf A3 A4) (broadcastInDim S2048x2048 ![0, 1] bcast_S1x2048_S2048x2048_0_1 A2))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf A1 (mulf (addf A3 A4) (broadcastInDim S2048x2048 ![0, 1] bcast_S1x2048_S2048x2048_0_1 A2))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) A1)) bitsLt_bf16_f32

/-- What the reference computes: the gradient of the gain. -/
def _root_.Cert.Kernel26Ideal.Value.want7 (A1 : FVec Ideal Cert.Kernel26Ideal.S2048x2048 .f32) (A3 : FVec Ideal Cert.Kernel26Ideal.S2048x2048 .f32) (A4 : FVec Ideal Cert.Kernel26Ideal.S2048x2048 .f32) : FVec Ideal Cert.Kernel26Ideal.S1x2048 .f32 :=
  shapeCast _ (Host.reduceAdd (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (addf A3 A4)) (constant S_ .f32 0x00000000#32) reducesTo_S2048x2048_S2048_d0 h_S_) shapeCasts_S2048_S1x2048

end Cert.Reference26Ideal.Gen

namespace Cert.Kernel26Ideal.Value

open Cert.Kernel26Ideal Cert.Kernel26Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

/-- The reciprocal of a row's root mean square. -/
def scale (x : Fin 2048 → EReal) : EReal :=
  Ideal.rsqrt (Ideal.div (∑ k, x k * x k) (Ideal.ofBits .f32 1157627904#32) + Ideal.ofBits .f32 897988541#32)

/-- An entry of a block's rows is the reference's, when the blocks' rows are the arrays'. -/
theorem at5 (D : Vec Ideal S256x2048 .f32) (E : Vec Ideal S256x2048 .f32) (A3 : FVec Ideal S2048x2048 .f32) (A4 : FVec Ideal S2048x2048 .f32) (i : Fin 256) (p k : Fin 2048)
    (hD : ∀ k, D (ix2 i k) = A3 (ix2 p k)) (hE : ∀ k, E (ix2 i k) = A4 (ix2 p k)) :
    k0_pay6 D E (ix2 i k) = want5 A3 A4 (ix2 p k) := by
  pointwise [k0_pay1, k0_pay2, k0_pay3, k0_pay4, k0_pay5, k0_pay6, k0_pay7, k0_pay8, k0_pay9, want5]
  simp only [hD, hE]

/-- What point `t` leaves in the window. -/
theorem left5 (c : Dev nD) (t : Fin cfg0.N) : (outsAt0 m c t.val t.isLt).1 = k0_pay6 (iblk m c 3 t) (iblk m c 4 t) := by
  by_cases h0 : t.val % 8 = 0
  · rw [outsAt0_A m c t h0]; frame_out
  · rw [outsAt0_B m c t h0]; frame_out

/-- After the run the result array is the gradient of the residual stream. -/
theorem result5 (c : Dev nD) : (dats m 0 c).arrAt 5 (cfgs 0).N = want5 (m ((c : Thread nD τ).loc main_arg3)) (m ((c : Thread nD τ).loc main_arg4)) := by
  refine (dats m 0 c).arrAt_eq_of_covers 5 _ (by decide +kernel) fun t _ y => ?_
  blk_simp
  rw [after0_5, left5]
  have hy : y = ix2 (y 0) (y 1) := funext fun a => by match a with | 0 => rfl | 1 => rfl
  have hj : ((cfg0.win 5).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at5 _ _ _ _ (y 0) _ (y 1) ?_ ?_
  all_goals intro k; blk_point [iblk, V, idx t]

/-- An entry of a block's rows is the reference's, when the blocks' rows are the arrays'. -/
theorem at6 (X : Vec Ideal S256x2048 .f32) (G : Vec Ideal S1x2048 .f32) (D : Vec Ideal S256x2048 .f32) (E : Vec Ideal S256x2048 .f32) (A1 : FVec Ideal S2048x2048 .f32) (A2 : FVec Ideal S1x2048 .f32) (A3 : FVec Ideal S2048x2048 .f32) (A4 : FVec Ideal S2048x2048 .f32) (i : Fin 256) (p k : Fin 2048)
    (hX : ∀ k, X (ix2 i k) = A1 (ix2 p k)) (hG : ∀ k, G (ix2 0 k) = A2 (ix2 0 k)) (hD : ∀ k, D (ix2 i k) = A3 (ix2 p k)) (hE : ∀ k, E (ix2 i k) = A4 (ix2 p k)) :
    k0_pay1 (k0_pay9 X G D E) (ix2 i k) = want6 A1 A2 A3 A4 (ix2 p k) := by
  pointwise [k0_pay1, k0_pay2, k0_pay3, k0_pay4, k0_pay5, k0_pay6, k0_pay7, k0_pay8, k0_pay9, want6]
  simp only [hX, hG, hD, hE]

/-- What point `t` leaves in the window. -/
theorem left6 (c : Dev nD) (t : Fin cfg0.N) : (outsAt0 m c t.val t.isLt).2.1 = k0_pay1 (k0_pay9 (iblk m c 1 t) (iblk m c 2 t) (iblk m c 3 t) (iblk m c 4 t)) := by
  by_cases h0 : t.val % 8 = 0
  · rw [outsAt0_A m c t h0]; frame_out
  · rw [outsAt0_B m c t h0]; frame_out

/-- After the run the result array is the gradient of the layer's product. -/
theorem result6 (c : Dev nD) : (dats m 0 c).arrAt 6 (cfgs 0).N = want6 (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, left6]
  have hy : y = ix2 (y 0) (y 1) := funext fun a => by match a with | 0 => rfl | 1 => rfl
  have hj : ((cfg0.win 6).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at6 _ _ _ _ _ _ _ _ (y 0) _ (y 1) ?_ ?_ ?_ ?_
  all_goals intro k; blk_point [iblk, V, idx t]

/-- A point adds its rows' part of the gain's gradient. -/
theorem add7 (acc : Vec Ideal S1x2048 .f32) (X : Vec Ideal S256x2048 .f32) (D : Vec Ideal S256x2048 .f32) (E : Vec Ideal S256x2048 .f32) (y : S1x2048.Idx) : k0_pay3 (k0_pay8 X D E) acc y
    = acc y + ∑ r : Fin 256, X (ix2 r (y 1)) * scale (fun k => X (ix2 r k)) * (D (ix2 r (y 1)) + E (ix2 r (y 1))) := by
  pointwise [k0_pay1, k0_pay2, k0_pay3, k0_pay4, k0_pay5, k0_pay6, k0_pay7, k0_pay8, k0_pay9, scale]

/-- The first point starts from zero. -/
theorem zero7 (y : S1x2048.Idx) : k0_pay2 (F := Ideal) y = 0 := by
  pointwise [k0_pay2]

/-- After the run the result array is the gradient of the gain. -/
theorem result7 (c : Dev nD) : (dats m 0 c).arrAt 7 (cfgs 0).N = want7 (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2) 8 (fun _ => 0) _
    (fun t h j => by rw [outsAt0_A m c t h]; frame_out; rw [add7, zero7])
    (fun t h j => by rw [outsAt0_B m c t (by omega)]; frame_out; rw [add7])
    t ((flush0_7 t).mp hf) _, zero_add]
  pointwise [want7]
  refine Fin.sum_mul_add_congr fun s k hl => ?_
  have hp := Pipeline.run_point_lt_of_flush t ((flush0_7 t).mp hf) s
  have hX : ∀ a, iblk m c 1 ⟨_, hp⟩ (ix2 k a) = m ((c : Thread nD τ).loc main_arg1) (ix2 ⟨s.val * 256 + k.val, hl⟩ a) := fun a => by
    blk_point [iblk, V, idx ⟨_, hp⟩]
  have hD : ∀ a, iblk m c 3 ⟨_, hp⟩ (ix2 k a) = m ((c : Thread nD τ).loc main_arg3) (ix2 ⟨s.val * 256 + k.val, hl⟩ a) := fun a => by
    blk_point [iblk, V, idx ⟨_, hp⟩]
  have hE : ∀ a, iblk m c 4 ⟨_, hp⟩ (ix2 k a) = m ((c : Thread nD τ).loc main_arg4) (ix2 ⟨s.val * 256 + k.val, hl⟩ a) := fun a => by
    blk_point [iblk, V, idx ⟨_, hp⟩]
  simp only [scale, hX, hD, hE]
  blk_point [iblk, V, idx t, idx ⟨_, hp⟩]

end Cert.Kernel26Ideal.Value

end
-- ==== Proof.Local.Scalars.lean ====
module

public import Idealize.ShloMosaic.Lib.Pipeline.ValueKit

/-! Identities between extended reals that the gates, the norms and the loss use. -/

@[expose] public section

noncomputable section

namespace Cert.Proof.Local

open Idealize.ShloMosaic

/-- The word of three. -/
theorem ofBits_three : Ideal.ofBits .f32 1077936128#32 = ((3 : ℝ) : EReal) := by
  simp [Ideal.ofBits, Ideal.ieee]
  rw [← EReal.coe_mul]
  norm_num

/-- Three times a number is its sum with itself twice. -/
theorem three_mul (q : EReal) : q * Ideal.ofBits .f32 1077936128#32 = q + q + q := by
  rw [ofBits_three]
  induction q with
  | bot => simp [EReal.bot_mul_coe_of_pos]
  | top => simp [EReal.top_mul_coe_of_pos]
  | coe r => norm_cast; ring

/-- The same with the factor three inside a product. -/
theorem mul_three_mul (p q : EReal) : p * (Ideal.ofBits .f32 1077936128#32 * q) = p * q + p * q + p * q := by
  rw [← three_mul]; ac_rfl

/-- The logistic function's derivative, through the reciprocal and through the function itself. -/
theorem sigmoid_slope (x : EReal) :
    Ideal.div 1 ((1 + Ideal.exp (-x)) * (1 + Ideal.exp (-x))) * Ideal.exp (-x)
      = Ideal.div 1 (1 + Ideal.exp (-x)) * (1 - Ideal.div 1 (1 + Ideal.exp (-x))) := by
  induction x with
  | bot =>
    have e : Ideal.exp (-⊥) = ⊤ := rfl
    have h : (1 : EReal) + ⊤ = ⊤ := rfl
    simp [e, h, Ideal.div]
  | top =>
    have e : Ideal.exp (-⊤) = 0 := rfl
    have h : (1 : EReal) - 1 = 0 := by
      rw [← EReal.coe_one, ← EReal.coe_sub, sub_self, EReal.coe_zero]
    simp [e, Ideal.div, h]
  | coe r =>
    have e : Ideal.exp (-(r : EReal)) = ((Real.exp (-r) : ℝ) : EReal) := rfl
    have hp : 0 < Real.exp (-r) := Real.exp_pos _
    have h1 : (1 : EReal) + ((Real.exp (-r) : ℝ) : EReal) = ((1 + Real.exp (-r) : ℝ) : EReal) := by norm_cast
    rw [e, h1, ← EReal.coe_mul, Ideal.div_coe (by positivity), Ideal.div_coe (by positivity), one_mul, one_mul]
    norm_cast
    field_simp
    ring

/-- The same under a factor, as the reciprocal's gradient is written. -/
theorem sigmoid_grad (z x : EReal) :
    -(-(z * Ideal.div 1 ((1 + Ideal.exp (-x)) * (1 + Ideal.exp (-x)))) * Ideal.exp (-x))
      = z * (Ideal.div 1 (1 + Ideal.exp (-x)) * (1 - Ideal.div 1 (1 + Ideal.exp (-x)))) := by
  rw [neg_mul, neg_neg, mul_assoc, sigmoid_slope]

end Cert.Proof.Local

end
-- ==== Proof.Local.FirstPleBackward.lean ====
module

public import proofs.«01_k».proof.Proof.Gen.Kernel27Ideal.Value
public import proofs.«01_k».proof.Proof.Gen.Reference27Ideal.Run
public import Idealize.ShloMosaic.Lib.Pipeline.ValueKit
public import proofs.«01_k».proof.Proof.Local.Scalars

/-! Kernel27 computes the gradient of the per-layer embedding step after the first layer and of the norm that follows it: its results are what the reference computes. -/

@[expose] public section

set_option maxRecDepth 16384

noncomputable section

namespace Cert.Reference27Ideal.Gen

open Cert.Reference27Ideal Idealize.ShloMosaic

/-- The gate times the embedding. -/
def _root_.Cert.Kernel27Ideal.Value.gated (A1 A2 : FVec Ideal Cert.Kernel27Ideal.S2048x2048 .f32) : FVec Ideal Cert.Kernel27Ideal.S2048x2048 .f32 :=
  mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2

open Cert.Kernel27Ideal.Value in
/-- The residual stream after the per-layer embedding. -/
def _root_.Cert.Kernel27Ideal.Value.hidden (A0 A1 A2 : FVec Ideal Cert.Kernel27Ideal.S2048x2048 .f32) (A3 : FVec Ideal Cert.Kernel27Ideal.S1x2048 .f32) : FVec Ideal Cert.Kernel27Ideal.S2048x2048 .f32 :=
  addf A0 (mulf (mulf (gated A1 A2) (broadcastInDim S2048x2048 ![0, 1] bcast_S2048x1_S2048x2048_0_1 (Host.rsqrt (addf (Host.divf (broadcastInDim S2048x1 ![0] bcast_S2048_S2048x1_0 (Host.reduceAdd (mulf (gated A1 A2) (gated A1 A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3))

open Cert.Kernel27Ideal.Value in
/-- What the reference computes: the gradient of the residual stream. -/
def _root_.Cert.Kernel27Ideal.Value.want7 (A0 : FVec Ideal Cert.Kernel27Ideal.S2048x2048 .f32) (A1 : FVec Ideal Cert.Kernel27Ideal.S2048x2048 .f32) (A2 : FVec Ideal Cert.Kernel27Ideal.S2048x2048 .f32) (A3 : FVec Ideal Cert.Kernel27Ideal.S1x2048 .f32) (A4 : FVec Ideal Cert.Kernel27Ideal.S1x2048 .f32) (A5 : FVec Ideal Cert.Kernel27Ideal.S2048x2048 .f32) (A6 : FVec Ideal Cert.Kernel27Ideal.S2048x2048 .f32) : FVec Ideal Cert.Kernel27Ideal.S2048x2048 .f32 :=
  addf (addf (addf A5 (mulf (mulf A6 (broadcastInDim S2048x2048 ![0, 1] bcast_S1x2048_S2048x2048_0_1 A4)) (broadcastInDim S2048x2048 ![0, 1] bcast_S2048x1_S2048x2048_0_1 (Host.rsqrt (addf (Host.divf (broadcastInDim S2048x1 ![0] bcast_S2048_S2048x1_0 (Host.reduceAdd (mulf (hidden A0 A1 A2 A3) (hidden A0 A1 A2 A3)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf (hidden A0 A1 A2 A3) (broadcastInDim S2048x2048 ![0] bcast_S2048_S2048x2048_0 (Host.reduceAdd (Host.divf (mulf (shapeCast _ (Host.reduceAdd (mulf (hidden A0 A1 A2 A3) (mulf A6 (broadcastInDim S2048x2048 ![0, 1] bcast_S1x2048_S2048x2048_0_1 A4))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (hidden A0 A1 A2 A3) (hidden A0 A1 A2 A3)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (hidden A0 A1 A2 A3) (hidden A0 A1 A2 A3)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (hidden A0 A1 A2 A3) (mulf A6 (broadcastInDim S2048x2048 ![0, 1] bcast_S1x2048_S2048x2048_0_1 A4))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (hidden A0 A1 A2 A3) (hidden A0 A1 A2 A3)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (hidden A0 A1 A2 A3) (hidden A0 A1 A2 A3)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (hidden A0 A1 A2 A3))

open Cert.Kernel27Ideal.Value in
/-- What the reference computes: the gradient of the embedding's gain. -/
def _root_.Cert.Kernel27Ideal.Value.want10 (A0 : FVec Ideal Cert.Kernel27Ideal.S2048x2048 .f32) (A1 : FVec Ideal Cert.Kernel27Ideal.S2048x2048 .f32) (A2 : FVec Ideal Cert.Kernel27Ideal.S2048x2048 .f32) (A3 : FVec Ideal Cert.Kernel27Ideal.S1x2048 .f32) (A4 : FVec Ideal Cert.Kernel27Ideal.S1x2048 .f32) (A5 : FVec Ideal Cert.Kernel27Ideal.S2048x2048 .f32) (A6 : FVec Ideal Cert.Kernel27Ideal.S2048x2048 .f32) : FVec Ideal Cert.Kernel27Ideal.S1x2048 .f32 :=
  shapeCast _ (Host.reduceAdd (mulf (mulf (gated A1 A2) (broadcastInDim S2048x2048 ![0, 1] bcast_S2048x1_S2048x2048_0_1 (Host.rsqrt (addf (Host.divf (broadcastInDim S2048x1 ![0] bcast_S2048_S2048x1_0 (Host.reduceAdd (mulf (gated A1 A2) (gated A1 A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (shapeCast _ (want7 A0 A1 A2 A3 A4 A5 A6) shapeCasts_S2048x2048_S2048x2048)) (constant S_ .f32 0x00000000#32) reducesTo_S2048x2048_S2048_d0 h_S_) shapeCasts_S2048_S1x2048

open Cert.Kernel27Ideal.Value in
/-- What the reference computes: the gradient of the next norm's gain. -/
def _root_.Cert.Kernel27Ideal.Value.want11 (A0 : FVec Ideal Cert.Kernel27Ideal.S2048x2048 .f32) (A1 : FVec Ideal Cert.Kernel27Ideal.S2048x2048 .f32) (A2 : FVec Ideal Cert.Kernel27Ideal.S2048x2048 .f32) (A3 : FVec Ideal Cert.Kernel27Ideal.S1x2048 .f32) (A6 : FVec Ideal Cert.Kernel27Ideal.S2048x2048 .f32) : FVec Ideal Cert.Kernel27Ideal.S1x2048 .f32 :=
  shapeCast _ (Host.reduceAdd (mulf (mulf (hidden A0 A1 A2 A3) (broadcastInDim S2048x2048 ![0, 1] bcast_S2048x1_S2048x2048_0_1 (Host.rsqrt (addf (Host.divf (broadcastInDim S2048x1 ![0] bcast_S2048_S2048x1_0 (Host.reduceAdd (mulf (hidden A0 A1 A2 A3) (hidden A0 A1 A2 A3)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) A6) (constant S_ .f32 0x00000000#32) reducesTo_S2048x2048_S2048_d0 h_S_) shapeCasts_S2048_S1x2048

end Cert.Reference27Ideal.Gen

namespace Cert.Kernel27Ideal.Value

open Cert.Kernel27Ideal Cert.Kernel27Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The reciprocal of a row's root mean square. -/
def scale (x : Fin 2048 → EReal) : EReal :=
  Ideal.rsqrt (Ideal.div (∑ k, x k * x k) (Ideal.ofBits .f32 1157627904#32) + Ideal.ofBits .f32 897988541#32)

/-- An entry of a block's rows is the reference's, when the blocks' rows are the arrays'. -/
theorem at7 (H : Vec Ideal S256x2048 .f32) (T : Vec Ideal S256x2048 .f32) (E : Vec Ideal S256x2048 .f32) (G : Vec Ideal S1x2048 .f32) (Q : Vec Ideal S1x2048 .f32) (D : Vec Ideal S256x2048 .f32) (N : Vec Ideal S256x2048 .f32) (A0 : FVec Ideal S2048x2048 .f32) (A1 : FVec Ideal S2048x2048 .f32) (A2 : FVec Ideal S2048x2048 .f32) (A3 : FVec Ideal S1x2048 .f32) (A4 : FVec Ideal S1x2048 .f32) (A5 : FVec Ideal S2048x2048 .f32) (A6 : FVec Ideal S2048x2048 .f32) (i : Fin 256) (p k : Fin 2048)
    (hH : ∀ k, H (ix2 i k) = A0 (ix2 p k)) (hT : ∀ k, T (ix2 i k) = A1 (ix2 p k)) (hE : ∀ k, E (ix2 i k) = A2 (ix2 p k)) (hG : ∀ k, G (ix2 0 k) = A3 (ix2 0 k)) (hQ : ∀ k, Q (ix2 0 k) = A4 (ix2 0 k)) (hD : ∀ k, D (ix2 i k) = A5 (ix2 p k)) (hN : ∀ k, N (ix2 i k) = A6 (ix2 p k)) :
    k0_pay22 Q D N (k0_pay17 H T E G) (k0_pay18 H T E G) (ix2 i k) = want7 A0 A1 A2 A3 A4 A5 A6 (ix2 p k) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, want7, gated, hidden, zero_sub]
  simp only [hH, hT, hE, hG, hQ, hD, hN]

/-- What point `t` leaves in the window. -/
theorem left7 (c : Dev nD) (t : Fin cfg0.N) : (outsAt0 m c t.val t.isLt).1 = k0_pay22 (iblk m c 4 t) (iblk m c 5 t) (iblk m c 6 t) (k0_pay17 (iblk m c 0 t) (iblk m c 1 t) (iblk m c 2 t) (iblk m c 3 t)) (k0_pay18 (iblk m c 0 t) (iblk m c 1 t) (iblk m c 2 t) (iblk m c 3 t)) := by
  by_cases h0 : t.val % 8 = 0
  · rw [outsAt0_A m c t h0]; frame_out
  · rw [outsAt0_B m c t h0]; frame_out

/-- After the run the result array is the gradient of the residual stream. -/
theorem result7 (c : Dev nD) : (dats m 0 c).arrAt 7 (cfgs 0).N = want7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, left7]
  have hy : y = ix2 (y 0) (y 1) := funext fun a => by match a with | 0 => rfl | 1 => rfl
  have hj : ((cfg0.win 7).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at7 _ _ _ _ _ _ _ _ _ _ _ _ _ _ (y 0) _ (y 1) ?_ ?_ ?_ ?_ ?_ ?_ ?_
  all_goals intro k; blk_point [iblk, V, idx t]

/-- A point adds its rows' part of the gain's gradient. -/
theorem add10 (acc : Vec Ideal S1x2048 .f32) (H : Vec Ideal S256x2048 .f32) (T : Vec Ideal S256x2048 .f32) (E : Vec Ideal S256x2048 .f32) (G : Vec Ideal S1x2048 .f32) (Q : Vec Ideal S1x2048 .f32) (D : Vec Ideal S256x2048 .f32) (N : Vec Ideal S256x2048 .f32) (y : S1x2048.Idx) : k0_pay6 (k0_pay24 Q D N (k0_pay16 T E) (k0_pay17 H T E G) (k0_pay18 H T E G)) acc y
    = acc y + ∑ r : Fin 256, k0_pay16 T E (ix2 r (y 1)) * k0_pay22 Q D N (k0_pay17 H T E G) (k0_pay18 H T E G) (ix2 r (y 1)) := by
  pointwise [k0_pay6, k0_pay24, k0_pay23, scale]

/-- The first point starts from zero. -/
theorem zero10 (y : S1x2048.Idx) : k0_pay4 (F := Ideal) y = 0 := by
  pointwise [k0_pay4]

/-- After the run the result array is the gradient of the embedding's gain. -/
theorem result10 (c : Dev nD) : (dats m 0 c).arrAt 10 (cfgs 0).N = want10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 8 (fun _ => 0) _
    (fun t h j => by rw [outsAt0_A m c t h]; frame_out; rw [add10, zero10])
    (fun t h j => by rw [outsAt0_B m c t (by omega)]; frame_out; rw [add10])
    t ((flush0_10 t).mp hf) _, zero_add]
  pointwise [want10]
  refine Fin.sum_mul_add_congr fun s k hl => ?_
  have hp := Pipeline.run_point_lt_of_flush t ((flush0_10 t).mp hf) s
  have hH : ∀ a, iblk m c 0 ⟨_, hp⟩ (ix2 k a) = m ((c : Thread nD τ).loc main_arg0) (ix2 ⟨s.val * 256 + k.val, hl⟩ a) := fun a => by
    blk_point [iblk, V, idx ⟨_, hp⟩]
  have hT : ∀ a, iblk m c 1 ⟨_, hp⟩ (ix2 k a) = m ((c : Thread nD τ).loc main_arg1) (ix2 ⟨s.val * 256 + k.val, hl⟩ a) := fun a => by
    blk_point [iblk, V, idx ⟨_, hp⟩]
  have hE : ∀ a, iblk m c 2 ⟨_, hp⟩ (ix2 k a) = m ((c : Thread nD τ).loc main_arg2) (ix2 ⟨s.val * 256 + k.val, hl⟩ a) := fun a => by
    blk_point [iblk, V, idx ⟨_, hp⟩]
  have hD : ∀ a, iblk m c 5 ⟨_, hp⟩ (ix2 k a) = m ((c : Thread nD τ).loc main_arg5) (ix2 ⟨s.val * 256 + k.val, hl⟩ a) := fun a => by
    blk_point [iblk, V, idx ⟨_, hp⟩]
  have hN : ∀ a, iblk m c 6 ⟨_, hp⟩ (ix2 k a) = m ((c : Thread nD τ).loc main_arg6) (ix2 ⟨s.val * 256 + k.val, hl⟩ a) := fun a => by
    blk_point [iblk, V, idx ⟨_, hp⟩]
  have hG : ∀ a, iblk m c 3 ⟨_, hp⟩ (ix2 0 a) = m ((c : Thread nD τ).loc main_arg3) (ix2 0 a) := fun a => by
    blk_point [iblk, V, idx ⟨_, hp⟩]
  have hQ : ∀ a, iblk m c 4 ⟨_, hp⟩ (ix2 0 a) = m ((c : Thread nD τ).loc main_arg4) (ix2 0 a) := fun a => by
    blk_point [iblk, V, idx ⟨_, hp⟩]
  refine (congrArg (fun z => _ * z) (at7 _ _ _ _ _ _ _ _ _ _ _ _ _ _ k _ _ hH hT hE hG hQ hD hN)).trans ?_
  pointwise [k0_pay16, k0_pay14, k0_pay13, k0_pay12, k0_pay10, k0_pay9, k0_pay8, gated, zero_sub]
  simp only [hT, hE]
  blk_point [iblk, V, idx t, idx ⟨_, hp⟩]

/-- A point adds its rows' part of the gain's gradient. -/
theorem add11 (acc : Vec Ideal S1x2048 .f32) (H : Vec Ideal S256x2048 .f32) (T : Vec Ideal S256x2048 .f32) (E : Vec Ideal S256x2048 .f32) (G : Vec Ideal S1x2048 .f32) (N : Vec Ideal S256x2048 .f32) (y : S1x2048.Idx) : k0_pay7 (k0_pay21 N (k0_pay17 H T E G) (k0_pay18 H T E G)) acc y
    = acc y + ∑ r : Fin 256, (k0_pay17 H T E G (ix2 r (y 1)) * k0_pay20 (k0_pay18 H T E G) (ix2 r 0)) * N (ix2 r (y 1)) := by
  pointwise [k0_pay7, k0_pay21, scale]

/-- The first point starts from zero. -/
theorem zero11 (y : S1x2048.Idx) : k0_pay5 (F := Ideal) y = 0 := by
  pointwise [k0_pay5]

/-- After the run the result array is the gradient of the next norm's gain. -/
theorem result11 (c : Dev nD) : (dats m 0 c).arrAt 11 (cfgs 0).N = want11 (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 11 _ (by decide +kernel) fun t hf y => ?_
  blk_simp
  rw [after0_11, Pipeline.eq_sum_fin_of_reset_step_apply_of_flush (fun n h => (outsAt0 m c n h).2.2.2.2) 8 (fun _ => 0) _
    (fun t h j => by rw [outsAt0_A m c t h]; frame_out; rw [add11, zero11])
    (fun t h j => by rw [outsAt0_B m c t (by omega)]; frame_out; rw [add11])
    t ((flush0_11 t).mp hf) _, zero_add]
  pointwise [want11]
  refine Fin.sum_mul_add_congr fun s k hl => ?_
  have hp := Pipeline.run_point_lt_of_flush t ((flush0_11 t).mp hf) s
  have hH : ∀ a, iblk m c 0 ⟨_, hp⟩ (ix2 k a) = m ((c : Thread nD τ).loc main_arg0) (ix2 ⟨s.val * 256 + k.val, hl⟩ a) := fun a => by
    blk_point [iblk, V, idx ⟨_, hp⟩]
  have hT : ∀ a, iblk m c 1 ⟨_, hp⟩ (ix2 k a) = m ((c : Thread nD τ).loc main_arg1) (ix2 ⟨s.val * 256 + k.val, hl⟩ a) := fun a => by
    blk_point [iblk, V, idx ⟨_, hp⟩]
  have hE : ∀ a, iblk m c 2 ⟨_, hp⟩ (ix2 k a) = m ((c : Thread nD τ).loc main_arg2) (ix2 ⟨s.val * 256 + k.val, hl⟩ a) := fun a => by
    blk_point [iblk, V, idx ⟨_, hp⟩]
  have hN : ∀ a, iblk m c 6 ⟨_, hp⟩ (ix2 k a) = m ((c : Thread nD τ).loc main_arg6) (ix2 ⟨s.val * 256 + k.val, hl⟩ a) := fun a => by
    blk_point [iblk, V, idx ⟨_, hp⟩]
  have hG : ∀ a, iblk m c 3 ⟨_, hp⟩ (ix2 0 a) = m ((c : Thread nD τ).loc main_arg3) (ix2 0 a) := fun a => by
    blk_point [iblk, V, idx ⟨_, hp⟩]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, gated, hidden, zero_sub]
  simp only [hH, hT, hE, hG, hN]
  blk_point [iblk, V, idx t, idx ⟨_, hp⟩]

end Cert.Kernel27Ideal.Value

end
-- ==== Proof.Local.SwigluBackward.lean ====
module

public import proofs.«01_k».proof.Proof.Gen.Kernel28Ideal.Value
public import proofs.«01_k».proof.Proof.Gen.Reference28Ideal.Run
public import Idealize.ShloMosaic.Lib.Pipeline.ValueKit
public import proofs.«01_k».proof.Proof.Local.Scalars

/-! Kernel28 computes the gradient of the gated unit: its results are what the reference computes. -/

@[expose] public section

set_option maxRecDepth 16384

noncomputable section

namespace Cert.Reference28Ideal.Gen

open Cert.Reference28Ideal Idealize.ShloMosaic

/-- What the reference computes: the gradient. -/
def _root_.Cert.Kernel28Ideal.Value.want3 (A0 : FVec Ideal Cert.Kernel28Ideal.S2048x11264 .f32) (A1 : FVec Ideal Cert.Kernel28Ideal.S2048x5632 .f32) : FVec Ideal Cert.Kernel28Ideal.S2048x11264 .bf16 :=
  truncf .bf16 (concatenate S2048x11264 1 [⟨S2048x5632, (addf (mulf (mulf A1 (extractStridedSlice S2048x5632 ![0, 5632] A0 slices_S2048x11264_S2048x5632_0_5632)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] A0 slices_S2048x11264_S2048x5632_0_0)))))) (mulf (mulf (extractStridedSlice S2048x5632 ![0, 0] A0 slices_S2048x11264_S2048x5632_0_0) (mulf A1 (extractStridedSlice S2048x5632 ![0, 5632] A0 slices_S2048x11264_S2048x5632_0_5632))) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] A0 slices_S2048x11264_S2048x5632_0_0))))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] A0 slices_S2048x11264_S2048x5632_0_0)))))))))⟩, ⟨S2048x5632, (mulf (mulf (extractStridedSlice S2048x5632 ![0, 0] A0 slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] A0 slices_S2048x11264_S2048x5632_0_0)))))) A1)⟩] concatenates_S2048x5632_S2048x5632_S2048x11264_d1) bitsLt_bf16_f32

end Cert.Reference28Ideal.Gen

namespace Cert.Kernel28Ideal.Value

open Cert.Kernel28Ideal Cert.Kernel28Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 1] ∧ win0_2.index t = ![t.val, 0] ∧ win0_3.index t = ![t.val, 0] :=
  (by decide +kernel : ∀ t : Fin grid0.N, _)

/-- An entry of the block's left half is the reference's, when the blocks' entries are the arrays'. -/
theorem left (X U D : Vec Ideal S128x5632 .f32) (A0 : FVec Ideal S2048x11264 .f32) (A1 : FVec Ideal S2048x5632 .f32) (x : S128x5632.Idx) (j : S2048x11264.Idx)
    (hj : (j 1).val < 5632) (hX : X x = A0 j) (hU : ∀ h, U x = A0 (ix2 (j 0) (⟨5632 + (j 1).val, h⟩ : Fin 11264)))
    (hD : ∀ h, D x = A1 (ix2 (j 0) (⟨(j 1).val, h⟩ : Fin 5632))) : k0_pay4 X U D x = want3 A0 A1 j := by
  pointwise [k0_pay1, k0_pay2, k0_pay3, k0_pay4, k0_pay5, want3, zero_sub]
  rw [dif_pos hj, hX, hU (by omega), hD hj, Cert.Proof.Local.sigmoid_grad]

/-- An entry of the block's right half likewise. -/
theorem right (X D : Vec Ideal S128x5632 .f32) (A0 : FVec Ideal S2048x11264 .f32) (A1 : FVec Ideal S2048x5632 .f32) (x : S128x5632.Idx) (j : S2048x11264.Idx)
    (hj : ¬ (j 1).val < 5632) (hX : ∀ h, X x = A0 (ix2 (j 0) (⟨(j 1).val - 5632, h⟩ : Fin 11264)))
    (hD : ∀ h, D x = A1 (ix2 (j 0) (⟨(j 1).val - 5632, h⟩ : Fin 5632))) : k0_pay5 X D x = want3 A0 A1 j := by
  have h1 : (j 1).val < 11264 := (j 1).isLt
  pointwise [k0_pay1, k0_pay2, k0_pay3, k0_pay4, k0_pay5, want3, zero_sub]
  rw [dif_neg hj, hX (by omega), hD (by omega)]

/-- After the run the result array is the gradient. -/
theorem result3 (c : Dev nD) : (dats m 0 c).arrAt 3 (cfgs 0).N = want3 (m ((c : Thread nD τ).loc main_arg0)) (m ((c : Thread nD τ).loc main_arg1)) := by
  refine (dats m 0 c).arrAt_eq_of_covers 3 _ (by decide +kernel) fun t _ y => ?_
  blk_simp
  rw [after0_3]
  canon_tiles x h
  · refine right _ _ _ _ x _ ?_ (fun h => ?_) (fun h => ?_)
    · blk_simp [idx t]; omega
    · pointwise; blk_point [iblk, V, idx t, h0, h1]
    · pointwise; blk_point [iblk, V, idx t, h0, h1]
  · refine left _ _ _ _ _ x _ ?_ ?_ (fun h => ?_) (fun h => ?_)
    · blk_simp [idx t]; omega
    · pointwise; blk_point [iblk, V, idx t, h0, h1]
    · pointwise; blk_point [iblk, V, idx t, h0, h1]
    · pointwise; blk_point [iblk, V, idx t, h0, h1]

end Cert.Kernel28Ideal.Value

end
-- ==== Proof.Local.RgOutBackward.lean ====
module

public import proofs.«01_k».proof.Proof.Gen.Kernel29Ideal.Value
public import proofs.«01_k».proof.Proof.Gen.Reference29Ideal.Run
public import Idealize.ShloMosaic.Lib.Pipeline.ValueKit
public import proofs.«01_k».proof.Proof.Local.Scalars

/-! Kernel29 computes the gradient of the output gate of the recurrent mixer: its results are what the reference computes. -/

@[expose] public section

set_option maxRecDepth 16384

noncomputable section

namespace Cert.Reference29Ideal.Gen

open Cert.Reference29Ideal Idealize.ShloMosaic

/-- What the reference computes: the gradient of the gate. -/
def _root_.Cert.Kernel29Ideal.Value.want3 (A0 : FVec Ideal Cert.Kernel29Ideal.S2048x5632 .f32) (A1 : FVec Ideal Cert.Kernel29Ideal.S2048x2816 .f32) (A2 : FVec Ideal Cert.Kernel29Ideal.S2048x2816 .f32) : FVec Ideal Cert.Kernel29Ideal.S2048x2816 .bf16 :=
  truncf .bf16 (addf (addf (mulf (mulf A2 A1) (mulf (broadcastInDim S2048x2816 ![] bcast_S_S2048x2816 (constant S_ .f32 0x3F000000#32)) (addf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))))) (mulf (broadcastInDim S2048x2816 ![] bcast_S_S2048x2816 (constant S_ .f32 0x3F4C422A#32)) (mulf (mulf (broadcastInDim S2048x2816 ![] bcast_S_S2048x2816 (constant S_ .f32 0x3F000000#32)) (mulf (extractStridedSlice S2048x2816 ![0, 0] A0 slices_S2048x5632_S2048x2816_0_0) (mulf A2 A1))) (mulf (addf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))) (subf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))))))) (mulf (mulf (broadcastInDim S2048x2816 ![] bcast_S_S2048x2816 (constant S_ .f32 0x3D372713#32)) (mulf (broadcastInDim S2048x2816 ![] bcast_S_S2048x2816 (constant S_ .f32 0x3F4C422A#32)) (mulf (mulf (broadcastInDim S2048x2816 ![] bcast_S_S2048x2816 (constant S_ .f32 0x3F000000#32)) (mulf (extractStridedSlice S2048x2816 ![0, 0] A0 slices_S2048x5632_S2048x2816_0_0) (mulf A2 A1))) (mulf (addf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))) (subf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))))))) (mulf (broadcastInDim S2048x2816 ![] bcast_S_S2048x2816 (constant S_ .f32 0x40400000#32)) (mulf (extractStridedSlice S2048x2816 ![0, 0] A0 slices_S2048x5632_S2048x2816_0_0) (extractStridedSlice S2048x2816 ![0, 0] A0 slices_S2048x5632_S2048x2816_0_0))))) bitsLt_bf16_f32

/-- What the reference computes: the gradient of the states. -/
def _root_.Cert.Kernel29Ideal.Value.want4 (A0 : FVec Ideal Cert.Kernel29Ideal.S2048x5632 .f32) (A2 : FVec Ideal Cert.Kernel29Ideal.S2048x2816 .f32) : FVec Ideal Cert.Kernel29Ideal.S2048x2816 .f32 :=
  mulf (mulf (extractStridedSlice S2048x2816 ![0, 0] A0 slices_S2048x5632_S2048x2816_0_0) (mulf (broadcastInDim S2048x2816 ![] bcast_S_S2048x2816 (constant S_ .f32 0x3F000000#32)) (addf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))))) A2

end Cert.Reference29Ideal.Gen

namespace Cert.Kernel29Ideal.Value

open Cert.Kernel29Ideal Cert.Kernel29Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- An entry of the block's first result is the reference's, when the blocks' entries are the arrays'. -/
theorem at3 (X H D : Vec Ideal S128x2816 .f32) (A0 : FVec Ideal S2048x5632 .f32) (A1 A2 : FVec Ideal S2048x2816 .f32) (y : S128x2816.Idx) (j : S2048x2816.Idx)
    (hX : X y = A0 (ix2 (j 0) (⟨(j 1).val, lt_of_lt_of_le (j 1).isLt (by decide)⟩ : Fin 5632))) (hH : H y = A1 j) (hD : D y = A2 j) :
    k0_pay6 X H D y = want3 A0 A1 A2 j := by
  pointwise [k0_pay1, k0_pay2, k0_pay3, k0_pay4, k0_pay5, k0_pay6, want3]
  rw [hX, hH, hD]
  generalize Ideal.tanh _ = T
  generalize (1 + T) * (1 - T) = s
  generalize 1 + T = T'
  generalize A0 _ = x
  generalize A1 _ = h
  generalize A2 _ = d
  rw [Cert.Proof.Local.mul_three_mul]
  ac_nf

/-- An entry of the block's second result likewise. -/
theorem at4 (X D : Vec Ideal S128x2816 .f32) (A0 : FVec Ideal S2048x5632 .f32) (A2 : FVec Ideal S2048x2816 .f32) (y : S128x2816.Idx) (j : S2048x2816.Idx)
    (hX : X y = A0 (ix2 (j 0) (⟨(j 1).val, lt_of_lt_of_le (j 1).isLt (by decide)⟩ : Fin 5632))) (hD : D y = A2 j) :
    k0_pay5 X D y = want4 A0 A2 j := by
  pointwise [k0_pay1, k0_pay2, k0_pay3, k0_pay4, k0_pay5, k0_pay6, want4]
  rw [hX, hD, mul_left_comm (A0 _) (Ideal.ofBits .f32 1056964608#32), ← mul_assoc (Ideal.ofBits .f32 1056964608#32)]

/-- After the run the result array is the gradient of the gate. -/
theorem result3 (c : Dev nD) : (dats m 0 c).arrAt 3 (cfgs 0).N = want3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine at3 _ _ _ _ _ _ y _ ?_ ?_ ?_
  all_goals blk_point [iblk, V, idx t]

/-- After the run the result array is the gradient of the states. -/
theorem result4 (c : Dev nD) : (dats m 0 c).arrAt 4 (cfgs 0).N = want4 (m ((c : Thread nD τ).loc main_arg0)) (m ((c : Thread nD τ).loc main_arg2)) := by
  refine (dats m 0 c).arrAt_eq_of_covers 4 _ (by decide +kernel) fun t _ y => ?_
  blk_simp
  rw [after0_4]; frame_out
  refine at4 _ _ _ _ y _ ?_ ?_
  all_goals blk_point [iblk, V, idx t]

end Cert.Kernel29Ideal.Value

end
-- ==== Proof.Local.LastPleBackward.lean ====
module

public import proofs.«01_k».proof.Proof.Gen.Kernel30Ideal.Value
public import proofs.«01_k».proof.Proof.Gen.Reference30Ideal.Run
public import Idealize.ShloMosaic.Lib.Pipeline.ValueKit
public import proofs.«01_k».proof.Proof.Local.Scalars

/-! Kernel30 computes the gradient of the per-layer embedding step after the last layer: its results are what the reference computes. -/

@[expose] public section

set_option maxRecDepth 16384

noncomputable section

namespace Cert.Reference30Ideal.Gen

open Cert.Reference30Ideal Idealize.ShloMosaic

/-- What the reference computes: the gradient of the layer's output. -/
def _root_.Cert.Kernel30Ideal.Value.want5 (A4 : FVec Ideal Cert.Kernel30Ideal.S2048x2048 .f32) : FVec Ideal Cert.Kernel30Ideal.S2048x2048 .f32 :=
  A4

/-- What the reference computes: the gradient of the gate's argument. -/
def _root_.Cert.Kernel30Ideal.Value.want6 (A1 : FVec Ideal Cert.Kernel30Ideal.S2048x2048 .f32) (A2 : FVec Ideal Cert.Kernel30Ideal.S2048x2048 .f32) (A3 : FVec Ideal Cert.Kernel30Ideal.S1x2048 .f32) (A4 : FVec Ideal Cert.Kernel30Ideal.S2048x2048 .f32) : FVec Ideal Cert.Kernel30Ideal.S2048x2048 .bf16 :=
  truncf .bf16 (mulf (mulf (addf (addf (mulf (mulf (shapeCast _ A4 shapeCasts_S2048x2048_S2048x2048) (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0] bcast_S2048_S2048x2048_0 (Host.reduceAdd (Host.divf (mulf (shapeCast _ (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (shapeCast _ A4 shapeCasts_S2048x2048_S2048x2048) (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (shapeCast _ A4 shapeCasts_S2048x2048_S2048x2048) (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) (subf (broadcastInDim S2048x2048 ![] bcast_S_S2048x2048 (constant S_ .f32 0x3F800000#32)) (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1))))))) bitsLt_bf16_f32

/-- What the reference computes: the gradient of the embedding. -/
def _root_.Cert.Kernel30Ideal.Value.want7 (A1 : FVec Ideal Cert.Kernel30Ideal.S2048x2048 .f32) (A2 : FVec Ideal Cert.Kernel30Ideal.S2048x2048 .f32) (A3 : FVec Ideal Cert.Kernel30Ideal.S1x2048 .f32) (A4 : FVec Ideal Cert.Kernel30Ideal.S2048x2048 .f32) : FVec Ideal Cert.Kernel30Ideal.S2048x2048 .bf16 :=
  truncf .bf16 (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) (addf (addf (mulf (mulf (shapeCast _ A4 shapeCasts_S2048x2048_S2048x2048) (broadcastInDim S2048x2048 ![0, 1] bcast_S1x2048_S2048x2048_0_1 A3)) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0] bcast_S2048_S2048x2048_0 (Host.reduceAdd (Host.divf (mulf (shapeCast _ (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (shapeCast _ A4 shapeCasts_S2048x2048_S2048x2048) (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (shapeCast _ A4 shapeCasts_S2048x2048_S2048x2048) (broadcastInDim S2048x2048 ![0, 1] bcast_S1x2048_S2048x2048_0_1 A3))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)))) bitsLt_bf16_f32

/-- What the reference computes: the gradient of the gain. -/
def _root_.Cert.Kernel30Ideal.Value.want8 (A1 : FVec Ideal Cert.Kernel30Ideal.S2048x2048 .f32) (A2 : FVec Ideal Cert.Kernel30Ideal.S2048x2048 .f32) (A4 : FVec Ideal Cert.Kernel30Ideal.S2048x2048 .f32) : FVec Ideal Cert.Kernel30Ideal.S1x2048 .f32 :=
  shapeCast _ (Host.reduceAdd (mulf (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (shapeCast _ A4 shapeCasts_S2048x2048_S2048x2048)) (constant S_ .f32 0x00000000#32) reducesTo_S2048x2048_S2048_d0 h_S_) shapeCasts_S2048_S1x2048

end Cert.Reference30Ideal.Gen

namespace Cert.Kernel30Ideal.Value

open Cert.Kernel30Ideal Cert.Kernel30Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![t.val, 0] ∧ win0_7.index t = ![t.val, 0] ∧ win0_8.index t = ![0, 0] :=
  (by decide +kernel : ∀ t : Fin grid0.N, _)

/-- The reciprocal of a row's root mean square. -/
def scale (x : Fin 2048 → EReal) : EReal :=
  Ideal.rsqrt (Ideal.div (∑ k, x k * x k) (Ideal.ofBits .f32 1157627904#32) + Ideal.ofBits .f32 897988541#32)

/-- The logistic function. -/
def gate (x : EReal) : EReal := Ideal.div 1 (1 + Ideal.exp (-x))

/-- An entry of a block's rows is the reference's, when the blocks' rows are the arrays'. -/
theorem at5 (D : Vec Ideal S256x2048 .f32) (A4 : FVec Ideal S2048x2048 .f32) (i : Fin 256) (p k : Fin 2048)
    (hD : ∀ k, D (ix2 i k) = A4 (ix2 p k)) :
    D (ix2 i k) = want5 A4 (ix2 p k) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, want5]
  simp only [hD]

/-- What point `t` leaves in the window. -/
theorem left5 (c : Dev nD) (t : Fin cfg0.N) : (outsAt0 m c t.val t.isLt).1 = (iblk m c 4 t) := by
  by_cases h0 : t.val % 8 = 0
  · rw [outsAt0_A m c t h0]; frame_out
  · rw [outsAt0_B m c t h0]; frame_out

/-- After the run the result array is the gradient of the layer's output. -/
theorem result5 (c : Dev nD) : (dats m 0 c).arrAt 5 (cfgs 0).N = want5 (m ((c : Thread nD τ).loc main_arg4)) := by
  refine (dats m 0 c).arrAt_eq_of_covers 5 _ (by decide +kernel) fun t _ y => ?_
  blk_simp
  rw [after0_5, left5]
  have hy : y = ix2 (y 0) (y 1) := funext fun a => by match a with | 0 => rfl | 1 => rfl
  have hj : ((cfg0.win 5).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at5 _ _ (y 0) _ (y 1) ?_
  all_goals intro k; blk_point [iblk, V, idx t]

/-- An entry of a block's rows is the reference's, when the blocks' rows are the arrays'. -/
theorem at6 (T : Vec Ideal S256x2048 .f32) (E : Vec Ideal S256x2048 .f32) (G : Vec Ideal S1x2048 .f32) (D : Vec Ideal S256x2048 .f32) (A1 : FVec Ideal S2048x2048 .f32) (A2 : FVec Ideal S2048x2048 .f32) (A3 : FVec Ideal S1x2048 .f32) (A4 : FVec Ideal S2048x2048 .f32) (i : Fin 256) (p k : Fin 2048)
    (hT : ∀ k, T (ix2 i k) = A1 (ix2 p k)) (hE : ∀ k, E (ix2 i k) = A2 (ix2 p k)) (hG : ∀ k, G (ix2 0 k) = A3 (ix2 0 k)) (hD : ∀ k, D (ix2 i k) = A4 (ix2 p k)) :
    k0_pay2 E (k0_pay6 T) (k0_pay9 T) (k0_pay10 T E) (k0_pay16 T E G D) (k0_pay17 T E G D) (Scalar.ofBits .f32 0x45000000#32) (ix2 i k) = want6 A1 A2 A3 A4 (ix2 p k) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, want6, zero_sub]
  simp only [hT, hE, hG, hD, mul_one, Cert.Proof.Local.sigmoid_grad]

/-- What point `t` leaves in the window. -/
theorem left6 (c : Dev nD) (t : Fin cfg0.N) : (outsAt0 m c t.val t.isLt).2.1 = k0_pay2 (iblk m c 2 t) (k0_pay6 (iblk m c 1 t)) (k0_pay9 (iblk m c 1 t)) (k0_pay10 (iblk m c 1 t) (iblk m c 2 t)) (k0_pay16 (iblk m c 1 t) (iblk m c 2 t) (iblk m c 3 t) (iblk m c 4 t)) (k0_pay17 (iblk m c 1 t) (iblk m c 2 t) (iblk m c 3 t) (iblk m c 4 t)) (Scalar.ofBits .f32 0x45000000#32) := by
  by_cases h0 : t.val % 8 = 0
  · rw [outsAt0_A m c t h0]; frame_out
  · rw [outsAt0_B m c t h0]; frame_out

/-- After the run the result array is the gradient of the gate's argument. -/
theorem result6 (c : Dev nD) : (dats m 0 c).arrAt 6 (cfgs 0).N = want6 (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, left6]
  have hy : y = ix2 (y 0) (y 1) := funext fun a => by match a with | 0 => rfl | 1 => rfl
  have hj : ((cfg0.win 6).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at6 _ _ _ _ _ _ _ _ (y 0) _ (y 1) ?_ ?_ ?_ ?_
  all_goals intro k; blk_point [iblk, V, idx t]

/-- An entry of a block's rows is the reference's, when the blocks' rows are the arrays'. -/
theorem at7 (T : Vec Ideal S256x2048 .f32) (E : Vec Ideal S256x2048 .f32) (G : Vec Ideal S1x2048 .f32) (D : Vec Ideal S256x2048 .f32) (A1 : FVec Ideal S2048x2048 .f32) (A2 : FVec Ideal S2048x2048 .f32) (A3 : FVec Ideal S1x2048 .f32) (A4 : FVec Ideal S2048x2048 .f32) (i : Fin 256) (p k : Fin 2048)
    (hT : ∀ k, T (ix2 i k) = A1 (ix2 p k)) (hE : ∀ k, E (ix2 i k) = A2 (ix2 p k)) (hG : ∀ k, G (ix2 0 k) = A3 (ix2 0 k)) (hD : ∀ k, D (ix2 i k) = A4 (ix2 p k)) :
    k0_pay3 (k0_pay8 T) (k0_pay10 T E) (k0_pay16 T E G D) (k0_pay17 T E G D) (Scalar.ofBits .f32 0x45000000#32) (ix2 i k) = want7 A1 A2 A3 A4 (ix2 p k) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, want7, zero_sub]
  simp only [hT, hE, hG, hD]

/-- What point `t` leaves in the window. -/
theorem left7 (c : Dev nD) (t : Fin cfg0.N) : (outsAt0 m c t.val t.isLt).2.2.1 = k0_pay3 (k0_pay8 (iblk m c 1 t)) (k0_pay10 (iblk m c 1 t) (iblk m c 2 t)) (k0_pay16 (iblk m c 1 t) (iblk m c 2 t) (iblk m c 3 t) (iblk m c 4 t)) (k0_pay17 (iblk m c 1 t) (iblk m c 2 t) (iblk m c 3 t) (iblk m c 4 t)) (Scalar.ofBits .f32 0x45000000#32) := by
  by_cases h0 : t.val % 8 = 0
  · rw [outsAt0_A m c t h0]; frame_out
  · rw [outsAt0_B m c t h0]; frame_out

/-- After the run the result array is the gradient of the embedding. -/
theorem result7 (c : Dev nD) : (dats m 0 c).arrAt 7 (cfgs 0).N = want7 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7, left7]
  have hy : y = ix2 (y 0) (y 1) := funext fun a => by match a with | 0 => rfl | 1 => rfl
  have hj : ((cfg0.win 7).blk t).view.emb y = ix2 (⟨t.val * 256 + (y 0).val, by have h : t.val < 8 := lt_of_lt_of_eq t.isLt (show cfg0.N = 8 from N_0); have := (y 0).isLt; simp at this; omega⟩ : Fin 2048) (y 1) := by
    funext a; match a with
    | 0 => apply Fin.ext; blk_simp [idx t] <;> rfl
    | 1 => apply Fin.ext; blk_simp [idx t]
  rw [hj, hy]
  refine at7 _ _ _ _ _ _ _ _ (y 0) _ (y 1) ?_ ?_ ?_ ?_
  all_goals intro k; blk_point [iblk, V, idx t]

/-- A point adds its rows' part of the gain's gradient. -/
theorem add8 (acc : Vec Ideal S1x2048 .f32) (T : Vec Ideal S256x2048 .f32) (E : Vec Ideal S256x2048 .f32) (D : Vec Ideal S256x2048 .f32) (y : S1x2048.Idx) : k0_pay5 (k0_pay14 T E D) acc y
    = acc y + ∑ r : Fin 256, gate (T (ix2 r (y 1))) * E (ix2 r (y 1)) * scale (fun k => gate (T (ix2 r k)) * E (ix2 r k)) * D (ix2 r (y 1)) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, scale, gate, zero_sub]

/-- The first point starts from zero. -/
theorem zero8 (y : S1x2048.Idx) : k0_pay4 (F := Ideal) y = 0 := by
  pointwise [k0_pay4]

/-- After the run the result array is the gradient of the gain. -/
theorem result8 (c : Dev nD) : (dats m 0 c).arrAt 8 (cfgs 0).N = want8 (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2) 8 (fun _ => 0) _
    (fun t h j => by rw [outsAt0_A m c t h]; frame_out; rw [add8, zero8])
    (fun t h j => by rw [outsAt0_B m c t (by omega)]; frame_out; rw [add8])
    t ((flush0_8 t).mp hf) _, zero_add]
  pointwise [want8, gate, zero_sub]
  refine Fin.sum_mul_add_congr fun s k hl => ?_
  have hp := Pipeline.run_point_lt_of_flush t ((flush0_8 t).mp hf) s
  have hT : ∀ a, iblk m c 1 ⟨_, hp⟩ (ix2 k a) = m ((c : Thread nD τ).loc main_arg1) (ix2 ⟨s.val * 256 + k.val, hl⟩ a) := fun a => by
    blk_point [iblk, V, idx ⟨_, hp⟩]
  have hE : ∀ a, iblk m c 2 ⟨_, hp⟩ (ix2 k a) = m ((c : Thread nD τ).loc main_arg2) (ix2 ⟨s.val * 256 + k.val, hl⟩ a) := fun a => by
    blk_point [iblk, V, idx ⟨_, hp⟩]
  have hD : ∀ a, iblk m c 4 ⟨_, hp⟩ (ix2 k a) = m ((c : Thread nD τ).loc main_arg4) (ix2 ⟨s.val * 256 + k.val, hl⟩ a) := fun a => by
    blk_point [iblk, V, idx ⟨_, hp⟩]
  simp only [scale, gate, zero_sub, hT, hE, hD]
  blk_point [iblk, V, idx t, idx ⟨_, hp⟩]

end Cert.Kernel30Ideal.Value

end
-- ==== Proof.Local.LossHead.lean ====
module

public import proofs.«01_k».proof.Proof.Gen.Kernel41Ideal.Value
public import proofs.«01_k».proof.Proof.Gen.Reference41Ideal.Run
public import Idealize.ShloMosaic.Lib.Pipeline.ValueKit

/-! Kernel41 computes the loss and its gradient: its results are what the reference computes. -/

@[expose] public section

set_option maxRecDepth 16384

noncomputable section

namespace Cert.Reference41Ideal.Gen

open Cert.Reference41Ideal Idealize.ShloMosaic

/-- What the reference computes: the loss. -/
def _root_.Cert.Kernel41Ideal.Value.want3 (A0 : FVec Ideal Cert.Kernel41Ideal.S2048x2048 .f32) (A1 : FVec Ideal Cert.Kernel41Ideal.S2048x2048 .f32) : FVec Ideal Cert.Kernel41Ideal.S8x128 .f32 :=
  broadcastInDim S8x128 ![] bcast_S_S8x128 (mulf (constant S_ .f32 0x3F000000#32) (Host.reduceAdd (Host.divf (Host.reduceAdd (mulf (subf A0 A1) (subf A0 A1)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

/-- What the reference computes: the gradient of the network's output. -/
def _root_.Cert.Kernel41Ideal.Value.want2 (A0 : FVec Ideal Cert.Kernel41Ideal.S2048x2048 .f32) (A1 : FVec Ideal Cert.Kernel41Ideal.S2048x2048 .f32) : FVec Ideal Cert.Kernel41Ideal.S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf A0 A1))

end Cert.Reference41Ideal.Gen

namespace Cert.Kernel41Ideal.Value

open Cert.Kernel41Ideal Cert.Kernel41Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- Half a sum is the sum of the halves, for any finite number of terms. -/
theorem half_sum {n : ℕ} (f : Fin n → EReal) :
    ∑ s, Ideal.ofBits .f32 1056964608#32 * f s = Ideal.ofBits .f32 1056964608#32 * ∑ s, f s := by
  have e : Ideal.ofBits .f32 1056964608#32 = ((1/2 : ℝ) : EReal) := by
    simp [Ideal.ofBits, Ideal.ieee]
    rw [← EReal.coe_mul]
    norm_num
  rw [e]
  have h0 : (0 : EReal) ≤ ((1/2 : ℝ) : EReal) := by exact_mod_cast (by norm_num : (0 : ℝ) ≤ 1/2)
  let φ : EReal →+ EReal :=
    { toFun := fun z => ((1/2 : ℝ) : EReal) * z
      map_zero' := mul_zero _
      map_add' := fun a b => EReal.left_distrib_of_nonneg_of_ne_top h0 (EReal.coe_ne_top _) a b }
  exact (map_sum φ f Finset.univ).symm

/-- The reference's factor, a half over 2048 times two, is the kernel's. -/
theorem factor (z : EReal) :
    Ideal.div (Ideal.ofBits .f32 1056964608#32) (Ideal.ofBits .f32 1157627904#32) * (Ideal.ofBits .f32 1073741824#32 * z)
      = z * Ideal.ofBits .f32 973078528#32 := by
  have e : Ideal.ofBits .f32 1056964608#32 = ((1/2 : ℝ) : EReal) := by
    simp [Ideal.ofBits, Ideal.ieee]
    rw [← EReal.coe_mul]
    norm_num
  have e1 : Ideal.ofBits .f32 1157627904#32 = ((2048 : ℝ) : EReal) := by
    simp [Ideal.ofBits, Ideal.ieee]
    rw [← EReal.coe_mul]
    norm_num
  have e2 : Ideal.ofBits .f32 1073741824#32 = ((2 : ℝ) : EReal) := by
    simp [Ideal.ofBits, Ideal.ieee]
    rw [← EReal.coe_mul]
    norm_num
  have e3 : Ideal.ofBits .f32 973078528#32 = ((1/2048 : ℝ) : EReal) := by
    simp [Ideal.ofBits, Ideal.ieee]
    rw [← EReal.coe_mul]
    norm_num
  rw [e, e1, e2, e3, Ideal.div_coe (by norm_num), ← mul_assoc, ← EReal.coe_mul, ← EReal.coe_mul, mul_comm]
  norm_num

/-- A point adds half its rows' mean squares. -/
theorem add3 (acc : Vec Ideal S8x128 .f32) (X Y : Vec Ideal S256x2048 .f32) (y : S8x128.Idx) : k0_pay4 X Y acc y
    = acc y + Ideal.ofBits .f32 1056964608#32 * ∑ r : Fin 256, Ideal.div (∑ k, (X (ix2 r k) - Y (ix2 r k)) * (X (ix2 r k) - Y (ix2 r k))) (Ideal.ofBits .f32 1157627904#32) := by
  pointwise [k0_pay4, k0_pay1]

/-- The first point starts from zero. -/
theorem zero3 (y : S8x128.Idx) : k0_pay3 (F := Ideal) y = 0 := by
  pointwise [k0_pay3]

/-- What point `t` leaves in the gradient's window. -/
theorem left2 (c : Dev nD) (t : Fin cfg0.N) : (outsAt0 m c t.val t.isLt).1 = k0_pay2 (iblk m c 0 t) (iblk m c 1 t) := by
  by_cases h0 : t.val % 8 = 0
  · rw [outsAt0_A m c t h0]; frame_out
  · rw [outsAt0_B m c t h0]; frame_out

/-- After the run the result array is the loss. -/
theorem result3 (c : Dev nD) : (dats m 0 c).arrAt 3 (cfgs 0).N = want3 (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => (outsAt0 m c n h).2) 8 (fun _ => 0) _
    (fun t h j => by rw [outsAt0_A m c t h]; frame_out; rw [add3, zero3])
    (fun t h j => by rw [outsAt0_B m c t (by omega)]; frame_out; rw [add3])
    t ((flush0_3 t).mp hf) _, zero_add, half_sum]
  pointwise [want3]
  refine congrArg (fun z => Ideal.ofBits .f32 1056964608#32 * z) ?_
  refine Fin.sum_mul_add_congr fun s k hl => ?_
  have hp := Pipeline.run_point_lt_of_flush t ((flush0_3 t).mp hf) s
  have h0 : ∀ a, iblk m c 0 ⟨_, hp⟩ (ix2 k a) = m ((c : Thread nD τ).loc main_arg0) (ix2 ⟨s.val * 256 + k.val, hl⟩ a) := fun a => by
    blk_point [iblk, V, idx ⟨_, hp⟩]
  have h1 : ∀ a, iblk m c 1 ⟨_, hp⟩ (ix2 k a) = m ((c : Thread nD τ).loc main_arg1) (ix2 ⟨s.val * 256 + k.val, hl⟩ a) := fun a => by
    blk_point [iblk, V, idx ⟨_, hp⟩]
  simp only [h0, h1]

/-- After the run the result array is the gradient of the network's output. -/
theorem result2 (c : Dev nD) : (dats m 0 c).arrAt 2 (cfgs 0).N = want2 (m ((c : Thread nD τ).loc main_arg0)) (m ((c : Thread nD τ).loc main_arg1)) := by
  refine (dats m 0 c).arrAt_eq_of_covers 2 _ (by decide +kernel) fun t _ y => ?_
  blk_simp
  rw [after0_2, left2]
  pointwise [k0_pay1, k0_pay2, want2, mul_one]
  refine Eq.trans ?_ (factor _).symm
  blk_point [iblk, V, idx t]

end Cert.Kernel41Ideal.Value

end
-- ==== Proof.Local.GateProductsForward.lean ====
module

public import proofs.«01_k».proof.Proof.Gen.Kernel42Ideal.Value
public import proofs.«01_k».proof.Proof.Gen.Reference42Ideal.Run
public import Idealize.ShloMosaic.Lib.Pipeline.ValueKit

/-! Kernel42 computes the two block-diagonal products of the gates: its results are what the reference computes. -/

@[expose] public section

set_option maxRecDepth 16384

noncomputable section

namespace Cert.Reference42Ideal.Gen

open Cert.Reference42Ideal Idealize.ShloMosaic

/-- What the reference computes: the product with the first weight. -/
def _root_.Cert.Kernel42Ideal.Value.want3 (A0 : FVec Ideal Cert.Kernel42Ideal.S2048x2816 .bf16) (A1 : FVec Ideal Cert.Kernel42Ideal.S4x11x64x256 .bf16) : FVec Ideal Cert.Kernel42Ideal.S2048x2816 .f32 :=
  shapeCast _ (transpose S2048x11x256 [2, 0, 1] (Host.dotGeneral dot_S11x256x256_S2048x11x256_S11x256x2048_1_2_2_0_0_1 none (shapeCast _ (transpose S11x4x64x256 [1, 0, 2, 3] (extf .f32 A1 bitsLt_bf16_f32) transposes_S4x11x64x256_S11x4x64x256_1_0_2_3) shapeCasts_S11x4x64x256_S11x256x256) (shapeCast _ (extf .f32 A0 bitsLt_bf16_f32) shapeCasts_S2048x2816_S2048x11x256)) transposes_S11x256x2048_S2048x11x256_2_0_1) shapeCasts_S2048x11x256_S2048x2816

/-- What the reference computes: the product with the second weight. -/
def _root_.Cert.Kernel42Ideal.Value.want4 (A0 : FVec Ideal Cert.Kernel42Ideal.S2048x2816 .bf16) (A2 : FVec Ideal Cert.Kernel42Ideal.S4x11x64x256 .bf16) : FVec Ideal Cert.Kernel42Ideal.S2048x2816 .f32 :=
  shapeCast _ (transpose S2048x11x256 [2, 0, 1] (Host.dotGeneral dot_S11x256x256_S2048x11x256_S11x256x2048_1_2_2_0_0_1 none (shapeCast _ (transpose S11x4x64x256 [1, 0, 2, 3] (extf .f32 A2 bitsLt_bf16_f32) transposes_S4x11x64x256_S11x4x64x256_1_0_2_3) shapeCasts_S11x4x64x256_S11x256x256) (shapeCast _ (extf .f32 A0 bitsLt_bf16_f32) shapeCasts_S2048x2816_S2048x11x256)) transposes_S11x256x2048_S2048x11x256_2_0_1) shapeCasts_S2048x11x256_S2048x2816

end Cert.Reference42Ideal.Gen

namespace Cert.Kernel42Ideal.Value

open Cert.Kernel42Ideal Cert.Kernel42Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![0, t.val] ∧ win0_1.index t = ![0, t.val, 0, 0] ∧ win0_2.index t = ![0, t.val, 0, 0]
    ∧ win0_3.index t = ![0, t.val] ∧ win0_4.index t = ![0, t.val] :=
  (by decide +kernel : ∀ t : Fin grid0.N, _)

/-- After the run the result array is the product with the first weight. -/
theorem result3 (c : Dev nD) : (dats m 0 c).arrAt 3 (cfgs 0).N = want3 (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay2, want3]
  refine Fin.sum_fin_congr fun x => ?_
  refine Eq.trans (mul_comm (G := EReal) _ _) ?_
  blk_point [iblk, V, idx t]

/-- After the run the result array is the product with the second weight. -/
theorem result4 (c : Dev nD) : (dats m 0 c).arrAt 4 (cfgs 0).N = want4 (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay1, k0_pay3, want4]
  refine Fin.sum_fin_congr fun x => ?_
  refine Eq.trans (mul_comm (G := EReal) _ _) ?_
  blk_point [iblk, V, idx t]

end Cert.Kernel42Ideal.Value

end
-- ==== Proof.Local.ConvForward.lean ====
module

public import proofs.«01_k».proof.Proof.Gen.Kernel43Ideal.Value
public import proofs.«01_k».proof.Proof.Gen.Reference43Ideal.Run
public import Idealize.ShloMosaic.Lib.Pipeline.ValueKit

/-! Kernel43 computes the causal convolution: its results are what the reference computes. -/

@[expose] public section

set_option maxRecDepth 16384

noncomputable section

namespace Cert.Reference43Ideal.Gen

open Cert.Reference43Ideal Idealize.ShloMosaic

/-- What the reference computes: the convolution. -/
def _root_.Cert.Kernel43Ideal.Value.want3 (A0 : FVec Ideal Cert.Kernel43Ideal.S2048x5632 .f32) (A1 : FVec Ideal Cert.Kernel43Ideal.S4x2816 .f32) (A2 : FVec Ideal Cert.Kernel43Ideal.S1x2816 .f32) : FVec Ideal Cert.Kernel43Ideal.S2048x2816 .f32 :=
  addf (addf (addf (addf (broadcastInDim S2048x2816 ![0, 1] bcast_S1x2816_S2048x2816_0_1 A2) (mulf (extractStridedSlice S2048x2816 ![3, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_3_0) (broadcastInDim S2048x2816 ![0, 1] bcast_S1x2816_S2048x2816_0_1 (broadcastInDim S1x2816 ![1] bcast_S2816_S1x2816_1 (shapeCast _ (extractStridedSlice S1x2816 ![0, 0] A1 slices_S4x2816_S1x2816_0_0) shapeCasts_S1x2816_S2816))))) (mulf (extractStridedSlice S2048x2816 ![2, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_2_0) (broadcastInDim S2048x2816 ![0, 1] bcast_S1x2816_S2048x2816_0_1 (broadcastInDim S1x2816 ![1] bcast_S2816_S1x2816_1 (shapeCast _ (extractStridedSlice S1x2816 ![1, 0] A1 slices_S4x2816_S1x2816_1_0) shapeCasts_S1x2816_S2816))))) (mulf (extractStridedSlice S2048x2816 ![1, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_1_0) (broadcastInDim S2048x2816 ![0, 1] bcast_S1x2816_S2048x2816_0_1 (broadcastInDim S1x2816 ![1] bcast_S2816_S1x2816_1 (shapeCast _ (extractStridedSlice S1x2816 ![2, 0] A1 slices_S4x2816_S1x2816_2_0) shapeCasts_S1x2816_S2816))))) (mulf (extractStridedSlice S2048x2816 ![0, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_0_0) (broadcastInDim S2048x2816 ![0, 1] bcast_S1x2816_S2048x2816_0_1 (broadcastInDim S1x2816 ![1] bcast_S2816_S1x2816_1 (shapeCast _ (extractStridedSlice S1x2816 ![3, 0] A1 slices_S4x2816_S1x2816_3_0) shapeCasts_S1x2816_S2816))))

/-- What the reference computes: the convolution rounded. -/
def _root_.Cert.Kernel43Ideal.Value.want4 (A0 : FVec Ideal Cert.Kernel43Ideal.S2048x5632 .f32) (A1 : FVec Ideal Cert.Kernel43Ideal.S4x2816 .f32) (A2 : FVec Ideal Cert.Kernel43Ideal.S1x2816 .f32) : FVec Ideal Cert.Kernel43Ideal.S2048x2816 .bf16 :=
  truncf .bf16 (addf (addf (addf (addf (broadcastInDim S2048x2816 ![0, 1] bcast_S1x2816_S2048x2816_0_1 A2) (mulf (extractStridedSlice S2048x2816 ![3, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_3_0) (broadcastInDim S2048x2816 ![0, 1] bcast_S1x2816_S2048x2816_0_1 (broadcastInDim S1x2816 ![1] bcast_S2816_S1x2816_1 (shapeCast _ (extractStridedSlice S1x2816 ![0, 0] A1 slices_S4x2816_S1x2816_0_0) shapeCasts_S1x2816_S2816))))) (mulf (extractStridedSlice S2048x2816 ![2, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_2_0) (broadcastInDim S2048x2816 ![0, 1] bcast_S1x2816_S2048x2816_0_1 (broadcastInDim S1x2816 ![1] bcast_S2816_S1x2816_1 (shapeCast _ (extractStridedSlice S1x2816 ![1, 0] A1 slices_S4x2816_S1x2816_1_0) shapeCasts_S1x2816_S2816))))) (mulf (extractStridedSlice S2048x2816 ![1, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_1_0) (broadcastInDim S2048x2816 ![0, 1] bcast_S1x2816_S2048x2816_0_1 (broadcastInDim S1x2816 ![1] bcast_S2816_S1x2816_1 (shapeCast _ (extractStridedSlice S1x2816 ![2, 0] A1 slices_S4x2816_S1x2816_2_0) shapeCasts_S1x2816_S2816))))) (mulf (extractStridedSlice S2048x2816 ![0, 0] (concatenate S2051x2816 0 [⟨S3x2816, (broadcastInDim S3x2816 ![] bcast_S_S3x2816 (constant S_ .f32 0x00000000#32))⟩, ⟨S2048x2816, (extractStridedSlice S2048x2816 ![0, 2816] A0 slices_S2048x5632_S2048x2816_0_2816)⟩] concatenates_S3x2816_S2048x2816_S2051x2816_d0) slices_S2051x2816_S2048x2816_0_0) (broadcastInDim S2048x2816 ![0, 1] bcast_S1x2816_S2048x2816_0_1 (broadcastInDim S1x2816 ![1] bcast_S2816_S1x2816_1 (shapeCast _ (extractStridedSlice S1x2816 ![3, 0] A1 slices_S4x2816_S1x2816_3_0) shapeCasts_S1x2816_S2816))))) bitsLt_bf16_f32

end Cert.Reference43Ideal.Gen

namespace Cert.Kernel43Ideal.Value

open Cert.Kernel43Ideal Cert.Kernel43Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![0, 11 + t.val] ∧ win0_1.index t = ![0, t.val] ∧ win0_2.index t = ![0, t.val] ∧ win0_3.index t = ![0, t.val] ∧ win0_4.index t = ![0, t.val] :=
  (by decide +kernel : ∀ t : Fin grid0.N, _)

/-- A row moved down by `k`, zero in the first `k` rows, times `w`. -/
theorem moved (r : Fin 2048) (k : ℕ) (hk : k < 2048) (f : Fin 2048 → EReal) (w : EReal) (c : Prop) [Decidable c] (hc : c ↔ r.val < k)
    (n : ¬c → Fin 2048) (hn : ∀ h, (n h).val = r.val - k) (h) :
    Scalar.select (IntOp.cmpi .slt (BitVec.ofNat 32 r.val) (BitVec.ofNat 32 k)) 0 (f ⟨(r.val + 2048 - k) % 2048, h⟩ * w)
      = (if h : c then 0 else f (n h)) * w := by
  have hr := r.isLt
  rw [WordCmp.cmpi_slt_ofNat (by omega) (by omega)]
  by_cases hh : c
  · rw [dif_pos hh]
    have h' : r.val < k := hc.1 hh
    simp only [h', Scalar.select, if_true]
    exact (zero_mul _).symm
  · rw [dif_neg hh]
    have h' : ¬ r.val < k := fun h => hh (hc.2 h)
    simp only [h', Scalar.select, if_false]
    exact congrArg (fun i => f i * w) (Fin.ext (by rw [hn hh]; show (r.val + 2048 - k) % 2048 = r.val - k; omega))

/-- The block's value at a row and a column is the reference's at that row and the array's column, when the blocks are the arrays'. -/
theorem at3 (X : Vec Ideal S2048x256 .f32) (W : Vec Ideal S4x256 .f32) (B : Vec Ideal S1x256 .f32) (A0 : FVec Ideal S2048x5632 .f32)
    (A1 : FVec Ideal S4x2816 .f32) (A2 : FVec Ideal S1x2816 .f32) (q : Fin 256) (j : Fin 2816)
    (hX : ∀ r : Fin 2048, X (ix2 r q) = A0 (ix2 r (⟨2816 + j.val, by omega⟩ : Fin 5632))) (hW : ∀ k : Fin 4, W (ix2 k q) = A1 (ix2 k j))
    (hB : B (ix2 0 q) = A2 (ix2 0 j)) (r : Fin 2048) :
    k0_pay3 X W B (ix2 r q) = want3 A0 A1 A2 (ix2 r j) := by
  have hr := r.isLt
  pointwise [k0_pay3, k0_pay2, want3]
  rw [hB, hX r, hW 0, hW 1, hW 2, hW 3, hX, hX, hX]
  have f := fun k : Fin 2048 => A0 (ix2 k (⟨2816 + j.val, by omega⟩ : Fin 5632))
  refine Ideal.add_congr (Ideal.add_congr (Ideal.add_congr rfl ?_) ?_) ?_
  · exact moved r 1 (by omega) (fun k => A0 (ix2 k (⟨2816 + j.val, by omega⟩ : Fin 5632))) _ _ (by omega) _ (fun h => by show 2 + r.val - 3 = _; omega) _
  · exact moved r 2 (by omega) (fun k => A0 (ix2 k (⟨2816 + j.val, by omega⟩ : Fin 5632))) _ _ (by omega) _ (fun h => by show 1 + r.val - 3 = _; omega) _
  · exact moved r 3 (by omega) (fun k => A0 (ix2 k (⟨2816 + j.val, by omega⟩ : Fin 5632))) _ _ (by omega) _ (fun h => by show r.val - 3 = _; omega) _

/-- What point `t` computes at an index of its block. -/
theorem point (c : Dev nD) (t : Fin cfg0.N) (y : S2048x256.Idx) (j : S2048x2816.Idx) (h0 : (j 0).val = (y 0).val) (h1 : (j 1).val = t.val * 256 + (y 1).val) :
    k0_pay3 (iblk m c 0 t) (iblk m c 1 t) (iblk m c 2 t) y
      = want3 (m ((c : Thread nD τ).loc main_arg0)) (m ((c : Thread nD τ).loc main_arg1)) (m ((c : Thread nD τ).loc main_arg2)) j := by
  have ht : t.val < 11 := t.isLt
  have e : j = ix2 (y 0) (j 1) := by rw [eq_ix2 j]; exact congrArg (fun k => ix2 k (j 1)) (Fin.ext h0)
  rw [e, eq_ix2 y]
  refine at3 _ _ _ _ _ _ (y 1) (j 1) (fun r => ?_) (fun k => ?_) ?_ (y 0)
  · blk_point [iblk, V, idx t, h1]
  · blk_point [iblk, V, idx t, h1]
  · blk_point [iblk, V, idx t, h1]

/-- After the run the result array is the convolution. -/
theorem result3 (c : Dev nD) : (dats m 0 c).arrAt 3 (cfgs 0).N = want3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine point m c t y _ ?_ ?_
  all_goals (blk_simp [idx t] <;> try omega)

/-- After the run the result array is the convolution rounded. -/
theorem result4 (c : Dev nD) : (dats m 0 c).arrAt 4 (cfgs 0).N = want4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine Eq.trans (b := k0_pay3 (iblk m c 0 t) (iblk m c 1 t) (iblk m c 2 t) y) (by pointwise [k0_pay1]) ?_
  refine Eq.trans (point m c t y _ ?_ ?_) (rfl : want3 _ _ _ _ = want4 _ _ _ _)
  all_goals (blk_simp [idx t] <;> try omega)

end Cert.Kernel43Ideal.Value

end
-- ==== Proof.Local.PreNormForward.lean ====
module

public import proofs.«01_k».proof.Proof.Gen.Kernel44Ideal.Value
public import proofs.«01_k».proof.Proof.Gen.Reference44Ideal.Run
public import Idealize.ShloMosaic.Lib.Pipeline.ValueKit

/-! Kernel44 computes the norm before the first mixer: its results are what the reference computes. -/

@[expose] public section

set_option maxRecDepth 16384

noncomputable section

namespace Cert.Reference44Ideal.Gen

open Cert.Reference44Ideal Idealize.ShloMosaic

/-- What the reference computes: the norm of the rows. -/
def _root_.Cert.Kernel44Ideal.Value.want2 (A0 : FVec Ideal Cert.Kernel44Ideal.S2048x2048 .f32) (A1 : FVec Ideal Cert.Kernel44Ideal.S1x2048 .f32) : FVec Ideal Cert.Kernel44Ideal.S2048x2048 .bf16 :=
  truncf .bf16 (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A1)) bitsLt_bf16_f32

end Cert.Reference44Ideal.Gen

namespace Cert.Kernel44Ideal.Value

open Cert.Kernel44Ideal Cert.Kernel44Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] :=
  (by decide +kernel : ∀ t : Fin grid0.N, _)

/-- After the run the result array is the norm of the rows. -/
theorem result2 (c : Dev nD) : (dats m 0 c).arrAt 2 (cfgs 0).N = want2 (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, want2]
  blk_point [iblk, V, idx t]

end Cert.Kernel44Ideal.Value

end
-- ==== Proof.Local.PostMixForward.lean ====
module

public import proofs.«01_k».proof.Proof.Gen.Kernel45Ideal.Value
public import proofs.«01_k».proof.Proof.Gen.Reference45Ideal.Run
public import Idealize.ShloMosaic.Lib.Pipeline.ValueKit

/-! Kernel45 computes the mixer's residual sum and the norm after it: its results are what the reference computes. -/

@[expose] public section

set_option maxRecDepth 16384

noncomputable section

namespace Cert.Reference45Ideal.Gen

open Cert.Reference45Ideal Idealize.ShloMosaic

/-- What the reference computes: the residual sum. -/
def _root_.Cert.Kernel45Ideal.Value.want4 (A0 : FVec Ideal Cert.Kernel45Ideal.S2048x2048 .f32) (A1 : FVec Ideal Cert.Kernel45Ideal.S2048x2048 .f32) (A2 : FVec Ideal Cert.Kernel45Ideal.S1x2048 .f32) : FVec Ideal Cert.Kernel45Ideal.S2048x2048 .f32 :=
  addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))

/-- What the reference computes: the norm of its rows. -/
def _root_.Cert.Kernel45Ideal.Value.want5 (A0 : FVec Ideal Cert.Kernel45Ideal.S2048x2048 .f32) (A1 : FVec Ideal Cert.Kernel45Ideal.S2048x2048 .f32) (A2 : FVec Ideal Cert.Kernel45Ideal.S1x2048 .f32) (A3 : FVec Ideal Cert.Kernel45Ideal.S1x2048 .f32) : FVec Ideal Cert.Kernel45Ideal.S2048x2048 .bf16 :=
  truncf .bf16 (mulf (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (broadcastInDim S2048x2048 ![0, 1] bcast_S2048x1_S2048x2048_0_1 (Host.rsqrt (addf (Host.divf (broadcastInDim S2048x1 ![0] bcast_S2048_S2048x1_0 (Host.reduceAdd (mulf (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3)) bitsLt_bf16_f32

end Cert.Reference45Ideal.Gen

namespace Cert.Kernel45Ideal.Value

open Cert.Kernel45Ideal Cert.Kernel45Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- After the run the result array is the residual sum. -/
theorem result4 (c : Dev nD) : (dats m 0 c).arrAt 4 (cfgs 0).N = want4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, k0_pay2, want4]
  blk_point [iblk, V, idx t]

/-- After the run the result array is the norm of its rows. -/
theorem result5 (c : Dev nD) : (dats m 0 c).arrAt 5 (cfgs 0).N = want5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, want5]
  blk_point [iblk, V, idx t]

end Cert.Kernel45Ideal.Value

end
-- ==== Proof.Local.PostFfnForward.lean ====
module

public import proofs.«01_k».proof.Proof.Gen.Kernel46Ideal.Value
public import proofs.«01_k».proof.Proof.Gen.Reference46Ideal.Run
public import Idealize.ShloMosaic.Lib.Pipeline.ValueKit

/-! Kernel46 computes the feed-forward layer's residual sum: its results are what the reference computes. -/

@[expose] public section

set_option maxRecDepth 16384

noncomputable section

namespace Cert.Reference46Ideal.Gen

open Cert.Reference46Ideal Idealize.ShloMosaic

/-- What the reference computes: the residual sum. -/
def _root_.Cert.Kernel46Ideal.Value.want3 (A0 : FVec Ideal Cert.Kernel46Ideal.S2048x2048 .f32) (A1 : FVec Ideal Cert.Kernel46Ideal.S2048x2048 .f32) (A2 : FVec Ideal Cert.Kernel46Ideal.S1x2048 .f32) : FVec Ideal Cert.Kernel46Ideal.S2048x2048 .f32 :=
  addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))

/-- What the reference computes: the residual sum rounded. -/
def _root_.Cert.Kernel46Ideal.Value.want4 (A0 : FVec Ideal Cert.Kernel46Ideal.S2048x2048 .f32) (A1 : FVec Ideal Cert.Kernel46Ideal.S2048x2048 .f32) (A2 : FVec Ideal Cert.Kernel46Ideal.S1x2048 .f32) : FVec Ideal Cert.Kernel46Ideal.S2048x2048 .bf16 :=
  truncf .bf16 (addf A0 (mulf (mulf A1 (broadcastInDim S2048x2048 ![0, 1] bcast_S2048x1_S2048x2048_0_1 (Host.rsqrt (addf (Host.divf (broadcastInDim S2048x1 ![0] bcast_S2048_S2048x1_0 (Host.reduceAdd (mulf A1 A1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A2))) bitsLt_bf16_f32

end Cert.Reference46Ideal.Gen

namespace Cert.Kernel46Ideal.Value

open Cert.Kernel46Ideal Cert.Kernel46Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

/-- After the run the result array is the residual sum. -/
theorem result3 (c : Dev nD) : (dats m 0 c).arrAt 3 (cfgs 0).N = want3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, k0_pay2, want3]
  blk_point [iblk, V, idx t]

/-- After the run the result array is the residual sum rounded. -/
theorem result4 (c : Dev nD) : (dats m 0 c).arrAt 4 (cfgs 0).N = want4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, k0_pay2, want4]
  blk_point [iblk, V, idx t]

end Cert.Kernel46Ideal.Value

end
-- ==== Proof.Local.PleForward.lean ====
module

public import proofs.«01_k».proof.Proof.Gen.Kernel47Ideal.Value
public import proofs.«01_k».proof.Proof.Gen.Reference47Ideal.Run
public import Idealize.ShloMosaic.Lib.Pipeline.ValueKit

/-! Kernel47 computes the per-layer embedding's residual sum and the next layer's norm: its results are what the reference computes. -/

@[expose] public section

set_option maxRecDepth 16384

noncomputable section

namespace Cert.Reference47Ideal.Gen

open Cert.Reference47Ideal Idealize.ShloMosaic

/-- What the reference computes: the residual sum. -/
def _root_.Cert.Kernel47Ideal.Value.want5 (A0 : FVec Ideal Cert.Kernel47Ideal.S2048x2048 .f32) (A1 : FVec Ideal Cert.Kernel47Ideal.S2048x2048 .f32) (A2 : FVec Ideal Cert.Kernel47Ideal.S2048x2048 .f32) (A3 : FVec Ideal Cert.Kernel47Ideal.S1x2048 .f32) : FVec Ideal Cert.Kernel47Ideal.S2048x2048 .f32 :=
  addf A0 (mulf (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3))

/-- What the reference computes: the norm of its rows. -/
def _root_.Cert.Kernel47Ideal.Value.want6 (A0 : FVec Ideal Cert.Kernel47Ideal.S2048x2048 .f32) (A1 : FVec Ideal Cert.Kernel47Ideal.S2048x2048 .f32) (A2 : FVec Ideal Cert.Kernel47Ideal.S2048x2048 .f32) (A3 : FVec Ideal Cert.Kernel47Ideal.S1x2048 .f32) (A4 : FVec Ideal Cert.Kernel47Ideal.S1x2048 .f32) : FVec Ideal Cert.Kernel47Ideal.S2048x2048 .bf16 :=
  truncf .bf16 (mulf (mulf (addf A0 (mulf (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3))) (broadcastInDim S2048x2048 ![0, 1] bcast_S2048x1_S2048x2048_0_1 (Host.rsqrt (addf (Host.divf (broadcastInDim S2048x1 ![0] bcast_S2048_S2048x1_0 (Host.reduceAdd (mulf (addf A0 (mulf (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3))) (addf A0 (mulf (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3)))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A4)) bitsLt_bf16_f32

end Cert.Reference47Ideal.Gen

namespace Cert.Kernel47Ideal.Value

open Cert.Kernel47Ideal Cert.Kernel47Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] :=
  (by decide +kernel : ∀ t : Fin grid0.N, _)

/-- After the run the result array is the residual sum. -/
theorem result5 (c : Dev nD) : (dats m 0 c).arrAt 5 (cfgs 0).N = want5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, want5, zero_sub]
  blk_point [iblk, V, idx t]

/-- After the run the result array is the norm of its rows. -/
theorem result6 (c : Dev nD) : (dats m 0 c).arrAt 6 (cfgs 0).N = want6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay1, k0_pay2, k0_pay3, want6, zero_sub]
  blk_point [iblk, V, idx t]

end Cert.Kernel47Ideal.Value

end
-- ==== Proof.Local.LastPleForward.lean ====
module

public import proofs.«01_k».proof.Proof.Gen.Kernel48Ideal.Value
public import proofs.«01_k».proof.Proof.Gen.Reference48Ideal.Run
public import Idealize.ShloMosaic.Lib.Pipeline.ValueKit

/-! Kernel48 computes the last layer's per-layer embedding: its results are what the reference computes. -/

@[expose] public section

set_option maxRecDepth 16384

noncomputable section

namespace Cert.Reference48Ideal.Gen

open Cert.Reference48Ideal Idealize.ShloMosaic

/-- What the reference computes: the residual sum. -/
def _root_.Cert.Kernel48Ideal.Value.want4 (A0 : FVec Ideal Cert.Kernel48Ideal.S2048x2048 .f32) (A1 : FVec Ideal Cert.Kernel48Ideal.S2048x2048 .f32) (A2 : FVec Ideal Cert.Kernel48Ideal.S2048x2048 .f32) (A3 : FVec Ideal Cert.Kernel48Ideal.S1x2048 .f32) : FVec Ideal Cert.Kernel48Ideal.S2048x2048 .f32 :=
  addf A0 (mulf (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (broadcastInDim S2048x2048 ![0, 1] bcast_S2048x1_S2048x2048_0_1 (Host.rsqrt (addf (Host.divf (broadcastInDim S2048x1 ![0] bcast_S2048_S2048x1_0 (Host.reduceAdd (mulf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf A1)))) A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A3))

end Cert.Reference48Ideal.Gen

namespace Cert.Kernel48Ideal.Value

open Cert.Kernel48Ideal Cert.Kernel48Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

/-- After the run the result array is the residual sum. -/
theorem result4 (c : Dev nD) : (dats m 0 c).arrAt 4 (cfgs 0).N = want4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, want4, zero_sub]
  blk_point [iblk, V, idx t]

end Cert.Kernel48Ideal.Value

end
-- ==== Proof.Local.SwigluForward.lean ====
module

public import proofs.«01_k».proof.Proof.Gen.Kernel49Ideal.Value
public import proofs.«01_k».proof.Proof.Gen.Reference49Ideal.Run
public import Idealize.ShloMosaic.Lib.Pipeline.ValueKit

/-! Kernel49 computes the gated unit of the feed-forward layer: its results are what the reference computes. -/

@[expose] public section

set_option maxRecDepth 16384

noncomputable section

namespace Cert.Reference49Ideal.Gen

open Cert.Reference49Ideal Idealize.ShloMosaic

/-- What the reference computes: the gated unit. -/
def _root_.Cert.Kernel49Ideal.Value.want2 (A0 : FVec Ideal Cert.Kernel49Ideal.S2048x11264 .f32) : FVec Ideal Cert.Kernel49Ideal.S2048x5632 .bf16 :=
  truncf .bf16 (mulf (mulf (extractStridedSlice S2048x5632 ![0, 0] A0 slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] A0 slices_S2048x11264_S2048x5632_0_0)))))) (extractStridedSlice S2048x5632 ![0, 5632] A0 slices_S2048x11264_S2048x5632_0_5632)) bitsLt_bf16_f32

end Cert.Reference49Ideal.Gen

namespace Cert.Kernel49Ideal.Value

open Cert.Kernel49Ideal Cert.Kernel49Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 1] ∧ win0_2.index t = ![t.val, 0] :=
  (by decide +kernel : ∀ t : Fin grid0.N, _)

/-- After the run the result array is the gated unit. -/
theorem result2 (c : Dev nD) : (dats m 0 c).arrAt 2 (cfgs 0).N = want2 (m ((c : Thread nD τ).loc main_arg0)) := by
  refine (dats m 0 c).arrAt_eq_of_covers 2 _ (by decide +kernel) fun t _ y => ?_
  blk_simp
  rw [after0_2]; frame_out
  pointwise [k0_pay1, want2, zero_sub]
  blk_point [iblk, V, idx t]

end Cert.Kernel49Ideal.Value

end
-- ==== Proof.Local.RgOutForward.lean ====
module

public import proofs.«01_k».proof.Proof.Gen.Kernel50Ideal.Value
public import proofs.«01_k».proof.Proof.Gen.Reference50Ideal.Run
public import Idealize.ShloMosaic.Lib.Pipeline.ValueKit

/-! Kernel50 computes the output gate of the recurrent mixer: its results are what the reference computes. -/

@[expose] public section

set_option maxRecDepth 16384

noncomputable section

namespace Cert.Reference50Ideal.Gen

open Cert.Reference50Ideal Idealize.ShloMosaic

/-- What the reference computes: the gated states. -/
def _root_.Cert.Kernel50Ideal.Value.want2 (A0 : FVec Ideal Cert.Kernel50Ideal.S2048x5632 .f32) (A1 : FVec Ideal Cert.Kernel50Ideal.S2048x2816 .f32) : FVec Ideal Cert.Kernel50Ideal.S2048x2816 .bf16 :=
  truncf .bf16 (mulf (mulf (extractStridedSlice S2048x2816 ![0, 0] A0 slices_S2048x5632_S2048x2816_0_0) (mulf (broadcastInDim S2048x2816 ![] bcast_S_S2048x2816 (constant S_ .f32 0x3F000000#32)) (addf (broadcastInDim S2048x2816 ![] bcast_S_S2048x2816 (constant S_ .f32 0x3F800000#32)) (Host.tanh (mulf (broadcastInDim S2048x2816 ![] bcast_S_S2048x2816 (constant S_ .f32 0x3F4C422A#32)) (addf (extractStridedSlice S2048x2816 ![0, 0] A0 slices_S2048x5632_S2048x2816_0_0) (mulf (broadcastInDim S2048x2816 ![] bcast_S_S2048x2816 (constant S_ .f32 0x3D372713#32)) (mulf (mulf (extractStridedSlice S2048x2816 ![0, 0] A0 slices_S2048x5632_S2048x2816_0_0) (extractStridedSlice S2048x2816 ![0, 0] A0 slices_S2048x5632_S2048x2816_0_0)) (extractStridedSlice S2048x2816 ![0, 0] A0 slices_S2048x5632_S2048x2816_0_0))))))))) A1) bitsLt_bf16_f32

end Cert.Reference50Ideal.Gen

namespace Cert.Kernel50Ideal.Value

open Cert.Kernel50Ideal Cert.Kernel50Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx : ∀ t : Fin cfg0.N, win0_0.index t = ![t.val, 0] ∧ win0_1.index t = ![t.val, 0] ∧ win0_2.index t = ![t.val, 0] :=
  (by decide +kernel : ∀ t : Fin grid0.N, _)

/-- An entry of the block's result is the reference's, when the blocks' entries are the arrays'. -/
theorem at2 (X H : Vec Ideal S128x2816 .f32) (A0 : FVec Ideal S2048x5632 .f32) (A1 : FVec Ideal S2048x2816 .f32) (y : S128x2816.Idx) (j : S2048x2816.Idx)
    (hX : X y = A0 (ix2 (j 0) (⟨(j 1).val, lt_of_lt_of_le (j 1).isLt (by decide)⟩ : Fin 5632))) (hH : H y = A1 j) : k0_pay1 X H y = want2 A0 A1 j := by
  pointwise [k0_pay1, want2]
  rw [hX, hH, mul_left_comm (A0 _) (Ideal.ofBits .f32 1056964608#32), ← mul_assoc (Ideal.ofBits .f32 1056964608#32)]

/-- After the run the result array is the gated states. -/
theorem result2 (c : Dev nD) : (dats m 0 c).arrAt 2 (cfgs 0).N = want2 (m ((c : Thread nD τ).loc main_arg0)) (m ((c : Thread nD τ).loc main_arg1)) := by
  refine (dats m 0 c).arrAt_eq_of_covers 2 _ (by decide +kernel) fun t _ y => ?_
  blk_simp
  rw [after0_2]; frame_out
  refine at2 _ _ _ _ y _ ?_ ?_
  · blk_point [iblk, V, idx t]
  · blk_point [iblk, V, idx t]

end Cert.Kernel50Ideal.Value

end
-- ==== Proof.Local.Claims.lean ====
module

public import proofs.«01_k».proof.Defs
public import proofs.«01_k».proof.Proof.Gen.Kernel22
public import proofs.«01_k».proof.Proof.Local.BlockProductsBackward
public import proofs.«01_k».proof.Proof.Gen.Kernel23
public import proofs.«01_k».proof.Proof.Local.ConvBackward
public import proofs.«01_k».proof.Proof.Gen.Kernel24
public import proofs.«01_k».proof.Proof.Local.PreNormBackward
public import proofs.«01_k».proof.Proof.Gen.Kernel25
public import proofs.«01_k».proof.Proof.Local.PostMixBackward
public import proofs.«01_k».proof.Proof.Gen.Kernel26
public import proofs.«01_k».proof.Proof.Local.PostFfnBackward
public import proofs.«01_k».proof.Proof.Gen.Kernel27
public import proofs.«01_k».proof.Proof.Local.FirstPleBackward
public import proofs.«01_k».proof.Proof.Gen.Kernel28
public import proofs.«01_k».proof.Proof.Local.SwigluBackward
public import proofs.«01_k».proof.Proof.Gen.Kernel29
public import proofs.«01_k».proof.Proof.Local.RgOutBackward
public import proofs.«01_k».proof.Proof.Gen.Kernel30
public import proofs.«01_k».proof.Proof.Local.LastPleBackward
public import proofs.«01_k».proof.Proof.Gen.Kernel41
public import proofs.«01_k».proof.Proof.Local.LossHead
public import proofs.«01_k».proof.Proof.Gen.Kernel42
public import proofs.«01_k».proof.Proof.Local.GateProductsForward
public import proofs.«01_k».proof.Proof.Gen.Kernel43
public import proofs.«01_k».proof.Proof.Local.ConvForward
public import proofs.«01_k».proof.Proof.Gen.Kernel44
public import proofs.«01_k».proof.Proof.Local.PreNormForward
public import proofs.«01_k».proof.Proof.Gen.Kernel45
public import proofs.«01_k».proof.Proof.Local.PostMixForward
public import proofs.«01_k».proof.Proof.Gen.Kernel46
public import proofs.«01_k».proof.Proof.Local.PostFfnForward
public import proofs.«01_k».proof.Proof.Gen.Kernel47
public import proofs.«01_k».proof.Proof.Local.PleForward
public import proofs.«01_k».proof.Proof.Gen.Kernel48
public import proofs.«01_k».proof.Proof.Local.LastPleForward
public import proofs.«01_k».proof.Proof.Gen.Kernel49
public import proofs.«01_k».proof.Proof.Local.SwigluForward
public import proofs.«01_k».proof.Proof.Gen.Kernel50
public import proofs.«01_k».proof.Proof.Local.RgOutForward

/-! The claims about the norms, the gates, the convolution, the loss and their gradients, each from its kernel's run and its reference's. -/

@[expose] public section

set_option maxRecDepth 16384

noncomputable section

namespace Cert.Proof.Local

open Idealize.ShloMosaic Idealize.SL.Sem

/-- BlockProductsBackward: the program on float words and its idealization have one table of kernel bodies. -/
theorem defs_eq22 : Cert.Kernel22.defs (F := Bits) = Cert.Kernel22Ideal.defs (F := Bits) := by
  have h : Cert.Kernel22.defs₀ (F := Bits) = Cert.Kernel22Ideal.defs₀ (F := Bits) := by
    unfold Cert.Kernel22.defs₀ Cert.Kernel22Ideal.defs₀
    congr 1
    funext l a
    match l, a with
    | ⟨0, _⟩, _ => rfl
  unfold Cert.Kernel22.defs Cert.Kernel22Ideal.defs
  rw [h]
  rfl

/-- BlockProductsBackward: the kernel's run on float words. -/
theorem frame_kernel22 : Cert.quiescent_Kernel22 := fun m ρ _ => by
  rw [defs_eq22]
  exact Cert.Kernel22Ideal.Gen.frame (F := Bits) m ρ

/-- BlockProductsBackward: the kernel's run over the extended reals. -/
theorem frame_kernel22Ideal : Cert.quiescent_Kernel22Ideal := fun m ρ _ => Cert.Kernel22Ideal.Gen.frame m ρ

/-- BlockProductsBackward: the reference's run. -/
theorem frame_reference22Ideal : Cert.quiescent_Reference22Ideal := fun m ρ _ =>
  (θ_run Cert.Reference22Ideal.defs _ _).mono (fun r h => ⟨fun c => (h c).2.2.2, sem_eq_zero_of_no_sems (by decide) r.2⟩) (Cert.Reference22Ideal.Value.run (F := Ideal) m ρ)

/-- BlockProductsBackward: over the extended reals the kernel's results are the reference's. -/
theorem algebraic22 : Cert.algebraic_Kernel22Ideal_Reference22Ideal := by
  intro m g m' g' _ heq
  refine ⟨fun c => Cert.Kernel22Ideal.Value.want5 (m ((c.tc : Thread _ _).loc Cert.Kernel22Ideal.main_arg1)) (m ((c.tc : Thread _ _).loc Cert.Kernel22Ideal.main_arg2)) (m ((c.tc : Thread _ _).loc Cert.Kernel22Ideal.main_arg3)) (m ((c.tc : Thread _ _).loc Cert.Kernel22Ideal.main_arg4)), fun c => Cert.Kernel22Ideal.Value.want6 (m ((c.tc : Thread _ _).loc Cert.Kernel22Ideal.main_arg0)) (m ((c.tc : Thread _ _).loc Cert.Kernel22Ideal.main_arg3)), fun c => Cert.Kernel22Ideal.Value.want7 (m ((c.tc : Thread _ _).loc Cert.Kernel22Ideal.main_arg0)) (m ((c.tc : Thread _ _).loc Cert.Kernel22Ideal.main_arg4)), ?_, ?_⟩
  · exact (θ_run Cert.Kernel22Ideal.defs _ _).mono (fun r h c => ⟨(h c).1.trans (Cert.Kernel22Ideal.Value.result5 m c), (h c).2.1.trans (Cert.Kernel22Ideal.Value.result6 m c), (h c).2.2.1.trans (Cert.Kernel22Ideal.Value.result7 m c), (h c).2.2.2⟩) (Cert.Kernel22Ideal.Value.run_blocks m g)
  · refine (θ_run Cert.Reference22Ideal.defs _ _).mono (fun r h c => ⟨(h c).1.trans ?_, (h c).2.1.trans ?_, (h c).2.2.1.trans ?_, (h c).2.2.2⟩) (Cert.Reference22Ideal.Value.run (F := Ideal) m' g')
    · refine Eq.trans (b := Cert.Kernel22Ideal.Value.want5 (m' ((c.tc : Thread _ _).loc Cert.Reference22Ideal.main_arg1)) (m' ((c.tc : Thread _ _).loc Cert.Reference22Ideal.main_arg2)) (m' ((c.tc : Thread _ _).loc Cert.Reference22Ideal.main_arg3)) (m' ((c.tc : Thread _ _).loc Cert.Reference22Ideal.main_arg4))) rfl ?_
      rw [(heq c).2.1, (heq c).2.2.1, (heq c).2.2.2.1, (heq c).2.2.2.2]
    · refine Eq.trans (b := Cert.Kernel22Ideal.Value.want6 (m' ((c.tc : Thread _ _).loc Cert.Reference22Ideal.main_arg0)) (m' ((c.tc : Thread _ _).loc Cert.Reference22Ideal.main_arg3))) rfl ?_
      rw [(heq c).1, (heq c).2.2.2.1]
    · refine Eq.trans (b := Cert.Kernel22Ideal.Value.want7 (m' ((c.tc : Thread _ _).loc Cert.Reference22Ideal.main_arg0)) (m' ((c.tc : Thread _ _).loc Cert.Reference22Ideal.main_arg4))) rfl ?_
      rw [(heq c).1, (heq c).2.2.2.2]

/-- ConvBackward: the program on float words and its idealization have one table of kernel bodies. -/
theorem defs_eq23 : Cert.Kernel23.defs (F := Bits) = Cert.Kernel23Ideal.defs (F := Bits) := by
  have h : Cert.Kernel23.defs₀ (F := Bits) = Cert.Kernel23Ideal.defs₀ (F := Bits) := by
    unfold Cert.Kernel23.defs₀ Cert.Kernel23Ideal.defs₀
    congr 1
    funext l a
    match l, a with
    | ⟨0, _⟩, _ => rfl
  unfold Cert.Kernel23.defs Cert.Kernel23Ideal.defs
  rw [h]
  rfl

/-- ConvBackward: the kernel's run on float words. -/
theorem frame_kernel23 : Cert.quiescent_Kernel23 := fun m ρ _ => by
  rw [defs_eq23]
  exact Cert.Kernel23Ideal.Gen.frame (F := Bits) m ρ

/-- ConvBackward: the kernel's run over the extended reals. -/
theorem frame_kernel23Ideal : Cert.quiescent_Kernel23Ideal := fun m ρ _ => Cert.Kernel23Ideal.Gen.frame m ρ

/-- ConvBackward: the reference's run. -/
theorem frame_reference23Ideal : Cert.quiescent_Reference23Ideal := fun m ρ _ =>
  (θ_run Cert.Reference23Ideal.defs _ _).mono (fun r h => ⟨fun c => (h c).2.2.2, sem_eq_zero_of_no_sems (by decide) r.2⟩) (Cert.Reference23Ideal.Value.run (F := Ideal) m ρ)

/-- ConvBackward: over the extended reals the kernel's results are the reference's. -/
theorem algebraic23 : Cert.algebraic_Kernel23Ideal_Reference23Ideal := by
  intro m g m' g' _ heq
  refine ⟨fun c => Cert.Kernel23Ideal.Value.want4 (m ((c.tc : Thread _ _).loc Cert.Kernel23Ideal.main_arg1)) (m ((c.tc : Thread _ _).loc Cert.Kernel23Ideal.main_arg2)) (m ((c.tc : Thread _ _).loc Cert.Kernel23Ideal.main_arg3)), fun c => Cert.Kernel23Ideal.Value.want5 (m ((c.tc : Thread _ _).loc Cert.Kernel23Ideal.main_arg0)) (m ((c.tc : Thread _ _).loc Cert.Kernel23Ideal.main_arg2)) (m ((c.tc : Thread _ _).loc Cert.Kernel23Ideal.main_arg3)), fun c => Cert.Kernel23Ideal.Value.want6 (m ((c.tc : Thread _ _).loc Cert.Kernel23Ideal.main_arg2)) (m ((c.tc : Thread _ _).loc Cert.Kernel23Ideal.main_arg3)), ?_, ?_⟩
  · exact (θ_run Cert.Kernel23Ideal.defs _ _).mono (fun r h c => ⟨(h c).1.trans (Cert.Kernel23Ideal.Value.result4 m c), (h c).2.1.trans (Cert.Kernel23Ideal.Value.result5 m c), (h c).2.2.1.trans (Cert.Kernel23Ideal.Value.result6 m c), (h c).2.2.2⟩) (Cert.Kernel23Ideal.Value.run_blocks m g)
  · refine (θ_run Cert.Reference23Ideal.defs _ _).mono (fun r h c => ⟨(h c).1.trans ?_, (h c).2.1.trans ?_, (h c).2.2.1.trans ?_, (h c).2.2.2⟩) (Cert.Reference23Ideal.Value.run (F := Ideal) m' g')
    · refine Eq.trans (b := Cert.Kernel23Ideal.Value.want4 (m' ((c.tc : Thread _ _).loc Cert.Reference23Ideal.main_arg1)) (m' ((c.tc : Thread _ _).loc Cert.Reference23Ideal.main_arg2)) (m' ((c.tc : Thread _ _).loc Cert.Reference23Ideal.main_arg3))) rfl ?_
      rw [(heq c).2.1, (heq c).2.2.1, (heq c).2.2.2]
    · refine Eq.trans (b := Cert.Kernel23Ideal.Value.want5 (m' ((c.tc : Thread _ _).loc Cert.Reference23Ideal.main_arg0)) (m' ((c.tc : Thread _ _).loc Cert.Reference23Ideal.main_arg2)) (m' ((c.tc : Thread _ _).loc Cert.Reference23Ideal.main_arg3))) rfl ?_
      rw [(heq c).1, (heq c).2.2.1, (heq c).2.2.2]
    · refine Eq.trans (b := Cert.Kernel23Ideal.Value.want6 (m' ((c.tc : Thread _ _).loc Cert.Reference23Ideal.main_arg2)) (m' ((c.tc : Thread _ _).loc Cert.Reference23Ideal.main_arg3))) rfl ?_
      rw [(heq c).2.2.1, (heq c).2.2.2]

/-- PreNormBackward: the program on float words and its idealization have one table of kernel bodies. -/
theorem defs_eq24 : Cert.Kernel24.defs (F := Bits) = Cert.Kernel24Ideal.defs (F := Bits) := by
  have h : Cert.Kernel24.defs₀ (F := Bits) = Cert.Kernel24Ideal.defs₀ (F := Bits) := by
    unfold Cert.Kernel24.defs₀ Cert.Kernel24Ideal.defs₀
    congr 1
    funext l a
    match l, a with
    | ⟨0, _⟩, _ => rfl
  unfold Cert.Kernel24.defs Cert.Kernel24Ideal.defs
  rw [h]
  rfl

/-- PreNormBackward: the kernel's run on float words. -/
theorem frame_kernel24 : Cert.quiescent_Kernel24 := fun m ρ _ => by
  rw [defs_eq24]
  exact Cert.Kernel24Ideal.Gen.frame (F := Bits) m ρ

/-- PreNormBackward: the kernel's run over the extended reals. -/
theorem frame_kernel24Ideal : Cert.quiescent_Kernel24Ideal := fun m ρ _ => Cert.Kernel24Ideal.Gen.frame m ρ

/-- PreNormBackward: the reference's run. -/
theorem frame_reference24Ideal : Cert.quiescent_Reference24Ideal := fun m ρ _ =>
  (θ_run Cert.Reference24Ideal.defs _ _).mono (fun r h => ⟨fun c => (h c).2.2, sem_eq_zero_of_no_sems (by decide) r.2⟩) (Cert.Reference24Ideal.Value.run (F := Ideal) m ρ)

/-- PreNormBackward: over the extended reals the kernel's results are the reference's. -/
theorem algebraic24 : Cert.algebraic_Kernel24Ideal_Reference24Ideal := by
  intro m g m' g' _ heq
  refine ⟨fun c => Cert.Kernel24Ideal.Value.want4 (m ((c.tc : Thread _ _).loc Cert.Kernel24Ideal.main_arg0)) (m ((c.tc : Thread _ _).loc Cert.Kernel24Ideal.main_arg1)) (m ((c.tc : Thread _ _).loc Cert.Kernel24Ideal.main_arg2)) (m ((c.tc : Thread _ _).loc Cert.Kernel24Ideal.main_arg3)), fun c => Cert.Kernel24Ideal.Value.want5 (m ((c.tc : Thread _ _).loc Cert.Kernel24Ideal.main_arg0)) (m ((c.tc : Thread _ _).loc Cert.Kernel24Ideal.main_arg3)), ?_, ?_⟩
  · exact (θ_run Cert.Kernel24Ideal.defs _ _).mono (fun r h c => ⟨(h c).1.trans (Cert.Kernel24Ideal.Value.result4 m c), (h c).2.1.trans (Cert.Kernel24Ideal.Value.result5 m c), (h c).2.2⟩) (Cert.Kernel24Ideal.Value.run_blocks m g)
  · refine (θ_run Cert.Reference24Ideal.defs _ _).mono (fun r h c => ⟨(h c).1.trans ?_, (h c).2.1.trans ?_, (h c).2.2⟩) (Cert.Reference24Ideal.Value.run (F := Ideal) m' g')
    · refine Eq.trans (b := Cert.Kernel24Ideal.Value.want4 (m' ((c.tc : Thread _ _).loc Cert.Reference24Ideal.main_arg0)) (m' ((c.tc : Thread _ _).loc Cert.Reference24Ideal.main_arg1)) (m' ((c.tc : Thread _ _).loc Cert.Reference24Ideal.main_arg2)) (m' ((c.tc : Thread _ _).loc Cert.Reference24Ideal.main_arg3))) rfl ?_
      rw [(heq c).1, (heq c).2.1, (heq c).2.2.1, (heq c).2.2.2]
    · refine Eq.trans (b := Cert.Kernel24Ideal.Value.want5 (m' ((c.tc : Thread _ _).loc Cert.Reference24Ideal.main_arg0)) (m' ((c.tc : Thread _ _).loc Cert.Reference24Ideal.main_arg3))) rfl ?_
      rw [(heq c).1, (heq c).2.2.2]

/-- PostMixBackward: the program on float words and its idealization have one table of kernel bodies. -/
theorem defs_eq25 : Cert.Kernel25.defs (F := Bits) = Cert.Kernel25Ideal.defs (F := Bits) := by
  have h : Cert.Kernel25.defs₀ (F := Bits) = Cert.Kernel25Ideal.defs₀ (F := Bits) := by
    unfold Cert.Kernel25.defs₀ Cert.Kernel25Ideal.defs₀
    congr 1
    funext l a
    match l, a with
    | ⟨0, _⟩, _ => rfl
  unfold Cert.Kernel25.defs Cert.Kernel25Ideal.defs
  rw [h]
  rfl

/-- PostMixBackward: the kernel's run on float words. -/
theorem frame_kernel25 : Cert.quiescent_Kernel25 := fun m ρ _ => by
  rw [defs_eq25]
  exact Cert.Kernel25Ideal.Gen.frame (F := Bits) m ρ

/-- PostMixBackward: the kernel's run over the extended reals. -/
theorem frame_kernel25Ideal : Cert.quiescent_Kernel25Ideal := fun m ρ _ => Cert.Kernel25Ideal.Gen.frame m ρ

/-- PostMixBackward: the reference's run. -/
theorem frame_reference25Ideal : Cert.quiescent_Reference25Ideal := fun m ρ _ =>
  (θ_run Cert.Reference25Ideal.defs _ _).mono (fun r h => ⟨fun c => (h c).2.2.2.2, sem_eq_zero_of_no_sems (by decide) r.2⟩) (Cert.Reference25Ideal.Value.run (F := Ideal) m ρ)

/-- PostMixBackward: over the extended reals the kernel's results are the reference's. -/
theorem algebraic25 : Cert.algebraic_Kernel25Ideal_Reference25Ideal := by
  intro m g m' g' _ heq
  refine ⟨fun c => Cert.Kernel25Ideal.Value.want6 (m ((c.tc : Thread _ _).loc Cert.Kernel25Ideal.main_arg0)) (m ((c.tc : Thread _ _).loc Cert.Kernel25Ideal.main_arg1)) (m ((c.tc : Thread _ _).loc Cert.Kernel25Ideal.main_arg2)) (m ((c.tc : Thread _ _).loc Cert.Kernel25Ideal.main_arg3)) (m ((c.tc : Thread _ _).loc Cert.Kernel25Ideal.main_arg4)) (m ((c.tc : Thread _ _).loc Cert.Kernel25Ideal.main_arg5)), fun c => Cert.Kernel25Ideal.Value.want7 (m ((c.tc : Thread _ _).loc Cert.Kernel25Ideal.main_arg0)) (m ((c.tc : Thread _ _).loc Cert.Kernel25Ideal.main_arg1)) (m ((c.tc : Thread _ _).loc Cert.Kernel25Ideal.main_arg2)) (m ((c.tc : Thread _ _).loc Cert.Kernel25Ideal.main_arg3)) (m ((c.tc : Thread _ _).loc Cert.Kernel25Ideal.main_arg4)) (m ((c.tc : Thread _ _).loc Cert.Kernel25Ideal.main_arg5)), fun c => Cert.Kernel25Ideal.Value.want8 (m ((c.tc : Thread _ _).loc Cert.Kernel25Ideal.main_arg0)) (m ((c.tc : Thread _ _).loc Cert.Kernel25Ideal.main_arg1)) (m ((c.tc : Thread _ _).loc Cert.Kernel25Ideal.main_arg2)) (m ((c.tc : Thread _ _).loc Cert.Kernel25Ideal.main_arg3)) (m ((c.tc : Thread _ _).loc Cert.Kernel25Ideal.main_arg4)) (m ((c.tc : Thread _ _).loc Cert.Kernel25Ideal.main_arg5)), fun c => Cert.Kernel25Ideal.Value.want9 (m ((c.tc : Thread _ _).loc Cert.Kernel25Ideal.main_arg0)) (m ((c.tc : Thread _ _).loc Cert.Kernel25Ideal.main_arg1)) (m ((c.tc : Thread _ _).loc Cert.Kernel25Ideal.main_arg2)) (m ((c.tc : Thread _ _).loc Cert.Kernel25Ideal.main_arg5)), ?_, ?_⟩
  · exact (θ_run Cert.Kernel25Ideal.defs _ _).mono (fun r h c => ⟨(h c).1.trans (Cert.Kernel25Ideal.Value.result6 m c), (h c).2.1.trans (Cert.Kernel25Ideal.Value.result7 m c), (h c).2.2.1.trans (Cert.Kernel25Ideal.Value.result8 m c), (h c).2.2.2.1.trans (Cert.Kernel25Ideal.Value.result9 m c), (h c).2.2.2.2⟩) (Cert.Kernel25Ideal.Value.run_blocks m g)
  · refine (θ_run Cert.Reference25Ideal.defs _ _).mono (fun r h c => ⟨(h c).1.trans ?_, (h c).2.1.trans ?_, (h c).2.2.1.trans ?_, (h c).2.2.2.1.trans ?_, (h c).2.2.2.2⟩) (Cert.Reference25Ideal.Value.run (F := Ideal) m' g')
    · refine Eq.trans (b := Cert.Kernel25Ideal.Value.want6 (m' ((c.tc : Thread _ _).loc Cert.Reference25Ideal.main_arg0)) (m' ((c.tc : Thread _ _).loc Cert.Reference25Ideal.main_arg1)) (m' ((c.tc : Thread _ _).loc Cert.Reference25Ideal.main_arg2)) (m' ((c.tc : Thread _ _).loc Cert.Reference25Ideal.main_arg3)) (m' ((c.tc : Thread _ _).loc Cert.Reference25Ideal.main_arg4)) (m' ((c.tc : Thread _ _).loc Cert.Reference25Ideal.main_arg5))) rfl ?_
      rw [(heq c).1, (heq c).2.1, (heq c).2.2.1, (heq c).2.2.2.1, (heq c).2.2.2.2.1, (heq c).2.2.2.2.2]
    · refine Eq.trans (b := Cert.Kernel25Ideal.Value.want7 (m' ((c.tc : Thread _ _).loc Cert.Reference25Ideal.main_arg0)) (m' ((c.tc : Thread _ _).loc Cert.Reference25Ideal.main_arg1)) (m' ((c.tc : Thread _ _).loc Cert.Reference25Ideal.main_arg2)) (m' ((c.tc : Thread _ _).loc Cert.Reference25Ideal.main_arg3)) (m' ((c.tc : Thread _ _).loc Cert.Reference25Ideal.main_arg4)) (m' ((c.tc : Thread _ _).loc Cert.Reference25Ideal.main_arg5))) rfl ?_
      rw [(heq c).1, (heq c).2.1, (heq c).2.2.1, (heq c).2.2.2.1, (heq c).2.2.2.2.1, (heq c).2.2.2.2.2]
    · refine Eq.trans (b := Cert.Kernel25Ideal.Value.want8 (m' ((c.tc : Thread _ _).loc Cert.Reference25Ideal.main_arg0)) (m' ((c.tc : Thread _ _).loc Cert.Reference25Ideal.main_arg1)) (m' ((c.tc : Thread _ _).loc Cert.Reference25Ideal.main_arg2)) (m' ((c.tc : Thread _ _).loc Cert.Reference25Ideal.main_arg3)) (m' ((c.tc : Thread _ _).loc Cert.Reference25Ideal.main_arg4)) (m' ((c.tc : Thread _ _).loc Cert.Reference25Ideal.main_arg5))) rfl ?_
      rw [(heq c).1, (heq c).2.1, (heq c).2.2.1, (heq c).2.2.2.1, (heq c).2.2.2.2.1, (heq c).2.2.2.2.2]
    · refine Eq.trans (b := Cert.Kernel25Ideal.Value.want9 (m' ((c.tc : Thread _ _).loc Cert.Reference25Ideal.main_arg0)) (m' ((c.tc : Thread _ _).loc Cert.Reference25Ideal.main_arg1)) (m' ((c.tc : Thread _ _).loc Cert.Reference25Ideal.main_arg2)) (m' ((c.tc : Thread _ _).loc Cert.Reference25Ideal.main_arg5))) rfl ?_
      rw [(heq c).1, (heq c).2.1, (heq c).2.2.1, (heq c).2.2.2.2.2]

/-- PostFfnBackward: the program on float words and its idealization have one table of kernel bodies. -/
theorem defs_eq26 : Cert.Kernel26.defs (F := Bits) = Cert.Kernel26Ideal.defs (F := Bits) := by
  have h : Cert.Kernel26.defs₀ (F := Bits) = Cert.Kernel26Ideal.defs₀ (F := Bits) := by
    unfold Cert.Kernel26.defs₀ Cert.Kernel26Ideal.defs₀
    congr 1
    funext l a
    match l, a with
    | ⟨0, _⟩, _ => rfl
  unfold Cert.Kernel26.defs Cert.Kernel26Ideal.defs
  rw [h]
  rfl

/-- PostFfnBackward: the kernel's run on float words. -/
theorem frame_kernel26 : Cert.quiescent_Kernel26 := fun m ρ _ => by
  rw [defs_eq26]
  exact Cert.Kernel26Ideal.Gen.frame (F := Bits) m ρ

/-- PostFfnBackward: the kernel's run over the extended reals. -/
theorem frame_kernel26Ideal : Cert.quiescent_Kernel26Ideal := fun m ρ _ => Cert.Kernel26Ideal.Gen.frame m ρ

/-- PostFfnBackward: the reference's run. -/
theorem frame_reference26Ideal : Cert.quiescent_Reference26Ideal := fun m ρ _ =>
  (θ_run Cert.Reference26Ideal.defs _ _).mono (fun r h => ⟨fun c => (h c).2.2.2, sem_eq_zero_of_no_sems (by decide) r.2⟩) (Cert.Reference26Ideal.Value.run (F := Ideal) m ρ)

/-- PostFfnBackward: over the extended reals the kernel's results are the reference's. -/
theorem algebraic26 : Cert.algebraic_Kernel26Ideal_Reference26Ideal := by
  intro m g m' g' _ heq
  refine ⟨fun c => Cert.Kernel26Ideal.Value.want5 (m ((c.tc : Thread _ _).loc Cert.Kernel26Ideal.main_arg3)) (m ((c.tc : Thread _ _).loc Cert.Kernel26Ideal.main_arg4)), fun c => Cert.Kernel26Ideal.Value.want6 (m ((c.tc : Thread _ _).loc Cert.Kernel26Ideal.main_arg1)) (m ((c.tc : Thread _ _).loc Cert.Kernel26Ideal.main_arg2)) (m ((c.tc : Thread _ _).loc Cert.Kernel26Ideal.main_arg3)) (m ((c.tc : Thread _ _).loc Cert.Kernel26Ideal.main_arg4)), fun c => Cert.Kernel26Ideal.Value.want7 (m ((c.tc : Thread _ _).loc Cert.Kernel26Ideal.main_arg1)) (m ((c.tc : Thread _ _).loc Cert.Kernel26Ideal.main_arg3)) (m ((c.tc : Thread _ _).loc Cert.Kernel26Ideal.main_arg4)), ?_, ?_⟩
  · exact (θ_run Cert.Kernel26Ideal.defs _ _).mono (fun r h c => ⟨(h c).1.trans (Cert.Kernel26Ideal.Value.result5 m c), (h c).2.1.trans (Cert.Kernel26Ideal.Value.result6 m c), (h c).2.2.1.trans (Cert.Kernel26Ideal.Value.result7 m c), (h c).2.2.2⟩) (Cert.Kernel26Ideal.Value.run_blocks m g)
  · refine (θ_run Cert.Reference26Ideal.defs _ _).mono (fun r h c => ⟨(h c).1.trans ?_, (h c).2.1.trans ?_, (h c).2.2.1.trans ?_, (h c).2.2.2⟩) (Cert.Reference26Ideal.Value.run (F := Ideal) m' g')
    · refine Eq.trans (b := Cert.Kernel26Ideal.Value.want5 (m' ((c.tc : Thread _ _).loc Cert.Reference26Ideal.main_arg3)) (m' ((c.tc : Thread _ _).loc Cert.Reference26Ideal.main_arg4))) rfl ?_
      rw [(heq c).2.2.2.1, (heq c).2.2.2.2]
    · refine Eq.trans (b := Cert.Kernel26Ideal.Value.want6 (m' ((c.tc : Thread _ _).loc Cert.Reference26Ideal.main_arg1)) (m' ((c.tc : Thread _ _).loc Cert.Reference26Ideal.main_arg2)) (m' ((c.tc : Thread _ _).loc Cert.Reference26Ideal.main_arg3)) (m' ((c.tc : Thread _ _).loc Cert.Reference26Ideal.main_arg4))) rfl ?_
      rw [(heq c).2.1, (heq c).2.2.1, (heq c).2.2.2.1, (heq c).2.2.2.2]
    · refine Eq.trans (b := Cert.Kernel26Ideal.Value.want7 (m' ((c.tc : Thread _ _).loc Cert.Reference26Ideal.main_arg1)) (m' ((c.tc : Thread _ _).loc Cert.Reference26Ideal.main_arg3)) (m' ((c.tc : Thread _ _).loc Cert.Reference26Ideal.main_arg4))) rfl ?_
      rw [(heq c).2.1, (heq c).2.2.2.1, (heq c).2.2.2.2]

/-- FirstPleBackward: the program on float words and its idealization have one table of kernel bodies. -/
theorem defs_eq27 : Cert.Kernel27.defs (F := Bits) = Cert.Kernel27Ideal.defs (F := Bits) := by
  have h : Cert.Kernel27.defs₀ (F := Bits) = Cert.Kernel27Ideal.defs₀ (F := Bits) := by
    unfold Cert.Kernel27.defs₀ Cert.Kernel27Ideal.defs₀
    congr 1
    funext l a
    match l, a with
    | ⟨0, _⟩, _ => rfl
  unfold Cert.Kernel27.defs Cert.Kernel27Ideal.defs
  rw [h]
  rfl

/-- FirstPleBackward: the kernel's run on float words. -/
theorem frame_kernel27 : Cert.quiescent_Kernel27 := fun m ρ _ => by
  rw [defs_eq27]
  exact Cert.Kernel27Ideal.Gen.frame (F := Bits) m ρ

/-- FirstPleBackward: the kernel's run over the extended reals. -/
theorem frame_kernel27Ideal : Cert.quiescent_Kernel27Ideal := fun m ρ _ => Cert.Kernel27Ideal.Gen.frame m ρ

/-- FirstPleBackward: the reference's run. -/
theorem frame_reference27Ideal : Cert.quiescent_Reference27Ideal := fun m ρ _ =>
  (θ_run Cert.Reference27Ideal.defs _ _).mono (fun r h => ⟨fun c => (h c).2.2.2, sem_eq_zero_of_no_sems (by decide) r.2⟩) (Cert.Reference27Ideal.Value.run (F := Ideal) m ρ)

/-- FirstPleBackward: over the extended reals the kernel's results are the reference's. -/
theorem algebraic27 : Cert.algebraic_Kernel27Ideal_Reference27Ideal := by
  intro m g m' g' _ heq
  refine ⟨fun c => Cert.Kernel27Ideal.Value.want7 (m ((c.tc : Thread _ _).loc Cert.Kernel27Ideal.main_arg0)) (m ((c.tc : Thread _ _).loc Cert.Kernel27Ideal.main_arg1)) (m ((c.tc : Thread _ _).loc Cert.Kernel27Ideal.main_arg2)) (m ((c.tc : Thread _ _).loc Cert.Kernel27Ideal.main_arg3)) (m ((c.tc : Thread _ _).loc Cert.Kernel27Ideal.main_arg4)) (m ((c.tc : Thread _ _).loc Cert.Kernel27Ideal.main_arg5)) (m ((c.tc : Thread _ _).loc Cert.Kernel27Ideal.main_arg6)), fun c => Cert.Kernel27Ideal.Value.want10 (m ((c.tc : Thread _ _).loc Cert.Kernel27Ideal.main_arg0)) (m ((c.tc : Thread _ _).loc Cert.Kernel27Ideal.main_arg1)) (m ((c.tc : Thread _ _).loc Cert.Kernel27Ideal.main_arg2)) (m ((c.tc : Thread _ _).loc Cert.Kernel27Ideal.main_arg3)) (m ((c.tc : Thread _ _).loc Cert.Kernel27Ideal.main_arg4)) (m ((c.tc : Thread _ _).loc Cert.Kernel27Ideal.main_arg5)) (m ((c.tc : Thread _ _).loc Cert.Kernel27Ideal.main_arg6)), fun c => Cert.Kernel27Ideal.Value.want11 (m ((c.tc : Thread _ _).loc Cert.Kernel27Ideal.main_arg0)) (m ((c.tc : Thread _ _).loc Cert.Kernel27Ideal.main_arg1)) (m ((c.tc : Thread _ _).loc Cert.Kernel27Ideal.main_arg2)) (m ((c.tc : Thread _ _).loc Cert.Kernel27Ideal.main_arg3)) (m ((c.tc : Thread _ _).loc Cert.Kernel27Ideal.main_arg6)), ?_, ?_⟩
  · exact (θ_run Cert.Kernel27Ideal.defs _ _).mono (fun r h c => ⟨(h c).1.trans (Cert.Kernel27Ideal.Value.result7 m c), (h c).2.2.2.1.trans (Cert.Kernel27Ideal.Value.result10 m c), (h c).2.2.2.2.1.trans (Cert.Kernel27Ideal.Value.result11 m c), (h c).2.2.2.2.2⟩) (Cert.Kernel27Ideal.Value.run_blocks m g)
  · refine (θ_run Cert.Reference27Ideal.defs _ _).mono (fun r h c => ⟨(h c).1.trans ?_, (h c).2.1.trans ?_, (h c).2.2.1.trans ?_, (h c).2.2.2⟩) (Cert.Reference27Ideal.Value.run (F := Ideal) m' g')
    · refine Eq.trans (b := Cert.Kernel27Ideal.Value.want7 (m' ((c.tc : Thread _ _).loc Cert.Reference27Ideal.main_arg0)) (m' ((c.tc : Thread _ _).loc Cert.Reference27Ideal.main_arg1)) (m' ((c.tc : Thread _ _).loc Cert.Reference27Ideal.main_arg2)) (m' ((c.tc : Thread _ _).loc Cert.Reference27Ideal.main_arg3)) (m' ((c.tc : Thread _ _).loc Cert.Reference27Ideal.main_arg4)) (m' ((c.tc : Thread _ _).loc Cert.Reference27Ideal.main_arg5)) (m' ((c.tc : Thread _ _).loc Cert.Reference27Ideal.main_arg6))) rfl ?_
      rw [(heq c).1, (heq c).2.1, (heq c).2.2.1, (heq c).2.2.2.1, (heq c).2.2.2.2.1, (heq c).2.2.2.2.2.1, (heq c).2.2.2.2.2.2]
    · refine Eq.trans (b := Cert.Kernel27Ideal.Value.want10 (m' ((c.tc : Thread _ _).loc Cert.Reference27Ideal.main_arg0)) (m' ((c.tc : Thread _ _).loc Cert.Reference27Ideal.main_arg1)) (m' ((c.tc : Thread _ _).loc Cert.Reference27Ideal.main_arg2)) (m' ((c.tc : Thread _ _).loc Cert.Reference27Ideal.main_arg3)) (m' ((c.tc : Thread _ _).loc Cert.Reference27Ideal.main_arg4)) (m' ((c.tc : Thread _ _).loc Cert.Reference27Ideal.main_arg5)) (m' ((c.tc : Thread _ _).loc Cert.Reference27Ideal.main_arg6))) rfl ?_
      rw [(heq c).1, (heq c).2.1, (heq c).2.2.1, (heq c).2.2.2.1, (heq c).2.2.2.2.1, (heq c).2.2.2.2.2.1, (heq c).2.2.2.2.2.2]
    · refine Eq.trans (b := Cert.Kernel27Ideal.Value.want11 (m' ((c.tc : Thread _ _).loc Cert.Reference27Ideal.main_arg0)) (m' ((c.tc : Thread _ _).loc Cert.Reference27Ideal.main_arg1)) (m' ((c.tc : Thread _ _).loc Cert.Reference27Ideal.main_arg2)) (m' ((c.tc : Thread _ _).loc Cert.Reference27Ideal.main_arg3)) (m' ((c.tc : Thread _ _).loc Cert.Reference27Ideal.main_arg6))) rfl ?_
      rw [(heq c).1, (heq c).2.1, (heq c).2.2.1, (heq c).2.2.2.1, (heq c).2.2.2.2.2.2]

/-- SwigluBackward: the program on float words and its idealization have one table of kernel bodies. -/
theorem defs_eq28 : Cert.Kernel28.defs (F := Bits) = Cert.Kernel28Ideal.defs (F := Bits) := by
  have h : Cert.Kernel28.defs₀ (F := Bits) = Cert.Kernel28Ideal.defs₀ (F := Bits) := by
    unfold Cert.Kernel28.defs₀ Cert.Kernel28Ideal.defs₀
    congr 1
    funext l a
    match l, a with
    | ⟨0, _⟩, _ => rfl
  unfold Cert.Kernel28.defs Cert.Kernel28Ideal.defs
  rw [h]
  rfl

/-- SwigluBackward: the kernel's run on float words. -/
theorem frame_kernel28 : Cert.quiescent_Kernel28 := fun m ρ _ => by
  rw [defs_eq28]
  exact Cert.Kernel28Ideal.Gen.frame (F := Bits) m ρ

/-- SwigluBackward: the kernel's run over the extended reals. -/
theorem frame_kernel28Ideal : Cert.quiescent_Kernel28Ideal := fun m ρ _ => Cert.Kernel28Ideal.Gen.frame m ρ

/-- SwigluBackward: the reference's run. -/
theorem frame_reference28Ideal : Cert.quiescent_Reference28Ideal := fun m ρ _ =>
  (θ_run Cert.Reference28Ideal.defs _ _).mono (fun r h => ⟨fun c => (h c).2, sem_eq_zero_of_no_sems (by decide) r.2⟩) (Cert.Reference28Ideal.Value.run (F := Ideal) m ρ)

/-- SwigluBackward: over the extended reals the kernel's results are the reference's. -/
theorem algebraic28 : Cert.algebraic_Kernel28Ideal_Reference28Ideal := by
  intro m g m' g' _ heq
  refine ⟨fun c => Cert.Kernel28Ideal.Value.want3 (m ((c.tc : Thread _ _).loc Cert.Kernel28Ideal.main_arg0)) (m ((c.tc : Thread _ _).loc Cert.Kernel28Ideal.main_arg1)), ?_, ?_⟩
  · exact (θ_run Cert.Kernel28Ideal.defs _ _).mono (fun r h c => ⟨(h c).1.trans (Cert.Kernel28Ideal.Value.result3 m c), (h c).2⟩) (Cert.Kernel28Ideal.Value.run_blocks m g)
  · refine (θ_run Cert.Reference28Ideal.defs _ _).mono (fun r h c => ⟨(h c).1.trans ?_, (h c).2⟩) (Cert.Reference28Ideal.Value.run (F := Ideal) m' g')
    · refine Eq.trans (b := Cert.Kernel28Ideal.Value.want3 (m' ((c.tc : Thread _ _).loc Cert.Reference28Ideal.main_arg0)) (m' ((c.tc : Thread _ _).loc Cert.Reference28Ideal.main_arg1))) rfl ?_
      rw [(heq c).1, (heq c).2]

/-- RgOutBackward: the program on float words and its idealization have one table of kernel bodies. -/
theorem defs_eq29 : Cert.Kernel29.defs (F := Bits) = Cert.Kernel29Ideal.defs (F := Bits) := by
  have h : Cert.Kernel29.defs₀ (F := Bits) = Cert.Kernel29Ideal.defs₀ (F := Bits) := by
    unfold Cert.Kernel29.defs₀ Cert.Kernel29Ideal.defs₀
    congr 1
    funext l a
    match l, a with
    | ⟨0, _⟩, _ => rfl
  unfold Cert.Kernel29.defs Cert.Kernel29Ideal.defs
  rw [h]
  rfl

/-- RgOutBackward: the kernel's run on float words. -/
theorem frame_kernel29 : Cert.quiescent_Kernel29 := fun m ρ _ => by
  rw [defs_eq29]
  exact Cert.Kernel29Ideal.Gen.frame (F := Bits) m ρ

/-- RgOutBackward: the kernel's run over the extended reals. -/
theorem frame_kernel29Ideal : Cert.quiescent_Kernel29Ideal := fun m ρ _ => Cert.Kernel29Ideal.Gen.frame m ρ

/-- RgOutBackward: the reference's run. -/
theorem frame_reference29Ideal : Cert.quiescent_Reference29Ideal := fun m ρ _ =>
  (θ_run Cert.Reference29Ideal.defs _ _).mono (fun r h => ⟨fun c => (h c).2.2, sem_eq_zero_of_no_sems (by decide) r.2⟩) (Cert.Reference29Ideal.Value.run (F := Ideal) m ρ)

/-- RgOutBackward: over the extended reals the kernel's results are the reference's. -/
theorem algebraic29 : Cert.algebraic_Kernel29Ideal_Reference29Ideal := by
  intro m g m' g' _ heq
  refine ⟨fun c => Cert.Kernel29Ideal.Value.want3 (m ((c.tc : Thread _ _).loc Cert.Kernel29Ideal.main_arg0)) (m ((c.tc : Thread _ _).loc Cert.Kernel29Ideal.main_arg1)) (m ((c.tc : Thread _ _).loc Cert.Kernel29Ideal.main_arg2)), fun c => Cert.Kernel29Ideal.Value.want4 (m ((c.tc : Thread _ _).loc Cert.Kernel29Ideal.main_arg0)) (m ((c.tc : Thread _ _).loc Cert.Kernel29Ideal.main_arg2)), ?_, ?_⟩
  · exact (θ_run Cert.Kernel29Ideal.defs _ _).mono (fun r h c => ⟨(h c).1.trans (Cert.Kernel29Ideal.Value.result3 m c), (h c).2.1.trans (Cert.Kernel29Ideal.Value.result4 m c), (h c).2.2⟩) (Cert.Kernel29Ideal.Value.run_blocks m g)
  · refine (θ_run Cert.Reference29Ideal.defs _ _).mono (fun r h c => ⟨(h c).1.trans ?_, (h c).2.1.trans ?_, (h c).2.2⟩) (Cert.Reference29Ideal.Value.run (F := Ideal) m' g')
    · refine Eq.trans (b := Cert.Kernel29Ideal.Value.want3 (m' ((c.tc : Thread _ _).loc Cert.Reference29Ideal.main_arg0)) (m' ((c.tc : Thread _ _).loc Cert.Reference29Ideal.main_arg1)) (m' ((c.tc : Thread _ _).loc Cert.Reference29Ideal.main_arg2))) rfl ?_
      rw [(heq c).1, (heq c).2.1, (heq c).2.2]
    · refine Eq.trans (b := Cert.Kernel29Ideal.Value.want4 (m' ((c.tc : Thread _ _).loc Cert.Reference29Ideal.main_arg0)) (m' ((c.tc : Thread _ _).loc Cert.Reference29Ideal.main_arg2))) rfl ?_
      rw [(heq c).1, (heq c).2.2]

/-- LastPleBackward: the program on float words and its idealization have one table of kernel bodies. -/
theorem defs_eq30 : Cert.Kernel30.defs (F := Bits) = Cert.Kernel30Ideal.defs (F := Bits) := by
  have h : Cert.Kernel30.defs₀ (F := Bits) = Cert.Kernel30Ideal.defs₀ (F := Bits) := by
    unfold Cert.Kernel30.defs₀ Cert.Kernel30Ideal.defs₀
    congr 1
    funext l a
    match l, a with
    | ⟨0, _⟩, _ => rfl
  unfold Cert.Kernel30.defs Cert.Kernel30Ideal.defs
  rw [h]
  rfl

/-- LastPleBackward: the kernel's run on float words. -/
theorem frame_kernel30 : Cert.quiescent_Kernel30 := fun m ρ _ => by
  rw [defs_eq30]
  exact Cert.Kernel30Ideal.Gen.frame (F := Bits) m ρ

/-- LastPleBackward: the kernel's run over the extended reals. -/
theorem frame_kernel30Ideal : Cert.quiescent_Kernel30Ideal := fun m ρ _ => Cert.Kernel30Ideal.Gen.frame m ρ

/-- LastPleBackward: the reference's run. -/
theorem frame_reference30Ideal : Cert.quiescent_Reference30Ideal := fun m ρ _ =>
  (θ_run Cert.Reference30Ideal.defs _ _).mono (fun r h => ⟨fun c => (h c).2.2.2.2, sem_eq_zero_of_no_sems (by decide) r.2⟩) (Cert.Reference30Ideal.Value.run (F := Ideal) m ρ)

/-- LastPleBackward: over the extended reals the kernel's results are the reference's. -/
theorem algebraic30 : Cert.algebraic_Kernel30Ideal_Reference30Ideal := by
  intro m g m' g' _ heq
  refine ⟨fun c => Cert.Kernel30Ideal.Value.want5 (m ((c.tc : Thread _ _).loc Cert.Kernel30Ideal.main_arg4)), fun c => Cert.Kernel30Ideal.Value.want6 (m ((c.tc : Thread _ _).loc Cert.Kernel30Ideal.main_arg1)) (m ((c.tc : Thread _ _).loc Cert.Kernel30Ideal.main_arg2)) (m ((c.tc : Thread _ _).loc Cert.Kernel30Ideal.main_arg3)) (m ((c.tc : Thread _ _).loc Cert.Kernel30Ideal.main_arg4)), fun c => Cert.Kernel30Ideal.Value.want7 (m ((c.tc : Thread _ _).loc Cert.Kernel30Ideal.main_arg1)) (m ((c.tc : Thread _ _).loc Cert.Kernel30Ideal.main_arg2)) (m ((c.tc : Thread _ _).loc Cert.Kernel30Ideal.main_arg3)) (m ((c.tc : Thread _ _).loc Cert.Kernel30Ideal.main_arg4)), fun c => Cert.Kernel30Ideal.Value.want8 (m ((c.tc : Thread _ _).loc Cert.Kernel30Ideal.main_arg1)) (m ((c.tc : Thread _ _).loc Cert.Kernel30Ideal.main_arg2)) (m ((c.tc : Thread _ _).loc Cert.Kernel30Ideal.main_arg4)), ?_, ?_⟩
  · exact (θ_run Cert.Kernel30Ideal.defs _ _).mono (fun r h c => ⟨(h c).1.trans (Cert.Kernel30Ideal.Value.result5 m c), (h c).2.1.trans (Cert.Kernel30Ideal.Value.result6 m c), (h c).2.2.1.trans (Cert.Kernel30Ideal.Value.result7 m c), (h c).2.2.2.1.trans (Cert.Kernel30Ideal.Value.result8 m c), (h c).2.2.2.2⟩) (Cert.Kernel30Ideal.Value.run_blocks m g)
  · refine (θ_run Cert.Reference30Ideal.defs _ _).mono (fun r h c => ⟨(h c).1.trans ?_, (h c).2.1.trans ?_, (h c).2.2.1.trans ?_, (h c).2.2.2.1.trans ?_, (h c).2.2.2.2⟩) (Cert.Reference30Ideal.Value.run (F := Ideal) m' g')
    · refine Eq.trans (b := Cert.Kernel30Ideal.Value.want5 (m' ((c.tc : Thread _ _).loc Cert.Reference30Ideal.main_arg4))) rfl ?_
      rw [(heq c).2.2.2.2]
    · refine Eq.trans (b := Cert.Kernel30Ideal.Value.want6 (m' ((c.tc : Thread _ _).loc Cert.Reference30Ideal.main_arg1)) (m' ((c.tc : Thread _ _).loc Cert.Reference30Ideal.main_arg2)) (m' ((c.tc : Thread _ _).loc Cert.Reference30Ideal.main_arg3)) (m' ((c.tc : Thread _ _).loc Cert.Reference30Ideal.main_arg4))) rfl ?_
      rw [(heq c).2.1, (heq c).2.2.1, (heq c).2.2.2.1, (heq c).2.2.2.2]
    · refine Eq.trans (b := Cert.Kernel30Ideal.Value.want7 (m' ((c.tc : Thread _ _).loc Cert.Reference30Ideal.main_arg1)) (m' ((c.tc : Thread _ _).loc Cert.Reference30Ideal.main_arg2)) (m' ((c.tc : Thread _ _).loc Cert.Reference30Ideal.main_arg3)) (m' ((c.tc : Thread _ _).loc Cert.Reference30Ideal.main_arg4))) rfl ?_
      rw [(heq c).2.1, (heq c).2.2.1, (heq c).2.2.2.1, (heq c).2.2.2.2]
    · refine Eq.trans (b := Cert.Kernel30Ideal.Value.want8 (m' ((c.tc : Thread _ _).loc Cert.Reference30Ideal.main_arg1)) (m' ((c.tc : Thread _ _).loc Cert.Reference30Ideal.main_arg2)) (m' ((c.tc : Thread _ _).loc Cert.Reference30Ideal.main_arg4))) rfl ?_
      rw [(heq c).2.1, (heq c).2.2.1, (heq c).2.2.2.2]

/-- LossHead: the program on float words and its idealization have one table of kernel bodies. -/
theorem defs_eq41 : Cert.Kernel41.defs (F := Bits) = Cert.Kernel41Ideal.defs (F := Bits) := by
  have h : Cert.Kernel41.defs₀ (F := Bits) = Cert.Kernel41Ideal.defs₀ (F := Bits) := by
    unfold Cert.Kernel41.defs₀ Cert.Kernel41Ideal.defs₀
    congr 1
    funext l a
    match l, a with
    | ⟨0, _⟩, _ => rfl
  unfold Cert.Kernel41.defs Cert.Kernel41Ideal.defs
  rw [h]
  rfl

/-- LossHead: the kernel's run on float words. -/
theorem frame_kernel41 : Cert.quiescent_Kernel41 := fun m ρ _ => by
  rw [defs_eq41]
  exact Cert.Kernel41Ideal.Gen.frame (F := Bits) m ρ

/-- LossHead: the kernel's run over the extended reals. -/
theorem frame_kernel41Ideal : Cert.quiescent_Kernel41Ideal := fun m ρ _ => Cert.Kernel41Ideal.Gen.frame m ρ

/-- LossHead: the reference's run. -/
theorem frame_reference41Ideal : Cert.quiescent_Reference41Ideal := fun m ρ _ =>
  (θ_run Cert.Reference41Ideal.defs _ _).mono (fun r h => ⟨fun c => (h c).2.2, sem_eq_zero_of_no_sems (by decide) r.2⟩) (Cert.Reference41Ideal.Value.run (F := Ideal) m ρ)

/-- LossHead: over the extended reals the kernel's results are the reference's. -/
theorem algebraic41 : Cert.algebraic_Kernel41Ideal_Reference41Ideal := by
  intro m g m' g' _ heq
  refine ⟨fun c => Cert.Kernel41Ideal.Value.want3 (m ((c.tc : Thread _ _).loc Cert.Kernel41Ideal.main_arg0)) (m ((c.tc : Thread _ _).loc Cert.Kernel41Ideal.main_arg1)), fun c => Cert.Kernel41Ideal.Value.want2 (m ((c.tc : Thread _ _).loc Cert.Kernel41Ideal.main_arg0)) (m ((c.tc : Thread _ _).loc Cert.Kernel41Ideal.main_arg1)), ?_, ?_⟩
  · exact (θ_run Cert.Kernel41Ideal.defs _ _).mono (fun r h c => ⟨(h c).2.1.trans (Cert.Kernel41Ideal.Value.result3 m c), (h c).1.trans (Cert.Kernel41Ideal.Value.result2 m c), (h c).2.2⟩) (Cert.Kernel41Ideal.Value.run_blocks m g)
  · refine (θ_run Cert.Reference41Ideal.defs _ _).mono (fun r h c => ⟨(h c).1.trans ?_, (h c).2.1.trans ?_, (h c).2.2⟩) (Cert.Reference41Ideal.Value.run (F := Ideal) m' g')
    · refine Eq.trans (b := Cert.Kernel41Ideal.Value.want3 (m' ((c.tc : Thread _ _).loc Cert.Reference41Ideal.main_arg0)) (m' ((c.tc : Thread _ _).loc Cert.Reference41Ideal.main_arg1))) rfl ?_
      rw [(heq c).1, (heq c).2]
    · refine Eq.trans (b := Cert.Kernel41Ideal.Value.want2 (m' ((c.tc : Thread _ _).loc Cert.Reference41Ideal.main_arg0)) (m' ((c.tc : Thread _ _).loc Cert.Reference41Ideal.main_arg1))) rfl ?_
      rw [(heq c).1, (heq c).2]

/-- GateProductsForward: the program on float words and its idealization have one table of kernel bodies. -/
theorem defs_eq42 : Cert.Kernel42.defs (F := Bits) = Cert.Kernel42Ideal.defs (F := Bits) := by
  have h : Cert.Kernel42.defs₀ (F := Bits) = Cert.Kernel42Ideal.defs₀ (F := Bits) := by
    unfold Cert.Kernel42.defs₀ Cert.Kernel42Ideal.defs₀
    congr 1
    funext l a
    match l, a with
    | ⟨0, _⟩, _ => rfl
  unfold Cert.Kernel42.defs Cert.Kernel42Ideal.defs
  rw [h]
  rfl

/-- GateProductsForward: the kernel's run on float words. -/
theorem frame_kernel42 : Cert.quiescent_Kernel42 := fun m ρ _ => by
  rw [defs_eq42]
  exact Cert.Kernel42Ideal.Gen.frame (F := Bits) m ρ

/-- GateProductsForward: the kernel's run over the extended reals. -/
theorem frame_kernel42Ideal : Cert.quiescent_Kernel42Ideal := fun m ρ _ => Cert.Kernel42Ideal.Gen.frame m ρ

/-- GateProductsForward: the reference's run. -/
theorem frame_reference42Ideal : Cert.quiescent_Reference42Ideal := fun m ρ _ =>
  (θ_run Cert.Reference42Ideal.defs _ _).mono (fun r h => ⟨fun c => (h c).2.2, sem_eq_zero_of_no_sems (by decide) r.2⟩) (Cert.Reference42Ideal.Value.run (F := Ideal) m ρ)

/-- GateProductsForward: over the extended reals the kernel's results are the reference's. -/
theorem algebraic42 : Cert.algebraic_Kernel42Ideal_Reference42Ideal := by
  intro m g m' g' _ heq
  refine ⟨fun c => Cert.Kernel42Ideal.Value.want3 (m ((c.tc : Thread _ _).loc Cert.Kernel42Ideal.main_arg0)) (m ((c.tc : Thread _ _).loc Cert.Kernel42Ideal.main_arg1)), fun c => Cert.Kernel42Ideal.Value.want4 (m ((c.tc : Thread _ _).loc Cert.Kernel42Ideal.main_arg0)) (m ((c.tc : Thread _ _).loc Cert.Kernel42Ideal.main_arg2)), ?_, ?_⟩
  · exact (θ_run Cert.Kernel42Ideal.defs _ _).mono (fun r h c => ⟨(h c).1.trans (Cert.Kernel42Ideal.Value.result3 m c), (h c).2.1.trans (Cert.Kernel42Ideal.Value.result4 m c), (h c).2.2⟩) (Cert.Kernel42Ideal.Value.run_blocks m g)
  · refine (θ_run Cert.Reference42Ideal.defs _ _).mono (fun r h c => ⟨(h c).1.trans ?_, (h c).2.1.trans ?_, (h c).2.2⟩) (Cert.Reference42Ideal.Value.run (F := Ideal) m' g')
    · refine Eq.trans (b := Cert.Kernel42Ideal.Value.want3 (m' ((c.tc : Thread _ _).loc Cert.Reference42Ideal.main_arg0)) (m' ((c.tc : Thread _ _).loc Cert.Reference42Ideal.main_arg1))) rfl ?_
      rw [(heq c).1, (heq c).2.1]
    · refine Eq.trans (b := Cert.Kernel42Ideal.Value.want4 (m' ((c.tc : Thread _ _).loc Cert.Reference42Ideal.main_arg0)) (m' ((c.tc : Thread _ _).loc Cert.Reference42Ideal.main_arg2))) rfl ?_
      rw [(heq c).1, (heq c).2.2]

/-- ConvForward: the program on float words and its idealization have one table of kernel bodies. -/
theorem defs_eq43 : Cert.Kernel43.defs (F := Bits) = Cert.Kernel43Ideal.defs (F := Bits) := by
  have h : Cert.Kernel43.defs₀ (F := Bits) = Cert.Kernel43Ideal.defs₀ (F := Bits) := by
    unfold Cert.Kernel43.defs₀ Cert.Kernel43Ideal.defs₀
    congr 1
    funext l a
    match l, a with
    | ⟨0, _⟩, _ => rfl
  unfold Cert.Kernel43.defs Cert.Kernel43Ideal.defs
  rw [h]
  rfl

/-- ConvForward: the kernel's run on float words. -/
theorem frame_kernel43 : Cert.quiescent_Kernel43 := fun m ρ _ => by
  rw [defs_eq43]
  exact Cert.Kernel43Ideal.Gen.frame (F := Bits) m ρ

/-- ConvForward: the kernel's run over the extended reals. -/
theorem frame_kernel43Ideal : Cert.quiescent_Kernel43Ideal := fun m ρ _ => Cert.Kernel43Ideal.Gen.frame m ρ

/-- ConvForward: the reference's run. -/
theorem frame_reference43Ideal : Cert.quiescent_Reference43Ideal := fun m ρ _ =>
  (θ_run Cert.Reference43Ideal.defs _ _).mono (fun r h => ⟨fun c => (h c).2.2, sem_eq_zero_of_no_sems (by decide) r.2⟩) (Cert.Reference43Ideal.Value.run (F := Ideal) m ρ)

/-- ConvForward: over the extended reals the kernel's results are the reference's. -/
theorem algebraic43 : Cert.algebraic_Kernel43Ideal_Reference43Ideal := by
  intro m g m' g' _ heq
  refine ⟨fun c => Cert.Kernel43Ideal.Value.want3 (m ((c.tc : Thread _ _).loc Cert.Kernel43Ideal.main_arg0)) (m ((c.tc : Thread _ _).loc Cert.Kernel43Ideal.main_arg1)) (m ((c.tc : Thread _ _).loc Cert.Kernel43Ideal.main_arg2)), fun c => Cert.Kernel43Ideal.Value.want4 (m ((c.tc : Thread _ _).loc Cert.Kernel43Ideal.main_arg0)) (m ((c.tc : Thread _ _).loc Cert.Kernel43Ideal.main_arg1)) (m ((c.tc : Thread _ _).loc Cert.Kernel43Ideal.main_arg2)), ?_, ?_⟩
  · exact (θ_run Cert.Kernel43Ideal.defs _ _).mono (fun r h c => ⟨(h c).1.trans (Cert.Kernel43Ideal.Value.result3 m c), (h c).2.1.trans (Cert.Kernel43Ideal.Value.result4 m c), (h c).2.2⟩) (Cert.Kernel43Ideal.Value.run_blocks m g)
  · refine (θ_run Cert.Reference43Ideal.defs _ _).mono (fun r h c => ⟨(h c).1.trans ?_, (h c).2.1.trans ?_, (h c).2.2⟩) (Cert.Reference43Ideal.Value.run (F := Ideal) m' g')
    · refine Eq.trans (b := Cert.Kernel43Ideal.Value.want3 (m' ((c.tc : Thread _ _).loc Cert.Reference43Ideal.main_arg0)) (m' ((c.tc : Thread _ _).loc Cert.Reference43Ideal.main_arg1)) (m' ((c.tc : Thread _ _).loc Cert.Reference43Ideal.main_arg2))) rfl ?_
      rw [(heq c).1, (heq c).2.1, (heq c).2.2]
    · refine Eq.trans (b := Cert.Kernel43Ideal.Value.want4 (m' ((c.tc : Thread _ _).loc Cert.Reference43Ideal.main_arg0)) (m' ((c.tc : Thread _ _).loc Cert.Reference43Ideal.main_arg1)) (m' ((c.tc : Thread _ _).loc Cert.Reference43Ideal.main_arg2))) rfl ?_
      rw [(heq c).1, (heq c).2.1, (heq c).2.2]

/-- PreNormForward: the program on float words and its idealization have one table of kernel bodies. -/
theorem defs_eq44 : Cert.Kernel44.defs (F := Bits) = Cert.Kernel44Ideal.defs (F := Bits) := by
  have h : Cert.Kernel44.defs₀ (F := Bits) = Cert.Kernel44Ideal.defs₀ (F := Bits) := by
    unfold Cert.Kernel44.defs₀ Cert.Kernel44Ideal.defs₀
    congr 1
    funext l a
    match l, a with
    | ⟨0, _⟩, _ => rfl
  unfold Cert.Kernel44.defs Cert.Kernel44Ideal.defs
  rw [h]
  rfl

/-- PreNormForward: the kernel's run on float words. -/
theorem frame_kernel44 : Cert.quiescent_Kernel44 := fun m ρ _ => by
  rw [defs_eq44]
  exact Cert.Kernel44Ideal.Gen.frame (F := Bits) m ρ

/-- PreNormForward: the kernel's run over the extended reals. -/
theorem frame_kernel44Ideal : Cert.quiescent_Kernel44Ideal := fun m ρ _ => Cert.Kernel44Ideal.Gen.frame m ρ

/-- PreNormForward: the reference's run. -/
theorem frame_reference44Ideal : Cert.quiescent_Reference44Ideal := fun m ρ _ =>
  (θ_run Cert.Reference44Ideal.defs _ _).mono (fun r h => ⟨fun c => (h c).2, sem_eq_zero_of_no_sems (by decide) r.2⟩) (Cert.Reference44Ideal.Value.run (F := Ideal) m ρ)

/-- PreNormForward: over the extended reals the kernel's results are the reference's. -/
theorem algebraic44 : Cert.algebraic_Kernel44Ideal_Reference44Ideal := by
  intro m g m' g' _ heq
  refine ⟨fun c => Cert.Kernel44Ideal.Value.want2 (m ((c.tc : Thread _ _).loc Cert.Kernel44Ideal.main_arg0)) (m ((c.tc : Thread _ _).loc Cert.Kernel44Ideal.main_arg1)), ?_, ?_⟩
  · exact (θ_run Cert.Kernel44Ideal.defs _ _).mono (fun r h c => ⟨(h c).1.trans (Cert.Kernel44Ideal.Value.result2 m c), (h c).2⟩) (Cert.Kernel44Ideal.Value.run_blocks m g)
  · refine (θ_run Cert.Reference44Ideal.defs _ _).mono (fun r h c => ⟨(h c).1.trans ?_, (h c).2⟩) (Cert.Reference44Ideal.Value.run (F := Ideal) m' g')
    · refine Eq.trans (b := Cert.Kernel44Ideal.Value.want2 (m' ((c.tc : Thread _ _).loc Cert.Reference44Ideal.main_arg0)) (m' ((c.tc : Thread _ _).loc Cert.Reference44Ideal.main_arg1))) rfl ?_
      rw [(heq c).1, (heq c).2]

/-- PostMixForward: the program on float words and its idealization have one table of kernel bodies. -/
theorem defs_eq45 : Cert.Kernel45.defs (F := Bits) = Cert.Kernel45Ideal.defs (F := Bits) := by
  have h : Cert.Kernel45.defs₀ (F := Bits) = Cert.Kernel45Ideal.defs₀ (F := Bits) := by
    unfold Cert.Kernel45.defs₀ Cert.Kernel45Ideal.defs₀
    congr 1
    funext l a
    match l, a with
    | ⟨0, _⟩, _ => rfl
  unfold Cert.Kernel45.defs Cert.Kernel45Ideal.defs
  rw [h]
  rfl

/-- PostMixForward: the kernel's run on float words. -/
theorem frame_kernel45 : Cert.quiescent_Kernel45 := fun m ρ _ => by
  rw [defs_eq45]
  exact Cert.Kernel45Ideal.Gen.frame (F := Bits) m ρ

/-- PostMixForward: the kernel's run over the extended reals. -/
theorem frame_kernel45Ideal : Cert.quiescent_Kernel45Ideal := fun m ρ _ => Cert.Kernel45Ideal.Gen.frame m ρ

/-- PostMixForward: the reference's run. -/
theorem frame_reference45Ideal : Cert.quiescent_Reference45Ideal := fun m ρ _ =>
  (θ_run Cert.Reference45Ideal.defs _ _).mono (fun r h => ⟨fun c => (h c).2.2, sem_eq_zero_of_no_sems (by decide) r.2⟩) (Cert.Reference45Ideal.Value.run (F := Ideal) m ρ)

/-- PostMixForward: over the extended reals the kernel's results are the reference's. -/
theorem algebraic45 : Cert.algebraic_Kernel45Ideal_Reference45Ideal := by
  intro m g m' g' _ heq
  refine ⟨fun c => Cert.Kernel45Ideal.Value.want4 (m ((c.tc : Thread _ _).loc Cert.Kernel45Ideal.main_arg0)) (m ((c.tc : Thread _ _).loc Cert.Kernel45Ideal.main_arg1)) (m ((c.tc : Thread _ _).loc Cert.Kernel45Ideal.main_arg2)), fun c => Cert.Kernel45Ideal.Value.want5 (m ((c.tc : Thread _ _).loc Cert.Kernel45Ideal.main_arg0)) (m ((c.tc : Thread _ _).loc Cert.Kernel45Ideal.main_arg1)) (m ((c.tc : Thread _ _).loc Cert.Kernel45Ideal.main_arg2)) (m ((c.tc : Thread _ _).loc Cert.Kernel45Ideal.main_arg3)), ?_, ?_⟩
  · exact (θ_run Cert.Kernel45Ideal.defs _ _).mono (fun r h c => ⟨(h c).1.trans (Cert.Kernel45Ideal.Value.result4 m c), (h c).2.1.trans (Cert.Kernel45Ideal.Value.result5 m c), (h c).2.2⟩) (Cert.Kernel45Ideal.Value.run_blocks m g)
  · refine (θ_run Cert.Reference45Ideal.defs _ _).mono (fun r h c => ⟨(h c).1.trans ?_, (h c).2.1.trans ?_, (h c).2.2⟩) (Cert.Reference45Ideal.Value.run (F := Ideal) m' g')
    · refine Eq.trans (b := Cert.Kernel45Ideal.Value.want4 (m' ((c.tc : Thread _ _).loc Cert.Reference45Ideal.main_arg0)) (m' ((c.tc : Thread _ _).loc Cert.Reference45Ideal.main_arg1)) (m' ((c.tc : Thread _ _).loc Cert.Reference45Ideal.main_arg2))) rfl ?_
      rw [(heq c).1, (heq c).2.1, (heq c).2.2.1]
    · refine Eq.trans (b := Cert.Kernel45Ideal.Value.want5 (m' ((c.tc : Thread _ _).loc Cert.Reference45Ideal.main_arg0)) (m' ((c.tc : Thread _ _).loc Cert.Reference45Ideal.main_arg1)) (m' ((c.tc : Thread _ _).loc Cert.Reference45Ideal.main_arg2)) (m' ((c.tc : Thread _ _).loc Cert.Reference45Ideal.main_arg3))) rfl ?_
      rw [(heq c).1, (heq c).2.1, (heq c).2.2.1, (heq c).2.2.2]

/-- PostFfnForward: the program on float words and its idealization have one table of kernel bodies. -/
theorem defs_eq46 : Cert.Kernel46.defs (F := Bits) = Cert.Kernel46Ideal.defs (F := Bits) := by
  have h : Cert.Kernel46.defs₀ (F := Bits) = Cert.Kernel46Ideal.defs₀ (F := Bits) := by
    unfold Cert.Kernel46.defs₀ Cert.Kernel46Ideal.defs₀
    congr 1
    funext l a
    match l, a with
    | ⟨0, _⟩, _ => rfl
  unfold Cert.Kernel46.defs Cert.Kernel46Ideal.defs
  rw [h]
  rfl

/-- PostFfnForward: the kernel's run on float words. -/
theorem frame_kernel46 : Cert.quiescent_Kernel46 := fun m ρ _ => by
  rw [defs_eq46]
  exact Cert.Kernel46Ideal.Gen.frame (F := Bits) m ρ

/-- PostFfnForward: the kernel's run over the extended reals. -/
theorem frame_kernel46Ideal : Cert.quiescent_Kernel46Ideal := fun m ρ _ => Cert.Kernel46Ideal.Gen.frame m ρ

/-- PostFfnForward: the reference's run. -/
theorem frame_reference46Ideal : Cert.quiescent_Reference46Ideal := fun m ρ _ =>
  (θ_run Cert.Reference46Ideal.defs _ _).mono (fun r h => ⟨fun c => (h c).2.2, sem_eq_zero_of_no_sems (by decide) r.2⟩) (Cert.Reference46Ideal.Value.run (F := Ideal) m ρ)

/-- PostFfnForward: over the extended reals the kernel's results are the reference's. -/
theorem algebraic46 : Cert.algebraic_Kernel46Ideal_Reference46Ideal := by
  intro m g m' g' _ heq
  refine ⟨fun c => Cert.Kernel46Ideal.Value.want3 (m ((c.tc : Thread _ _).loc Cert.Kernel46Ideal.main_arg0)) (m ((c.tc : Thread _ _).loc Cert.Kernel46Ideal.main_arg1)) (m ((c.tc : Thread _ _).loc Cert.Kernel46Ideal.main_arg2)), fun c => Cert.Kernel46Ideal.Value.want4 (m ((c.tc : Thread _ _).loc Cert.Kernel46Ideal.main_arg0)) (m ((c.tc : Thread _ _).loc Cert.Kernel46Ideal.main_arg1)) (m ((c.tc : Thread _ _).loc Cert.Kernel46Ideal.main_arg2)), ?_, ?_⟩
  · exact (θ_run Cert.Kernel46Ideal.defs _ _).mono (fun r h c => ⟨(h c).1.trans (Cert.Kernel46Ideal.Value.result3 m c), (h c).2.1.trans (Cert.Kernel46Ideal.Value.result4 m c), (h c).2.2⟩) (Cert.Kernel46Ideal.Value.run_blocks m g)
  · refine (θ_run Cert.Reference46Ideal.defs _ _).mono (fun r h c => ⟨(h c).1.trans ?_, (h c).2.1.trans ?_, (h c).2.2⟩) (Cert.Reference46Ideal.Value.run (F := Ideal) m' g')
    · refine Eq.trans (b := Cert.Kernel46Ideal.Value.want3 (m' ((c.tc : Thread _ _).loc Cert.Reference46Ideal.main_arg0)) (m' ((c.tc : Thread _ _).loc Cert.Reference46Ideal.main_arg1)) (m' ((c.tc : Thread _ _).loc Cert.Reference46Ideal.main_arg2))) rfl ?_
      rw [(heq c).1, (heq c).2.1, (heq c).2.2]
    · refine Eq.trans (b := Cert.Kernel46Ideal.Value.want4 (m' ((c.tc : Thread _ _).loc Cert.Reference46Ideal.main_arg0)) (m' ((c.tc : Thread _ _).loc Cert.Reference46Ideal.main_arg1)) (m' ((c.tc : Thread _ _).loc Cert.Reference46Ideal.main_arg2))) rfl ?_
      rw [(heq c).1, (heq c).2.1, (heq c).2.2]

/-- PleForward: the program on float words and its idealization have one table of kernel bodies. -/
theorem defs_eq47 : Cert.Kernel47.defs (F := Bits) = Cert.Kernel47Ideal.defs (F := Bits) := by
  have h : Cert.Kernel47.defs₀ (F := Bits) = Cert.Kernel47Ideal.defs₀ (F := Bits) := by
    unfold Cert.Kernel47.defs₀ Cert.Kernel47Ideal.defs₀
    congr 1
    funext l a
    match l, a with
    | ⟨0, _⟩, _ => rfl
  unfold Cert.Kernel47.defs Cert.Kernel47Ideal.defs
  rw [h]
  rfl

/-- PleForward: the kernel's run on float words. -/
theorem frame_kernel47 : Cert.quiescent_Kernel47 := fun m ρ _ => by
  rw [defs_eq47]
  exact Cert.Kernel47Ideal.Gen.frame (F := Bits) m ρ

/-- PleForward: the kernel's run over the extended reals. -/
theorem frame_kernel47Ideal : Cert.quiescent_Kernel47Ideal := fun m ρ _ => Cert.Kernel47Ideal.Gen.frame m ρ

/-- PleForward: the reference's run. -/
theorem frame_reference47Ideal : Cert.quiescent_Reference47Ideal := fun m ρ _ =>
  (θ_run Cert.Reference47Ideal.defs _ _).mono (fun r h => ⟨fun c => (h c).2.2, sem_eq_zero_of_no_sems (by decide) r.2⟩) (Cert.Reference47Ideal.Value.run (F := Ideal) m ρ)

/-- PleForward: over the extended reals the kernel's results are the reference's. -/
theorem algebraic47 : Cert.algebraic_Kernel47Ideal_Reference47Ideal := by
  intro m g m' g' _ heq
  refine ⟨fun c => Cert.Kernel47Ideal.Value.want5 (m ((c.tc : Thread _ _).loc Cert.Kernel47Ideal.main_arg0)) (m ((c.tc : Thread _ _).loc Cert.Kernel47Ideal.main_arg1)) (m ((c.tc : Thread _ _).loc Cert.Kernel47Ideal.main_arg2)) (m ((c.tc : Thread _ _).loc Cert.Kernel47Ideal.main_arg3)), fun c => Cert.Kernel47Ideal.Value.want6 (m ((c.tc : Thread _ _).loc Cert.Kernel47Ideal.main_arg0)) (m ((c.tc : Thread _ _).loc Cert.Kernel47Ideal.main_arg1)) (m ((c.tc : Thread _ _).loc Cert.Kernel47Ideal.main_arg2)) (m ((c.tc : Thread _ _).loc Cert.Kernel47Ideal.main_arg3)) (m ((c.tc : Thread _ _).loc Cert.Kernel47Ideal.main_arg4)), ?_, ?_⟩
  · exact (θ_run Cert.Kernel47Ideal.defs _ _).mono (fun r h c => ⟨(h c).1.trans (Cert.Kernel47Ideal.Value.result5 m c), (h c).2.1.trans (Cert.Kernel47Ideal.Value.result6 m c), (h c).2.2⟩) (Cert.Kernel47Ideal.Value.run_blocks m g)
  · refine (θ_run Cert.Reference47Ideal.defs _ _).mono (fun r h c => ⟨(h c).1.trans ?_, (h c).2.1.trans ?_, (h c).2.2⟩) (Cert.Reference47Ideal.Value.run (F := Ideal) m' g')
    · refine Eq.trans (b := Cert.Kernel47Ideal.Value.want5 (m' ((c.tc : Thread _ _).loc Cert.Reference47Ideal.main_arg0)) (m' ((c.tc : Thread _ _).loc Cert.Reference47Ideal.main_arg1)) (m' ((c.tc : Thread _ _).loc Cert.Reference47Ideal.main_arg2)) (m' ((c.tc : Thread _ _).loc Cert.Reference47Ideal.main_arg3))) rfl ?_
      rw [(heq c).1, (heq c).2.1, (heq c).2.2.1, (heq c).2.2.2.1]
    · refine Eq.trans (b := Cert.Kernel47Ideal.Value.want6 (m' ((c.tc : Thread _ _).loc Cert.Reference47Ideal.main_arg0)) (m' ((c.tc : Thread _ _).loc Cert.Reference47Ideal.main_arg1)) (m' ((c.tc : Thread _ _).loc Cert.Reference47Ideal.main_arg2)) (m' ((c.tc : Thread _ _).loc Cert.Reference47Ideal.main_arg3)) (m' ((c.tc : Thread _ _).loc Cert.Reference47Ideal.main_arg4))) rfl ?_
      rw [(heq c).1, (heq c).2.1, (heq c).2.2.1, (heq c).2.2.2.1, (heq c).2.2.2.2]

/-- LastPleForward: the program on float words and its idealization have one table of kernel bodies. -/
theorem defs_eq48 : Cert.Kernel48.defs (F := Bits) = Cert.Kernel48Ideal.defs (F := Bits) := by
  have h : Cert.Kernel48.defs₀ (F := Bits) = Cert.Kernel48Ideal.defs₀ (F := Bits) := by
    unfold Cert.Kernel48.defs₀ Cert.Kernel48Ideal.defs₀
    congr 1
    funext l a
    match l, a with
    | ⟨0, _⟩, _ => rfl
  unfold Cert.Kernel48.defs Cert.Kernel48Ideal.defs
  rw [h]
  rfl

/-- LastPleForward: the kernel's run on float words. -/
theorem frame_kernel48 : Cert.quiescent_Kernel48 := fun m ρ _ => by
  rw [defs_eq48]
  exact Cert.Kernel48Ideal.Gen.frame (F := Bits) m ρ

/-- LastPleForward: the kernel's run over the extended reals. -/
theorem frame_kernel48Ideal : Cert.quiescent_Kernel48Ideal := fun m ρ _ => Cert.Kernel48Ideal.Gen.frame m ρ

/-- LastPleForward: the reference's run. -/
theorem frame_reference48Ideal : Cert.quiescent_Reference48Ideal := fun m ρ _ =>
  (θ_run Cert.Reference48Ideal.defs _ _).mono (fun r h => ⟨fun c => (h c).2, sem_eq_zero_of_no_sems (by decide) r.2⟩) (Cert.Reference48Ideal.Value.run (F := Ideal) m ρ)

/-- LastPleForward: over the extended reals the kernel's results are the reference's. -/
theorem algebraic48 : Cert.algebraic_Kernel48Ideal_Reference48Ideal := by
  intro m g m' g' _ heq
  refine ⟨fun c => Cert.Kernel48Ideal.Value.want4 (m ((c.tc : Thread _ _).loc Cert.Kernel48Ideal.main_arg0)) (m ((c.tc : Thread _ _).loc Cert.Kernel48Ideal.main_arg1)) (m ((c.tc : Thread _ _).loc Cert.Kernel48Ideal.main_arg2)) (m ((c.tc : Thread _ _).loc Cert.Kernel48Ideal.main_arg3)), ?_, ?_⟩
  · exact (θ_run Cert.Kernel48Ideal.defs _ _).mono (fun r h c => ⟨(h c).1.trans (Cert.Kernel48Ideal.Value.result4 m c), (h c).2⟩) (Cert.Kernel48Ideal.Value.run_blocks m g)
  · refine (θ_run Cert.Reference48Ideal.defs _ _).mono (fun r h c => ⟨(h c).1.trans ?_, (h c).2⟩) (Cert.Reference48Ideal.Value.run (F := Ideal) m' g')
    · refine Eq.trans (b := Cert.Kernel48Ideal.Value.want4 (m' ((c.tc : Thread _ _).loc Cert.Reference48Ideal.main_arg0)) (m' ((c.tc : Thread _ _).loc Cert.Reference48Ideal.main_arg1)) (m' ((c.tc : Thread _ _).loc Cert.Reference48Ideal.main_arg2)) (m' ((c.tc : Thread _ _).loc Cert.Reference48Ideal.main_arg3))) rfl ?_
      rw [(heq c).1, (heq c).2.1, (heq c).2.2.1, (heq c).2.2.2]

/-- SwigluForward: the program on float words and its idealization have one table of kernel bodies. -/
theorem defs_eq49 : Cert.Kernel49.defs (F := Bits) = Cert.Kernel49Ideal.defs (F := Bits) := by
  have h : Cert.Kernel49.defs₀ (F := Bits) = Cert.Kernel49Ideal.defs₀ (F := Bits) := by
    unfold Cert.Kernel49.defs₀ Cert.Kernel49Ideal.defs₀
    congr 1
    funext l a
    match l, a with
    | ⟨0, _⟩, _ => rfl
  unfold Cert.Kernel49.defs Cert.Kernel49Ideal.defs
  rw [h]
  rfl

/-- SwigluForward: the kernel's run on float words. -/
theorem frame_kernel49 : Cert.quiescent_Kernel49 := fun m ρ _ => by
  rw [defs_eq49]
  exact Cert.Kernel49Ideal.Gen.frame (F := Bits) m ρ

/-- SwigluForward: the kernel's run over the extended reals. -/
theorem frame_kernel49Ideal : Cert.quiescent_Kernel49Ideal := fun m ρ _ => Cert.Kernel49Ideal.Gen.frame m ρ

/-- SwigluForward: the reference's run. -/
theorem frame_reference49Ideal : Cert.quiescent_Reference49Ideal := fun m ρ _ =>
  (θ_run Cert.Reference49Ideal.defs _ _).mono (fun r h => ⟨fun c => (h c).2, sem_eq_zero_of_no_sems (by decide) r.2⟩) (Cert.Reference49Ideal.Value.run (F := Ideal) m ρ)

/-- SwigluForward: over the extended reals the kernel's results are the reference's. -/
theorem algebraic49 : Cert.algebraic_Kernel49Ideal_Reference49Ideal := by
  intro m g m' g' _ heq
  refine ⟨fun c => Cert.Kernel49Ideal.Value.want2 (m ((c.tc : Thread _ _).loc Cert.Kernel49Ideal.main_arg0)), ?_, ?_⟩
  · exact (θ_run Cert.Kernel49Ideal.defs _ _).mono (fun r h c => ⟨(h c).1.trans (Cert.Kernel49Ideal.Value.result2 m c), (h c).2⟩) (Cert.Kernel49Ideal.Value.run_blocks m g)
  · refine (θ_run Cert.Reference49Ideal.defs _ _).mono (fun r h c => ⟨(h c).1.trans ?_, (h c).2⟩) (Cert.Reference49Ideal.Value.run (F := Ideal) m' g')
    · refine Eq.trans (b := Cert.Kernel49Ideal.Value.want2 (m' ((c.tc : Thread _ _).loc Cert.Reference49Ideal.main_arg0))) rfl ?_
      rw [(heq c)]

/-- RgOutForward: the program on float words and its idealization have one table of kernel bodies. -/
theorem defs_eq50 : Cert.Kernel50.defs (F := Bits) = Cert.Kernel50Ideal.defs (F := Bits) := by
  have h : Cert.Kernel50.defs₀ (F := Bits) = Cert.Kernel50Ideal.defs₀ (F := Bits) := by
    unfold Cert.Kernel50.defs₀ Cert.Kernel50Ideal.defs₀
    congr 1
    funext l a
    match l, a with
    | ⟨0, _⟩, _ => rfl
  unfold Cert.Kernel50.defs Cert.Kernel50Ideal.defs
  rw [h]
  rfl

/-- RgOutForward: the kernel's run on float words. -/
theorem frame_kernel50 : Cert.quiescent_Kernel50 := fun m ρ _ => by
  rw [defs_eq50]
  exact Cert.Kernel50Ideal.Gen.frame (F := Bits) m ρ

/-- RgOutForward: the kernel's run over the extended reals. -/
theorem frame_kernel50Ideal : Cert.quiescent_Kernel50Ideal := fun m ρ _ => Cert.Kernel50Ideal.Gen.frame m ρ

/-- RgOutForward: the reference's run. -/
theorem frame_reference50Ideal : Cert.quiescent_Reference50Ideal := fun m ρ _ =>
  (θ_run Cert.Reference50Ideal.defs _ _).mono (fun r h => ⟨fun c => (h c).2, sem_eq_zero_of_no_sems (by decide) r.2⟩) (Cert.Reference50Ideal.Value.run (F := Ideal) m ρ)

/-- RgOutForward: over the extended reals the kernel's results are the reference's. -/
theorem algebraic50 : Cert.algebraic_Kernel50Ideal_Reference50Ideal := by
  intro m g m' g' _ heq
  refine ⟨fun c => Cert.Kernel50Ideal.Value.want2 (m ((c.tc : Thread _ _).loc Cert.Kernel50Ideal.main_arg0)) (m ((c.tc : Thread _ _).loc Cert.Kernel50Ideal.main_arg1)), ?_, ?_⟩
  · exact (θ_run Cert.Kernel50Ideal.defs _ _).mono (fun r h c => ⟨(h c).1.trans (Cert.Kernel50Ideal.Value.result2 m c), (h c).2⟩) (Cert.Kernel50Ideal.Value.run_blocks m g)
  · refine (θ_run Cert.Reference50Ideal.defs _ _).mono (fun r h c => ⟨(h c).1.trans ?_, (h c).2⟩) (Cert.Reference50Ideal.Value.run (F := Ideal) m' g')
    · refine Eq.trans (b := Cert.Kernel50Ideal.Value.want2 (m' ((c.tc : Thread _ _).loc Cert.Reference50Ideal.main_arg0)) (m' ((c.tc : Thread _ _).loc Cert.Reference50Ideal.main_arg1))) rfl ?_
      rw [(heq c).1, (heq c).2]

end Cert.Proof.Local

end
-- ==== Proof.AdamW.Claims.lean ====
module

public import proofs.«01_k».proof.Defs
public import proofs.«01_k».proof.Proof.Gen.Kernel31
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32Ideal.Value
public import proofs.«01_k».proof.Proof.Gen.Reference32Ideal.Run
public import proofs.«01_k».proof.Proof.Gen.Kernel33
public import proofs.«01_k».proof.Proof.Gen.Kernel33Ideal.Value
public import proofs.«01_k».proof.Proof.Gen.Reference33Ideal.Run
public import proofs.«01_k».proof.Proof.Gen.Kernel34
public import proofs.«01_k».proof.Proof.Gen.Kernel34Ideal.Value
public import proofs.«01_k».proof.Proof.Gen.Reference34Ideal.Run
public import proofs.«01_k».proof.Proof.Gen.Kernel35
public import proofs.«01_k».proof.Proof.Gen.Kernel35Ideal.Value
public import proofs.«01_k».proof.Proof.Gen.Reference35Ideal.Run
public import proofs.«01_k».proof.Proof.Gen.Kernel36
public import proofs.«01_k».proof.Proof.Gen.Kernel36Ideal.Value
public import proofs.«01_k».proof.Proof.Gen.Reference36Ideal.Run
public import proofs.«01_k».proof.Proof.Gen.Kernel37
public import proofs.«01_k».proof.Proof.Gen.Kernel37Ideal.Value
public import proofs.«01_k».proof.Proof.Gen.Reference37Ideal.Run
public import proofs.«01_k».proof.Proof.Gen.Kernel38
public import proofs.«01_k».proof.Proof.Gen.Kernel38Ideal.Value
public import proofs.«01_k».proof.Proof.Gen.Reference38Ideal.Run
public import proofs.«01_k».proof.Proof.Gen.Kernel39
public import proofs.«01_k».proof.Proof.Gen.Kernel39Ideal.Value
public import proofs.«01_k».proof.Proof.Gen.Reference39Ideal.Run
public import proofs.«01_k».proof.Proof.Gen.Kernel40
public import proofs.«01_k».proof.Proof.Gen.Kernel40Ideal.Value
public import proofs.«01_k».proof.Proof.Gen.Reference40Ideal.Run

/-! AdamW's step for every weight: the new values are the same operations entry by entry. -/

@[expose] public section

set_option maxRecDepth 16384

noncomputable section

namespace Cert.Proof.AdamW

open Idealize.ShloMosaic Idealize.SL.Sem

/-- AdamW's step for the even mixer's first weight: the program on float words and its idealization have one table of kernel bodies. -/
theorem defs_eq31 : Cert.Kernel31.defs (F := Bits) = Cert.Kernel31Ideal.defs (F := Bits) := by
  have h : Cert.Kernel31.defs₀ (F := Bits) = Cert.Kernel31Ideal.defs₀ (F := Bits) := by
    unfold Cert.Kernel31.defs₀ Cert.Kernel31Ideal.defs₀
    congr 1
    funext l a
    match l, a with
    | ⟨0, _⟩, _ => rfl
  unfold Cert.Kernel31.defs Cert.Kernel31Ideal.defs
  rw [h]
  rfl

/-- AdamW's step for the even mixer's first weight: the kernel's run on float words. -/
theorem frame_kernel31 : Cert.quiescent_Kernel31 := fun m ρ _ => by
  rw [defs_eq31]
  exact Cert.Kernel31Ideal.Gen.frame (F := Bits) m ρ

/-- AdamW's step for the even mixer's first weight: the kernel's run over the extended reals. -/
theorem frame_kernel31Ideal : Cert.quiescent_Kernel31Ideal := fun m ρ _ => Cert.Kernel31Ideal.Gen.frame m ρ

/-- AdamW's step for the even mixer's first weight: the reference's run. -/
theorem frame_reference31Ideal : Cert.quiescent_Reference31Ideal := fun m ρ _ =>
  (θ_run Cert.Reference31Ideal.defs _ _).mono (fun r h => ⟨fun c => (h c).2.2.2, sem_eq_zero_of_no_sems (by decide) r.2⟩) (Cert.Reference31Ideal.Value.run (F := Ideal) m ρ)

/-- AdamW's step for the even mixer's first weight: over the extended reals the kernel's update and its two new moments are the reference's. -/
theorem algebraic31 : Cert.algebraic_Kernel31Ideal_Reference31Ideal := by
  intro m g m' g' _ heq
  refine ⟨fun c => Cert.Kernel31Ideal.Value.G4 (m ((c.tc : Thread _ _).loc Cert.Kernel31Ideal.main_arg0)) (m ((c.tc : Thread _ _).loc Cert.Kernel31Ideal.main_arg1)) (m ((c.tc : Thread _ _).loc Cert.Kernel31Ideal.main_arg2)) (m ((c.tc : Thread _ _).loc Cert.Kernel31Ideal.main_arg3)),
    fun c => Cert.Kernel31Ideal.Value.G5 (m ((c.tc : Thread _ _).loc Cert.Kernel31Ideal.main_arg1)) (m ((c.tc : Thread _ _).loc Cert.Kernel31Ideal.main_arg2)),
    fun c => Cert.Kernel31Ideal.Value.G6 (m ((c.tc : Thread _ _).loc Cert.Kernel31Ideal.main_arg1)) (m ((c.tc : Thread _ _).loc Cert.Kernel31Ideal.main_arg3)), Cert.Kernel31Ideal.Value.run m g, ?_⟩
  refine (θ_run Cert.Reference31Ideal.defs _ _).mono (fun r h c => ⟨(h c).1.trans ?_, (h c).2.1.trans ?_, (h c).2.2.1.trans ?_, (h c).2.2.2⟩)
    (Cert.Reference31Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the even mixer's last weight: the program on float words and its idealization have one table of kernel bodies. -/
theorem defs_eq32 : Cert.Kernel32.defs (F := Bits) = Cert.Kernel32Ideal.defs (F := Bits) := by
  have h : Cert.Kernel32.defs₀ (F := Bits) = Cert.Kernel32Ideal.defs₀ (F := Bits) := by
    unfold Cert.Kernel32.defs₀ Cert.Kernel32Ideal.defs₀
    congr 1
    funext l a
    match l, a with
    | ⟨0, _⟩, _ => rfl
  unfold Cert.Kernel32.defs Cert.Kernel32Ideal.defs
  rw [h]
  rfl

/-- AdamW's step for the even mixer's last weight: the kernel's run on float words. -/
theorem frame_kernel32 : Cert.quiescent_Kernel32 := fun m ρ _ => by
  rw [defs_eq32]
  exact Cert.Kernel32Ideal.Gen.frame (F := Bits) m ρ

/-- AdamW's step for the even mixer's last weight: the kernel's run over the extended reals. -/
theorem frame_kernel32Ideal : Cert.quiescent_Kernel32Ideal := fun m ρ _ => Cert.Kernel32Ideal.Gen.frame m ρ

/-- AdamW's step for the even mixer's last weight: the reference's run. -/
theorem frame_reference32Ideal : Cert.quiescent_Reference32Ideal := fun m ρ _ =>
  (θ_run Cert.Reference32Ideal.defs _ _).mono (fun r h => ⟨fun c => (h c).2.2.2, sem_eq_zero_of_no_sems (by decide) r.2⟩) (Cert.Reference32Ideal.Value.run (F := Ideal) m ρ)

/-- AdamW's step for the even mixer's last weight: over the extended reals the kernel's update and its two new moments are the reference's. -/
theorem algebraic32 : Cert.algebraic_Kernel32Ideal_Reference32Ideal := by
  intro m g m' g' _ heq
  refine ⟨fun c => Cert.Kernel32Ideal.Value.G4 (m ((c.tc : Thread _ _).loc Cert.Kernel32Ideal.main_arg0)) (m ((c.tc : Thread _ _).loc Cert.Kernel32Ideal.main_arg1)) (m ((c.tc : Thread _ _).loc Cert.Kernel32Ideal.main_arg2)) (m ((c.tc : Thread _ _).loc Cert.Kernel32Ideal.main_arg3)),
    fun c => Cert.Kernel32Ideal.Value.G5 (m ((c.tc : Thread _ _).loc Cert.Kernel32Ideal.main_arg1)) (m ((c.tc : Thread _ _).loc Cert.Kernel32Ideal.main_arg2)),
    fun c => Cert.Kernel32Ideal.Value.G6 (m ((c.tc : Thread _ _).loc Cert.Kernel32Ideal.main_arg1)) (m ((c.tc : Thread _ _).loc Cert.Kernel32Ideal.main_arg3)), Cert.Kernel32Ideal.Value.run m g, ?_⟩
  refine (θ_run Cert.Reference32Ideal.defs _ _).mono (fun r h c => ⟨(h c).1.trans ?_, (h c).2.1.trans ?_, (h c).2.2.1.trans ?_, (h c).2.2.2⟩)
    (Cert.Reference32Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the feed-forward layers' first weights: the program on float words and its idealization have one table of kernel bodies. -/
theorem defs_eq33 : Cert.Kernel33.defs (F := Bits) = Cert.Kernel33Ideal.defs (F := Bits) := by
  have h : Cert.Kernel33.defs₀ (F := Bits) = Cert.Kernel33Ideal.defs₀ (F := Bits) := by
    unfold Cert.Kernel33.defs₀ Cert.Kernel33Ideal.defs₀
    congr 1
    funext l a
    match l, a with
    | ⟨0, _⟩, _ => rfl
  unfold Cert.Kernel33.defs Cert.Kernel33Ideal.defs
  rw [h]
  rfl

/-- AdamW's step for the feed-forward layers' first weights: the kernel's run on float words. -/
theorem frame_kernel33 : Cert.quiescent_Kernel33 := fun m ρ _ => by
  rw [defs_eq33]
  exact Cert.Kernel33Ideal.Gen.frame (F := Bits) m ρ

/-- AdamW's step for the feed-forward layers' first weights: the kernel's run over the extended reals. -/
theorem frame_kernel33Ideal : Cert.quiescent_Kernel33Ideal := fun m ρ _ => Cert.Kernel33Ideal.Gen.frame m ρ

/-- AdamW's step for the feed-forward layers' first weights: the reference's run. -/
theorem frame_reference33Ideal : Cert.quiescent_Reference33Ideal := fun m ρ _ =>
  (θ_run Cert.Reference33Ideal.defs _ _).mono (fun r h => ⟨fun c => (h c).2.2.2, sem_eq_zero_of_no_sems (by decide) r.2⟩) (Cert.Reference33Ideal.Value.run (F := Ideal) m ρ)

/-- AdamW's step for the feed-forward layers' first weights: over the extended reals the kernel's update and its two new moments are the reference's. -/
theorem algebraic33 : Cert.algebraic_Kernel33Ideal_Reference33Ideal := by
  intro m g m' g' _ heq
  refine ⟨fun c => Cert.Kernel33Ideal.Value.G4 (m ((c.tc : Thread _ _).loc Cert.Kernel33Ideal.main_arg0)) (m ((c.tc : Thread _ _).loc Cert.Kernel33Ideal.main_arg1)) (m ((c.tc : Thread _ _).loc Cert.Kernel33Ideal.main_arg2)) (m ((c.tc : Thread _ _).loc Cert.Kernel33Ideal.main_arg3)),
    fun c => Cert.Kernel33Ideal.Value.G5 (m ((c.tc : Thread _ _).loc Cert.Kernel33Ideal.main_arg1)) (m ((c.tc : Thread _ _).loc Cert.Kernel33Ideal.main_arg2)),
    fun c => Cert.Kernel33Ideal.Value.G6 (m ((c.tc : Thread _ _).loc Cert.Kernel33Ideal.main_arg1)) (m ((c.tc : Thread _ _).loc Cert.Kernel33Ideal.main_arg3)), Cert.Kernel33Ideal.Value.run m g, ?_⟩
  refine (θ_run Cert.Reference33Ideal.defs _ _).mono (fun r h c => ⟨(h c).1.trans ?_, (h c).2.1.trans ?_, (h c).2.2.1.trans ?_, (h c).2.2.2⟩)
    (Cert.Reference33Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the feed-forward layers' second weights: the program on float words and its idealization have one table of kernel bodies. -/
theorem defs_eq34 : Cert.Kernel34.defs (F := Bits) = Cert.Kernel34Ideal.defs (F := Bits) := by
  have h : Cert.Kernel34.defs₀ (F := Bits) = Cert.Kernel34Ideal.defs₀ (F := Bits) := by
    unfold Cert.Kernel34.defs₀ Cert.Kernel34Ideal.defs₀
    congr 1
    funext l a
    match l, a with
    | ⟨0, _⟩, _ => rfl
  unfold Cert.Kernel34.defs Cert.Kernel34Ideal.defs
  rw [h]
  rfl

/-- AdamW's step for the feed-forward layers' second weights: the kernel's run on float words. -/
theorem frame_kernel34 : Cert.quiescent_Kernel34 := fun m ρ _ => by
  rw [defs_eq34]
  exact Cert.Kernel34Ideal.Gen.frame (F := Bits) m ρ

/-- AdamW's step for the feed-forward layers' second weights: the kernel's run over the extended reals. -/
theorem frame_kernel34Ideal : Cert.quiescent_Kernel34Ideal := fun m ρ _ => Cert.Kernel34Ideal.Gen.frame m ρ

/-- AdamW's step for the feed-forward layers' second weights: the reference's run. -/
theorem frame_reference34Ideal : Cert.quiescent_Reference34Ideal := fun m ρ _ =>
  (θ_run Cert.Reference34Ideal.defs _ _).mono (fun r h => ⟨fun c => (h c).2.2.2, sem_eq_zero_of_no_sems (by decide) r.2⟩) (Cert.Reference34Ideal.Value.run (F := Ideal) m ρ)

/-- AdamW's step for the feed-forward layers' second weights: over the extended reals the kernel's update and its two new moments are the reference's. -/
theorem algebraic34 : Cert.algebraic_Kernel34Ideal_Reference34Ideal := by
  intro m g m' g' _ heq
  refine ⟨fun c => Cert.Kernel34Ideal.Value.G4 (m ((c.tc : Thread _ _).loc Cert.Kernel34Ideal.main_arg0)) (m ((c.tc : Thread _ _).loc Cert.Kernel34Ideal.main_arg1)) (m ((c.tc : Thread _ _).loc Cert.Kernel34Ideal.main_arg2)) (m ((c.tc : Thread _ _).loc Cert.Kernel34Ideal.main_arg3)),
    fun c => Cert.Kernel34Ideal.Value.G5 (m ((c.tc : Thread _ _).loc Cert.Kernel34Ideal.main_arg1)) (m ((c.tc : Thread _ _).loc Cert.Kernel34Ideal.main_arg2)),
    fun c => Cert.Kernel34Ideal.Value.G6 (m ((c.tc : Thread _ _).loc Cert.Kernel34Ideal.main_arg1)) (m ((c.tc : Thread _ _).loc Cert.Kernel34Ideal.main_arg3)), Cert.Kernel34Ideal.Value.run m g, ?_⟩
  refine (θ_run Cert.Reference34Ideal.defs _ _).mono (fun r h c => ⟨(h c).1.trans ?_, (h c).2.1.trans ?_, (h c).2.2.1.trans ?_, (h c).2.2.2⟩)
    (Cert.Reference34Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the per-layer embedding weights: the program on float words and its idealization have one table of kernel bodies. -/
theorem defs_eq35 : Cert.Kernel35.defs (F := Bits) = Cert.Kernel35Ideal.defs (F := Bits) := by
  have h : Cert.Kernel35.defs₀ (F := Bits) = Cert.Kernel35Ideal.defs₀ (F := Bits) := by
    unfold Cert.Kernel35.defs₀ Cert.Kernel35Ideal.defs₀
    congr 1
    funext l a
    match l, a with
    | ⟨0, _⟩, _ => rfl
  unfold Cert.Kernel35.defs Cert.Kernel35Ideal.defs
  rw [h]
  rfl

/-- AdamW's step for the per-layer embedding weights: the kernel's run on float words. -/
theorem frame_kernel35 : Cert.quiescent_Kernel35 := fun m ρ _ => by
  rw [defs_eq35]
  exact Cert.Kernel35Ideal.Gen.frame (F := Bits) m ρ

/-- AdamW's step for the per-layer embedding weights: the kernel's run over the extended reals. -/
theorem frame_kernel35Ideal : Cert.quiescent_Kernel35Ideal := fun m ρ _ => Cert.Kernel35Ideal.Gen.frame m ρ

/-- AdamW's step for the per-layer embedding weights: the reference's run. -/
theorem frame_reference35Ideal : Cert.quiescent_Reference35Ideal := fun m ρ _ =>
  (θ_run Cert.Reference35Ideal.defs _ _).mono (fun r h => ⟨fun c => (h c).2.2.2, sem_eq_zero_of_no_sems (by decide) r.2⟩) (Cert.Reference35Ideal.Value.run (F := Ideal) m ρ)

/-- AdamW's step for the per-layer embedding weights: over the extended reals the kernel's update and its two new moments are the reference's. -/
theorem algebraic35 : Cert.algebraic_Kernel35Ideal_Reference35Ideal := by
  intro m g m' g' _ heq
  refine ⟨fun c => Cert.Kernel35Ideal.Value.G4 (m ((c.tc : Thread _ _).loc Cert.Kernel35Ideal.main_arg0)) (m ((c.tc : Thread _ _).loc Cert.Kernel35Ideal.main_arg1)) (m ((c.tc : Thread _ _).loc Cert.Kernel35Ideal.main_arg2)) (m ((c.tc : Thread _ _).loc Cert.Kernel35Ideal.main_arg3)),
    fun c => Cert.Kernel35Ideal.Value.G5 (m ((c.tc : Thread _ _).loc Cert.Kernel35Ideal.main_arg1)) (m ((c.tc : Thread _ _).loc Cert.Kernel35Ideal.main_arg2)),
    fun c => Cert.Kernel35Ideal.Value.G6 (m ((c.tc : Thread _ _).loc Cert.Kernel35Ideal.main_arg1)) (m ((c.tc : Thread _ _).loc Cert.Kernel35Ideal.main_arg3)), Cert.Kernel35Ideal.Value.run m g, ?_⟩
  refine (θ_run Cert.Reference35Ideal.defs _ _).mono (fun r h c => ⟨(h c).1.trans ?_, (h c).2.1.trans ?_, (h c).2.2.1.trans ?_, (h c).2.2.2⟩)
    (Cert.Reference35Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the per-layer embedding gate weights: the program on float words and its idealization have one table of kernel bodies. -/
theorem defs_eq36 : Cert.Kernel36.defs (F := Bits) = Cert.Kernel36Ideal.defs (F := Bits) := by
  have h : Cert.Kernel36.defs₀ (F := Bits) = Cert.Kernel36Ideal.defs₀ (F := Bits) := by
    unfold Cert.Kernel36.defs₀ Cert.Kernel36Ideal.defs₀
    congr 1
    funext l a
    match l, a with
    | ⟨0, _⟩, _ => rfl
  unfold Cert.Kernel36.defs Cert.Kernel36Ideal.defs
  rw [h]
  rfl

/-- AdamW's step for the per-layer embedding gate weights: the kernel's run on float words. -/
theorem frame_kernel36 : Cert.quiescent_Kernel36 := fun m ρ _ => by
  rw [defs_eq36]
  exact Cert.Kernel36Ideal.Gen.frame (F := Bits) m ρ

/-- AdamW's step for the per-layer embedding gate weights: the kernel's run over the extended reals. -/
theorem frame_kernel36Ideal : Cert.quiescent_Kernel36Ideal := fun m ρ _ => Cert.Kernel36Ideal.Gen.frame m ρ

/-- AdamW's step for the per-layer embedding gate weights: the reference's run. -/
theorem frame_reference36Ideal : Cert.quiescent_Reference36Ideal := fun m ρ _ =>
  (θ_run Cert.Reference36Ideal.defs _ _).mono (fun r h => ⟨fun c => (h c).2.2.2, sem_eq_zero_of_no_sems (by decide) r.2⟩) (Cert.Reference36Ideal.Value.run (F := Ideal) m ρ)

/-- AdamW's step for the per-layer embedding gate weights: over the extended reals the kernel's update and its two new moments are the reference's. -/
theorem algebraic36 : Cert.algebraic_Kernel36Ideal_Reference36Ideal := by
  intro m g m' g' _ heq
  refine ⟨fun c => Cert.Kernel36Ideal.Value.G4 (m ((c.tc : Thread _ _).loc Cert.Kernel36Ideal.main_arg0)) (m ((c.tc : Thread _ _).loc Cert.Kernel36Ideal.main_arg1)) (m ((c.tc : Thread _ _).loc Cert.Kernel36Ideal.main_arg2)) (m ((c.tc : Thread _ _).loc Cert.Kernel36Ideal.main_arg3)),
    fun c => Cert.Kernel36Ideal.Value.G5 (m ((c.tc : Thread _ _).loc Cert.Kernel36Ideal.main_arg1)) (m ((c.tc : Thread _ _).loc Cert.Kernel36Ideal.main_arg2)),
    fun c => Cert.Kernel36Ideal.Value.G6 (m ((c.tc : Thread _ _).loc Cert.Kernel36Ideal.main_arg1)) (m ((c.tc : Thread _ _).loc Cert.Kernel36Ideal.main_arg3)), Cert.Kernel36Ideal.Value.run m g, ?_⟩
  refine (θ_run Cert.Reference36Ideal.defs _ _).mono (fun r h c => ⟨(h c).1.trans ?_, (h c).2.1.trans ?_, (h c).2.2.1.trans ?_, (h c).2.2.2⟩)
    (Cert.Reference36Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the odd mixer's first weight: the program on float words and its idealization have one table of kernel bodies. -/
theorem defs_eq37 : Cert.Kernel37.defs (F := Bits) = Cert.Kernel37Ideal.defs (F := Bits) := by
  have h : Cert.Kernel37.defs₀ (F := Bits) = Cert.Kernel37Ideal.defs₀ (F := Bits) := by
    unfold Cert.Kernel37.defs₀ Cert.Kernel37Ideal.defs₀
    congr 1
    funext l a
    match l, a with
    | ⟨0, _⟩, _ => rfl
  unfold Cert.Kernel37.defs Cert.Kernel37Ideal.defs
  rw [h]
  rfl

/-- AdamW's step for the odd mixer's first weight: the kernel's run on float words. -/
theorem frame_kernel37 : Cert.quiescent_Kernel37 := fun m ρ _ => by
  rw [defs_eq37]
  exact Cert.Kernel37Ideal.Gen.frame (F := Bits) m ρ

/-- AdamW's step for the odd mixer's first weight: the kernel's run over the extended reals. -/
theorem frame_kernel37Ideal : Cert.quiescent_Kernel37Ideal := fun m ρ _ => Cert.Kernel37Ideal.Gen.frame m ρ

/-- AdamW's step for the odd mixer's first weight: the reference's run. -/
theorem frame_reference37Ideal : Cert.quiescent_Reference37Ideal := fun m ρ _ =>
  (θ_run Cert.Reference37Ideal.defs _ _).mono (fun r h => ⟨fun c => (h c).2.2.2, sem_eq_zero_of_no_sems (by decide) r.2⟩) (Cert.Reference37Ideal.Value.run (F := Ideal) m ρ)

/-- AdamW's step for the odd mixer's first weight: over the extended reals the kernel's update and its two new moments are the reference's. -/
theorem algebraic37 : Cert.algebraic_Kernel37Ideal_Reference37Ideal := by
  intro m g m' g' _ heq
  refine ⟨fun c => Cert.Kernel37Ideal.Value.G4 (m ((c.tc : Thread _ _).loc Cert.Kernel37Ideal.main_arg0)) (m ((c.tc : Thread _ _).loc Cert.Kernel37Ideal.main_arg1)) (m ((c.tc : Thread _ _).loc Cert.Kernel37Ideal.main_arg2)) (m ((c.tc : Thread _ _).loc Cert.Kernel37Ideal.main_arg3)),
    fun c => Cert.Kernel37Ideal.Value.G5 (m ((c.tc : Thread _ _).loc Cert.Kernel37Ideal.main_arg1)) (m ((c.tc : Thread _ _).loc Cert.Kernel37Ideal.main_arg2)),
    fun c => Cert.Kernel37Ideal.Value.G6 (m ((c.tc : Thread _ _).loc Cert.Kernel37Ideal.main_arg1)) (m ((c.tc : Thread _ _).loc Cert.Kernel37Ideal.main_arg3)), Cert.Kernel37Ideal.Value.run m g, ?_⟩
  refine (θ_run Cert.Reference37Ideal.defs _ _).mono (fun r h c => ⟨(h c).1.trans ?_, (h c).2.1.trans ?_, (h c).2.2.1.trans ?_, (h c).2.2.2⟩)
    (Cert.Reference37Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for either gate's block-diagonal weight: the program on float words and its idealization have one table of kernel bodies. -/
theorem defs_eq38 : Cert.Kernel38.defs (F := Bits) = Cert.Kernel38Ideal.defs (F := Bits) := by
  have h : Cert.Kernel38.defs₀ (F := Bits) = Cert.Kernel38Ideal.defs₀ (F := Bits) := by
    unfold Cert.Kernel38.defs₀ Cert.Kernel38Ideal.defs₀
    congr 1
    funext l a
    match l, a with
    | ⟨0, _⟩, _ => rfl
  unfold Cert.Kernel38.defs Cert.Kernel38Ideal.defs
  rw [h]
  rfl

/-- AdamW's step for either gate's block-diagonal weight: the kernel's run on float words. -/
theorem frame_kernel38 : Cert.quiescent_Kernel38 := fun m ρ _ => by
  rw [defs_eq38]
  exact Cert.Kernel38Ideal.Gen.frame (F := Bits) m ρ

/-- AdamW's step for either gate's block-diagonal weight: the kernel's run over the extended reals. -/
theorem frame_kernel38Ideal : Cert.quiescent_Kernel38Ideal := fun m ρ _ => Cert.Kernel38Ideal.Gen.frame m ρ

/-- AdamW's step for either gate's block-diagonal weight: the reference's run. -/
theorem frame_reference38Ideal : Cert.quiescent_Reference38Ideal := fun m ρ _ =>
  (θ_run Cert.Reference38Ideal.defs _ _).mono (fun r h => ⟨fun c => (h c).2.2.2, sem_eq_zero_of_no_sems (by decide) r.2⟩) (Cert.Reference38Ideal.Value.run (F := Ideal) m ρ)

/-- AdamW's step for either gate's block-diagonal weight: over the extended reals the kernel's update and its two new moments are the reference's. -/
theorem algebraic38 : Cert.algebraic_Kernel38Ideal_Reference38Ideal := by
  intro m g m' g' _ heq
  refine ⟨fun c => Cert.Kernel38Ideal.Value.G4 (m ((c.tc : Thread _ _).loc Cert.Kernel38Ideal.main_arg0)) (m ((c.tc : Thread _ _).loc Cert.Kernel38Ideal.main_arg1)) (m ((c.tc : Thread _ _).loc Cert.Kernel38Ideal.main_arg2)) (m ((c.tc : Thread _ _).loc Cert.Kernel38Ideal.main_arg3)),
    fun c => Cert.Kernel38Ideal.Value.G5 (m ((c.tc : Thread _ _).loc Cert.Kernel38Ideal.main_arg1)) (m ((c.tc : Thread _ _).loc Cert.Kernel38Ideal.main_arg2)),
    fun c => Cert.Kernel38Ideal.Value.G6 (m ((c.tc : Thread _ _).loc Cert.Kernel38Ideal.main_arg1)) (m ((c.tc : Thread _ _).loc Cert.Kernel38Ideal.main_arg3)), Cert.Kernel38Ideal.Value.run m g, ?_⟩
  refine (θ_run Cert.Reference38Ideal.defs _ _).mono (fun r h c => ⟨(h c).1.trans ?_, (h c).2.1.trans ?_, (h c).2.2.1.trans ?_, (h c).2.2.2⟩)
    (Cert.Reference38Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the odd mixer's last weight: the program on float words and its idealization have one table of kernel bodies. -/
theorem defs_eq39 : Cert.Kernel39.defs (F := Bits) = Cert.Kernel39Ideal.defs (F := Bits) := by
  have h : Cert.Kernel39.defs₀ (F := Bits) = Cert.Kernel39Ideal.defs₀ (F := Bits) := by
    unfold Cert.Kernel39.defs₀ Cert.Kernel39Ideal.defs₀
    congr 1
    funext l a
    match l, a with
    | ⟨0, _⟩, _ => rfl
  unfold Cert.Kernel39.defs Cert.Kernel39Ideal.defs
  rw [h]
  rfl

/-- AdamW's step for the odd mixer's last weight: the kernel's run on float words. -/
theorem frame_kernel39 : Cert.quiescent_Kernel39 := fun m ρ _ => by
  rw [defs_eq39]
  exact Cert.Kernel39Ideal.Gen.frame (F := Bits) m ρ

/-- AdamW's step for the odd mixer's last weight: the kernel's run over the extended reals. -/
theorem frame_kernel39Ideal : Cert.quiescent_Kernel39Ideal := fun m ρ _ => Cert.Kernel39Ideal.Gen.frame m ρ

/-- AdamW's step for the odd mixer's last weight: the reference's run. -/
theorem frame_reference39Ideal : Cert.quiescent_Reference39Ideal := fun m ρ _ =>
  (θ_run Cert.Reference39Ideal.defs _ _).mono (fun r h => ⟨fun c => (h c).2.2.2, sem_eq_zero_of_no_sems (by decide) r.2⟩) (Cert.Reference39Ideal.Value.run (F := Ideal) m ρ)

/-- AdamW's step for the odd mixer's last weight: over the extended reals the kernel's update and its two new moments are the reference's. -/
theorem algebraic39 : Cert.algebraic_Kernel39Ideal_Reference39Ideal := by
  intro m g m' g' _ heq
  refine ⟨fun c => Cert.Kernel39Ideal.Value.G4 (m ((c.tc : Thread _ _).loc Cert.Kernel39Ideal.main_arg0)) (m ((c.tc : Thread _ _).loc Cert.Kernel39Ideal.main_arg1)) (m ((c.tc : Thread _ _).loc Cert.Kernel39Ideal.main_arg2)) (m ((c.tc : Thread _ _).loc Cert.Kernel39Ideal.main_arg3)),
    fun c => Cert.Kernel39Ideal.Value.G5 (m ((c.tc : Thread _ _).loc Cert.Kernel39Ideal.main_arg1)) (m ((c.tc : Thread _ _).loc Cert.Kernel39Ideal.main_arg2)),
    fun c => Cert.Kernel39Ideal.Value.G6 (m ((c.tc : Thread _ _).loc Cert.Kernel39Ideal.main_arg1)) (m ((c.tc : Thread _ _).loc Cert.Kernel39Ideal.main_arg3)), Cert.Kernel39Ideal.Value.run m g, ?_⟩
  refine (θ_run Cert.Reference39Ideal.defs _ _).mono (fun r h c => ⟨(h c).1.trans ?_, (h c).2.1.trans ?_, (h c).2.2.1.trans ?_, (h c).2.2.2⟩)
    (Cert.Reference39Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

/-- AdamW's step for the small weights packed into rows: the program on float words and its idealization have one table of kernel bodies. -/
theorem defs_eq40 : Cert.Kernel40.defs (F := Bits) = Cert.Kernel40Ideal.defs (F := Bits) := by
  have h : Cert.Kernel40.defs₀ (F := Bits) = Cert.Kernel40Ideal.defs₀ (F := Bits) := by
    unfold Cert.Kernel40.defs₀ Cert.Kernel40Ideal.defs₀
    congr 1
    funext l a
    match l, a with
    | ⟨0, _⟩, _ => rfl
  unfold Cert.Kernel40.defs Cert.Kernel40Ideal.defs
  rw [h]
  rfl

/-- AdamW's step for the small weights packed into rows: the kernel's run on float words. -/
theorem frame_kernel40 : Cert.quiescent_Kernel40 := fun m ρ _ => by
  rw [defs_eq40]
  exact Cert.Kernel40Ideal.Gen.frame (F := Bits) m ρ

/-- AdamW's step for the small weights packed into rows: the kernel's run over the extended reals. -/
theorem frame_kernel40Ideal : Cert.quiescent_Kernel40Ideal := fun m ρ _ => Cert.Kernel40Ideal.Gen.frame m ρ

/-- AdamW's step for the small weights packed into rows: the reference's run. -/
theorem frame_reference40Ideal : Cert.quiescent_Reference40Ideal := fun m ρ _ =>
  (θ_run Cert.Reference40Ideal.defs _ _).mono (fun r h => ⟨fun c => (h c).2.2.2, sem_eq_zero_of_no_sems (by decide) r.2⟩) (Cert.Reference40Ideal.Value.run (F := Ideal) m ρ)

/-- AdamW's step for the small weights packed into rows: over the extended reals the kernel's update and its two new moments are the reference's. -/
theorem algebraic40 : Cert.algebraic_Kernel40Ideal_Reference40Ideal := by
  intro m g m' g' _ heq
  refine ⟨fun c => Cert.Kernel40Ideal.Value.G4 (m ((c.tc : Thread _ _).loc Cert.Kernel40Ideal.main_arg0)) (m ((c.tc : Thread _ _).loc Cert.Kernel40Ideal.main_arg1)) (m ((c.tc : Thread _ _).loc Cert.Kernel40Ideal.main_arg2)) (m ((c.tc : Thread _ _).loc Cert.Kernel40Ideal.main_arg3)),
    fun c => Cert.Kernel40Ideal.Value.G5 (m ((c.tc : Thread _ _).loc Cert.Kernel40Ideal.main_arg1)) (m ((c.tc : Thread _ _).loc Cert.Kernel40Ideal.main_arg2)),
    fun c => Cert.Kernel40Ideal.Value.G6 (m ((c.tc : Thread _ _).loc Cert.Kernel40Ideal.main_arg1)) (m ((c.tc : Thread _ _).loc Cert.Kernel40Ideal.main_arg3)), Cert.Kernel40Ideal.Value.run m g, ?_⟩
  refine (θ_run Cert.Reference40Ideal.defs _ _).mono (fun r h c => ⟨(h c).1.trans ?_, (h c).2.1.trans ?_, (h c).2.2.1.trans ?_, (h c).2.2.2⟩)
    (Cert.Reference40Ideal.Value.run (F := Ideal) m' g')
  · rw [(heq c).1, (heq c).2.1, (heq c).2.2.1, (heq c).2.2.2]; rfl
  · rw [(heq c).2.1, (heq c).2.2.1]; rfl
  · rw [(heq c).2.1, (heq c).2.2.2]; rfl

end Cert.Proof.AdamW

end
-- ==== Proof.Scan.Fwd.lean ====
/- The forward recurrence's kernel body, for any float values: what its counted loop leaves in the output block. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.WritesUnit
public import Idealize.ShloMosaic.Lib.Tactic
public import Idealize.ShloMosaic.Lib.Pipeline.ValueKit.Tiles
public import Idealize.ShloMosaic.Lib.ValueIdxCore

@[expose] public section

set_option maxRecDepth 16384

noncomputable section

namespace Cert.Proof.Scan

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `8k … 8k+7` of a block. -/
abbrev fwdRect (k : Fin k0_t1_loop.trips) : Rect S2048x256 := Rect.unit (s := S2048x256) (k0_off1 k) S8x256.size (k0_off1_inb k)

/-- Eight rows of the recurrence from the carried value: the body's arithmetic on rows `8k … 8k+7`. -/
def fwdTile (v0 : IVec S8x256 32) (A U : Vec F S2048x256 .f32) (k : Fin k0_t1_loop.trips) (acc : FVec F S8x256 .f32) : FVec F S8x256 .f32 :=
  k0_pay3 v0 acc (View.ld A (fwdRect k)) (View.ld U (fwdRect k))

/-- The last of eight rows. -/
def lastRow (t : FVec F S8x256 .f32) : Vec F S1x256 .f32 := fun x => t (ix2 (7 : Fin 8) (x 1))

/-- The value carried into step `k` of the loop: the last row of the step before, repeated eight times. -/
def fwdCarry (v0 : IVec S8x256 32) (A U : Vec F S2048x256 .f32) (init : FVec F S8x256 .f32) : ℕ → FVec F S8x256 .f32
  | 0 => init
  | k + 1 => if h : k < k0_t1_loop.trips then k0_pay2 (lastRow (fwdTile v0 A U ⟨k, h⟩ (fwdCarry v0 A U init k)))
      else fwdCarry v0 A U init k

theorem fwdCarry_succ (v0 : IVec S8x256 32) (A U : Vec F S2048x256 .f32) (init : FVec F S8x256 .f32) (k : Fin k0_t1_loop.trips) :
    fwdCarry v0 A U init (k.val + 1) = k0_pay2 (lastRow (fwdTile v0 A U k (fwdCarry v0 A U init k.val))) := by
  rw [fwdCarry, dif_pos k.isLt]

theorem trips_fwd : k0_t1_loop.trips = 256 := by decide +kernel

/-- What the loop leaves in the output block, at every row. -/
def fwdRows (v0 : IVec S8x256 32) (A U : Vec F S2048x256 .f32) (init : FVec F S8x256 .f32) : Vec F S2048x256 .f32 := fun y =>
  fwdTile v0 A U ⟨(y 0).val / 8, by rw [trips_fwd]; have := (y 0).isLt; change (y 0).val < 2048 at this; omega⟩
    (fwdCarry v0 A U init ((y 0).val / 8)) (ix2 (⟨(y 0).val % 8, Nat.mod_lt _ (by norm_num)⟩ : Fin 8) (y 1))

/-- What one step of the loop holds: what it reads at its contents, what it writes at any. -/
abbrev fwdRes (c : Dev nD) (arg1 arg2 arg3 : Memref sig .tc .vmem S2048x256 .f32) (X_a : BufTy.Contents (Elt F) arg1.view.ty) (X_b : BufTy.Contents (Elt F) arg2.view.ty) (f_o : BufTy.Contents (Elt F) arg3.view.ty) : sProp 𝕄 :=
  iprop((arg1.view.loc (c : Thread nD τ) ↦[arg1.view.set]{fullShare} X_a) ∗ (arg2.view.loc (c : Thread nD τ) ↦[arg2.view.set]{fullShare} X_b) ∗ (arg3.view.loc (c : Thread nD τ) ↦[arg3.view.set]{fullShare} f_o))

/-- One step of the loop: it stores the eight rows and yields their last row. -/
theorem fwd_trip (c : Dev nD) (𝒱 : Variants) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (v0 : IVec S8x256 32) (X_arg1 : BufTy.Contents (Elt F) arg1.view.ty) (X_arg2 : BufTy.Contents (Elt F) arg2.view.ty) (k : Fin k0_t1_loop.trips)
    (E : Set ℕ) (acc : FVec F S8x256 .f32) (f_arg3 : BufTy.Contents (Elt F) arg3.view.ty) :
    fwdRes (F := F) c arg1 arg2 arg3 X_arg1 X_arg2 f_arg3
      ⊢ wp frame (wpE (defs₀ (F := F)) 𝒱 (c : Thread nD τ) bd) E (k0_t1_body (F := F) i arg1 harg1 arg2 harg2 arg3 harg3 v0 k acc)
          (fun yld => iprop(⌜yld = k0_pay2 (lastRow (fwdTile v0 (arg1.view.read (Elt F) X_arg1) (arg2.view.read (Elt F) X_arg2) k acc))⌝ ∗ fwdRes (F := F) c arg1 arg2 arg3 X_arg1 X_arg2 (arg3.view.writes (Elt F) f_arg3 [⟨fwdRect k, fwdTile v0 (arg1.view.read (Elt F) X_arg1) (arg2.view.read (Elt F) X_arg2) k acc⟩]))) := by
  have hk : k.val < 256 := Nat.lt_of_lt_of_le k.isLt k0_t1_abs.2.1
  unfold k0_t1_body
  iintro ⟨HR_arg1, HR_arg2, HW_arg3⟩
  sl_exec
  sl_step
  isplitr
  · ipureintro
    refine congrArg k0_pay2 (funext fun x => ?_)
    refine View.read_writes_cons_rows_of_mem (o := 8 * k.val) arg3.view _ (k0_off1_inb k) _ [] _ (ix2 (7 : Fin 8) (x 1)) (k0_off1_eq k) ?_ ?_
    · have h := Rect.idx_unit_val (s := S2048x256) (k0_off2 k) S1x256.size (k0_off2_inb k) x 0
      have hx : (x 0).val < 1 := (x 0).isLt
      have h7 : k0_off2 k 0 = 8 * k.val + 7 := congrFun (k0_off2_eq k) 0
      rw [h, h7]
      show 8 * k.val + 7 + (x 0).val = 8 * k.val + 7
      omega
    · have h := Rect.idx_unit_val (s := S2048x256) (k0_off2 k) S1x256.size (k0_off2_inb k) x 1
      have h7 : k0_off2 k 1 = 0 := congrFun (k0_off2_eq k) 1
      rw [h, h7]
      show 0 + (x 1).val = (x 1).val
      omega
  sl_close

/-- The loop's invariant: the rows below `8k` hold the recurrence, and the carried value is the one stated. -/
@[sl_loop, instance_reducible] def fwdLoop (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (v0 : IVec S8x256 32) (X_arg1 : BufTy.Contents (Elt F) arg1.view.ty) (X_arg2 : BufTy.Contents (Elt F) arg2.view.ty) (init : FVec F S8x256 .f32) :
    LoopInvTy_k0_t1 (F := F) Unit ℕ (UR sig nD τ) ℕ 𝒱 c bd E i arg1 harg1 arg2 harg2 arg3 harg3 v0 init where
  inv k acc := iprop((arg1.view.loc (c : Thread nD τ) ↦[arg1.view.set]{fullShare} X_arg1) ∗ (arg2.view.loc (c : Thread nD τ) ↦[arg2.view.set]{fullShare} X_arg2)
    ∗ (∃ f, (arg3.view.loc (c : Thread nD τ) ↦[arg3.view.set]{fullShare} f)
        ∗ ⌜∀ y, (y 0).val < 8 * k → arg3.view.read (Elt F) f y = fwdRows v0 (arg1.view.read (Elt F) X_arg1) (arg2.view.read (Elt F) X_arg2) init y⌝)
    ∗ ⌜acc = fwdCarry v0 (arg1.view.read (Elt F) X_arg1) (arg2.view.read (Elt F) X_arg2) init k⌝)
  step k acc := by
    iintro ⟨HR_arg1, HR_arg2, ⟨%f_arg3, HW_arg3, %h_arg3⟩, %h_acc⟩
    subst h_acc
    iapply (wp_wand_r Idealize.ShloMosaic.frame (wpE (defs₀ (F := F)) 𝒱 (c : Thread nD τ) bd) E)
    isplitl [HR_arg1 HR_arg2 HW_arg3]
    · iapply (fwd_trip (F := F) c 𝒱 bd i arg1 harg1 arg2 harg2 arg3 harg3 v0 X_arg1 X_arg2 k E _ f_arg3)
      isplitl [HR_arg1]; · iexact HR_arg1
      isplitl [HR_arg2]; · iexact HR_arg2
      iexact HW_arg3
    · iintro %yld ⟨%h_res, HR_arg1, HR_arg2, HW_arg3⟩
      isplitl [HR_arg1]; · iexact HR_arg1
      isplitl [HR_arg2]; · iexact HR_arg2
      isplitl [HW_arg3]
      · iexists _; isplitl [HW_arg3]; · iexact HW_arg3
        ipureintro
        intro y hy
        by_cases hlt : (y 0).val < 8 * k.val
        · rw [View.read_writes_cons_rows_of_not_mem (o := 8 * k.val) (W := 8) arg3.view _ (k0_off1_inb k) _ [] y (k0_off1_eq k) rfl (Or.inl hlt)]
          exact h_arg3 y hlt
        · have hdiv : (y 0).val / 8 = k.val := by omega
          rw [View.read_writes_cons_rows_of_mem (o := 8 * k.val) arg3.view _ (k0_off1_inb k) _ [] y
            (ix2 (⟨(y 0).val % 8, Nat.mod_lt _ (by norm_num)⟩ : Fin 8) (y 1)) (k0_off1_eq k)
            (by show (y 0).val = 8 * k.val + (y 0).val % 8; omega) rfl]
          obtain ⟨k, hk⟩ := k
          dsimp only at hdiv
          subst hdiv
          rfl
      ipureintro; rw [h_res, fwdCarry_succ]

/-- The forward block: the recurrence over the 2048 rows of a block, started from zero. -/
def fwdOut (A U : Vec F S2048x256 .f32) : Vec F S2048x256 .f32 :=
  fwdRows (iota .tc S8x256 32 [0] iota_S8x256_d0_w32) A U k0_pay1

/-- The forward body on any staging buffers: it leaves the inputs as they are and the recurrence in the output. -/
theorem sound_fwd (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole)
    (x0 : Vec F S2048x256 .f32) (x1 : Vec F S2048x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (fwdOut x0 x1)) -∗ K ⟨⟩))
      ⊢ wp frame (wpE (defs₀ (F := F)) Variants.none c none) E (cc0_scan_fwd i arg1 harg1 arg2 harg2 arg3 harg3) K := by
  simp only [cc0_scan_fwd_eq_skeleton]; unfold cc0_scan_fwd_skel
  unfold owns
  iintro ⟨⟨%f0, %hf0, H0⟩, ⟨%f1, %hf1, H1⟩, ⟨%d2, %f2, -, H2⟩, Hk⟩
  subst hf0 hf1
  sl_exec
  have hL : View.read (Elt F) arg3.view fL0 = fwdOut (View.read (Elt F) arg1.view f0) (View.read (Elt F) arg2.view f1) :=
    funext fun y => hL3 y (by
      have hy : (y 0).val < 2048 := (y 0).isLt
      have ht : k0_t1_loop.trips = 256 := trips_fwd
      change (y 0).val < 8 * k0_t1_loop.trips
      omega)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact hL

end Cert.Proof.Scan

end
-- ==== Proof.Scan.Bwd.lean ====
/- The backward recurrence's kernel body, for any float values: what its counted loop leaves in the output block: it walks the rows from the last to the first. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.WritesUnit
public import Idealize.ShloMosaic.Lib.VecWindow
public import Idealize.ShloMosaic.Lib.Tactic
public import Idealize.ShloMosaic.Lib.Pipeline.ValueKit.Tiles
public import Idealize.ShloMosaic.Lib.ValueIdxCore

@[expose] public section

set_option maxRecDepth 16384

noncomputable section

namespace Cert.Proof.Scan

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `2040−8k … 2047−8k` of a block. -/
abbrev bwdRect (k : Fin k1_t1_loop.trips) : Rect S2048x256 := Rect.unit (s := S2048x256) (k1_off1 k) S8x256.size (k1_off1_inb k)

/-- Eight rows of the recurrence from the carried value: the body's arithmetic on rows `2040−8k … 2047−8k`. -/
def bwdTile (v10 : IVec S8x256 32) (D A : Vec F S2048x256 .f32) (k : Fin k1_t1_loop.trips) (acc : FVec F S8x256 .f32) : FVec F S8x256 .f32 :=
  k1_pay3 acc (k1_pay11 v10 (View.ld A (bwdRect k)) (View.ld D (bwdRect k))) (k1_pay12 v10 (View.ld A (bwdRect k)))

/-- The first of eight rows. -/
def firstRow (t : FVec F S8x256 .f32) : Vec F S1x256 .f32 := fun x => t (ix2 (0 : Fin 8) (x 1))

/-- The value carried into step `k` of the loop: the first row of the step before, repeated eight times. -/
def bwdCarry (v10 : IVec S8x256 32) (D A : Vec F S2048x256 .f32) (init : FVec F S8x256 .f32) : ℕ → FVec F S8x256 .f32
  | 0 => init
  | k + 1 => if h : k < k1_t1_loop.trips then k1_pay4 (firstRow (bwdTile v10 D A ⟨k, h⟩ (bwdCarry v10 D A init k)))
      else bwdCarry v10 D A init k

theorem bwdCarry_succ (v10 : IVec S8x256 32) (D A : Vec F S2048x256 .f32) (init : FVec F S8x256 .f32) (k : Fin k1_t1_loop.trips) :
    bwdCarry v10 D A init (k.val + 1) = k1_pay4 (firstRow (bwdTile v10 D A k (bwdCarry v10 D A init k.val))) := by
  rw [bwdCarry, dif_pos k.isLt]

theorem trips_bwd : k1_t1_loop.trips = 256 := by decide +kernel

/-- What the loop leaves in the output block, at every row. -/
def bwdRows (v10 : IVec S8x256 32) (D A : Vec F S2048x256 .f32) (init : FVec F S8x256 .f32) : Vec F S2048x256 .f32 := fun y =>
  bwdTile v10 D A ⟨(2047 - (y 0).val) / 8, by rw [trips_bwd]; have := (y 0).isLt; change (y 0).val < 2048 at this; omega⟩
    (bwdCarry v10 D A init ((2047 - (y 0).val) / 8)) (ix2 (⟨(y 0).val % 8, Nat.mod_lt _ (by norm_num)⟩ : Fin 8) (y 1))

/-- What one step of the loop holds: what it reads at its contents, what it writes at any. -/
abbrev bwdRes (c : Dev nD) (arg3 arg6 arg4 : Memref sig .tc .vmem S2048x256 .f32) (X_a : BufTy.Contents (Elt F) arg3.view.ty) (X_b : BufTy.Contents (Elt F) arg6.view.ty) (f_o : BufTy.Contents (Elt F) arg4.view.ty) : sProp 𝕄 :=
  iprop((arg3.view.loc (c : Thread nD τ) ↦[arg3.view.set]{fullShare} X_a) ∗ (arg6.view.loc (c : Thread nD τ) ↦[arg6.view.set]{fullShare} X_b) ∗ (arg4.view.loc (c : Thread nD τ) ↦[arg4.view.set]{fullShare} f_o))

/-- One step of the loop: it stores the eight rows and yields their first row. -/
theorem bwd_trip (c : Dev nD) (𝒱 : Variants) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (v10 : IVec S8x256 32) (X_arg3 : BufTy.Contents (Elt F) arg3.view.ty) (X_arg6 : BufTy.Contents (Elt F) arg6.view.ty) (k : Fin k1_t1_loop.trips)
    (E : Set ℕ) (acc : FVec F S8x256 .f32) (f_arg4 : BufTy.Contents (Elt F) arg4.view.ty) :
    bwdRes (F := F) c arg3 arg6 arg4 X_arg3 X_arg6 f_arg4
      ⊢ wp frame (wpE (defs₀ (F := F)) 𝒱 (c : Thread nD τ) bd) E (k1_t1_body (F := F) i arg1 harg1 arg2 harg2 arg3 harg3 arg4 harg4 arg5 harg5 arg6 harg6 v10 k acc)
          (fun yld => iprop(⌜yld = k1_pay4 (firstRow (bwdTile v10 (arg3.view.read (Elt F) X_arg3) (arg6.view.read (Elt F) X_arg6) k acc))⌝ ∗ bwdRes (F := F) c arg3 arg6 arg4 X_arg3 X_arg6 (arg4.view.writes (Elt F) f_arg4 [⟨bwdRect k, bwdTile v10 (arg3.view.read (Elt F) X_arg3) (arg6.view.read (Elt F) X_arg6) k acc⟩]))) := by
  have hk : k.val < 256 := Nat.lt_of_lt_of_le k.isLt k1_t1_abs.2.1
  unfold k1_t1_body
  iintro ⟨HR_arg3, HR_arg6, HW_arg4⟩
  sl_exec
  sl_step
  isplitr
  · ipureintro
    refine congrArg k1_pay4 (funext fun x => ?_)
    refine View.read_writes_cons_rows_of_mem (o := 2040 - 8 * k.val) arg4.view _ (k1_off1_inb k) _ [] _ (ix2 (0 : Fin 8) (x 1)) (k1_off1_eq k) ?_ ?_
    · have h := Rect.idx_unit_val (s := S2048x256) (k1_off2 k) S1x256.size (k1_off2_inb k) x 0
      have hx : (x 0).val < 1 := (x 0).isLt
      have h7 : k1_off2 k 0 = 2040 - 8 * k.val := congrFun (k1_off2_eq k) 0
      rw [h, h7]
      show 2040 - 8 * k.val + (x 0).val = 2040 - 8 * k.val + 0
      omega
    · have h := Rect.idx_unit_val (s := S2048x256) (k1_off2 k) S1x256.size (k1_off2_inb k) x 1
      have h7 : k1_off2 k 1 = 0 := congrFun (k1_off2_eq k) 1
      rw [h, h7]
      show 0 + (x 1).val = (x 1).val
      omega
  sl_close

/-- The loop's invariant: the rows from `2048−8k` on hold the recurrence, and the carried value is the one stated. -/
@[sl_loop, instance_reducible] def bwdLoop (𝒱 : Variants) (c : Dev nD) (bd : Option 𝒱.V) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (v10 : IVec S8x256 32) (X_arg3 : BufTy.Contents (Elt F) arg3.view.ty) (X_arg6 : BufTy.Contents (Elt F) arg6.view.ty) (init : FVec F S8x256 .f32) :
    LoopInvTy_k1_t1 (F := F) Unit ℕ (UR sig nD τ) ℕ 𝒱 c bd E i arg1 harg1 arg2 harg2 arg3 harg3 arg4 harg4 arg5 harg5 arg6 harg6 v10 init where
  inv k acc := iprop((arg3.view.loc (c : Thread nD τ) ↦[arg3.view.set]{fullShare} X_arg3) ∗ (arg6.view.loc (c : Thread nD τ) ↦[arg6.view.set]{fullShare} X_arg6)
    ∗ (∃ f, (arg4.view.loc (c : Thread nD τ) ↦[arg4.view.set]{fullShare} f)
        ∗ ⌜∀ y, 2047 - (y 0).val < 8 * k → arg4.view.read (Elt F) f y = bwdRows v10 (arg3.view.read (Elt F) X_arg3) (arg6.view.read (Elt F) X_arg6) init y⌝)
    ∗ ⌜acc = bwdCarry v10 (arg3.view.read (Elt F) X_arg3) (arg6.view.read (Elt F) X_arg6) init k⌝)
  step k acc := by
    iintro ⟨HR_arg3, HR_arg6, ⟨%f_arg4, HW_arg4, %h_arg4⟩, %h_acc⟩
    subst h_acc
    iapply (wp_wand_r Idealize.ShloMosaic.frame (wpE (defs₀ (F := F)) 𝒱 (c : Thread nD τ) bd) E)
    isplitl [HR_arg3 HR_arg6 HW_arg4]
    · iapply (bwd_trip (F := F) c 𝒱 bd i arg1 harg1 arg2 harg2 arg3 harg3 arg4 harg4 arg5 harg5 arg6 harg6 v10 X_arg3 X_arg6 k E _ f_arg4)
      isplitl [HR_arg3]; · iexact HR_arg3
      isplitl [HR_arg6]; · iexact HR_arg6
      iexact HW_arg4
    · iintro %yld ⟨%h_res, HR_arg3, HR_arg6, HW_arg4⟩
      isplitl [HR_arg3]; · iexact HR_arg3
      isplitl [HR_arg6]; · iexact HR_arg6
      isplitl [HW_arg4]
      · iexists _; isplitl [HW_arg4]; · iexact HW_arg4
        ipureintro
        intro y hy
        have hy0 : (y 0).val < 2048 := (y 0).isLt
        have hk : k.val < 256 := Nat.lt_of_lt_of_le k.isLt k1_t1_abs.2.1
        by_cases hlt : 2047 - (y 0).val < 8 * k.val
        · rw [View.read_writes_cons_rows_of_not_mem (o := 2040 - 8 * k.val) (W := 8) arg4.view _ (k1_off1_inb k) _ [] y (k1_off1_eq k) rfl (Or.inr (by omega))]
          exact h_arg4 y hlt
        · have hdiv : (2047 - (y 0).val) / 8 = k.val := by
            have hy8 : 2047 - (y 0).val < 8 * (k.val + 1) := hy
            omega
          rw [View.read_writes_cons_rows_of_mem (o := 2040 - 8 * k.val) arg4.view _ (k1_off1_inb k) _ [] y
            (ix2 (⟨(y 0).val % 8, Nat.mod_lt _ (by norm_num)⟩ : Fin 8) (y 1)) (k1_off1_eq k)
            (by
              show (y 0).val = 2040 - 8 * k.val + (y 0).val % 8
              have hy8 : 2047 - (y 0).val < 8 * (k.val + 1) := hy
              omega) rfl]
          obtain ⟨k, hk⟩ := k
          dsimp only at hdiv
          subst hdiv
          rfl
      ipureintro; rw [h_res, bwdCarry_succ]

/-- A load of a whole block reads the block. -/
theorem ld_whole (X : Vec F S2048x256 .f32) : View.ld X (Rect.unit (s := S2048x256) ![0, 0] S2048x256.size inb_S2048x256_S2048x256_0_0) = X :=
  funext fun y => View.ld_unit_apply_of X _ _ _ y y (Fin.forall_fin_two.mpr ⟨(Nat.zero_add _).symm, (Nat.zero_add _).symm⟩)

/-- The gradient with respect to the recurrence's input, over the 2048 rows of a block. -/
def bwdOut (A D : Vec F S2048x256 .f32) : Vec F S2048x256 .f32 :=
  bwdRows (iota .tc S8x256 32 [0] iota_S8x256_d0_w32) D (k1_pay1 A) k1_pay2

/-- The backward body on any staging buffers: it leaves the inputs as they are and the two gradients in the outputs. -/
theorem sound_bwd (c : Dev nD) (E : Set ℕ) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole)
    (x0 x1 x2 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (bwdOut x0 x2) ∗ owns (c : Thread nD τ) arg5 fullShare (k1_pay5 (bwdOut x0 x2) x1)
            ∗ (∃ d, owns (c : Thread nD τ) arg6 fullShare d)) -∗ K ⟨⟩))
      ⊢ wp frame (wpE (defs₀ (F := F)) Variants.none c none) E (cc1_scan_bwd i arg1 harg1 arg2 harg2 arg3 harg3 arg4 harg4 arg5 harg5 arg6 harg6) K := by
  simp only [cc1_scan_bwd_eq_skeleton]; unfold cc1_scan_bwd_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  have h6 : View.read (Elt F) arg6.view (arg6.view.writes (Elt F) arg6.view.junk (sound_bwd.sl.H5_1 c arg1 f0))
      = k1_pay1 (View.read (Elt F) arg1.view f0) := by
    unfold sound_bwd.sl.H5_1
    refine (View.read_writes_full arg6.view _ inb_S2048x256_S2048x256_0_0 _ []).trans ?_
    rw [View.readAt_eq_ld, ld_whole]
  have hL : View.read (Elt F) arg4.view fL0 = bwdOut (View.read (Elt F) arg1.view f0) (View.read (Elt F) arg3.view f2) :=
    funext fun y => (hL3 y (by
      have hy : (y 0).val < 2048 := (y 0).isLt
      have ht : k1_t1_loop.trips = 256 := trips_bwd
      change 2047 - (y 0).val < 8 * k1_t1_loop.trips
      omega)).trans (by rw [h6]; rfl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact hL
  isplitl [H4]
  · iexists _; isplitr
    swap; · iexact H4
    ipureintro
    refine (View.read_writes_full arg5.view _ inb_S2048x256_S2048x256_0_0 _ []).trans ?_
    rw [View.readAt_eq_ld, View.readAt_eq_ld, ld_whole, ld_whole, hL]
  iexists _; iexists _; isplitr
  swap; · iexact H5
  ipureintro
  rfl

end Cert.Proof.Scan

end
-- ==== Proof.Scan.Run.lean ====
/- The two launches of the program as one run, for any float values: the forward recurrence, then the backward one,
   with what every buffer holds after each. -/
module

public import proofs.«01_k».proof.Proof.Gen.KernelIdeal.Launch
public import proofs.«01_k».proof.Proof.Scan.Fwd
public import proofs.«01_k».proof.Proof.Scan.Bwd
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_scan_fwd` (pipeline 0), at the entry contents `V` -/

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => fwdOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = fwdOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_fwd c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_scan_bwd` (pipeline 1), at the entry contents `V` — class R -/

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers and the scratch -/

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .f32 := win1_4.stage (cfg1.slots t 4)
abbrev hs1_4 (t : Fin cfg1.N) : (ms1_4 t).IsWhole := hstage1_4 ((cfg1.slots t 4).cast nbuf1_4)
abbrev scM1_0 : Memref sig .tc .vmem S2048x256 .f32 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => bwdOut (iblk1 V c 0 t) (iblk1 V c 2 t)
    | ⟨4, _⟩ => k1_pay5 (bwdOut (iblk1 V c 0 t) (iblk1 V c 2 t)) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = bwdOut (iblk1 V c 0 t) (iblk1 V c 2 t) := by dsimp only [dat1]
theorem after1_4 (c : Dev nD) (t : Fin cfg1.N) : (dat1 V c).after 4 t = k1_pay5 (bwdOut (iblk1 V c 0 t) (iblk1 V c 2 t)) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  iintro ⟨⟨⟨HR0, HR1, HR2, HR3, HR4, HR5, HS0⟩, Hg⟩, Ho, ⟨%d0, H0⟩, ⟨%d1, H1⟩, ⟨%d2, H2⟩, ⟨%d3, H3⟩, ⟨%d4, H4⟩⟩
  iapply (sound_bwd c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HR0 HR1 HR2 HR3 HR4 HR5 HS0 Hg]
  · isplitl [HR0 HR1 HR2 HR3 HR4 HR5 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      iexact HS0
    iexact Hg
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

abbrev argRefs : List (Ref sig .tc) := [main_arg0, main_arg1, main_arg2]

/-! ## The buffer contents at each segment boundary: a fold through @main, and what each item leaves unchanged -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
theorem run_main : θ_run defs (onTc (τ := τ) (main (F := F))) ⟨m, fun _ => 0, ρ⟩ (fun r =>
    (∀ c : Dev nD, ∀ b : Ref sig .tc, ¬ (Proc.devRef .tc b : DevRef τ sig).isScoped →
      r.2.mem ((c.tc : Thread nD τ).loc b) = W2 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c b hb => h c _ (mem_uc b hb), funext fun g => hz g (.inr (no_unscoped g.2))⟩)

end Cert.Proof.Scan

end
-- ==== Proof.Scan.Recurrence.lean ====
module

public import Mathlib.Data.Real.Basic
public import Mathlib.Tactic.Ring

@[expose] public section

/-!
The linear recurrence over the reals and its gradients.
-/

noncomputable section

namespace Cert.Proof.Scan

/-- The recurrence started at `c`: row `n + 1` is `a n * (row n) + u n`. -/
def chainR (a u : ℕ → ℝ) (c : ℝ) : ℕ → ℝ
  | 0 => c
  | n + 1 => a n * chainR a u c n + u n

/-- Starting again from the state after `m` steps. -/
theorem chainR_add (a u : ℕ → ℝ) (c : ℝ) (m n : ℕ) :
    chainR (fun k => a (m + k)) (fun k => u (m + k)) (chainR a u c m) n = chainR a u c (m + n) := by
  induction n with
  | zero => rfl
  | succ n ih => simp only [chainR, ih]; rfl

/-- The states of every channel after `n` steps from zero. -/
def stateR (a u : ℕ → ℕ → ℝ) (n l : ℕ) : ℝ := chainR (fun k => a k l) (fun k => u k l) 0 n

/-- The decays met when walking back from the last row: none before the last row, then `a 2047`, `a 2046`, … -/
def backDecay (a : ℕ → ℕ → ℝ) (n l : ℕ) : ℝ := if n = 0 then 0 else a (2048 - n) l

/-- The gradients met when walking back from the last row. -/
def gradR (a d : ℕ → ℕ → ℝ) (n l : ℕ) : ℝ := chainR (fun k => backDecay a k l) (fun k => d (2047 - k) l) 0 n

end Cert.Proof.Scan

end
-- ==== Proof.Scan.Tile.lean ====
module

public import proofs.«01_k».proof.Proof.Scan.Run
public import proofs.«01_k».proof.Proof.Scan.Recurrence
public import Idealize.ShloMosaic.Lib.Pointwise
public import Idealize.ShloMosaic.PureOps.Ideal

@[expose] public section

set_option maxRecDepth 16384

/-!
One tile of eight rows over the reals: the kernel's three doubling steps compute the recurrence row by row.
-/

noncomputable section

namespace Cert.Proof.Scan

open Cert.KernelIdeal Cert.KernelIdeal.Gen
open Idealize.ShloMosaic Idealize.ShloMosaic.TcCoe Idealize.ShloMosaic.Tactic

/-- Row numbers of a tile. -/
abbrev rows8 : IVec S8x256 32 := iota .tc S8x256 32 [0] iota_S8x256_d0_w32

/-- Row `i` of a tile shifted down by `d`, `z` filling the rows above. -/
def down (d : ℕ) (X : Fin 8 → Fin 256 → EReal) (z : EReal) (i : Fin 8) (j : Fin 256) : EReal :=
  if d ≤ i.val then X ⟨i.val - d, by omega⟩ j else z
/-- Row `i` of a tile shifted up by `d`, `z` filling the rows below. -/
def up (d : ℕ) (X : Fin 8 → Fin 256 → EReal) (z : EReal) (i : Fin 8) (j : Fin 256) : EReal :=
  if h : i.val + d < 8 then X ⟨i.val + d, h⟩ j else z

theorem down_eq (d : ℕ) (hd : d = 1 ∨ d = 2 ∨ d = 4) (X : FVec Ideal S8x256 .f32) (b : BitVec 32) (i : Fin 8) (j : Fin 256) :
    select (cmpi .sge rows8 (broadcast S8x256 (BitVec.ofNat 32 d))) (dynamicRotate 0 (BitVec.ofNat 32 d) none X rotates_S8x256_d0)
        (broadcast S8x256 (Scalar.ofBits (F := Ideal) .f32 b)) (ix2 i j)
      = down d (fun a b => X (ix2 a b)) (Ideal.ofBits .f32 b) i j := by
  rcases hd with rfl | rfl | rfl
  all_goals fin_cases i
  all_goals pointwise [down]
  all_goals rfl

theorem up_eq (d : ℕ) (hd : d = 1 ∨ d = 2 ∨ d = 4) (X : FVec Ideal S8x256 .f32) (b : BitVec 32) (i : Fin 8) (j : Fin 256) :
    select (cmpi .slt rows8 (broadcast S8x256 (BitVec.ofNat 32 (8 - d)))) (dynamicRotate 0 (BitVec.ofNat 32 (8 - d)) none X rotates_S8x256_d0)
        (broadcast S8x256 (Scalar.ofBits (F := Ideal) .f32 b)) (ix2 i j)
      = up d (fun a b => X (ix2 a b)) (Ideal.ofBits .f32 b) i j := by
  rcases hd with rfl | rfl | rfl
  all_goals fin_cases i
  all_goals pointwise [up]
  all_goals rfl

/-- THE FORWARD TILE over the reals: row `i` is the recurrence's state after `i + 1` steps from the carry. -/
theorem fwd_tile (A U C : FVec Ideal S8x256 .f32) (a u : ℕ → ℝ) (c : ℝ) (j : Fin 256)
    (hA : ∀ i : Fin 8, A (ix2 i j) = ((a i.val : ℝ) : EReal)) (hU : ∀ i : Fin 8, U (ix2 i j) = ((u i.val : ℝ) : EReal))
    (hC : ∀ i : Fin 8, C (ix2 i j) = ((c : ℝ) : EReal)) (i : Fin 8) :
    k0_pay3 (F := Ideal) rows8 C A U (ix2 i j) = ((chainR a u c (i.val + 1) : ℝ) : EReal) := by
  have d1 := fun X b i => down_eq 1 (.inl rfl) X b i j
  have d2 := fun X b i => down_eq 2 (.inr (.inl rfl)) X b i j
  have d4 := fun X b i => down_eq 4 (.inr (.inr rfl)) X b i j
  have one : Ideal.ofBits .f32 0x3F800000#32 = ((1 : ℝ) : EReal) := by rw [Ideal.ofBits_one_f32]; rfl
  have zero : Ideal.ofBits .f32 0x00000000#32 = ((0 : ℝ) : EReal) := by rw [Ideal.ofBits_zero_f32]; rfl
  have hmul : ∀ X Y : FVec Ideal S8x256 .f32, ∀ y, mulf X Y y = (X y : EReal) * Y y := fun _ _ _ => rfl
  have hadd : ∀ X Y : FVec Ideal S8x256 .f32, ∀ y, addf X Y y = (X y : EReal) + Y y := fun _ _ _ => rfl
  fin_cases i
  all_goals
    simp only [k0_pay3, hmul, hadd, d1, d2, d4, down, one, zero, hA, hU, hC]
    simp only [Nat.reduceLeDiff, Nat.reduceSub, if_true, if_false, le_refl, Nat.le_refl, nonpos_iff_eq_zero, one_ne_zero, OfNat.ofNat_ne_zero, ← EReal.coe_mul, ← EReal.coe_add]
    refine congrArg _ ?_
    simp only [chainR]
    ring

/-- THE BACKWARD TILE over the reals: row `i` is the reversed recurrence's state after `8 - i` steps from the carry. -/
theorem bwd_tile (A U C : FVec Ideal S8x256 .f32) (a u : ℕ → ℝ) (c : ℝ) (j : Fin 256)
    (hA : ∀ i : Fin 8, A (ix2 i j) = ((a (7 - i.val) : ℝ) : EReal)) (hU : ∀ i : Fin 8, U (ix2 i j) = ((u (7 - i.val) : ℝ) : EReal))
    (hC : ∀ i : Fin 8, C (ix2 i j) = ((c : ℝ) : EReal)) (i : Fin 8) :
    k1_pay3 (F := Ideal) C (k1_pay11 rows8 A U) (k1_pay12 rows8 A) (ix2 i j) = ((chainR a u c (8 - i.val) : ℝ) : EReal) := by
  have d1 := fun X b i => up_eq 1 (.inl rfl) X b i j
  have d2 := fun X b i => up_eq 2 (.inr (.inl rfl)) X b i j
  have d4 := fun X b i => up_eq 4 (.inr (.inr rfl)) X b i j
  have one : Ideal.ofBits .f32 0x3F800000#32 = ((1 : ℝ) : EReal) := by rw [Ideal.ofBits_one_f32]; rfl
  have zero : Ideal.ofBits .f32 0x00000000#32 = ((0 : ℝ) : EReal) := by rw [Ideal.ofBits_zero_f32]; rfl
  have hmul : ∀ X Y : FVec Ideal S8x256 .f32, ∀ y, mulf X Y y = (X y : EReal) * Y y := fun _ _ _ => rfl
  have hadd : ∀ X Y : FVec Ideal S8x256 .f32, ∀ y, addf X Y y = (X y : EReal) + Y y := fun _ _ _ => rfl
  fin_cases i
  all_goals
    simp only [k1_pay3, k1_pay6, k1_pay7, k1_pay8, k1_pay9, k1_pay10, k1_pay11, k1_pay12, hmul, hadd, d1, d2, d4, up, one, zero, hA, hU, hC]
    simp only [↓reduceDIte, Nat.reduceLeDiff, Nat.reduceLT, Nat.reduceAdd, Nat.reduceSub, ← EReal.coe_mul, ← EReal.coe_add]
    refine congrArg _ ?_
    simp only [chainR]
    ring

end Cert.Proof.Scan

end
-- ==== Proof.Scan.Block.lean ====
module

public import proofs.«01_k».proof.Proof.Scan.Tile

@[expose] public section

set_option maxRecDepth 16384

/-!
One block of 2048 rows by 256 columns over the reals: the forward recurrence and the reversed one, row by row.
-/

noncomputable section

namespace Cert.Proof.Scan

open Cert.KernelIdeal Cert.KernelIdeal.Gen
open Idealize.ShloMosaic Idealize.ShloMosaic.TcCoe Idealize.ShloMosaic.Tactic

theorem k0_pay2_apply (r : Vec Ideal S1x256 .f32) (i : Fin 8) (j : Fin 256) : k0_pay2 (F := Ideal) r (ix2 i j) = r (ix2 (0 : Fin 1) j) := by
  pointwise [k0_pay2]
theorem k1_pay4_apply (r : Vec Ideal S1x256 .f32) (i : Fin 8) (j : Fin 256) : k1_pay4 (F := Ideal) r (ix2 i j) = r (ix2 (0 : Fin 1) j) := by
  pointwise [k1_pay4]

theorem k0_pay1_apply (i : Fin 8) (j : Fin 256) : k0_pay1 (F := Ideal) (ix2 i j) = ((0 : ℝ) : EReal) := by
  show Ideal.ofBits .f32 0x00000000#32 = _
  rw [Ideal.ofBits_zero_f32]; rfl
theorem k1_pay2_apply (i : Fin 8) (j : Fin 256) : k1_pay2 (F := Ideal) (ix2 i j) = ((0 : ℝ) : EReal) := by
  show Ideal.ofBits .f32 0x00000000#32 = _
  rw [Ideal.ofBits_zero_f32]; rfl

theorem ld_fwd (A : Vec Ideal S2048x256 .f32) (k : Fin k0_t1_loop.trips) (i : Fin 8) (j : Fin 256) (h : 8 * k.val + i.val < 2048) :
    View.ld A (fwdRect k) (ix2 i j) = A (ix2 (⟨8 * k.val + i.val, h⟩ : Fin 2048) j) := by
  rw [View.ld_apply]
  refine congrArg A (funext fun d => Fin.ext ?_)
  rw [Rect.idx_unit_val, congrFun (k0_off1_eq k) d]
  match d with
  | ⟨0, _⟩ => rfl
  | ⟨1, _⟩ => show 0 + j.val = j.val; omega

theorem ld_bwd (A : Vec Ideal S2048x256 .f32) (k : Fin k1_t1_loop.trips) (i : Fin 8) (j : Fin 256) (hk : k.val < 256) :
    View.ld A (bwdRect k) (ix2 i j) = A (ix2 (⟨2040 - 8 * k.val + i.val, by omega⟩ : Fin 2048) j) := by
  rw [View.ld_apply]
  refine congrArg A (funext fun d => Fin.ext ?_)
  rw [Rect.idx_unit_val, congrFun (k1_off1_eq k) d]
  match d with
  | ⟨0, _⟩ => show _ = 2040 - 8 * k.val + i.val; first | rfl | (simp; omega)
  | ⟨1, _⟩ => show 0 + j.val = j.val; omega

section fwd
variable (A U : Vec Ideal S2048x256 .f32) (a u : ℕ → ℝ) (j : Fin 256)
  (hA : ∀ r : Fin 2048, A (ix2 r j) = ((a r.val : ℝ) : EReal)) (hU : ∀ r : Fin 2048, U (ix2 r j) = ((u r.val : ℝ) : EReal))
include hA hU

theorem fwdTile_apply (k : Fin k0_t1_loop.trips) (C : FVec Ideal S8x256 .f32)
    (hC : ∀ i : Fin 8, C (ix2 i j) = ((chainR a u 0 (8 * k.val) : ℝ) : EReal)) (i : Fin 8) :
    fwdTile (F := Ideal) rows8 A U k C (ix2 i j) = ((chainR a u 0 (8 * k.val + (i.val + 1)) : ℝ) : EReal) := by
  have hk : k.val < 256 := lt_of_lt_of_eq k.isLt trips_fwd
  rw [← chainR_add a u 0 (8 * k.val) (i.val + 1)]
  refine fwd_tile _ _ C (fun n => a (8 * k.val + n)) (fun n => u (8 * k.val + n)) _ j (fun i => ?_) (fun i => ?_) hC i
  · rw [ld_fwd A k i j (by omega), hA]
  · rw [ld_fwd U k i j (by omega), hU]

theorem fwdCarry_apply (k : ℕ) (hk : k ≤ 256) (i : Fin 8) :
    fwdCarry (F := Ideal) rows8 A U k0_pay1 k (ix2 i j) = ((chainR a u 0 (8 * k) : ℝ) : EReal) := by
  induction k generalizing i with
  | zero => exact k0_pay1_apply i j
  | succ k ih =>
    have e := fwdCarry_succ (F := Ideal) rows8 A U k0_pay1 ⟨k, by rw [trips_fwd]; omega⟩
    simp only at e
    rw [e, k0_pay2_apply]
    exact fwdTile_apply A U a u j hA hU ⟨k, by rw [trips_fwd]; omega⟩ _ (fun i => ih (by omega) i) 7

/-- THE FORWARD BLOCK: row `r` of the output holds the recurrence's state after `r + 1` steps from zero. -/
theorem fwdOut_apply (r : Fin 2048) : fwdOut (F := Ideal) A U (ix2 r j) = ((chainR a u 0 (r.val + 1) : ℝ) : EReal) := by
  have hr := r.isLt
  have e := fwdTile_apply A U a u j hA hU ⟨r.val / 8, by rw [trips_fwd]; omega⟩ _
    (fun i => fwdCarry_apply A U a u j hA hU (r.val / 8) (by omega) i) ⟨r.val % 8, Nat.mod_lt _ (by norm_num)⟩
  have h8 : 8 * (r.val / 8) + (r.val % 8 + 1) = r.val + 1 := by omega
  simp only [h8] at e
  exact e
end fwd

section bwd
variable (D A : Vec Ideal S2048x256 .f32) (d a : ℕ → ℝ) (j : Fin 256)
  (hA : ∀ r : Fin 2048, A (ix2 r j) = ((a (2047 - r.val) : ℝ) : EReal)) (hD : ∀ r : Fin 2048, D (ix2 r j) = ((d (2047 - r.val) : ℝ) : EReal))
include hA hD

theorem bwdTile_apply (k : Fin k1_t1_loop.trips) (C : FVec Ideal S8x256 .f32)
    (hC : ∀ i : Fin 8, C (ix2 i j) = ((chainR a d 0 (8 * k.val) : ℝ) : EReal)) (i : Fin 8) :
    bwdTile (F := Ideal) rows8 D A k C (ix2 i j) = ((chainR a d 0 (8 * k.val + (8 - i.val)) : ℝ) : EReal) := by
  have hk : k.val < 256 := lt_of_lt_of_eq k.isLt trips_bwd
  rw [← chainR_add a d 0 (8 * k.val) (8 - i.val)]
  refine bwd_tile _ _ C (fun n => a (8 * k.val + n)) (fun n => d (8 * k.val + n)) _ j (fun i => ?_) (fun i => ?_) hC i
  · rw [ld_bwd A k i j hk, hA]
    exact congrArg (fun n => ((a n : ℝ) : EReal)) (by show 2047 - (2040 - 8 * k.val + i.val) = 8 * k.val + (7 - i.val); omega)
  · rw [ld_bwd D k i j hk, hD]
    exact congrArg (fun n => ((d n : ℝ) : EReal)) (by show 2047 - (2040 - 8 * k.val + i.val) = 8 * k.val + (7 - i.val); omega)

theorem bwdCarry_apply (k : ℕ) (hk : k ≤ 256) (i : Fin 8) :
    bwdCarry (F := Ideal) rows8 D A k1_pay2 k (ix2 i j) = ((chainR a d 0 (8 * k) : ℝ) : EReal) := by
  induction k generalizing i with
  | zero => exact k1_pay2_apply i j
  | succ k ih =>
    have e := bwdCarry_succ (F := Ideal) rows8 D A k1_pay2 ⟨k, by rw [trips_bwd]; omega⟩
    simp only at e
    rw [e, k1_pay4_apply]
    exact bwdTile_apply D A d a j hA hD ⟨k, by rw [trips_bwd]; omega⟩ _ (fun i => ih (by omega) i) 0

/-- The reversed recurrence on one block: row `r` holds its state after `2048 - r` steps from zero. -/
theorem bwdRows_apply (r : Fin 2048) :
    bwdRows (F := Ideal) rows8 D A k1_pay2 (ix2 r j) = ((chainR a d 0 (2048 - r.val) : ℝ) : EReal) := by
  have hr := r.isLt
  have e := bwdTile_apply D A d a j hA hD ⟨(2047 - r.val) / 8, by rw [trips_bwd]; omega⟩ _
    (fun i => bwdCarry_apply D A d a j hA hD ((2047 - r.val) / 8) (by omega) i) ⟨r.val % 8, Nat.mod_lt _ (by norm_num)⟩
  have h8 : 8 * ((2047 - r.val) / 8) + (8 - r.val % 8) = 2048 - r.val := by omega
  simp only [h8] at e
  exact e
end bwd

/-- `A` moved up by one row, zero in the last. -/
theorem k1_pay1_apply (A : Vec Ideal S2048x256 .f32) (r : Fin 2048) (j : Fin 256) :
    k1_pay1 (F := Ideal) A (ix2 r j) = if h : r.val + 1 < 2048 then A (ix2 (⟨r.val + 1, h⟩ : Fin 2048) j) else ((0 : ℝ) : EReal) := by
  have hr := r.isLt
  pointwise [k1_pay1]
  rw [WordCmp.cmpi_sge_ofNat (by omega) (by norm_num)]
  by_cases h : r.val + 1 < 2048
  · rw [dif_pos h]
    have h' : ¬ 2047 ≤ r.val := by omega
    simp only [h', Scalar.select, if_false]
    exact congrArg (fun k => A (ix2 k j)) (Fin.ext (by show (r.val + 2048 - 2047) % 2048 = r.val + 1; omega))
  · rw [dif_neg h]
    have h' : 2047 ≤ r.val := by omega
    simp only [h', Scalar.select, if_true]
    rfl

/-- The product with `H` moved down by one row, zero in the first. -/
theorem k1_pay5_apply (G H : Vec Ideal S2048x256 .f32) (r : Fin 2048) (j : Fin 256) :
    k1_pay5 (F := Ideal) G H (ix2 r j)
      = (G (ix2 r j) : EReal) * (if h : 1 ≤ r.val then H (ix2 (⟨r.val - 1, by omega⟩ : Fin 2048) j) else ((0 : ℝ) : EReal)) := by
  have hr := r.isLt
  pointwise [k1_pay5]
  rw [WordCmp.cmpi_slt_ofNat (by omega) (by norm_num)]
  by_cases h : 1 ≤ r.val
  · rw [dif_pos h]
    have h' : ¬ r.val < 1 := by omega
    simp only [h', Scalar.select, if_false]
    exact congrArg (fun k => (G (ix2 r j) : EReal) * H (ix2 k j)) (Fin.ext (by show (r.val + 2048 - 1) % 2048 = r.val - 1; omega))
  · rw [dif_neg h]
    have h' : r.val < 1 := by omega
    simp only [h', Scalar.select, if_true]
    exact (mul_zero _).symm

end Cert.Proof.Scan

end
-- ==== Proof.Scan.Arrays.lean ====
module

public import proofs.«01_k».proof.Proof.Scan.Block
public import Idealize.ShloMosaic.Lib.Pipeline.ValueKit.Geometry

@[expose] public section

set_option maxRecDepth 16384

/-!
What the kernel's three arrays hold over the reals: the states, their gradients and the gradients of the decays.
-/

noncomputable section

namespace Cert.Proof.Scan

open Cert.KernelIdeal Cert.KernelIdeal.Gen
open Idealize.ShloMosaic Idealize.ShloMosaic.TcCoe Idealize.ShloMosaic.Tactic

variable (m : (x : Loc nD τ sig) → Buf (Elt Ideal) x) (ρ : Dev nD → PrngReg)
variable (c : Dev nD) (a u d : ℕ → ℕ → ℝ)

theorem idx0_0 : ∀ t : Fin cfg0.N, win0_0.index t = ![0, (grid0.coords t 0).val] := by decide +kernel
theorem idx0_1 : ∀ t : Fin cfg0.N, win0_1.index t = ![0, (grid0.coords t 0).val] := by decide +kernel
theorem idx0_2 : ∀ t : Fin cfg0.N, win0_2.index t = ![0, (grid0.coords t 0).val] := by decide +kernel
theorem idx1_0 : ∀ t : Fin cfg1.N, win1_0.index t = ![0, (grid1.coords t 0).val] := by decide +kernel
theorem idx1_1 : ∀ t : Fin cfg1.N, win1_1.index t = ![0, (grid1.coords t 0).val] := by decide +kernel
theorem idx1_2 : ∀ t : Fin cfg1.N, win1_2.index t = ![0, (grid1.coords t 0).val] := by decide +kernel
theorem idx1_3 : ∀ t : Fin cfg1.N, win1_3.index t = ![0, (grid1.coords t 0).val] := by decide +kernel
theorem idx1_4 : ∀ t : Fin cfg1.N, win1_4.index t = ![0, (grid1.coords t 0).val] := by decide +kernel

theorem lane_lt0 (t : Fin cfg0.N) (j : Fin 256) : (grid0.coords t 0).val * 256 + j.val < 2816 := by
  have := (grid0.coords t 0).isLt; change (grid0.coords t 0).val < 11 at this; omega
theorem lane_lt1 (t : Fin cfg1.N) (j : Fin 256) : (grid1.coords t 0).val * 256 + j.val < 2816 := by
  have := (grid1.coords t 0).isLt; change (grid1.coords t 0).val < 11 at this; omega

section reads
variable (V : (c : Dev nD) → (b : Ref sig .tc) → Buf (Elt Ideal) ((c : Thread nD τ).loc b))

theorem iblk0_0_apply (t : Fin cfg0.N) (r : Fin 2048) (j : Fin 256) :
    (iblk0 V c 0 t : Vec Ideal S2048x256 .f32) (ix2 r j) = (V c main_arg0 : Vec Ideal S2048x2816 .f32) (ix2 r ⟨(grid0.coords t 0).val * 256 + j.val, lane_lt0 t j⟩) := by
  blk_simp [iblk0]
  refine congrArg (V c main_arg0 : Vec Ideal S2048x2816 .f32) ?_
  blk_ext [idx0_0]
theorem iblk0_1_apply (t : Fin cfg0.N) (r : Fin 2048) (j : Fin 256) :
    (iblk0 V c 1 t : Vec Ideal S2048x256 .f32) (ix2 r j) = (V c main_arg1 : Vec Ideal S2048x2816 .f32) (ix2 r ⟨(grid0.coords t 0).val * 256 + j.val, lane_lt0 t j⟩) := by
  blk_simp [iblk0]
  refine congrArg (V c main_arg1 : Vec Ideal S2048x2816 .f32) ?_
  blk_ext [idx0_1]
theorem iblk1_0_apply (t : Fin cfg1.N) (r : Fin 2048) (j : Fin 256) :
    (iblk1 V c 0 t : Vec Ideal S2048x256 .f32) (ix2 r j) = (V c main_arg0 : Vec Ideal S2048x2816 .f32) (ix2 r ⟨(grid1.coords t 0).val * 256 + j.val, lane_lt1 t j⟩) := by
  blk_simp [iblk1]
  refine congrArg (V c main_arg0 : Vec Ideal S2048x2816 .f32) ?_
  blk_ext [idx1_0]
theorem iblk1_1_apply (t : Fin cfg1.N) (r : Fin 2048) (j : Fin 256) :
    (iblk1 V c 1 t : Vec Ideal S2048x256 .f32) (ix2 r j) = (V c (Pipeline.arrRef spec1 1) : Vec Ideal S2048x2816 .f32) (ix2 r ⟨(grid1.coords t 0).val * 256 + j.val, lane_lt1 t j⟩) := by
  blk_simp [iblk1]
  refine congrArg (V c (Pipeline.arrRef spec1 1) : Vec Ideal S2048x2816 .f32) ?_
  blk_ext [idx1_1]
theorem iblk1_2_apply (t : Fin cfg1.N) (r : Fin 2048) (j : Fin 256) :
    (iblk1 V c 2 t : Vec Ideal S2048x256 .f32) (ix2 r j) = (V c main_arg2 : Vec Ideal S2048x2816 .f32) (ix2 r ⟨(grid1.coords t 0).val * 256 + j.val, lane_lt1 t j⟩) := by
  blk_simp [iblk1]
  refine congrArg (V c main_arg2 : Vec Ideal S2048x2816 .f32) ?_
  blk_ext [idx1_2]

/-- The states' array. -/
theorem final_h
    (hA : ∀ (r : Fin 2048) (l : Fin 2816), (V c main_arg0 : Vec Ideal S2048x2816 .f32) (ix2 r l) = ((a r l : ℝ) : EReal))
    (hU : ∀ (r : Fin 2048) (l : Fin 2816), (V c main_arg1 : Vec Ideal S2048x2816 .f32) (ix2 r l) = ((u r l : ℝ) : EReal)) :
    (dat0 V c).arrAt 2 cfg0.N = (fun i => ((stateR a u ((i 0).val + 1) (i 1).val : ℝ) : EReal) : Vec Ideal S2048x2816 .f32) := by
  refine (dat0 V c).arrAt_eq_of_covers 2 _ (by decide +kernel) fun t hf y => ?_
  blk_simp [after0_2]
  have e := fwdOut_apply (iblk0 V c 0 t) (iblk0 V c 1 t) (fun n => a n ((grid0.coords t 0).val * 256 + (y 1).val))
    (fun n => u n ((grid0.coords t 0).val * 256 + (y 1).val)) (y 1)
    (fun r => (iblk0_0_apply c V t r (y 1)).trans (hA r _)) (fun r => (iblk0_1_apply c V t r (y 1)).trans (hU r _)) (y 0)
  have ey : (ix2 (y 0) (y 1) : S2048x256.Idx) = y := ix2_eta y
  rw [ey] at e
  rw [e, idx0_2]
  simp [stateR]

/-- One block of the states, moved down by one row with zero in the first: the state before. -/
theorem prev_state (hH : V c (Pipeline.arrRef spec1 1) = (fun i => ((stateR a u ((i 0).val + 1) (i 1).val : ℝ) : EReal) : Vec Ideal S2048x2816 .f32))
    (t : Fin cfg1.N) (r : Fin 2048) (j : Fin 256) :
    (if h : 1 ≤ r.val then (iblk1 V c 1 t : Vec Ideal S2048x256 .f32) (ix2 (⟨r.val - 1, by omega⟩ : Fin 2048) j) else ((0 : ℝ) : EReal))
      = ((stateR a u r.val ((grid1.coords t 0).val * 256 + j.val) : ℝ) : EReal) := by
  by_cases h : 1 ≤ r.val
  · rw [dif_pos h, iblk1_1_apply, hH]
    exact congrArg (fun n => ((stateR a u n ((grid1.coords t 0).val * 256 + j.val) : ℝ) : EReal)) (by show r.val - 1 + 1 = r.val; omega)
  · rw [dif_neg h]
    have h0 : r.val = 0 := by omega
    rw [h0]; rfl

section back
variable (hA : ∀ (r : Fin 2048) (l : Fin 2816), (V c main_arg0 : Vec Ideal S2048x2816 .f32) (ix2 r l) = ((a r l : ℝ) : EReal))
  (hD : ∀ (r : Fin 2048) (l : Fin 2816), (V c main_arg2 : Vec Ideal S2048x2816 .f32) (ix2 r l) = ((d r l : ℝ) : EReal))
include hA hD

/-- One block of the states' gradients. -/
theorem bwdOut_block (t : Fin cfg1.N) (r : Fin 2048) (j : Fin 256) :
    bwdOut (F := Ideal) (iblk1 V c 0 t) (iblk1 V c 2 t) (ix2 r j)
      = ((gradR a d (2048 - r.val) ((grid1.coords t 0).val * 256 + j.val) : ℝ) : EReal) := by
  refine bwdRows_apply (iblk1 V c 2 t) (k1_pay1 (iblk1 V c 0 t)) (fun n => d (2047 - n) ((grid1.coords t 0).val * 256 + j.val))
    (fun n => backDecay a n ((grid1.coords t 0).val * 256 + j.val)) j (fun r => ?_) (fun r => ?_) r
  · have hr := r.isLt
    rw [k1_pay1_apply]
    by_cases h : r.val + 1 < 2048
    · rw [dif_pos h, iblk1_0_apply, hA, backDecay, if_neg (by omega)]
      exact congrArg (fun n => ((a n ((grid1.coords t 0).val * 256 + j.val) : ℝ) : EReal)) (by show r.val + 1 = 2048 - (2047 - r.val); omega)
    · rw [dif_neg h, backDecay, if_pos (by omega)]
  · have hr := r.isLt
    rw [iblk1_2_apply, hD]
    exact congrArg (fun n => ((d n ((grid1.coords t 0).val * 256 + j.val) : ℝ) : EReal)) (by show r.val = 2047 - (2047 - r.val); omega)

/-- The states' gradients' array. -/
theorem final_du :
    (dat1 V c).arrAt 3 cfg1.N = (fun i => ((gradR a d (2048 - (i 0).val) (i 1).val : ℝ) : EReal) : Vec Ideal S2048x2816 .f32) := by
  refine (dat1 V c).arrAt_eq_of_covers 3 _ (by decide +kernel) fun t hf y => ?_
  blk_simp [after1_3]
  have e := bwdOut_block c a d V hA hD t (y 0) (y 1)
  have ey : (ix2 (y 0) (y 1) : S2048x256.Idx) = y := ix2_eta y
  rw [ey] at e
  rw [e, idx1_3]
  simp

/-- The decays' gradients' array: the state's gradient times the state before. -/
theorem final_da (hH : V c (Pipeline.arrRef spec1 1) = (fun i => ((stateR a u ((i 0).val + 1) (i 1).val : ℝ) : EReal) : Vec Ideal S2048x2816 .f32)) :
    (dat1 V c).arrAt 4 cfg1.N
      = (fun i => ((gradR a d (2048 - (i 0).val) (i 1).val * stateR a u (i 0).val (i 1).val : ℝ) : EReal) : Vec Ideal S2048x2816 .f32) := by
  refine (dat1 V c).arrAt_eq_of_covers 4 _ (by decide +kernel) fun t hf y => ?_
  blk_simp [after1_4]
  have e := k1_pay5_apply (bwdOut (F := Ideal) (iblk1 V c 0 t) (iblk1 V c 2 t)) (iblk1 V c 1 t) (y 0) (y 1)
  rw [bwdOut_block c a d V hA hD t (y 0) (y 1)] at e
  have ey : (ix2 (y 0) (y 1) : S2048x256.Idx) = y := ix2_eta y
  rw [ey] at e
  rw [e, idx1_4]
  refine (congrArg (fun z : EReal => _ * z) (prev_state c a u V hH t (y 0) (y 1))).trans ?_
  rw [← EReal.coe_mul]
  simp
end back
end reads

section run
variable (hA : ∀ (r : Fin 2048) (l : Fin 2816), (m ((c : Thread nD τ).loc main_arg0) : Vec Ideal S2048x2816 .f32) (ix2 r l) = ((a r l : ℝ) : EReal))
  (hU : ∀ (r : Fin 2048) (l : Fin 2816), (m ((c : Thread nD τ).loc main_arg1) : Vec Ideal S2048x2816 .f32) (ix2 r l) = ((u r l : ℝ) : EReal))
  (hD : ∀ (r : Fin 2048) (l : Fin 2816), (m ((c : Thread nD τ).loc main_arg2) : Vec Ideal S2048x2816 .f32) (ix2 r l) = ((d r l : ℝ) : EReal))

include hA hD in
/-- THE KERNEL'S RESULT `du`. -/
theorem W2_du : W2 m ρ c (Proc.devRef .tc main_v1_0)
    = (fun i => ((gradR a d (2048 - (i 0).val) (i 1).val : ℝ) : EReal) : Vec Ideal S2048x2816 .f32) := by
  refine (W2_arr m ρ c 3).trans (final_du c a d _ (fun r l => ?_) (fun r l => ?_))
  · rw [← hA r l]; exact congrFun (W1_args m ρ c main_arg0 (by decide)) _
  · rw [← hD r l]; exact congrFun (W1_args m ρ c main_arg2 (by decide)) _

include hA hU hD in
/-- THE KERNEL'S RESULT `da`. -/
theorem W2_da : W2 m ρ c (Proc.devRef .tc main_v1_1)
    = (fun i => ((gradR a d (2048 - (i 0).val) (i 1).val * stateR a u (i 0).val (i 1).val : ℝ) : EReal) : Vec Ideal S2048x2816 .f32) := by
  refine (W2_arr m ρ c 4).trans (final_da c a u d _ (fun r l => ?_) (fun r l => ?_) ?_)
  · rw [← hA r l]; exact congrFun (W1_args m ρ c main_arg0 (by decide)) _
  · rw [← hD r l]; exact congrFun (W1_args m ρ c main_arg2 (by decide)) _
  · exact (W1_arr m ρ c 2).trans (final_h c a u _ hA hU)
end run

end Cert.Proof.Scan

end
-- ==== Proof.Scan.TwoLoops.lean ====
module

public import Idealize.ShloMosaic.Lib.StableHlo.RunLoop

@[expose] public section

/-!
The run of a host program made of a stretch of operations, a counted loop, a second stretch and a second counted loop:
every buffer ends at the fold of the operations in the order in which they run.
-/

noncomputable section

namespace Cert.Proof.Scan

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- A program of the host's language over no kernel. -/
abbrev HProg (pcs : Fin 0 → PCfg sig Λ₀ (Elt F)) (nL : Nat) (α : Type) :=
  Prog (TpuEff nD τ sig (Elt F) (HostLoop.Sig (Pipeline.Sig Λ₀ (Fin 0) fun p => (pcs p).Adm) nL) .tc) α

abbrev noAdm : (p : Fin 0) → (pcs p).Adm := fun p => p.elim0
abbrev noTk : Fin 0 → Ticket (Ix := Unit) (Name := ℕ) (U := Option PUnit) (Lvl := ℕ) (nD := nD) (τ := τ) pcs (noAdm pcs) :=
  fun j => j.elim0
abbrev noL : GSem nD τ sig → Finset Unit := fun _ => ∅
abbrev noLv : GSem nD τ sig → Unit → ℕ := fun _ _ => 0

/-- No kernel has no staging cell. -/
theorem noCell_injective : Function.Injective (Pipeline.cellOf (nD := nD) (τ := τ) (Pipeline.pin pcs (noAdm pcs))) :=
  fun k => k.1.elim0

/-- What rides beside the buffers: that the core owes nothing. -/
abbrev owesNothing (c : Dev nD) : sProp 𝕄 := iprop(∃ W, owes (c : Thread nD τ) (0 : CellTallies nD τ sig Unit) W)

variable {pcs defs₀ loops}

/-- A condition's specification holds with the debt carried along. -/
theorem withOwes {cond : HProg (nD := nD) (τ := τ) pcs nL (Elt F .i1)} {condOps : List (HloOp τ sig (Elt F))}
    {bodyI : List (List (HloOp τ sig (Elt F)))} {W₀ : Dev nD → Valuation τ sig (Elt F)} {n : ℕ}
    (h : CondSpec pcs defs₀ loops cond condOps bodyI W₀ n) :
    LoopCond pcs defs₀ Variants.none loops owesNothing cond condOps bodyI W₀ n := fun k hk c bd => by
  have hc := h k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ owesNothing c)
        ⊢ iprop(⌜v = 1#1 ↔ k < n⌝ ∗ boundary (c : Thread nD τ) ∗ held (c : Thread nD τ) (ucRefs τ sig) (after condOps (atTrip condOps bodyI W₀ k c)) ∗ owesNothing c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- A counted loop of the program: its condition and its body as programs and as lists of operations. -/
structure Counted (pcs : Fin 0 → PCfg sig Λ₀ (Elt F)) {nL : Nat}
    (loops : Fin nL → HProg (nD := nD) (τ := τ) pcs nL PUnit) where
  l : Fin nL
  cond : HProg (nD := nD) (τ := τ) pcs nL (Elt F .i1)
  body : HProg (nD := nD) (τ := τ) pcs nL PUnit
  hloops : loops l = HostLoop.step l cond body
  condOps : List (HloOp τ sig (Elt F))
  bodyI : List (List (HloOp τ sig (Elt F)))
  hbodyI : Plain bodyI
  hbody : body = Pipeline.chain (bodyI.map fun ops => (seq ops : Prog _ PUnit))
  n : ℕ

/-- Every buffer after all trips of a counted loop and its failing condition. -/
def Counted.out (ℓ : Counted (nD := nD) (τ := τ) pcs loops) (W : Dev nD → Valuation τ sig (Elt F)) (c : Dev nD) :
    Valuation τ sig (Elt F) := after ℓ.condOps (atTrip ℓ.condOps ℓ.bodyI W ℓ.n c)

/-- The counted loop as a segment of the run. -/
def Counted.seg (ℓ : Counted (nD := nD) (τ := τ) pcs loops) (W : Dev nD → Valuation τ sig (Elt F))
    (h : CondSpec pcs defs₀ loops ℓ.cond ℓ.condOps ℓ.bodyI W ℓ.n) :
    CSeg pcs (noAdm pcs) defs₀ Variants.none noL noLv loops (noTk pcs) :=
  loopSeg _ _ _ _ _ _ _ _ ℓ.l ℓ.cond ℓ.body ℓ.hloops ℓ.condOps ℓ.bodyI ℓ.hbodyI ℓ.hbody ℓ.n W owesNothing (withOwes h)

variable (ℓ₁ ℓ₂ : Counted (nD := nD) (τ := τ) pcs loops) (preI midI : List (List (HloOp τ sig (Elt F))))
  (hpre : Plain preI) (hmid : Plain midI) (m : (ℓ : Loc nD τ sig) → Buf (Elt F) ℓ)

/-- Every buffer when the first loop is entered. -/
abbrev ent₁ : Dev nD → Valuation τ sig (Elt F) := entryContents preI m
/-- Every buffer when the second loop is entered. -/
abbrev ent₂ : Dev nD → Valuation τ sig (Elt F) := fun c => afterL midI (ℓ₁.out (ent₁ preI m) c)
/-- Every buffer at the end. -/
abbrev fin₂ : Dev nD → Valuation τ sig (Elt F) := ℓ₂.out (ent₂ ℓ₁ preI midI m)

/-- The run's segments in order. -/
def twoSegs (h₁ : CondSpec pcs defs₀ loops ℓ₁.cond ℓ₁.condOps ℓ₁.bodyI (ent₁ preI m) ℓ₁.n)
    (h₂ : CondSpec pcs defs₀ loops ℓ₂.cond ℓ₂.condOps ℓ₂.bodyI (ent₂ ℓ₁ preI midI m) ℓ₂.n) :
    List (CSeg pcs (noAdm pcs) defs₀ Variants.none noL noLv loops (noTk pcs)) :=
  segsOf _ _ _ _ _ _ _ _ owesNothing preI hpre (launchContents m)
    ++ ℓ₁.seg (ent₁ preI m) h₁ :: (segsOf _ _ _ _ _ _ _ _ owesNothing midI hmid (ℓ₁.out (ent₁ preI m))
      ++ [ℓ₂.seg (ent₂ ℓ₁ preI midI m) h₂])

variable {ℓ₁ ℓ₂ preI midI hpre hmid m}

theorem twoSegs_prog (h₁) (h₂) :
    (twoSegs (defs₀ := defs₀) ℓ₁ ℓ₂ preI midI hpre hmid m h₁ h₂).map CSeg.prog
      = (preI.map fun ops => (seq ops : Prog _ PUnit)) ++ HostLoop.enter ℓ₁.l ::
          ((midI.map fun ops => (seq ops : Prog _ PUnit)) ++ [HostLoop.enter ℓ₂.l]) := by
  unfold twoSegs
  rw [List.map_append, List.map_cons, List.map_append, segsOf_prog, segsOf_prog]
  rfl

theorem twoSegs_chains (h₁) (h₂) :
    CSeg.Chains (fun c => iprop(held (c : Thread nD τ) (ucRefs τ sig) (launchContents m c) ∗ owesNothing c))
      (twoSegs (defs₀ := defs₀) ℓ₁ ℓ₂ preI midI hpre hmid m h₁ h₂)
      (fun c => iprop(iprop(held (c : Thread nD τ) (ucRefs τ sig) (fin₂ ℓ₁ ℓ₂ preI midI m c)) ∗ ∃ W, owes (c : Thread nD τ) (0 : CellTallies nD τ sig Unit) W)) := by
  unfold twoSegs
  exact CSeg.Chains.append (segsOf_chains _ _ _ _ _ _ _ _ owesNothing preI hpre _)
    ⟨fun _ => .rfl, CSeg.Chains.append (segsOf_chains _ _ _ _ _ _ _ _ owesNothing midI hmid _) ⟨fun _ => .rfl, fun _ => .rfl⟩⟩

/-- The run: every weakly fair execution terminates and every tensor buffer ends at `fin₂`. -/
theorem run_two [∀ e, Nonempty (Elt F e)]
    (main : Dev nD → HProg (nD := nD) (τ := τ) pcs nL PUnit)
    (hmain : ∀ c, main c = Pipeline.chain ((preI.map fun ops => (seq ops : Prog _ PUnit)) ++ HostLoop.enter ℓ₁.l ::
          ((midI.map fun ops => (seq ops : Prog _ PUnit)) ++ [HostLoop.enter ℓ₂.l])))
    (hpre : Plain preI) (hmid : Plain midI)
    (ρ : Dev nD → PrngReg)
    (h₁ : CondSpec pcs defs₀ loops ℓ₁.cond ℓ₁.condOps ℓ₁.bodyI (ent₁ preI m) ℓ₁.n)
    (h₂ : CondSpec pcs defs₀ loops ℓ₂.cond ℓ₂.condOps ℓ₂.bodyI (ent₂ ℓ₁ preI midI m) ℓ₂.n) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = fin₂ ℓ₁ ℓ₂ preI midI m c (Proc.devRef .tc b)) :=
  Pipeline.θ_run_regions_loop_kit (Ix := Unit) (Name := ℕ) (U := Option PUnit) (Lvl := ℕ) (J := Fin 0) (P := Fin 0) (Val := Elt F)
    pcs (noAdm pcs) (noCell_injective pcs) defs₀ Variants.none noL noLv loops (noTk pcs) m ρ main
    (twoSegs ℓ₁ ℓ₂ preI midI hpre hmid m h₁ h₂)
    (fun c Q => by
      rw [hmain c]
      show wp _ _ _ (Pipeline.chain ((twoSegs ℓ₁ ℓ₂ preI midI hpre hmid m h₁ h₂).map CSeg.prog)) Q ⊢ _
      rw [twoSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ owesNothing c))
    (Tₙ := fun c => iprop(held (c : Thread nD τ) (ucRefs τ sig) (fin₂ ℓ₁ ℓ₂ preI midI m c)))
    (hch := twoSegs_chains h₁ h₂)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin₂ ℓ₁ ℓ₂ preI midI m c b)
    (hfin := fun c s' => by
      unfold held
      iintro ⟨Hh, HSI⟩
      ihave Hr := (pointsTo_read_all (ucRefs τ sig) (fun b => ((c : Dev nD), b)) (fun b => fin₂ ℓ₁ ℓ₂ preI midI m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Proof.Scan

end
-- ==== Proof.Scan.RefOps.lean ====
module

public import proofs.«01_k».proof.Proof.Gen.ReferenceIdeal
public import proofs.«01_k».proof.Proof.Scan.TwoLoops
public import Idealize.ShloMosaic.Lib.Pipeline.Regions
public import Idealize.ShloMosaic.Lib.StableHlo.RunRead
public import Idealize.ShloMosaic.Lib.Scf.ExitTest
public import Idealize.ShloMosaic.Lib.Scf.Counter

@[expose] public section

/-!
The reference's program as lists of operations: before the loops, the two loops' conditions and bodies, and between them.
-/

noncomputable section

namespace Cert.Proof.ScanRef

open Cert.ReferenceIdeal Cert.ReferenceIdeal.Gen Cert.Proof.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The operations before the first loop. -/
abbrev pre0 : List (HloOp τ sig (Elt F)) :=
  [ StableHlo.nullary main_cst (constant S_ .f32 0x00000000#32),
    StableHlo.unary main_cst main_v0 (broadcastInDim S2816 ![] bcast_S_S2816 : (⟨S_, .f32⟩ : BufTy).Contents (Elt F) → (⟨S2816, .f32⟩ : BufTy).Contents (Elt F)),
    StableHlo.nullary main_cst_0 (constant S_ .f32 0x00000000#32),
    StableHlo.unary main_cst_0 main_v1 (broadcastInDim S2048x2816 ![] bcast_S_S2048x2816 : (⟨S_, .f32⟩ : BufTy).Contents (Elt F) → (⟨S2048x2816, .f32⟩ : BufTy).Contents (Elt F)),
    StableHlo.nullary main_cst_1 (constant S_ .f32 0x00000000#32),
    StableHlo.unary main_cst_1 main_v2 (broadcastInDim S2048x2816 ![] bcast_S_S2048x2816 : (⟨S_, .f32⟩ : BufTy).Contents (Elt F) → (⟨S2048x2816, .f32⟩ : BufTy).Contents (Elt F)),
    StableHlo.nullary main_c (constantI S_ 32 0#32),
    StableHlo.unary main_arg0 main_v3_0 id,
    StableHlo.unary main_arg1 main_v3_1 id,
    StableHlo.unary main_c main_v3_2 id,
    StableHlo.unary main_v0 main_v3_3 id,
    StableHlo.unary main_v1 main_v3_4 id,
    StableHlo.unary main_v2 main_v3_5 id ]
theorem pre0_sub : (pre0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem pre0_fresh : (pre0 : List (HloOp τ sig (Elt F))).Forall fun op => op.fresh = ∅ := StableHlo.forall_fresh_of_map rfl
abbrev pre0_W : List (Ref sig .tc) := [main_cst, main_v0, main_cst_0, main_v1, main_cst_1, main_v2, main_c, main_v3_0, main_v3_1, main_v3_2, main_v3_3, main_v3_4, main_v3_5]
theorem pre0_writes : (pre0 : List (HloOp τ sig (Elt F))).Forall fun op => op.writes ⊆ (pre0_W.map (Proc.devRef (τ := τ) .tc)).toFinset :=
  StableHlo.forall_writes_sub_of_map rfl
theorem pre0_keep (V : Valuation τ sig (Elt F)) (r : Ref sig .tc) (h : r ∉ pre0_W) :
    after pre0 V (Proc.devRef .tc r) = V (Proc.devRef .tc r) := after_of_writes_sub pre0 V pre0_writes h

/-- The operations between the loops. -/
abbrev pre1 : List (HloOp τ sig (Elt F)) :=
  [ StableHlo.nullary main_cst_2 (constant S_ .f32 0x00000000#32),
    StableHlo.unary main_cst_2 main_v4 (broadcastInDim S2816 ![] bcast_S_S2816 : (⟨S_, .f32⟩ : BufTy).Contents (Elt F) → (⟨S2816, .f32⟩ : BufTy).Contents (Elt F)),
    StableHlo.nullary main_cst_3 (constant S_ .f32 0x00000000#32),
    StableHlo.unary main_cst_3 main_v5 (broadcastInDim S2816 ![] bcast_S_S2816 : (⟨S_, .f32⟩ : BufTy).Contents (Elt F) → (⟨S2816, .f32⟩ : BufTy).Contents (Elt F)),
    StableHlo.nullary main_cst_4 (constant S_ .f32 0x00000000#32),
    StableHlo.unary main_cst_4 main_v6 (broadcastInDim S2048x2816 ![] bcast_S_S2048x2816 : (⟨S_, .f32⟩ : BufTy).Contents (Elt F) → (⟨S2048x2816, .f32⟩ : BufTy).Contents (Elt F)),
    StableHlo.nullary main_cst_5 (constant S_ .f32 0x00000000#32),
    StableHlo.unary main_cst_5 main_v7 (broadcastInDim S2048x2816 ![] bcast_S_S2048x2816 : (⟨S_, .f32⟩ : BufTy).Contents (Elt F) → (⟨S2048x2816, .f32⟩ : BufTy).Contents (Elt F)),
    StableHlo.nullary main_c_6 (constantI S_ 32 0#32),
    StableHlo.unary main_arg2 main_v8_0 id,
    StableHlo.unary main_v3_5 main_v8_1 id,
    StableHlo.unary main_arg0 main_v8_2 id,
    StableHlo.unary main_c_6 main_v8_3 id,
    StableHlo.unary main_v5 main_v8_4 id,
    StableHlo.unary main_v6 main_v8_5 id,
    StableHlo.unary main_v7 main_v8_6 id ]
theorem pre1_sub : (pre1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem pre1_fresh : (pre1 : List (HloOp τ sig (Elt F))).Forall fun op => op.fresh = ∅ := StableHlo.forall_fresh_of_map rfl
abbrev pre1_W : List (Ref sig .tc) := [main_cst_2, main_v4, main_cst_3, main_v5, main_cst_4, main_v6, main_cst_5, main_v7, main_c_6, main_v8_0, main_v8_1, main_v8_2, main_v8_3, main_v8_4, main_v8_5, main_v8_6]
theorem pre1_writes : (pre1 : List (HloOp τ sig (Elt F))).Forall fun op => op.writes ⊆ (pre1_W.map (Proc.devRef (τ := τ) .tc)).toFinset :=
  StableHlo.forall_writes_sub_of_map rfl
theorem pre1_keep (V : Valuation τ sig (Elt F)) (r : Ref sig .tc) (h : r ∉ pre1_W) :
    after pre1 V (Proc.devRef .tc r) = V (Proc.devRef .tc r) := after_of_writes_sub pre1 V pre1_writes h

theorem main_chain (c : Dev nD) : main (F := F) c = (Pipeline.chain
  [ StableHlo.seq pre0, HostLoop.enter 0, StableHlo.seq pre1, HostLoop.enter 1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons]
  chain_rfl

/-- Stretch 0 of the body of loop 0. -/
abbrev b0s0 : List (HloOp τ sig (Elt F)) :=
  [ StableHlo.TRef.nullary (.of main_while0b_call0_c : StableHlo.TRef sig ⟨S_, .i32⟩) (constantI S_ 32 0#32),
    StableHlo.TRef.unaryIndexed (.of main_v3_0 : StableHlo.TRef sig ⟨S2048x2816, .f32⟩) ![(.of main_v3_2 : StableHlo.TRef sig ⟨S_, .i32⟩), (.of main_while0b_call0_c : StableHlo.TRef sig ⟨S_, .i32⟩)] (.of main_while0b_call0_v0 : StableHlo.TRef sig ⟨S1x2816, .f32⟩) (fun x i => Host.dynamicSlice S1x2816 x (fun k => (i k (Shape.Idx.first h_S_)).toInt) sliceFits_S2048x2816_S1x2816),
    StableHlo.TRef.reshape (.of main_while0b_call0_v0 : StableHlo.TRef sig ⟨S1x2816, .f32⟩) (.of main_while0b_v9 : StableHlo.TRef sig ⟨S2816, .f32⟩) (rfl : (.f32 : EltTy) = .f32) shapeCasts_S1x2816_S2816 ]
theorem b0s0_sub : (b0s0 : List (HloOp τ sig (Elt F))).Forall fun op => op.bufs ⊆ StableHlo.tcRefs τ sig :=
  ⟨StableHlo.nullary_bufs_sub .., StableHlo.unaryIndexed_bufs_sub .., StableHlo.reshape_bufs_sub ..⟩
theorem b0s0_fresh : (b0s0 : List (HloOp τ sig (Elt F))).Forall fun op => op.fresh = ∅ := StableHlo.forall_fresh_of_map rfl
abbrev b0s0_W : List (Ref sig .tc) := [main_while0b_call0_c, main_while0b_call0_v0, main_while0b_v9]
theorem b0s0_writes : (b0s0 : List (HloOp τ sig (Elt F))).Forall fun op => op.writes ⊆ (b0s0_W.map (Proc.devRef (τ := τ) .tc)).toFinset :=
  StableHlo.forall_writes_sub_of_map rfl
theorem b0s0_keep (V : Valuation τ sig (Elt F)) (r : Ref sig .tc) (h : r ∉ b0s0_W) :
    after b0s0 V (Proc.devRef .tc r) = V (Proc.devRef .tc r) := after_of_writes_sub b0s0 V b0s0_writes h

/-- Stretch 1 of the body of loop 0. -/
abbrev b0s1 : List (HloOp τ sig (Elt F)) :=
  [ StableHlo.TRef.nullary (.of main_while0b_call1_c : StableHlo.TRef sig ⟨S_, .i32⟩) (constantI S_ 32 0#32),
    StableHlo.TRef.unaryIndexed (.of main_v3_1 : StableHlo.TRef sig ⟨S2048x2816, .f32⟩) ![(.of main_v3_2 : StableHlo.TRef sig ⟨S_, .i32⟩), (.of main_while0b_call1_c : StableHlo.TRef sig ⟨S_, .i32⟩)] (.of main_while0b_call1_v0 : StableHlo.TRef sig ⟨S1x2816, .f32⟩) (fun x i => Host.dynamicSlice S1x2816 x (fun k => (i k (Shape.Idx.first h_S_)).toInt) sliceFits_S2048x2816_S1x2816),
    StableHlo.TRef.reshape (.of main_while0b_call1_v0 : StableHlo.TRef sig ⟨S1x2816, .f32⟩) (.of main_while0b_v10 : StableHlo.TRef sig ⟨S2816, .f32⟩) (rfl : (.f32 : EltTy) = .f32) shapeCasts_S1x2816_S2816 ]
theorem b0s1_sub : (b0s1 : List (HloOp τ sig (Elt F))).Forall fun op => op.bufs ⊆ StableHlo.tcRefs τ sig :=
  ⟨StableHlo.nullary_bufs_sub .., StableHlo.unaryIndexed_bufs_sub .., StableHlo.reshape_bufs_sub ..⟩
theorem b0s1_fresh : (b0s1 : List (HloOp τ sig (Elt F))).Forall fun op => op.fresh = ∅ := StableHlo.forall_fresh_of_map rfl
abbrev b0s1_W : List (Ref sig .tc) := [main_while0b_call1_c, main_while0b_call1_v0, main_while0b_v10]
theorem b0s1_writes : (b0s1 : List (HloOp τ sig (Elt F))).Forall fun op => op.writes ⊆ (b0s1_W.map (Proc.devRef (τ := τ) .tc)).toFinset :=
  StableHlo.forall_writes_sub_of_map rfl
theorem b0s1_keep (V : Valuation τ sig (Elt F)) (r : Ref sig .tc) (h : r ∉ b0s1_W) :
    after b0s1 V (Proc.devRef .tc r) = V (Proc.devRef .tc r) := after_of_writes_sub b0s1 V b0s1_writes h

/-- Stretch 2 of the body of loop 0. -/
abbrev b0s2 : List (HloOp τ sig (Elt F)) :=
  [ StableHlo.binary main_while0b_v9 main_v3_3 main_while0b_v11 (mulf : (⟨S2816, .f32⟩ : BufTy).Contents (Elt F) → (⟨S2816, .f32⟩ : BufTy).Contents (Elt F) → (⟨S2816, .f32⟩ : BufTy).Contents (Elt F)),
    StableHlo.binary main_while0b_v11 main_while0b_v10 main_while0b_v12 (addf : (⟨S2816, .f32⟩ : BufTy).Contents (Elt F) → (⟨S2816, .f32⟩ : BufTy).Contents (Elt F) → (⟨S2816, .f32⟩ : BufTy).Contents (Elt F)) ]
theorem b0s2_sub : (b0s2 : List (HloOp τ sig (Elt F))).Forall fun op => op.bufs ⊆ StableHlo.tcRefs τ sig :=
  ⟨StableHlo.binary_bufs_sub .., StableHlo.binary_bufs_sub ..⟩
theorem b0s2_fresh : (b0s2 : List (HloOp τ sig (Elt F))).Forall fun op => op.fresh = ∅ := StableHlo.forall_fresh_of_map rfl
abbrev b0s2_W : List (Ref sig .tc) := [main_while0b_v11, main_while0b_v12]
theorem b0s2_writes : (b0s2 : List (HloOp τ sig (Elt F))).Forall fun op => op.writes ⊆ (b0s2_W.map (Proc.devRef (τ := τ) .tc)).toFinset :=
  StableHlo.forall_writes_sub_of_map rfl
theorem b0s2_keep (V : Valuation τ sig (Elt F)) (r : Ref sig .tc) (h : r ∉ b0s2_W) :
    after b0s2 V (Proc.devRef .tc r) = V (Proc.devRef .tc r) := after_of_writes_sub b0s2 V b0s2_writes h

/-- Stretch 3 of the body of loop 0. -/
abbrev b0s3 : List (HloOp τ sig (Elt F)) :=
  [ StableHlo.TRef.unary (.of main_while0b_v12 : StableHlo.TRef sig ⟨S2816, .f32⟩) (.of main_while0b_call2_v0 : StableHlo.TRef sig ⟨S1x2816, .f32⟩) (broadcastInDim S1x2816 ![1] bcast_S2816_S1x2816_1),
    StableHlo.TRef.nullary (.of main_while0b_call2_c : StableHlo.TRef sig ⟨S_, .i32⟩) (constantI S_ 32 0#32),
    StableHlo.TRef.binaryIndexed (.of main_v3_4 : StableHlo.TRef sig ⟨S2048x2816, .f32⟩) (.of main_while0b_call2_v0 : StableHlo.TRef sig ⟨S1x2816, .f32⟩) ![(.of main_v3_2 : StableHlo.TRef sig ⟨S_, .i32⟩), (.of main_while0b_call2_c : StableHlo.TRef sig ⟨S_, .i32⟩)] (.of main_while0b_v13 : StableHlo.TRef sig ⟨S2048x2816, .f32⟩) (fun x u i => Host.dynamicUpdateSlice x u (fun k => (i k (Shape.Idx.first h_S_)).toInt) updateFits_S2048x2816_S1x2816) ]
theorem b0s3_sub : (b0s3 : List (HloOp τ sig (Elt F))).Forall fun op => op.bufs ⊆ StableHlo.tcRefs τ sig :=
  ⟨StableHlo.unary_bufs_sub .., StableHlo.nullary_bufs_sub .., StableHlo.binaryIndexed_bufs_sub ..⟩
theorem b0s3_fresh : (b0s3 : List (HloOp τ sig (Elt F))).Forall fun op => op.fresh = ∅ := StableHlo.forall_fresh_of_map rfl
abbrev b0s3_W : List (Ref sig .tc) := [main_while0b_call2_v0, main_while0b_call2_c, main_while0b_v13]
theorem b0s3_writes : (b0s3 : List (HloOp τ sig (Elt F))).Forall fun op => op.writes ⊆ (b0s3_W.map (Proc.devRef (τ := τ) .tc)).toFinset :=
  StableHlo.forall_writes_sub_of_map rfl
theorem b0s3_keep (V : Valuation τ sig (Elt F)) (r : Ref sig .tc) (h : r ∉ b0s3_W) :
    after b0s3 V (Proc.devRef .tc r) = V (Proc.devRef .tc r) := after_of_writes_sub b0s3 V b0s3_writes h

/-- Stretch 4 of the body of loop 0. -/
abbrev b0s4 : List (HloOp τ sig (Elt F)) :=
  [ StableHlo.TRef.unary (.of main_v3_3 : StableHlo.TRef sig ⟨S2816, .f32⟩) (.of main_while0b_call3_v0 : StableHlo.TRef sig ⟨S1x2816, .f32⟩) (broadcastInDim S1x2816 ![1] bcast_S2816_S1x2816_1),
    StableHlo.TRef.nullary (.of main_while0b_call3_c : StableHlo.TRef sig ⟨S_, .i32⟩) (constantI S_ 32 0#32),
    StableHlo.TRef.binaryIndexed (.of main_v3_5 : StableHlo.TRef sig ⟨S2048x2816, .f32⟩) (.of main_while0b_call3_v0 : StableHlo.TRef sig ⟨S1x2816, .f32⟩) ![(.of main_v3_2 : StableHlo.TRef sig ⟨S_, .i32⟩), (.of main_while0b_call3_c : StableHlo.TRef sig ⟨S_, .i32⟩)] (.of main_while0b_v14 : StableHlo.TRef sig ⟨S2048x2816, .f32⟩) (fun x u i => Host.dynamicUpdateSlice x u (fun k => (i k (Shape.Idx.first h_S_)).toInt) updateFits_S2048x2816_S1x2816) ]
theorem b0s4_sub : (b0s4 : List (HloOp τ sig (Elt F))).Forall fun op => op.bufs ⊆ StableHlo.tcRefs τ sig :=
  ⟨StableHlo.unary_bufs_sub .., StableHlo.nullary_bufs_sub .., StableHlo.binaryIndexed_bufs_sub ..⟩
theorem b0s4_fresh : (b0s4 : List (HloOp τ sig (Elt F))).Forall fun op => op.fresh = ∅ := StableHlo.forall_fresh_of_map rfl
abbrev b0s4_W : List (Ref sig .tc) := [main_while0b_call3_v0, main_while0b_call3_c, main_while0b_v14]
theorem b0s4_writes : (b0s4 : List (HloOp τ sig (Elt F))).Forall fun op => op.writes ⊆ (b0s4_W.map (Proc.devRef (τ := τ) .tc)).toFinset :=
  StableHlo.forall_writes_sub_of_map rfl
theorem b0s4_keep (V : Valuation τ sig (Elt F)) (r : Ref sig .tc) (h : r ∉ b0s4_W) :
    after b0s4 V (Proc.devRef .tc r) = V (Proc.devRef .tc r) := after_of_writes_sub b0s4 V b0s4_writes h

/-- Stretch 5 of the body of loop 0. -/
abbrev b0s5 : List (HloOp τ sig (Elt F)) :=
  [ StableHlo.nullary main_while0b_c_12 (constantI S_ 32 1#32),
    StableHlo.binary main_v3_2 main_while0b_c_12 main_while0b_v15 (addi : (⟨S_, .i32⟩ : BufTy).Contents (Elt F) → (⟨S_, .i32⟩ : BufTy).Contents (Elt F) → (⟨S_, .i32⟩ : BufTy).Contents (Elt F)),
    StableHlo.unary main_while0b_v15 main_v3_2 id,
    StableHlo.unary main_while0b_v12 main_v3_3 id,
    StableHlo.unary main_while0b_v13 main_v3_4 id,
    StableHlo.unary main_while0b_v14 main_v3_5 id ]
theorem b0s5_sub : (b0s5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem b0s5_fresh : (b0s5 : List (HloOp τ sig (Elt F))).Forall fun op => op.fresh = ∅ := StableHlo.forall_fresh_of_map rfl
abbrev b0s5_W : List (Ref sig .tc) := [main_while0b_c_12, main_while0b_v15, main_v3_2, main_v3_3, main_v3_4, main_v3_5]
theorem b0s5_writes : (b0s5 : List (HloOp τ sig (Elt F))).Forall fun op => op.writes ⊆ (b0s5_W.map (Proc.devRef (τ := τ) .tc)).toFinset :=
  StableHlo.forall_writes_sub_of_map rfl
theorem b0s5_keep (V : Valuation τ sig (Elt F)) (r : Ref sig .tc) (h : r ∉ b0s5_W) :
    after b0s5 V (Proc.devRef .tc r) = V (Proc.devRef .tc r) := after_of_writes_sub b0s5 V b0s5_writes h

theorem body0_chain : main_while0_body (F := F) = (Pipeline.chain
  [ StableHlo.seq b0s0, StableHlo.seq b0s1, StableHlo.seq b0s2, StableHlo.seq b0s3, StableHlo.seq b0s4, StableHlo.seq b0s5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

/-- The condition of loop 0. -/
abbrev cond0 : List (HloOp τ sig (Elt F)) :=
  [ StableHlo.nullary main_while0c_c_12 (constantI S_ 32 2048#32),
    StableHlo.binary main_v3_2 main_while0c_c_12 main_while0c_v9 (cmpi .slt) ]
theorem cond0_sub : (cond0 : List (HloOp τ sig (Elt F))).Forall fun op => op.bufs ⊆ StableHlo.tcRefs τ sig :=
  ⟨StableHlo.nullary_bufs_sub .., StableHlo.binary_bufs_sub ..⟩
theorem cond0_fresh : (cond0 : List (HloOp τ sig (Elt F))).Forall fun op => op.fresh = ∅ := StableHlo.forall_fresh_of_map rfl
abbrev cond0_W : List (Ref sig .tc) := [main_while0c_c_12, main_while0c_v9]
theorem cond0_writes : (cond0 : List (HloOp τ sig (Elt F))).Forall fun op => op.writes ⊆ (cond0_W.map (Proc.devRef (τ := τ) .tc)).toFinset :=
  StableHlo.forall_writes_sub_of_map rfl
theorem cond0_keep (V : Valuation τ sig (Elt F)) (r : Ref sig .tc) (h : r ∉ cond0_W) :
    after cond0 V (Proc.devRef .tc r) = V (Proc.devRef .tc r) := after_of_writes_sub cond0 V cond0_writes h

/-- The body of loop 0 as stretches. -/
abbrev body0 : List (List (HloOp τ sig (Elt F))) := [b0s0, b0s1, b0s2, b0s3, b0s4, b0s5]
theorem body0_plain : Plain (body0 (F := F)) := .cons b0s0_sub (hf := List.forall_iff_forall_mem.mp b0s0_fresh) (.cons b0s1_sub (hf := List.forall_iff_forall_mem.mp b0s1_fresh) (.cons b0s2_sub (hf := List.forall_iff_forall_mem.mp b0s2_fresh) (.cons b0s3_sub (hf := List.forall_iff_forall_mem.mp b0s3_fresh) (.cons b0s4_sub (hf := List.forall_iff_forall_mem.mp b0s4_fresh) (.cons b0s5_sub (hf := List.forall_iff_forall_mem.mp b0s5_fresh) (.nil))))))

/-- Stretch 0 of the body of loop 1. -/
abbrev b1s0 : List (HloOp τ sig (Elt F)) :=
  [ StableHlo.nullary main_while1b_c_13 (constantI S_ 32 2048#32),
    StableHlo.binary main_while1b_c_13 main_v8_3 main_while1b_v9 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v9 main_while1b_c_14 main_while1b_v10 (subi : (⟨S_, .i32⟩ : BufTy).Contents (Elt F) → (⟨S_, .i32⟩ : BufTy).Contents (Elt F) → (⟨S_, .i32⟩ : BufTy).Contents (Elt F)) ]
theorem b1s0_sub : (b1s0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem b1s0_fresh : (b1s0 : List (HloOp τ sig (Elt F))).Forall fun op => op.fresh = ∅ := StableHlo.forall_fresh_of_map rfl
abbrev b1s0_W : List (Ref sig .tc) := [main_while1b_c_13, main_while1b_v9, main_while1b_c_14, main_while1b_v10]
theorem b1s0_writes : (b1s0 : List (HloOp τ sig (Elt F))).Forall fun op => op.writes ⊆ (b1s0_W.map (Proc.devRef (τ := τ) .tc)).toFinset :=
  StableHlo.forall_writes_sub_of_map rfl
theorem b1s0_keep (V : Valuation τ sig (Elt F)) (r : Ref sig .tc) (h : r ∉ b1s0_W) :
    after b1s0 V (Proc.devRef .tc r) = V (Proc.devRef .tc r) := after_of_writes_sub b1s0 V b1s0_writes h

/-- Stretch 1 of the body of loop 1. -/
abbrev b1s1 : List (HloOp τ sig (Elt F)) :=
  [ StableHlo.TRef.nullary (.of main_while1b_call4_c : StableHlo.TRef sig ⟨S_, .i32⟩) (constantI S_ 32 0#32),
    StableHlo.TRef.unaryIndexed (.of main_v8_0 : StableHlo.TRef sig ⟨S2048x2816, .f32⟩) ![(.of main_while1b_v10 : StableHlo.TRef sig ⟨S_, .i32⟩), (.of main_while1b_call4_c : StableHlo.TRef sig ⟨S_, .i32⟩)] (.of main_while1b_call4_v0 : StableHlo.TRef sig ⟨S1x2816, .f32⟩) (fun x i => Host.dynamicSlice S1x2816 x (fun k => (i k (Shape.Idx.first h_S_)).toInt) sliceFits_S2048x2816_S1x2816),
    StableHlo.TRef.reshape (.of main_while1b_call4_v0 : StableHlo.TRef sig ⟨S1x2816, .f32⟩) (.of main_while1b_v11 : StableHlo.TRef sig ⟨S2816, .f32⟩) (rfl : (.f32 : EltTy) = .f32) shapeCasts_S1x2816_S2816 ]
theorem b1s1_sub : (b1s1 : List (HloOp τ sig (Elt F))).Forall fun op => op.bufs ⊆ StableHlo.tcRefs τ sig :=
  ⟨StableHlo.nullary_bufs_sub .., StableHlo.unaryIndexed_bufs_sub .., StableHlo.reshape_bufs_sub ..⟩
theorem b1s1_fresh : (b1s1 : List (HloOp τ sig (Elt F))).Forall fun op => op.fresh = ∅ := StableHlo.forall_fresh_of_map rfl
abbrev b1s1_W : List (Ref sig .tc) := [main_while1b_call4_c, main_while1b_call4_v0, main_while1b_v11]
theorem b1s1_writes : (b1s1 : List (HloOp τ sig (Elt F))).Forall fun op => op.writes ⊆ (b1s1_W.map (Proc.devRef (τ := τ) .tc)).toFinset :=
  StableHlo.forall_writes_sub_of_map rfl
theorem b1s1_keep (V : Valuation τ sig (Elt F)) (r : Ref sig .tc) (h : r ∉ b1s1_W) :
    after b1s1 V (Proc.devRef .tc r) = V (Proc.devRef .tc r) := after_of_writes_sub b1s1 V b1s1_writes h

/-- Stretch 2 of the body of loop 1. -/
abbrev b1s2 : List (HloOp τ sig (Elt F)) :=
  [ StableHlo.TRef.nullary (.of main_while1b_call5_c : StableHlo.TRef sig ⟨S_, .i32⟩) (constantI S_ 32 0#32),
    StableHlo.TRef.unaryIndexed (.of main_v8_1 : StableHlo.TRef sig ⟨S2048x2816, .f32⟩) ![(.of main_while1b_v10 : StableHlo.TRef sig ⟨S_, .i32⟩), (.of main_while1b_call5_c : StableHlo.TRef sig ⟨S_, .i32⟩)] (.of main_while1b_call5_v0 : StableHlo.TRef sig ⟨S1x2816, .f32⟩) (fun x i => Host.dynamicSlice S1x2816 x (fun k => (i k (Shape.Idx.first h_S_)).toInt) sliceFits_S2048x2816_S1x2816),
    StableHlo.TRef.reshape (.of main_while1b_call5_v0 : StableHlo.TRef sig ⟨S1x2816, .f32⟩) (.of main_while1b_v12 : StableHlo.TRef sig ⟨S2816, .f32⟩) (rfl : (.f32 : EltTy) = .f32) shapeCasts_S1x2816_S2816 ]
theorem b1s2_sub : (b1s2 : List (HloOp τ sig (Elt F))).Forall fun op => op.bufs ⊆ StableHlo.tcRefs τ sig :=
  ⟨StableHlo.nullary_bufs_sub .., StableHlo.unaryIndexed_bufs_sub .., StableHlo.reshape_bufs_sub ..⟩
theorem b1s2_fresh : (b1s2 : List (HloOp τ sig (Elt F))).Forall fun op => op.fresh = ∅ := StableHlo.forall_fresh_of_map rfl
abbrev b1s2_W : List (Ref sig .tc) := [main_while1b_call5_c, main_while1b_call5_v0, main_while1b_v12]
theorem b1s2_writes : (b1s2 : List (HloOp τ sig (Elt F))).Forall fun op => op.writes ⊆ (b1s2_W.map (Proc.devRef (τ := τ) .tc)).toFinset :=
  StableHlo.forall_writes_sub_of_map rfl
theorem b1s2_keep (V : Valuation τ sig (Elt F)) (r : Ref sig .tc) (h : r ∉ b1s2_W) :
    after b1s2 V (Proc.devRef .tc r) = V (Proc.devRef .tc r) := after_of_writes_sub b1s2 V b1s2_writes h

/-- Stretch 3 of the body of loop 1. -/
abbrev b1s3 : List (HloOp τ sig (Elt F)) :=
  [ StableHlo.TRef.nullary (.of main_while1b_call6_c : StableHlo.TRef sig ⟨S_, .i32⟩) (constantI S_ 32 0#32),
    StableHlo.TRef.unaryIndexed (.of main_v8_2 : StableHlo.TRef sig ⟨S2048x2816, .f32⟩) ![(.of main_while1b_v10 : StableHlo.TRef sig ⟨S_, .i32⟩), (.of main_while1b_call6_c : StableHlo.TRef sig ⟨S_, .i32⟩)] (.of main_while1b_call6_v0 : StableHlo.TRef sig ⟨S1x2816, .f32⟩) (fun x i => Host.dynamicSlice S1x2816 x (fun k => (i k (Shape.Idx.first h_S_)).toInt) sliceFits_S2048x2816_S1x2816),
    StableHlo.TRef.reshape (.of main_while1b_call6_v0 : StableHlo.TRef sig ⟨S1x2816, .f32⟩) (.of main_while1b_v13 : StableHlo.TRef sig ⟨S2816, .f32⟩) (rfl : (.f32 : EltTy) = .f32) shapeCasts_S1x2816_S2816 ]
theorem b1s3_sub : (b1s3 : List (HloOp τ sig (Elt F))).Forall fun op => op.bufs ⊆ StableHlo.tcRefs τ sig :=
  ⟨StableHlo.nullary_bufs_sub .., StableHlo.unaryIndexed_bufs_sub .., StableHlo.reshape_bufs_sub ..⟩
theorem b1s3_fresh : (b1s3 : List (HloOp τ sig (Elt F))).Forall fun op => op.fresh = ∅ := StableHlo.forall_fresh_of_map rfl
abbrev b1s3_W : List (Ref sig .tc) := [main_while1b_call6_c, main_while1b_call6_v0, main_while1b_v13]
theorem b1s3_writes : (b1s3 : List (HloOp τ sig (Elt F))).Forall fun op => op.writes ⊆ (b1s3_W.map (Proc.devRef (τ := τ) .tc)).toFinset :=
  StableHlo.forall_writes_sub_of_map rfl
theorem b1s3_keep (V : Valuation τ sig (Elt F)) (r : Ref sig .tc) (h : r ∉ b1s3_W) :
    after b1s3 V (Proc.devRef .tc r) = V (Proc.devRef .tc r) := after_of_writes_sub b1s3 V b1s3_writes h

/-- Stretch 4 of the body of loop 1. -/
abbrev b1s4 : List (HloOp τ sig (Elt F)) :=
  [ StableHlo.binary main_v8_4 main_while1b_v11 main_while1b_v14 (addf : (⟨S2816, .f32⟩ : BufTy).Contents (Elt F) → (⟨S2816, .f32⟩ : BufTy).Contents (Elt F) → (⟨S2816, .f32⟩ : BufTy).Contents (Elt F)),
    StableHlo.binary main_while1b_v13 main_while1b_v14 main_while1b_v15 (mulf : (⟨S2816, .f32⟩ : BufTy).Contents (Elt F) → (⟨S2816, .f32⟩ : BufTy).Contents (Elt F) → (⟨S2816, .f32⟩ : BufTy).Contents (Elt F)),
    StableHlo.binary main_while1b_v14 main_while1b_v12 main_while1b_v16 (mulf : (⟨S2816, .f32⟩ : BufTy).Contents (Elt F) → (⟨S2816, .f32⟩ : BufTy).Contents (Elt F) → (⟨S2816, .f32⟩ : BufTy).Contents (Elt F)) ]
theorem b1s4_sub : (b1s4 : List (HloOp τ sig (Elt F))).Forall fun op => op.bufs ⊆ StableHlo.tcRefs τ sig :=
  ⟨StableHlo.binary_bufs_sub .., StableHlo.binary_bufs_sub .., StableHlo.binary_bufs_sub ..⟩
theorem b1s4_fresh : (b1s4 : List (HloOp τ sig (Elt F))).Forall fun op => op.fresh = ∅ := StableHlo.forall_fresh_of_map rfl
abbrev b1s4_W : List (Ref sig .tc) := [main_while1b_v14, main_while1b_v15, main_while1b_v16]
theorem b1s4_writes : (b1s4 : List (HloOp τ sig (Elt F))).Forall fun op => op.writes ⊆ (b1s4_W.map (Proc.devRef (τ := τ) .tc)).toFinset :=
  StableHlo.forall_writes_sub_of_map rfl
theorem b1s4_keep (V : Valuation τ sig (Elt F)) (r : Ref sig .tc) (h : r ∉ b1s4_W) :
    after b1s4 V (Proc.devRef .tc r) = V (Proc.devRef .tc r) := after_of_writes_sub b1s4 V b1s4_writes h

/-- Stretch 5 of the body of loop 1. -/
abbrev b1s5 : List (HloOp τ sig (Elt F)) :=
  [ StableHlo.TRef.unary (.of main_while1b_v16 : StableHlo.TRef sig ⟨S2816, .f32⟩) (.of main_while1b_call7_v0 : StableHlo.TRef sig ⟨S1x2816, .f32⟩) (broadcastInDim S1x2816 ![1] bcast_S2816_S1x2816_1),
    StableHlo.TRef.nullary (.of main_while1b_call7_c : StableHlo.TRef sig ⟨S_, .i32⟩) (constantI S_ 32 0#32),
    StableHlo.TRef.binaryIndexed (.of main_v8_5 : StableHlo.TRef sig ⟨S2048x2816, .f32⟩) (.of main_while1b_call7_v0 : StableHlo.TRef sig ⟨S1x2816, .f32⟩) ![(.of main_while1b_v10 : StableHlo.TRef sig ⟨S_, .i32⟩), (.of main_while1b_call7_c : StableHlo.TRef sig ⟨S_, .i32⟩)] (.of main_while1b_v17 : StableHlo.TRef sig ⟨S2048x2816, .f32⟩) (fun x u i => Host.dynamicUpdateSlice x u (fun k => (i k (Shape.Idx.first h_S_)).toInt) updateFits_S2048x2816_S1x2816) ]
theorem b1s5_sub : (b1s5 : List (HloOp τ sig (Elt F))).Forall fun op => op.bufs ⊆ StableHlo.tcRefs τ sig :=
  ⟨StableHlo.unary_bufs_sub .., StableHlo.nullary_bufs_sub .., StableHlo.binaryIndexed_bufs_sub ..⟩
theorem b1s5_fresh : (b1s5 : List (HloOp τ sig (Elt F))).Forall fun op => op.fresh = ∅ := StableHlo.forall_fresh_of_map rfl
abbrev b1s5_W : List (Ref sig .tc) := [main_while1b_call7_v0, main_while1b_call7_c, main_while1b_v17]
theorem b1s5_writes : (b1s5 : List (HloOp τ sig (Elt F))).Forall fun op => op.writes ⊆ (b1s5_W.map (Proc.devRef (τ := τ) .tc)).toFinset :=
  StableHlo.forall_writes_sub_of_map rfl
theorem b1s5_keep (V : Valuation τ sig (Elt F)) (r : Ref sig .tc) (h : r ∉ b1s5_W) :
    after b1s5 V (Proc.devRef .tc r) = V (Proc.devRef .tc r) := after_of_writes_sub b1s5 V b1s5_writes h

/-- Stretch 6 of the body of loop 1. -/
abbrev b1s6 : List (HloOp τ sig (Elt F)) :=
  [ StableHlo.TRef.unary (.of main_while1b_v14 : StableHlo.TRef sig ⟨S2816, .f32⟩) (.of main_while1b_call8_v0 : StableHlo.TRef sig ⟨S1x2816, .f32⟩) (broadcastInDim S1x2816 ![1] bcast_S2816_S1x2816_1),
    StableHlo.TRef.nullary (.of main_while1b_call8_c : StableHlo.TRef sig ⟨S_, .i32⟩) (constantI S_ 32 0#32),
    StableHlo.TRef.binaryIndexed (.of main_v8_6 : StableHlo.TRef sig ⟨S2048x2816, .f32⟩) (.of main_while1b_call8_v0 : StableHlo.TRef sig ⟨S1x2816, .f32⟩) ![(.of main_while1b_v10 : StableHlo.TRef sig ⟨S_, .i32⟩), (.of main_while1b_call8_c : StableHlo.TRef sig ⟨S_, .i32⟩)] (.of main_while1b_v18 : StableHlo.TRef sig ⟨S2048x2816, .f32⟩) (fun x u i => Host.dynamicUpdateSlice x u (fun k => (i k (Shape.Idx.first h_S_)).toInt) updateFits_S2048x2816_S1x2816) ]
theorem b1s6_sub : (b1s6 : List (HloOp τ sig (Elt F))).Forall fun op => op.bufs ⊆ StableHlo.tcRefs τ sig :=
  ⟨StableHlo.unary_bufs_sub .., StableHlo.nullary_bufs_sub .., StableHlo.binaryIndexed_bufs_sub ..⟩
theorem b1s6_fresh : (b1s6 : List (HloOp τ sig (Elt F))).Forall fun op => op.fresh = ∅ := StableHlo.forall_fresh_of_map rfl
abbrev b1s6_W : List (Ref sig .tc) := [main_while1b_call8_v0, main_while1b_call8_c, main_while1b_v18]
theorem b1s6_writes : (b1s6 : List (HloOp τ sig (Elt F))).Forall fun op => op.writes ⊆ (b1s6_W.map (Proc.devRef (τ := τ) .tc)).toFinset :=
  StableHlo.forall_writes_sub_of_map rfl
theorem b1s6_keep (V : Valuation τ sig (Elt F)) (r : Ref sig .tc) (h : r ∉ b1s6_W) :
    after b1s6 V (Proc.devRef .tc r) = V (Proc.devRef .tc r) := after_of_writes_sub b1s6 V b1s6_writes h

/-- Stretch 7 of the body of loop 1. -/
abbrev b1s7 : List (HloOp τ sig (Elt F)) :=
  [ StableHlo.nullary main_while1b_c_15 (constantI S_ 32 1#32),
    StableHlo.binary main_v8_3 main_while1b_c_15 main_while1b_v19 (addi : (⟨S_, .i32⟩ : BufTy).Contents (Elt F) → (⟨S_, .i32⟩ : BufTy).Contents (Elt F) → (⟨S_, .i32⟩ : BufTy).Contents (Elt F)),
    StableHlo.unary main_while1b_v19 main_v8_3 id,
    StableHlo.unary main_while1b_v15 main_v8_4 id,
    StableHlo.unary main_while1b_v17 main_v8_5 id,
    StableHlo.unary main_while1b_v18 main_v8_6 id ]
theorem b1s7_sub : (b1s7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem b1s7_fresh : (b1s7 : List (HloOp τ sig (Elt F))).Forall fun op => op.fresh = ∅ := StableHlo.forall_fresh_of_map rfl
abbrev b1s7_W : List (Ref sig .tc) := [main_while1b_c_15, main_while1b_v19, main_v8_3, main_v8_4, main_v8_5, main_v8_6]
theorem b1s7_writes : (b1s7 : List (HloOp τ sig (Elt F))).Forall fun op => op.writes ⊆ (b1s7_W.map (Proc.devRef (τ := τ) .tc)).toFinset :=
  StableHlo.forall_writes_sub_of_map rfl
theorem b1s7_keep (V : Valuation τ sig (Elt F)) (r : Ref sig .tc) (h : r ∉ b1s7_W) :
    after b1s7 V (Proc.devRef .tc r) = V (Proc.devRef .tc r) := after_of_writes_sub b1s7 V b1s7_writes h

theorem body1_chain : main_while1_body (F := F) = (Pipeline.chain
  [ StableHlo.seq b1s0, StableHlo.seq b1s1, StableHlo.seq b1s2, StableHlo.seq b1s3, StableHlo.seq b1s4, StableHlo.seq b1s5, StableHlo.seq b1s6, StableHlo.seq b1s7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

/-- The condition of loop 1. -/
abbrev cond1 : List (HloOp τ sig (Elt F)) :=
  [ StableHlo.nullary main_while1c_c_13 (constantI S_ 32 2048#32),
    StableHlo.binary main_v8_3 main_while1c_c_13 main_while1c_v9 (cmpi .slt) ]
theorem cond1_sub : (cond1 : List (HloOp τ sig (Elt F))).Forall fun op => op.bufs ⊆ StableHlo.tcRefs τ sig :=
  ⟨StableHlo.nullary_bufs_sub .., StableHlo.binary_bufs_sub ..⟩
theorem cond1_fresh : (cond1 : List (HloOp τ sig (Elt F))).Forall fun op => op.fresh = ∅ := StableHlo.forall_fresh_of_map rfl
abbrev cond1_W : List (Ref sig .tc) := [main_while1c_c_13, main_while1c_v9]
theorem cond1_writes : (cond1 : List (HloOp τ sig (Elt F))).Forall fun op => op.writes ⊆ (cond1_W.map (Proc.devRef (τ := τ) .tc)).toFinset :=
  StableHlo.forall_writes_sub_of_map rfl
theorem cond1_keep (V : Valuation τ sig (Elt F)) (r : Ref sig .tc) (h : r ∉ cond1_W) :
    after cond1 V (Proc.devRef .tc r) = V (Proc.devRef .tc r) := after_of_writes_sub cond1 V cond1_writes h

/-- The body of loop 1 as stretches. -/
abbrev body1 : List (List (HloOp τ sig (Elt F))) := [b1s0, b1s1, b1s2, b1s3, b1s4, b1s5, b1s6, b1s7]
theorem body1_plain : Plain (body1 (F := F)) := .cons b1s0_sub (hf := List.forall_iff_forall_mem.mp b1s0_fresh) (.cons b1s1_sub (hf := List.forall_iff_forall_mem.mp b1s1_fresh) (.cons b1s2_sub (hf := List.forall_iff_forall_mem.mp b1s2_fresh) (.cons b1s3_sub (hf := List.forall_iff_forall_mem.mp b1s3_fresh) (.cons b1s4_sub (hf := List.forall_iff_forall_mem.mp b1s4_fresh) (.cons b1s5_sub (hf := List.forall_iff_forall_mem.mp b1s5_fresh) (.cons b1s6_sub (hf := List.forall_iff_forall_mem.mp b1s6_fresh) (.cons b1s7_sub (hf := List.forall_iff_forall_mem.mp b1s7_fresh) (.nil))))))))

theorem pre0_plain : Plain ([pre0] : List (List (HloOp τ sig (Elt F)))) := .cons pre0_sub (hf := List.forall_iff_forall_mem.mp pre0_fresh) .nil
theorem pre1_plain : Plain ([pre1] : List (List (HloOp τ sig (Elt F)))) := .cons pre1_sub (hf := List.forall_iff_forall_mem.mp pre1_fresh) .nil

end Cert.Proof.ScanRef

end
-- ==== Proof.Scan.RefTrip.lean ====
module

public import proofs.«01_k».proof.Proof.Scan.RefOps
public import Idealize.ShloMosaic.Lib.Pipeline.Regions
public import Idealize.ShloMosaic.Lib.StableHlo.RunRead
public import Idealize.ShloMosaic.Lib.Scf.ExitTest
public import Idealize.ShloMosaic.Lib.Scf.Counter

@[expose] public section

/-!
What one trip of each loop of the reference does to the carried arrays, and the run of the whole reference.
-/

noncomputable section

namespace Cert.Proof.ScanRef

open Cert.ReferenceIdeal Cert.ReferenceIdeal.Gen Cert.Proof.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

abbrev Arr (F : FTy → Type) : Type := (⟨S2048x2816, .f32⟩ : BufTy).Contents (Elt F)
abbrev Row (F : FTy → Type) : Type := (⟨S2816, .f32⟩ : BufTy).Contents (Elt F)
abbrev Ctr (F : FTy → Type) : Type := (⟨S_, .i32⟩ : BufTy).Contents (Elt F)

/-- Row `k` of an array. -/
def rowOf (X : Arr F) (k : Ctr F) : Row F :=
  shapeCast S2816 (Host.dynamicSlice S1x2816 X (fun j => (((![k, constantI S_ 32 0#32] : Fin 2 → Ctr F)) j (Shape.Idx.first h_S_)).toInt) sliceFits_S2048x2816_S1x2816) shapeCasts_S1x2816_S2816
/-- An array with row `k` replaced. -/
def putRow (X : Arr F) (r : Row F) (k : Ctr F) : Arr F :=
  Host.dynamicUpdateSlice X (broadcastInDim S1x2816 ![1] bcast_S2816_S1x2816_1 r) (fun j => (((![k, constantI S_ 32 0#32] : Fin 2 → Ctr F)) j (Shape.Idx.first h_S_)).toInt) updateFits_S2048x2816_S1x2816

set_option maxRecDepth 8192 in
theorem b0s0_while0b_v9 (V : Valuation τ sig (Elt F)) : after b0s0 V (no_index (Proc.devRef .tc main_while0b_v9)) = rowOf (V (Proc.devRef .tc main_v3_0)) (V (Proc.devRef .tc main_v3_2)) := by
  simp only [b0s0]
  after_results_entrywise [cast_eq, rowOf]
  first | done | rfl

set_option maxRecDepth 8192 in
theorem b0s1_while0b_v10 (V : Valuation τ sig (Elt F)) : after b0s1 V (no_index (Proc.devRef .tc main_while0b_v10)) = rowOf (V (Proc.devRef .tc main_v3_1)) (V (Proc.devRef .tc main_v3_2)) := by
  simp only [b0s1]
  after_results_entrywise [cast_eq, rowOf]
  first | done | rfl

set_option maxRecDepth 8192 in
theorem b0s2_while0b_v12 (V : Valuation τ sig (Elt F)) : after b0s2 V (no_index (Proc.devRef .tc main_while0b_v12)) = addf (mulf (V (Proc.devRef .tc main_while0b_v9)) (V (Proc.devRef .tc main_v3_3))) (V (Proc.devRef .tc main_while0b_v10)) := by
  simp only [b0s2]
  after_results_entrywise [cast_eq]
  first | done | rfl

set_option maxRecDepth 8192 in
theorem b0s4_while0b_v14 (V : Valuation τ sig (Elt F)) : after b0s4 V (no_index (Proc.devRef .tc main_while0b_v14)) = putRow (V (Proc.devRef .tc main_v3_5)) (V (Proc.devRef .tc main_v3_3)) (V (Proc.devRef .tc main_v3_2)) := by
  simp only [b0s4]
  after_results_entrywise [cast_eq, putRow]
  first | done | rfl

set_option maxRecDepth 8192 in
theorem b0s5_v3_2 (V : Valuation τ sig (Elt F)) : after b0s5 V (no_index (Proc.devRef .tc main_v3_2)) = addi (V (Proc.devRef .tc main_v3_2)) (constantI S_ 32 1#32) := by
  simp only [b0s5]
  after_results_entrywise [cast_eq]
  first | done | rfl

set_option maxRecDepth 8192 in
theorem b0s5_v3_3 (V : Valuation τ sig (Elt F)) : after b0s5 V (no_index (Proc.devRef .tc main_v3_3)) = V (Proc.devRef .tc main_while0b_v12) := by
  simp only [b0s5]
  after_results_entrywise [cast_eq]
  first | done | rfl

set_option maxRecDepth 8192 in
theorem b0s5_v3_5 (V : Valuation τ sig (Elt F)) : after b0s5 V (no_index (Proc.devRef .tc main_v3_5)) = V (Proc.devRef .tc main_while0b_v14) := by
  simp only [b0s5]
  after_results_entrywise [cast_eq]
  first | done | rfl

set_option maxRecDepth 8192 in
theorem b1s0_while1b_v10 (V : Valuation τ sig (Elt F)) : after b1s0 V (no_index (Proc.devRef .tc main_while1b_v10)) = subi (subi (constantI S_ 32 2048#32) (V (Proc.devRef .tc main_v8_3))) (constantI S_ 32 1#32) := by
  simp only [b1s0]
  after_results_entrywise [cast_eq]
  first | done | rfl

set_option maxRecDepth 8192 in
theorem b1s1_while1b_v11 (V : Valuation τ sig (Elt F)) : after b1s1 V (no_index (Proc.devRef .tc main_while1b_v11)) = rowOf (V (Proc.devRef .tc main_v8_0)) (V (Proc.devRef .tc main_while1b_v10)) := by
  simp only [b1s1]
  after_results_entrywise [cast_eq, rowOf]
  first | done | rfl

set_option maxRecDepth 8192 in
theorem b1s2_while1b_v12 (V : Valuation τ sig (Elt F)) : after b1s2 V (no_index (Proc.devRef .tc main_while1b_v12)) = rowOf (V (Proc.devRef .tc main_v8_1)) (V (Proc.devRef .tc main_while1b_v10)) := by
  simp only [b1s2]
  after_results_entrywise [cast_eq, rowOf]
  first | done | rfl

set_option maxRecDepth 8192 in
theorem b1s3_while1b_v13 (V : Valuation τ sig (Elt F)) : after b1s3 V (no_index (Proc.devRef .tc main_while1b_v13)) = rowOf (V (Proc.devRef .tc main_v8_2)) (V (Proc.devRef .tc main_while1b_v10)) := by
  simp only [b1s3]
  after_results_entrywise [cast_eq, rowOf]
  first | done | rfl

set_option maxRecDepth 8192 in
theorem b1s4_while1b_v14 (V : Valuation τ sig (Elt F)) : after b1s4 V (no_index (Proc.devRef .tc main_while1b_v14)) = addf (V (Proc.devRef .tc main_v8_4)) (V (Proc.devRef .tc main_while1b_v11)) := by
  simp only [b1s4]
  after_results_entrywise [cast_eq]
  first | done | rfl

set_option maxRecDepth 8192 in
theorem b1s4_while1b_v15 (V : Valuation τ sig (Elt F)) : after b1s4 V (no_index (Proc.devRef .tc main_while1b_v15)) = mulf (V (Proc.devRef .tc main_while1b_v13)) (addf (V (Proc.devRef .tc main_v8_4)) (V (Proc.devRef .tc main_while1b_v11))) := by
  simp only [b1s4]
  after_results_entrywise [cast_eq]
  first | done | rfl

set_option maxRecDepth 8192 in
theorem b1s4_while1b_v16 (V : Valuation τ sig (Elt F)) : after b1s4 V (no_index (Proc.devRef .tc main_while1b_v16)) = mulf (addf (V (Proc.devRef .tc main_v8_4)) (V (Proc.devRef .tc main_while1b_v11))) (V (Proc.devRef .tc main_while1b_v12)) := by
  simp only [b1s4]
  after_results_entrywise [cast_eq]
  first | done | rfl

set_option maxRecDepth 8192 in
theorem b1s5_while1b_v17 (V : Valuation τ sig (Elt F)) : after b1s5 V (no_index (Proc.devRef .tc main_while1b_v17)) = putRow (V (Proc.devRef .tc main_v8_5)) (V (Proc.devRef .tc main_while1b_v16)) (V (Proc.devRef .tc main_while1b_v10)) := by
  simp only [b1s5]
  after_results_entrywise [cast_eq, putRow]
  first | done | rfl

set_option maxRecDepth 8192 in
theorem b1s6_while1b_v18 (V : Valuation τ sig (Elt F)) : after b1s6 V (no_index (Proc.devRef .tc main_while1b_v18)) = putRow (V (Proc.devRef .tc main_v8_6)) (V (Proc.devRef .tc main_while1b_v14)) (V (Proc.devRef .tc main_while1b_v10)) := by
  simp only [b1s6]
  after_results_entrywise [cast_eq, putRow]
  first | done | rfl

set_option maxRecDepth 8192 in
theorem b1s7_v8_3 (V : Valuation τ sig (Elt F)) : after b1s7 V (no_index (Proc.devRef .tc main_v8_3)) = addi (V (Proc.devRef .tc main_v8_3)) (constantI S_ 32 1#32) := by
  simp only [b1s7]
  after_results_entrywise [cast_eq]
  first | done | rfl

set_option maxRecDepth 8192 in
theorem b1s7_v8_4 (V : Valuation τ sig (Elt F)) : after b1s7 V (no_index (Proc.devRef .tc main_v8_4)) = V (Proc.devRef .tc main_while1b_v15) := by
  simp only [b1s7]
  after_results_entrywise [cast_eq]
  first | done | rfl

set_option maxRecDepth 8192 in
theorem b1s7_v8_5 (V : Valuation τ sig (Elt F)) : after b1s7 V (no_index (Proc.devRef .tc main_v8_5)) = V (Proc.devRef .tc main_while1b_v17) := by
  simp only [b1s7]
  after_results_entrywise [cast_eq]
  first | done | rfl

set_option maxRecDepth 8192 in
theorem b1s7_v8_6 (V : Valuation τ sig (Elt F)) : after b1s7 V (no_index (Proc.devRef .tc main_v8_6)) = V (Proc.devRef .tc main_while1b_v18) := by
  simp only [b1s7]
  after_results_entrywise [cast_eq]
  first | done | rfl

theorem trip0_v3_0 (V : Valuation τ sig (Elt F)) :
    afterL body0 (after cond0 V) (Proc.devRef .tc main_v3_0) = V (Proc.devRef .tc main_v3_0) := by
  simp only [body0, afterL_cons, afterL_nil]
  simp only [b0s5_keep _ main_v3_0 (by decide), b0s4_keep _ main_v3_0 (by decide), b0s3_keep _ main_v3_0 (by decide), b0s2_keep _ main_v3_0 (by decide), b0s1_keep _ main_v3_0 (by decide), b0s0_keep _ main_v3_0 (by decide), cond0_keep _ main_v3_0 (by decide)]

theorem trip0_v3_1 (V : Valuation τ sig (Elt F)) :
    afterL body0 (after cond0 V) (Proc.devRef .tc main_v3_1) = V (Proc.devRef .tc main_v3_1) := by
  simp only [body0, afterL_cons, afterL_nil]
  simp only [b0s5_keep _ main_v3_1 (by decide), b0s4_keep _ main_v3_1 (by decide), b0s3_keep _ main_v3_1 (by decide), b0s2_keep _ main_v3_1 (by decide), b0s1_keep _ main_v3_1 (by decide), b0s0_keep _ main_v3_1 (by decide), cond0_keep _ main_v3_1 (by decide)]

theorem trip0_arg0 (V : Valuation τ sig (Elt F)) :
    afterL body0 (after cond0 V) (Proc.devRef .tc main_arg0) = V (Proc.devRef .tc main_arg0) := by
  simp only [body0, afterL_cons, afterL_nil]
  simp only [b0s5_keep _ main_arg0 (by decide), b0s4_keep _ main_arg0 (by decide), b0s3_keep _ main_arg0 (by decide), b0s2_keep _ main_arg0 (by decide), b0s1_keep _ main_arg0 (by decide), b0s0_keep _ main_arg0 (by decide), cond0_keep _ main_arg0 (by decide)]

theorem trip0_arg1 (V : Valuation τ sig (Elt F)) :
    afterL body0 (after cond0 V) (Proc.devRef .tc main_arg1) = V (Proc.devRef .tc main_arg1) := by
  simp only [body0, afterL_cons, afterL_nil]
  simp only [b0s5_keep _ main_arg1 (by decide), b0s4_keep _ main_arg1 (by decide), b0s3_keep _ main_arg1 (by decide), b0s2_keep _ main_arg1 (by decide), b0s1_keep _ main_arg1 (by decide), b0s0_keep _ main_arg1 (by decide), cond0_keep _ main_arg1 (by decide)]

theorem trip0_arg2 (V : Valuation τ sig (Elt F)) :
    afterL body0 (after cond0 V) (Proc.devRef .tc main_arg2) = V (Proc.devRef .tc main_arg2) := by
  simp only [body0, afterL_cons, afterL_nil]
  simp only [b0s5_keep _ main_arg2 (by decide), b0s4_keep _ main_arg2 (by decide), b0s3_keep _ main_arg2 (by decide), b0s2_keep _ main_arg2 (by decide), b0s1_keep _ main_arg2 (by decide), b0s0_keep _ main_arg2 (by decide), cond0_keep _ main_arg2 (by decide)]

theorem trip0_v3_2 (V : Valuation τ sig (Elt F)) :
    afterL body0 (after cond0 V) (Proc.devRef .tc main_v3_2) = addi (V (Proc.devRef .tc main_v3_2)) (constantI S_ 32 1#32) := by
  simp only [body0, afterL_cons, afterL_nil]
  simp only [b0s5_v3_2, b0s4_keep _ main_v3_2 (by decide), b0s3_keep _ main_v3_2 (by decide), b0s2_keep _ main_v3_2 (by decide), b0s1_keep _ main_v3_2 (by decide), b0s0_keep _ main_v3_2 (by decide), cond0_keep _ main_v3_2 (by decide)]

theorem trip0_v3_3 (V : Valuation τ sig (Elt F)) :
    afterL body0 (after cond0 V) (Proc.devRef .tc main_v3_3) = addf (mulf (rowOf (V (Proc.devRef .tc main_v3_0)) (V (Proc.devRef .tc main_v3_2))) (V (Proc.devRef .tc main_v3_3))) (rowOf (V (Proc.devRef .tc main_v3_1)) (V (Proc.devRef .tc main_v3_2))) := by
  simp only [body0, afterL_cons, afterL_nil]
  simp only [b0s5_v3_3, b0s4_keep _ main_while0b_v12 (by decide), b0s3_keep _ main_while0b_v12 (by decide), b0s2_while0b_v12, b0s1_keep _ main_while0b_v9 (by decide), b0s0_while0b_v9, cond0_keep _ main_v3_0 (by decide), cond0_keep _ main_v3_2 (by decide), b0s1_keep _ main_v3_3 (by decide), b0s0_keep _ main_v3_3 (by decide), cond0_keep _ main_v3_3 (by decide), b0s1_while0b_v10, b0s0_keep _ main_v3_1 (by decide), cond0_keep _ main_v3_1 (by decide), b0s0_keep _ main_v3_2 (by decide)]

theorem trip0_v3_5 (V : Valuation τ sig (Elt F)) :
    afterL body0 (after cond0 V) (Proc.devRef .tc main_v3_5) = putRow (V (Proc.devRef .tc main_v3_5)) (V (Proc.devRef .tc main_v3_3)) (V (Proc.devRef .tc main_v3_2)) := by
  simp only [body0, afterL_cons, afterL_nil]
  simp only [b0s5_v3_5, b0s4_while0b_v14, b0s3_keep _ main_v3_5 (by decide), b0s2_keep _ main_v3_5 (by decide), b0s1_keep _ main_v3_5 (by decide), b0s0_keep _ main_v3_5 (by decide), cond0_keep _ main_v3_5 (by decide), b0s3_keep _ main_v3_3 (by decide), b0s2_keep _ main_v3_3 (by decide), b0s1_keep _ main_v3_3 (by decide), b0s0_keep _ main_v3_3 (by decide), cond0_keep _ main_v3_3 (by decide), b0s3_keep _ main_v3_2 (by decide), b0s2_keep _ main_v3_2 (by decide), b0s1_keep _ main_v3_2 (by decide), b0s0_keep _ main_v3_2 (by decide), cond0_keep _ main_v3_2 (by decide)]

/-- The row that trip `k` of the backward loop works on. -/
def backAt (k : Ctr F) : Ctr F := subi (subi (constantI S_ 32 2048#32) k) (constantI S_ 32 1#32)

theorem trip1_v8_0 (V : Valuation τ sig (Elt F)) :
    afterL body1 (after cond1 V) (Proc.devRef .tc main_v8_0) = V (Proc.devRef .tc main_v8_0) := by
  simp only [body1, afterL_cons, afterL_nil]
  simp only [backAt, b1s7_keep _ main_v8_0 (by decide), b1s6_keep _ main_v8_0 (by decide), b1s5_keep _ main_v8_0 (by decide), b1s4_keep _ main_v8_0 (by decide), b1s3_keep _ main_v8_0 (by decide), b1s2_keep _ main_v8_0 (by decide), b1s1_keep _ main_v8_0 (by decide), b1s0_keep _ main_v8_0 (by decide), cond1_keep _ main_v8_0 (by decide)]

theorem trip1_v8_1 (V : Valuation τ sig (Elt F)) :
    afterL body1 (after cond1 V) (Proc.devRef .tc main_v8_1) = V (Proc.devRef .tc main_v8_1) := by
  simp only [body1, afterL_cons, afterL_nil]
  simp only [backAt, b1s7_keep _ main_v8_1 (by decide), b1s6_keep _ main_v8_1 (by decide), b1s5_keep _ main_v8_1 (by decide), b1s4_keep _ main_v8_1 (by decide), b1s3_keep _ main_v8_1 (by decide), b1s2_keep _ main_v8_1 (by decide), b1s1_keep _ main_v8_1 (by decide), b1s0_keep _ main_v8_1 (by decide), cond1_keep _ main_v8_1 (by decide)]

theorem trip1_v8_2 (V : Valuation τ sig (Elt F)) :
    afterL body1 (after cond1 V) (Proc.devRef .tc main_v8_2) = V (Proc.devRef .tc main_v8_2) := by
  simp only [body1, afterL_cons, afterL_nil]
  simp only [backAt, b1s7_keep _ main_v8_2 (by decide), b1s6_keep _ main_v8_2 (by decide), b1s5_keep _ main_v8_2 (by decide), b1s4_keep _ main_v8_2 (by decide), b1s3_keep _ main_v8_2 (by decide), b1s2_keep _ main_v8_2 (by decide), b1s1_keep _ main_v8_2 (by decide), b1s0_keep _ main_v8_2 (by decide), cond1_keep _ main_v8_2 (by decide)]

theorem trip1_arg0 (V : Valuation τ sig (Elt F)) :
    afterL body1 (after cond1 V) (Proc.devRef .tc main_arg0) = V (Proc.devRef .tc main_arg0) := by
  simp only [body1, afterL_cons, afterL_nil]
  simp only [backAt, b1s7_keep _ main_arg0 (by decide), b1s6_keep _ main_arg0 (by decide), b1s5_keep _ main_arg0 (by decide), b1s4_keep _ main_arg0 (by decide), b1s3_keep _ main_arg0 (by decide), b1s2_keep _ main_arg0 (by decide), b1s1_keep _ main_arg0 (by decide), b1s0_keep _ main_arg0 (by decide), cond1_keep _ main_arg0 (by decide)]

theorem trip1_arg1 (V : Valuation τ sig (Elt F)) :
    afterL body1 (after cond1 V) (Proc.devRef .tc main_arg1) = V (Proc.devRef .tc main_arg1) := by
  simp only [body1, afterL_cons, afterL_nil]
  simp only [backAt, b1s7_keep _ main_arg1 (by decide), b1s6_keep _ main_arg1 (by decide), b1s5_keep _ main_arg1 (by decide), b1s4_keep _ main_arg1 (by decide), b1s3_keep _ main_arg1 (by decide), b1s2_keep _ main_arg1 (by decide), b1s1_keep _ main_arg1 (by decide), b1s0_keep _ main_arg1 (by decide), cond1_keep _ main_arg1 (by decide)]

theorem trip1_arg2 (V : Valuation τ sig (Elt F)) :
    afterL body1 (after cond1 V) (Proc.devRef .tc main_arg2) = V (Proc.devRef .tc main_arg2) := by
  simp only [body1, afterL_cons, afterL_nil]
  simp only [backAt, b1s7_keep _ main_arg2 (by decide), b1s6_keep _ main_arg2 (by decide), b1s5_keep _ main_arg2 (by decide), b1s4_keep _ main_arg2 (by decide), b1s3_keep _ main_arg2 (by decide), b1s2_keep _ main_arg2 (by decide), b1s1_keep _ main_arg2 (by decide), b1s0_keep _ main_arg2 (by decide), cond1_keep _ main_arg2 (by decide)]

theorem trip1_v8_3 (V : Valuation τ sig (Elt F)) :
    afterL body1 (after cond1 V) (Proc.devRef .tc main_v8_3) = addi (V (Proc.devRef .tc main_v8_3)) (constantI S_ 32 1#32) := by
  simp only [body1, afterL_cons, afterL_nil]
  simp only [backAt, b1s7_v8_3, b1s6_keep _ main_v8_3 (by decide), b1s5_keep _ main_v8_3 (by decide), b1s4_keep _ main_v8_3 (by decide), b1s3_keep _ main_v8_3 (by decide), b1s2_keep _ main_v8_3 (by decide), b1s1_keep _ main_v8_3 (by decide), b1s0_keep _ main_v8_3 (by decide), cond1_keep _ main_v8_3 (by decide)]

theorem trip1_v8_4 (V : Valuation τ sig (Elt F)) :
    afterL body1 (after cond1 V) (Proc.devRef .tc main_v8_4) = mulf (rowOf (V (Proc.devRef .tc main_v8_2)) (backAt (V (Proc.devRef .tc main_v8_3)))) (addf (V (Proc.devRef .tc main_v8_4)) (rowOf (V (Proc.devRef .tc main_v8_0)) (backAt (V (Proc.devRef .tc main_v8_3))))) := by
  simp only [body1, afterL_cons, afterL_nil]
  simp only [backAt, b1s7_v8_4, b1s6_keep _ main_while1b_v15 (by decide), b1s5_keep _ main_while1b_v15 (by decide), b1s4_while1b_v15, b1s3_while1b_v13, b1s2_keep _ main_v8_2 (by decide), b1s1_keep _ main_v8_2 (by decide), b1s0_keep _ main_v8_2 (by decide), cond1_keep _ main_v8_2 (by decide), b1s2_keep _ main_while1b_v10 (by decide), b1s1_keep _ main_while1b_v10 (by decide), b1s0_while1b_v10, cond1_keep _ main_v8_3 (by decide), b1s3_keep _ main_v8_4 (by decide), b1s2_keep _ main_v8_4 (by decide), b1s1_keep _ main_v8_4 (by decide), b1s0_keep _ main_v8_4 (by decide), cond1_keep _ main_v8_4 (by decide), b1s3_keep _ main_while1b_v11 (by decide), b1s2_keep _ main_while1b_v11 (by decide), b1s1_while1b_v11, b1s0_keep _ main_v8_0 (by decide), cond1_keep _ main_v8_0 (by decide)]

theorem trip1_v8_5 (V : Valuation τ sig (Elt F)) :
    afterL body1 (after cond1 V) (Proc.devRef .tc main_v8_5) = putRow (V (Proc.devRef .tc main_v8_5)) (mulf (addf (V (Proc.devRef .tc main_v8_4)) (rowOf (V (Proc.devRef .tc main_v8_0)) (backAt (V (Proc.devRef .tc main_v8_3))))) (rowOf (V (Proc.devRef .tc main_v8_1)) (backAt (V (Proc.devRef .tc main_v8_3))))) (backAt (V (Proc.devRef .tc main_v8_3))) := by
  simp only [body1, afterL_cons, afterL_nil]
  simp only [backAt, b1s7_v8_5, b1s6_keep _ main_while1b_v17 (by decide), b1s5_while1b_v17, b1s4_keep _ main_v8_5 (by decide), b1s3_keep _ main_v8_5 (by decide), b1s2_keep _ main_v8_5 (by decide), b1s1_keep _ main_v8_5 (by decide), b1s0_keep _ main_v8_5 (by decide), cond1_keep _ main_v8_5 (by decide), b1s4_while1b_v16, b1s3_keep _ main_v8_4 (by decide), b1s2_keep _ main_v8_4 (by decide), b1s1_keep _ main_v8_4 (by decide), b1s0_keep _ main_v8_4 (by decide), cond1_keep _ main_v8_4 (by decide), b1s3_keep _ main_while1b_v11 (by decide), b1s2_keep _ main_while1b_v11 (by decide), b1s1_while1b_v11, b1s0_keep _ main_v8_0 (by decide), cond1_keep _ main_v8_0 (by decide), b1s0_while1b_v10, cond1_keep _ main_v8_3 (by decide), b1s3_keep _ main_while1b_v12 (by decide), b1s2_while1b_v12, b1s1_keep _ main_v8_1 (by decide), b1s0_keep _ main_v8_1 (by decide), cond1_keep _ main_v8_1 (by decide), b1s1_keep _ main_while1b_v10 (by decide), b1s4_keep _ main_while1b_v10 (by decide), b1s3_keep _ main_while1b_v10 (by decide), b1s2_keep _ main_while1b_v10 (by decide)]

theorem trip1_v8_6 (V : Valuation τ sig (Elt F)) :
    afterL body1 (after cond1 V) (Proc.devRef .tc main_v8_6) = putRow (V (Proc.devRef .tc main_v8_6)) (addf (V (Proc.devRef .tc main_v8_4)) (rowOf (V (Proc.devRef .tc main_v8_0)) (backAt (V (Proc.devRef .tc main_v8_3))))) (backAt (V (Proc.devRef .tc main_v8_3))) := by
  simp only [body1, afterL_cons, afterL_nil]
  simp only [backAt, b1s7_v8_6, b1s6_while1b_v18, b1s5_keep _ main_v8_6 (by decide), b1s4_keep _ main_v8_6 (by decide), b1s3_keep _ main_v8_6 (by decide), b1s2_keep _ main_v8_6 (by decide), b1s1_keep _ main_v8_6 (by decide), b1s0_keep _ main_v8_6 (by decide), cond1_keep _ main_v8_6 (by decide), b1s5_keep _ main_while1b_v14 (by decide), b1s4_while1b_v14, b1s3_keep _ main_v8_4 (by decide), b1s2_keep _ main_v8_4 (by decide), b1s1_keep _ main_v8_4 (by decide), b1s0_keep _ main_v8_4 (by decide), cond1_keep _ main_v8_4 (by decide), b1s3_keep _ main_while1b_v11 (by decide), b1s2_keep _ main_while1b_v11 (by decide), b1s1_while1b_v11, b1s0_keep _ main_v8_0 (by decide), cond1_keep _ main_v8_0 (by decide), b1s0_while1b_v10, cond1_keep _ main_v8_3 (by decide), b1s5_keep _ main_while1b_v10 (by decide), b1s4_keep _ main_while1b_v10 (by decide), b1s3_keep _ main_while1b_v10 (by decide), b1s2_keep _ main_while1b_v10 (by decide), b1s1_keep _ main_while1b_v10 (by decide)]

end Cert.Proof.ScanRef

end
-- ==== Proof.Scan.RefRun.lean ====
module

public import proofs.«01_k».proof.Proof.Scan.RefTrip
public import Idealize.ShloMosaic.Lib.Pipeline.Regions
public import Idealize.ShloMosaic.Lib.StableHlo.RunRead
public import Idealize.ShloMosaic.Lib.Scf.ExitTest
public import Idealize.ShloMosaic.Lib.Scf.Counter

@[expose] public section

/-!
The run of the whole reference: what the arrays carried by its two loops hold after every trip.
-/

noncomputable section

namespace Cert.Proof.ScanRef

open Cert.ReferenceIdeal Cert.ReferenceIdeal.Gen Cert.Proof.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The counter before trip `k`. -/
def cnt (k : ℕ) : Ctr F := fun _ => Scf.iv 0#32 1#32 k
/-- A row of zeros. -/
def zRow : Row F := broadcastInDim S2816 ![] bcast_S_S2816 (constant S_ .f32 0x00000000#32)
/-- An array of zeros. -/
def zArr : Arr F := broadcastInDim S2048x2816 ![] bcast_S_S2048x2816 (constant S_ .f32 0x00000000#32)

/-- The recurrence's state before row `k`. -/
def hSeq (A U : Arr F) : ℕ → Row F
  | 0 => zRow
  | k + 1 => addf (mulf (rowOf A (cnt k)) (hSeq A U k)) (rowOf U (cnt k))
/-- The states saved for the gradient: row `k` holds the state before row `k`. -/
def saved (A U : Arr F) : ℕ → Arr F
  | 0 => zArr
  | k + 1 => putRow (saved A U k) (hSeq A U k) (cnt k)
/-- The gradient carried into trip `k` of the backward loop. -/
def gSeq (A D : Arr F) : ℕ → Row F
  | 0 => zRow
  | k + 1 => mulf (rowOf A (backAt (cnt k))) (addf (gSeq A D k) (rowOf D (backAt (cnt k))))
/-- The gradient in `a` after `k` trips, `P` the saved states. -/
def daSeq (A D P : Arr F) : ℕ → Arr F
  | 0 => zArr
  | k + 1 => putRow (daSeq A D P k) (mulf (addf (gSeq A D k) (rowOf D (backAt (cnt k)))) (rowOf P (backAt (cnt k)))) (backAt (cnt k))
/-- The gradient in `u` after `k` trips. -/
def duSeq (A D : Arr F) : ℕ → Arr F
  | 0 => zArr
  | k + 1 => putRow (duSeq A D k) (addf (gSeq A D k) (rowOf D (backAt (cnt k)))) (backAt (cnt k))

theorem cnt_succ (k : ℕ) : addi (cnt (F := F) k) (constantI S_ 32 1#32) = cnt (F := F) (k + 1) := by
  unfold cnt; rw [Scf.iv_succ]; rfl

variable (m : (ℓ : Loc nD τ sig) → Buf (Elt F) ℓ) (ρ : Dev nD → PrngReg)

/-- What the first loop's buffers hold before trip `k`. -/
structure At0 (V : Valuation τ sig (Elt F)) (A U D : Arr F) (k : ℕ) : Prop where
  a0 : V (Proc.devRef .tc main_arg0) = A
  a1 : V (Proc.devRef .tc main_arg1) = U
  a2 : V (Proc.devRef .tc main_arg2) = D
  c0 : V (Proc.devRef .tc main_v3_0) = A
  c1 : V (Proc.devRef .tc main_v3_1) = U
  c2 : V (Proc.devRef .tc main_v3_2) = cnt k
  c3 : V (Proc.devRef .tc main_v3_3) = hSeq A U k
  c5 : V (Proc.devRef .tc main_v3_5) = saved A U k

theorem At0.step {V : Valuation τ sig (Elt F)} {A U D : Arr F} {k : ℕ} (h : At0 V A U D k) :
    At0 (afterL body0 (after cond0 V)) A U D (k + 1) where
  a0 := (trip0_arg0 V).trans h.a0
  a1 := (trip0_arg1 V).trans h.a1
  a2 := (trip0_arg2 V).trans h.a2
  c0 := (trip0_v3_0 V).trans h.c0
  c1 := (trip0_v3_1 V).trans h.c1
  c2 := (trip0_v3_2 V).trans (by rw [h.c2, cnt_succ])
  c3 := (trip0_v3_3 V).trans (by rw [h.c0, h.c1, h.c2, h.c3]; rfl)
  c5 := (trip0_v3_5 V).trans (by rw [h.c2, h.c3, h.c5]; rfl)

/-- What the second loop's buffers hold before trip `k`. -/
structure At1 (V : Valuation τ sig (Elt F)) (A U D P : Arr F) (k : ℕ) : Prop where
  a0 : V (Proc.devRef .tc main_arg0) = A
  a1 : V (Proc.devRef .tc main_arg1) = U
  a2 : V (Proc.devRef .tc main_arg2) = D
  c0 : V (Proc.devRef .tc main_v8_0) = D
  c1 : V (Proc.devRef .tc main_v8_1) = P
  c2 : V (Proc.devRef .tc main_v8_2) = A
  c3 : V (Proc.devRef .tc main_v8_3) = cnt k
  c4 : V (Proc.devRef .tc main_v8_4) = gSeq A D k
  c5 : V (Proc.devRef .tc main_v8_5) = daSeq A D P k
  c6 : V (Proc.devRef .tc main_v8_6) = duSeq A D k

theorem At1.step {V : Valuation τ sig (Elt F)} {A U D P : Arr F} {k : ℕ} (h : At1 V A U D P k) :
    At1 (afterL body1 (after cond1 V)) A U D P (k + 1) where
  a0 := (trip1_arg0 V).trans h.a0
  a1 := (trip1_arg1 V).trans h.a1
  a2 := (trip1_arg2 V).trans h.a2
  c0 := (trip1_v8_0 V).trans h.c0
  c1 := (trip1_v8_1 V).trans h.c1
  c2 := (trip1_v8_2 V).trans h.c2
  c3 := (trip1_v8_3 V).trans (by rw [h.c3, cnt_succ])
  c4 := (trip1_v8_4 V).trans (by rw [h.c0, h.c2, h.c3, h.c4]; rfl)
  c5 := (trip1_v8_5 V).trans (by rw [h.c0, h.c1, h.c3, h.c4, h.c5]; rfl)
  c6 := (trip1_v8_6 V).trans (by rw [h.c0, h.c3, h.c4, h.c6]; rfl)

/-- The launch contents of the three arguments. -/
abbrev argA (c : Dev nD) : Arr F := m ((c.tc : Thread nD τ).loc main_arg0)
abbrev argU (c : Dev nD) : Arr F := m ((c.tc : Thread nD τ).loc main_arg1)
abbrev argD (c : Dev nD) : Arr F := m ((c.tc : Thread nD τ).loc main_arg2)

set_option maxRecDepth 100000 in
theorem entry0 (c : Dev nD) : At0 (entryContents [pre0] m c) (argA m c) (argU m c) (argD m c) 0 where
  a0 := pre0_keep _ main_arg0 (by decide)
  a1 := pre0_keep _ main_arg1 (by decide)
  a2 := pre0_keep _ main_arg2 (by decide)
  c0 := by simp only [entryContents, afterL_cons, afterL_nil]; after_reads_simp; rfl
  c1 := by simp only [entryContents, afterL_cons, afterL_nil]; after_reads_simp; rfl
  c2 := by simp only [entryContents, afterL_cons, afterL_nil]; after_reads_simp; rfl
  c3 := by simp only [entryContents, afterL_cons, afterL_nil]; after_reads_simp; rfl
  c5 := by simp only [entryContents, afterL_cons, afterL_nil]; after_reads_simp; rfl

theorem at0 (c : Dev nD) : ∀ k, At0 (atTrip cond0 body0 (entryContents [pre0] m) k c) (argA m c) (argU m c) (argD m c) k
  | 0 => entry0 m c
  | k + 1 => (at0 c k).step

set_option backward.isDefEq.respectTransparency.types false in
/-- The first loop runs while its counter is below 2048. -/
theorem cond0_spec : CondSpec (pcfgs (F := F)) defs₀ loops (main_while0_cond (F := F)) cond0 body0 (entryContents [pre0] m) 2048 := by
  intro k hk c bd
  have hctr := (at0 m c k).c2
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (entryContents [pre0] m) k c) main_v3_2 HostLoop.idx0)
        (HloOp.result _ (atTrip cond0 body0 (entryContents [pre0] m) k c) main_while0c_c_12 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The first loop. -/
def loop0 : Counted (nD := nD) (τ := τ) (pcfgs (F := F)) loops where
  l := 0
  cond := main_while0_cond
  body := main_while0_body
  hloops := rfl
  condOps := cond0
  bodyI := body0
  hbodyI := body0_plain
  hbody := by rw [body0_chain]; rfl
  n := 2048

/-- The second loop. -/
def loop1 : Counted (nD := nD) (τ := τ) (pcfgs (F := F)) loops where
  l := 1
  cond := main_while1_cond
  body := main_while1_body
  hloops := rfl
  condOps := cond1
  bodyI := body1
  hbodyI := body1_plain
  hbody := by rw [body1_chain]; rfl
  n := 2048

/-- Every buffer when the second loop is entered. -/
abbrev W1 (c : Dev nD) : Valuation τ sig (Elt F) := ent₂ loop0 [pre0] [pre1] m c

set_option maxRecDepth 100000 in
theorem entry1 (c : Dev nD) : At1 (W1 m c) (argA m c) (argU m c) (argD m c) (saved (argA m c) (argU m c) 2048) 0 := by
  have h := at0 m c 2048
  have k0 : ∀ r, r ∉ cond0_W → (loop0 (F := F)).out (ent₁ [pre0] m) c (Proc.devRef .tc r)
      = atTrip cond0 body0 (entryContents [pre0] m) 2048 c (Proc.devRef .tc r) := fun r hr => cond0_keep _ r hr
  show At1 (after pre1 ((loop0 (F := F)).out (ent₁ [pre0] m) c)) _ _ _ _ 0
  generalize (loop0 (F := F)).out (ent₁ [pre0] m) c = V at k0 ⊢
  have e0 := (k0 main_arg0 (by decide)).trans h.a0
  have e1 := (k0 main_arg1 (by decide)).trans h.a1
  have e2 := (k0 main_arg2 (by decide)).trans h.a2
  have e5 := (k0 main_v3_5 (by decide)).trans h.c5
  exact {
    a0 := (pre1_keep _ main_arg0 (by decide)).trans e0
    a1 := (pre1_keep _ main_arg1 (by decide)).trans e1
    a2 := (pre1_keep _ main_arg2 (by decide)).trans e2
    c0 := by after_reads_simp; exact e2
    c1 := by after_reads_simp; exact e5
    c2 := by after_reads_simp; exact e0
    c3 := by after_reads_simp; rfl
    c4 := by after_reads_simp; rfl
    c5 := by after_reads_simp; rfl
    c6 := by after_reads_simp; rfl }

theorem at1 (c : Dev nD) : ∀ k, At1 (atTrip cond1 body1 (W1 m) k c) (argA m c) (argU m c) (argD m c) (saved (argA m c) (argU m c) 2048) k
  | 0 => entry1 m c
  | k + 1 => (at1 c k).step

set_option backward.isDefEq.respectTransparency.types false in
/-- The second loop runs while its counter is below 2048. -/
theorem cond1_spec : CondSpec (pcfgs (F := F)) defs₀ loops (main_while1_cond (F := F)) cond1 body1 (W1 m) 2048 := by
  intro k hk c bd
  have hctr := (at1 m c k).c3
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (W1 m) k c) main_v8_3 HostLoop.idx0)
        (HloOp.result _ (atTrip cond1 body1 (W1 m) k c) main_while1c_c_13 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The run of the reference: the two results, the arguments as they were, every counter at zero. -/
theorem run_ref : θ_run (defs (F := F)) (onTc (τ := τ) (main (F := F))) ⟨m, fun _ => 0, ρ⟩ fun r =>
    (∀ c : Dev nD, r.2.mem ((c.tc : Thread nD τ).loc main_v8_5) = daSeq (argA m c) (argD m c) (saved (argA m c) (argU m c) 2048) 2048
      ∧ r.2.mem ((c.tc : Thread nD τ).loc main_v8_6) = duSeq (argA m c) (argD m c) 2048
      ∧ r.2.mem ((c.tc : Thread nD τ).loc main_arg0) = argA m c
      ∧ r.2.mem ((c.tc : Thread nD τ).loc main_arg1) = argU m c
      ∧ r.2.mem ((c.tc : Thread nD τ).loc main_arg2) = argD m c)
    ∧ r.2.sem = fun _ => 0 :=
  (θ_run defs _ _).mono (fun r h => by
      refine ⟨fun c => ?_, sem_eq_zero_of_no_sems (by decide) r.2⟩
      have h1 := at1 m c 2048
      have k1 : ∀ b : Ref sig .tc, b ∉ cond1_W → (Proc.devRef .tc b : DevRef τ sig).isScoped = false →
          r.2.mem ((c.tc : Thread nD τ).loc b) = atTrip cond1 body1 (W1 m) 2048 c (Proc.devRef .tc b) :=
        fun b hb hs => (h c b hs).trans (cond1_keep _ b hb)
      exact ⟨(k1 main_v8_5 (by decide) rfl).trans h1.c5, (k1 main_v8_6 (by decide) rfl).trans h1.c6,
        (k1 main_arg0 (by decide) rfl).trans h1.a0, (k1 main_arg1 (by decide) rfl).trans h1.a1, (k1 main_arg2 (by decide) rfl).trans h1.a2⟩)
    (run_two (ℓ₁ := loop0 (F := F)) (ℓ₂ := loop1) (preI := [pre0]) (midI := [pre1]) (m := m) (defs₀ := defs₀) main
      (fun c => by rw [main_chain]; rfl) pre0_plain pre1_plain ρ (cond0_spec m) (cond1_spec m))

end Cert.Proof.ScanRef

end
-- ==== Proof.Scan.RefValue.lean ====
module

public import proofs.«01_k».proof.Proof.Scan.RefRun
public import proofs.«01_k».proof.Proof.Scan.Recurrence
public import Idealize.ShloMosaic.Lib.Pointwise
public import Idealize.ShloMosaic.Lib.DynamicIndex
public import Idealize.ShloMosaic.PureOps.Ideal

@[expose] public section

set_option maxRecDepth 16384

/-!
What the reference's loops compute over the reals, entry by entry.
-/

noncomputable section

namespace Cert.Proof.ScanRef

open Cert.ReferenceIdeal Cert.ReferenceIdeal.Gen Cert.Proof.Scan
open Idealize.ShloMosaic Idealize.ShloMosaic.TcCoe Idealize.ShloMosaic.Tactic

/-- The counter `k` names row `n`. -/
def Names (k : Ctr Ideal) (n : ℕ) : Prop := (k (Shape.Idx.first h_S_)).toInt = (n : ℤ)

theorem names_cnt (k : ℕ) (hk : k < 2048) : Names (cnt k) k := by
  show (Scf.iv 0#32 1#32 k).toInt = (k : ℤ)
  have e : Scf.iv 0#32 1#32 k = BitVec.ofNat 32 k := by simp [Scf.iv]
  rw [e]; exact toInt_ofNat_of_lt (by omega)

theorem names_back (k : ℕ) (hk : k < 2048) : Names (backAt (cnt k)) (2047 - k) := by
  show ((2048#32 - Scf.iv 0#32 1#32 k) - 1#32).toInt = ((2047 - k : ℕ) : ℤ)
  have e : (2048#32 - Scf.iv 0#32 1#32 k) - 1#32 = BitVec.ofNat 32 (2047 - k) := by
    have e : Scf.iv 0#32 1#32 k = BitVec.ofNat 32 k := by simp [Scf.iv]
    rw [e]
    apply BitVec.eq_of_toNat_eq
    simp only [BitVec.toNat_sub, BitVec.toNat_ofNat]
    omega
  rw [e]; exact toInt_ofNat_of_lt (by omega)

theorem start0 (k : Ctr Ideal) (n : Fin 2048) (hn : Names k n.val) (h : S1x2816.rank = S2048x2816.rank) :
    Host.clampedStart S2048x2816 S1x2816 h (fun j => BitVec.toInt (((![k, constantI S_ 32 0#32] : Fin 2 → Ctr Ideal)) j (Shape.Idx.first h_S_))) 0 = n.val :=
  Host.clampedStart_of_le _ _ _ _ hn (by show n.val + 1 ≤ 2048; omega)
theorem start1 (k : Ctr Ideal) (h : S1x2816.rank = S2048x2816.rank) :
    Host.clampedStart S2048x2816 S1x2816 h (fun j => BitVec.toInt (((![k, constantI S_ 32 0#32] : Fin 2 → Ctr Ideal)) j (Shape.Idx.first h_S_))) 1 = 0 :=
  Host.clampedStart_of_le _ _ _ _ rfl (by show 0 + 2816 ≤ 2816; omega)

theorem rowOf_apply (X : Arr Ideal) (k : Ctr Ideal) (n : Fin 2048) (hn : Names k n.val) (j : Fin 2816) :
    rowOf X k (ix1 j) = X (ix2 n j) := by
  pointwise [rowOf]
  refine congrArg X ?_
  congr 1
  · exact Fin.ext (start0 k n hn rfl)
  · refine Fin.ext ?_
    show Host.clampedStart S2048x2816 S1x2816 _ _ 1 + j.val = j.val
    rw [start1 k]; omega

theorem putRow_apply (X : Arr Ideal) (r : Row Ideal) (k : Ctr Ideal) (n : Fin 2048) (hn : Names k n.val) (i : Fin 2048) (j : Fin 2816) :
    putRow X r k (ix2 i j) = if i.val = n.val then r (ix1 j) else X (ix2 i j) := by
  pointwise [putRow]
  by_cases hi : i.val = n.val
  · rw [if_pos hi, dif_pos (by rw [start0 k n hn, start1 k]; omega)]
    refine congrArg r (congrArg ix1 (Fin.ext ?_))
    show j.val - Host.clampedStart S2048x2816 S1x2816 _ _ 1 = j.val
    rw [start1 k]; omega
  · rw [if_neg hi, dif_neg (by rw [start0 k n hn, start1 k]; omega)]

theorem zRow_apply (j : Fin 2816) : zRow (F := Ideal) (ix1 j) = ((0 : ℝ) : EReal) := by
  show Ideal.ofBits .f32 0x00000000#32 = _
  rw [Ideal.ofBits_zero_f32]; rfl
theorem zArr_apply (i : Fin 2048) (j : Fin 2816) : zArr (F := Ideal) (ix2 i j) = ((0 : ℝ) : EReal) := by
  show Ideal.ofBits .f32 0x00000000#32 = _
  rw [Ideal.ofBits_zero_f32]; rfl
theorem mulf_row (x y : Row Ideal) (j : S2816.Idx) : mulf (F := Ideal) (φ := .f32) x y j = (x j : EReal) * y j := rfl
theorem addf_row (x y : Row Ideal) (j : S2816.Idx) : addf (F := Ideal) (φ := .f32) x y j = (x j : EReal) + y j := rfl

variable (A U D : Arr Ideal) (a u d : ℕ → ℕ → ℝ)
  (hA : ∀ (r : Fin 2048) (l : Fin 2816), A (ix2 r l) = ((a r l : ℝ) : EReal))
  (hU : ∀ (r : Fin 2048) (l : Fin 2816), U (ix2 r l) = ((u r l : ℝ) : EReal))
  (hD : ∀ (r : Fin 2048) (l : Fin 2816), D (ix2 r l) = ((d r l : ℝ) : EReal))

include hA hU in
/-- The state before row `k`. -/
theorem hSeq_apply (k : ℕ) (hk : k ≤ 2048) (j : Fin 2816) : hSeq A U k (ix1 j) = ((stateR a u k j : ℝ) : EReal) := by
  induction k with
  | zero => exact zRow_apply j
  | succ k ih =>
    rw [hSeq, addf_row, mulf_row, rowOf_apply A _ ⟨k, by omega⟩ (names_cnt k (by omega)), rowOf_apply U _ ⟨k, by omega⟩ (names_cnt k (by omega)),
      hA, hU, ih (by omega), ← EReal.coe_mul, ← EReal.coe_add]
    rfl

include hA hU in
/-- The saved states after `k` rows. -/
theorem saved_apply (k : ℕ) (hk : k ≤ 2048) (i : Fin 2048) (j : Fin 2816) (hi : i.val < k) : saved A U k (ix2 i j) = ((stateR a u i j : ℝ) : EReal) := by
  induction k with
  | zero => omega
  | succ k ih =>
    rw [saved, putRow_apply _ _ _ ⟨k, by omega⟩ (names_cnt k (by omega))]
    by_cases h : i.val = k
    · rw [if_pos h, hSeq_apply A U a u hA hU k (by omega), h]
    · rw [if_neg h, ih (by omega) (by omega)]

include hA hD in
/-- The gradient at the row of trip `k`, and the gradient carried out of it. -/
theorem grad_apply (k : ℕ) (hk : k < 2048) (j : Fin 2816) :
    addf (F := Ideal) (φ := .f32) (gSeq A D k) (rowOf D (backAt (cnt k))) (ix1 j) = ((gradR a d (k + 1) j : ℝ) : EReal) := by
  have key : gSeq A D k (ix1 j) = ((backDecay a k j * gradR a d k j : ℝ) : EReal) := by
    induction k with
    | zero =>
      refine (zRow_apply j).trans (congrArg _ ?_)
      rw [backDecay, if_pos rfl, zero_mul]
    | succ k ih =>
      rw [gSeq, mulf_row, addf_row, rowOf_apply A _ ⟨2047 - k, by omega⟩ (names_back k (by omega)),
        rowOf_apply D _ ⟨2047 - k, by omega⟩ (names_back k (by omega)), hA, hD, ih (by omega), ← EReal.coe_add, ← EReal.coe_mul]
      refine congrArg _ ?_
      have e : backDecay a (k + 1) j = a (2047 - k) j := by
        rw [backDecay, if_neg (by omega), show 2048 - (k + 1) = 2047 - k by omega]
      rw [e]; rfl
  rw [addf_row, key, rowOf_apply D _ ⟨2047 - k, by omega⟩ (names_back k (by omega)), hD, ← EReal.coe_add]
  rfl

include hA hD in
/-- THE REFERENCE'S RESULT `du`. -/
theorem duSeq_apply (k : ℕ) (hk : k ≤ 2048) (i : Fin 2048) (j : Fin 2816) (hi : 2048 ≤ i.val + k) :
    duSeq A D k (ix2 i j) = ((gradR a d (2048 - i.val) j : ℝ) : EReal) := by
  induction k with
  | zero => omega
  | succ k ih =>
    rw [duSeq, putRow_apply _ _ _ ⟨2047 - k, by omega⟩ (names_back k (by omega))]
    by_cases h : i.val = 2047 - k
    · rw [if_pos h, grad_apply A D a d hA hD k (by omega), h, show 2048 - (2047 - k) = k + 1 by omega]
    · rw [if_neg h, ih (by omega) (by omega)]

include hA hU hD in
/-- THE REFERENCE'S RESULT `da`. -/
theorem daSeq_apply (k : ℕ) (hk : k ≤ 2048) (i : Fin 2048) (j : Fin 2816) (hi : 2048 ≤ i.val + k) :
    daSeq A D (saved A U 2048) k (ix2 i j) = ((gradR a d (2048 - i.val) j * stateR a u i j : ℝ) : EReal) := by
  induction k with
  | zero => omega
  | succ k ih =>
    rw [daSeq, putRow_apply _ _ _ ⟨2047 - k, by omega⟩ (names_back k (by omega))]
    by_cases h : i.val = 2047 - k
    · rw [if_pos h, mulf_row, grad_apply A D a d hA hD k (by omega), rowOf_apply _ _ ⟨2047 - k, by omega⟩ (names_back k (by omega)),
        saved_apply A U a u hA hU 2048 le_rfl ⟨2047 - k, by omega⟩ j (by show 2047 - k < 2048; omega), ← EReal.coe_mul, h,
        show 2048 - (2047 - k) = k + 1 by omega]
    · rw [if_neg h, ih (by omega) (by omega)]

end Cert.Proof.ScanRef

end
-- ==== Proof.Scan.Equal.lean ====
module

public import proofs.«01_k».proof.Defs
public import proofs.«01_k».proof.Proof.Scan.Arrays
public import proofs.«01_k».proof.Proof.Scan.RefValue
public import proofs.«01_k».proof.Proof.Gen.Pre_finite
public import Idealize.ShloMosaic.Lib.ReduceAll

@[expose] public section

set_option maxRecDepth 16384

/-!
From finite arguments the kernel and the reference leave the same two gradients.
-/

noncomputable section

namespace Cert.Proof.Scan

open Idealize.ShloMosaic Idealize.ShloMosaic.TcCoe Idealize.ShloMosaic.Tactic Idealize.SL.Sem

/-- An argument array. -/
abbrev Arg : Type := FVec Ideal Cert.Pre_finite.S2048x2816 .f32

/-- An array's entries as reals, zero outside it. -/
def entries (X : Arg) (r l : ℕ) : ℝ := if h : r < 2048 ∧ l < 2816 then (X (ix2 ⟨r, h.1⟩ ⟨l, h.2⟩) : EReal).toReal else 0

/-- Every entry is a real. -/
def AllReal (X : Arg) : Prop := ∀ i, (X i : EReal) ≠ ⊤ ∧ (X i : EReal) ≠ ⊥

theorem entries_eq (X : Arg) (hX : AllReal X) (r : Fin 2048) (l : Fin 2816) : X (ix2 r l) = ((entries X r l : ℝ) : EReal) := by
  rw [entries, dif_pos ⟨r.isLt, l.isLt⟩]
  exact (EReal.coe_toReal (hX _).1 (hX _).2).symm

/-- A word below the infinity in size is a real. -/
theorem real_of_lt (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor <;> rintro rfl <;> simp [Ideal.cmp] at h

theorem and_one (x y : BitVec 1) (h : x &&& y = 1#1) : x = 1#1 ∧ y = 1#1 := by
  revert x y; decide

instance : Subsingleton Cert.Pre_finite.S_.Idx := ⟨fun a b => funext fun i => i.elim0⟩

/-- The precondition says that the three arrays' entries are reals. -/
theorem reals_of_pre (A U D : Arg) (h : Cert.Pre_finite.fn (F := Ideal) A U D = fun _ => 1#1) : AllReal A ∧ AllReal U ∧ AllReal D := by
  have j : Cert.Pre_finite.S_.Idx := fun i => i.elim0
  have h0 := congrFun h j
  unfold Cert.Pre_finite.fn at h0
  obtain ⟨h12, h3⟩ := and_one _ _ h0
  obtain ⟨h1, h2⟩ := and_one _ _ h12
  exact ⟨fun i => real_of_lt _ (Host.reduce_andi_all _ _ _ _ j h1 i), fun i => real_of_lt _ (Host.reduce_andi_all _ _ _ _ j h2 i),
    fun i => real_of_lt _ (Host.reduce_andi_all _ _ _ _ j h3 i)⟩

/-- The gradient with respect to the inputs. -/
def duR (A D : Arg) : Arg := fun i => ((gradR (entries A) (entries D) (2048 - (i 0).val) (i 1).val : ℝ) : EReal)
/-- The gradient with respect to the decays. -/
def daR (A U D : Arg) : Arg := fun i =>
  ((gradR (entries A) (entries D) (2048 - (i 0).val) (i 1).val * stateR (entries A) (entries U) (i 0).val (i 1).val : ℝ) : EReal)

theorem ref_du (A D : Arg) (hA : AllReal A) (hD : AllReal D) : ScanRef.duSeq (F := Ideal) A D 2048 = duR A D := by
  funext i
  have e : (ix2 (i 0) (i 1) : Cert.Pre_finite.S2048x2816.Idx) = i := ix2_eta i
  rw [← e]
  exact ScanRef.duSeq_apply A D _ _ (entries_eq A hA) (entries_eq D hD) 2048 le_rfl (i 0) (i 1) (by omega)

theorem ref_da (A U D : Arg) (hA : AllReal A) (hU : AllReal U) (hD : AllReal D) :
    ScanRef.daSeq (F := Ideal) A D (ScanRef.saved A U 2048) 2048 = daR A U D := by
  funext i
  have e : (ix2 (i 0) (i 1) : Cert.Pre_finite.S2048x2816.Idx) = i := ix2_eta i
  rw [← e]
  exact ScanRef.daSeq_apply A U D _ _ _ (entries_eq A hA) (entries_eq U hU) (entries_eq D hD) 2048 le_rfl (i 0) (i 1) (by omega)

/-- THE VALUE CLAIM. -/
theorem algebraic : Cert.algebraic_KernelIdeal_ReferenceIdeal_pre_finite := by
  intro m g m' g' hpre heq
  refine ⟨fun c => daR (m ((c.tc : Thread _ _).loc Cert.KernelIdeal.main_arg0)) (m ((c.tc : Thread _ _).loc Cert.KernelIdeal.main_arg1)) (m ((c.tc : Thread _ _).loc Cert.KernelIdeal.main_arg2)),
    fun c => duR (m ((c.tc : Thread _ _).loc Cert.KernelIdeal.main_arg0)) (m ((c.tc : Thread _ _).loc Cert.KernelIdeal.main_arg2)), ?_, ?_⟩
  · refine (θ_run Cert.KernelIdeal.defs _ _).mono (fun r h c => ?_) (run_main (F := Ideal) m g)
    obtain ⟨hA, hU, hD⟩ := reals_of_pre _ _ _ (hpre c)
    exact ⟨(h.1 c Cert.KernelIdeal.main_v1_1 (by decide)).trans (W2_da m g c _ _ _ (entries_eq _ hA) (entries_eq _ hU) (entries_eq _ hD)),
      (h.1 c Cert.KernelIdeal.main_v1_0 (by decide)).trans (W2_du m g c _ _ (entries_eq _ hA) (entries_eq _ hD)),
      (h.1 c Cert.KernelIdeal.main_arg0 (by decide)).trans (W2_main_arg0 m g c), (h.1 c Cert.KernelIdeal.main_arg1 (by decide)).trans (W2_main_arg1 m g c),
      (h.1 c Cert.KernelIdeal.main_arg2 (by decide)).trans (W2_main_arg2 m g c)⟩
  · refine (θ_run Cert.ReferenceIdeal.defs _ _).mono (fun r h c => ?_) (ScanRef.run_ref (F := Ideal) m' g')
    obtain ⟨hA, hU, hD⟩ := reals_of_pre _ _ _ (hpre c)
    obtain ⟨e0, e1, e2⟩ := heq c
    obtain ⟨r0, r1, a0, a1, a2⟩ := h.1 c
    refine ⟨r0.trans ?_, r1.trans ?_, a0, a1, a2⟩
    · rw [ScanRef.argA, ScanRef.argU, ScanRef.argD, e0, e1, e2]
      exact ref_da _ _ _ hA hU hD
    · rw [ScanRef.argA, ScanRef.argD, e0, e2]
      exact ref_du _ _ hA hD

end Cert.Proof.Scan

end
-- ==== Proof.lean ====
module

public import proofs.«01_k».proof.Defs
public import proofs.«01_k».proof.Proof.Products.Claims
public import proofs.«01_k».proof.Proof.Local.Claims
public import proofs.«01_k».proof.Proof.AdamW.Claims
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Scan.Equal
public import Idealize.ShloMosaic.Adequacy
public import Idealize.ShloMosaic.Init

@[expose] public section

set_option maxRecDepth 16384

noncomputable section

namespace Cert.Proof

open Idealize.ShloMosaic Idealize.SL.Sem Cert.Kernel

/-- The kernel's run ends, leaves its arguments as they were and every semaphore at zero, for any float values. -/
theorem frame_kernelIdeal {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c =>
    ⟨(h.1 c _ (by decide)).trans (Scan.W2_main_arg0 m ρ c), (h.1 c _ (by decide)).trans (Scan.W2_main_arg1 m ρ c),
      (h.1 c _ (by decide)).trans (Scan.W2_main_arg2 m ρ c)⟩, h.2⟩) (Scan.run_main (F := F) m ρ)

/-- The reference's run ends, leaves its arguments as they were and every semaphore at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun _ h => ⟨fun c => (h.1 c).2.2, h.2⟩) (ScanRef.run_ref (F := Ideal) m ρ)

/-- The two printed programs' tables of kernel bodies are one. -/
theorem bodies_eq : Cert.Kernel.defs₀ (F := Bits) = Cert.KernelIdeal.defs₀ (F := Bits) := by
  unfold Cert.Kernel.defs₀ Cert.KernelIdeal.defs₀
  congr 1
  funext l a
  match l, a with
  | ⟨0, _⟩, _ => rfl
  | ⟨1, _⟩, _ => rfl

theorem defs_eq : Cert.Kernel.defs (F := Bits) = Cert.KernelIdeal.defs (F := Bits) := by
  unfold Cert.Kernel.defs Cert.KernelIdeal.defs
  rw [bodies_eq]
  rfl

/-- The kernel on float words: the same program, so the same run. -/
theorem frame_kernel : Cert.quiescent_Kernel := fun m ρ _ => by
  rw [defs_eq]
  exact frame_kernelIdeal (F := Bits) m ρ

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  Cert.Kernel48.Gen.facts, Cert.Kernel48Ideal.Gen.facts, Cert.Reference48Ideal.Gen.facts,
  Cert.Kernel49.Gen.facts, Cert.Kernel49Ideal.Gen.facts, Cert.Reference49Ideal.Gen.facts,
  Cert.Kernel50.Gen.facts, Cert.Kernel50Ideal.Gen.facts, Cert.Reference50Ideal.Gen.facts,
  Cert.Pre_finite.Gen.facts,
  frame_kernel, fun m ρ _ => frame_kernelIdeal m ρ, fun m ρ _ => frame_kernelIdeal m ρ,
  fun m ρ _ => frame_reference m ρ, fun m ρ _ => frame_reference m ρ, Products.frame_kernel2,
  Products.frame_kernel2Ideal, Products.frame_reference2Ideal, Products.frame_kernel3,
  Products.frame_kernel3Ideal, Products.frame_reference3Ideal, Products.frame_kernel4,
  Products.frame_kernel4Ideal, Products.frame_reference4Ideal, Products.frame_kernel5,
  Products.frame_kernel5Ideal, Products.frame_reference5Ideal, Products.frame_kernel6,
  Products.frame_kernel6Ideal, Products.frame_reference6Ideal, Products.frame_kernel7,
  Products.frame_kernel7Ideal, Products.frame_reference7Ideal, Products.frame_kernel8,
  Products.frame_kernel8Ideal, Products.frame_reference8Ideal, Products.frame_kernel9,
  Products.frame_kernel9Ideal, Products.frame_reference9Ideal, Products.frame_kernel10,
  Products.frame_kernel10Ideal, Products.frame_reference10Ideal, Products.frame_kernel11,
  Products.frame_kernel11Ideal, Products.frame_reference11Ideal, Products.frame_kernel12,
  Products.frame_kernel12Ideal, Products.frame_reference12Ideal, Products.frame_kernel13,
  Products.frame_kernel13Ideal, Products.frame_reference13Ideal, Products.frame_kernel14,
  Products.frame_kernel14Ideal, Products.frame_reference14Ideal, Products.frame_kernel15,
  Products.frame_kernel15Ideal, Products.frame_reference15Ideal, Products.frame_kernel16,
  Products.frame_kernel16Ideal, Products.frame_reference16Ideal, Products.frame_kernel17,
  Products.frame_kernel17Ideal, Products.frame_reference17Ideal, Products.frame_kernel18,
  Products.frame_kernel18Ideal, Products.frame_reference18Ideal, Products.frame_kernel19,
  Products.frame_kernel19Ideal, Products.frame_reference19Ideal, Products.frame_kernel20,
  Products.frame_kernel20Ideal, Products.frame_reference20Ideal, Products.frame_kernel21,
  Products.frame_kernel21Ideal, Products.frame_reference21Ideal, Local.frame_kernel22,
  Local.frame_kernel22Ideal, Local.frame_reference22Ideal, Local.frame_kernel23,
  Local.frame_kernel23Ideal, Local.frame_reference23Ideal, Local.frame_kernel24,
  Local.frame_kernel24Ideal, Local.frame_reference24Ideal, Local.frame_kernel25,
  Local.frame_kernel25Ideal, Local.frame_reference25Ideal, Local.frame_kernel26,
  Local.frame_kernel26Ideal, Local.frame_reference26Ideal, Local.frame_kernel27,
  Local.frame_kernel27Ideal, Local.frame_reference27Ideal, Local.frame_kernel28,
  Local.frame_kernel28Ideal, Local.frame_reference28Ideal, Local.frame_kernel29,
  Local.frame_kernel29Ideal, Local.frame_reference29Ideal, Local.frame_kernel30,
  Local.frame_kernel30Ideal, Local.frame_reference30Ideal, AdamW.frame_kernel31,
  AdamW.frame_kernel31Ideal, AdamW.frame_reference31Ideal, AdamW.frame_kernel32,
  AdamW.frame_kernel32Ideal, AdamW.frame_reference32Ideal, AdamW.frame_kernel33,
  AdamW.frame_kernel33Ideal, AdamW.frame_reference33Ideal, AdamW.frame_kernel34,
  AdamW.frame_kernel34Ideal, AdamW.frame_reference34Ideal, AdamW.frame_kernel35,
  AdamW.frame_kernel35Ideal, AdamW.frame_reference35Ideal, AdamW.frame_kernel36,
  AdamW.frame_kernel36Ideal, AdamW.frame_reference36Ideal, AdamW.frame_kernel37,
  AdamW.frame_kernel37Ideal, AdamW.frame_reference37Ideal, AdamW.frame_kernel38,
  AdamW.frame_kernel38Ideal, AdamW.frame_reference38Ideal, AdamW.frame_kernel39,
  AdamW.frame_kernel39Ideal, AdamW.frame_reference39Ideal, AdamW.frame_kernel40,
  AdamW.frame_kernel40Ideal, AdamW.frame_reference40Ideal, Local.frame_kernel41,
  Local.frame_kernel41Ideal, Local.frame_reference41Ideal, Local.frame_kernel42,
  Local.frame_kernel42Ideal, Local.frame_reference42Ideal, Local.frame_kernel43,
  Local.frame_kernel43Ideal, Local.frame_reference43Ideal, Local.frame_kernel44,
  Local.frame_kernel44Ideal, Local.frame_reference44Ideal, Local.frame_kernel45,
  Local.frame_kernel45Ideal, Local.frame_reference45Ideal, Local.frame_kernel46,
  Local.frame_kernel46Ideal, Local.frame_reference46Ideal, Local.frame_kernel47,
  Local.frame_kernel47Ideal, Local.frame_reference47Ideal, Local.frame_kernel48,
  Local.frame_kernel48Ideal, Local.frame_reference48Ideal, Local.frame_kernel49,
  Local.frame_kernel49Ideal, Local.frame_reference49Ideal, Local.frame_kernel50,
  Local.frame_kernel50Ideal, Local.frame_reference50Ideal,
  trivial, Scan.algebraic, trivial,
  Products.algebraic2, trivial, Products.algebraic3,
  trivial, Products.algebraic4, trivial,
  Products.algebraic5, trivial, Products.algebraic6,
  trivial, Products.algebraic7, trivial,
  Products.algebraic8, trivial, Products.algebraic9,
  trivial, Products.algebraic10, trivial,
  Products.algebraic11, trivial, Products.algebraic12,
  trivial, Products.algebraic13, trivial,
  Products.algebraic14, trivial, Products.algebraic15,
  trivial, Products.algebraic16, trivial,
  Products.algebraic17, trivial, Products.algebraic18,
  trivial, Products.algebraic19, trivial,
  Products.algebraic20, trivial, Products.algebraic21,
  trivial, Local.algebraic22, trivial,
  Local.algebraic23, trivial, Local.algebraic24,
  trivial, Local.algebraic25, trivial,
  Local.algebraic26, trivial, Local.algebraic27,
  trivial, Local.algebraic28, trivial,
  Local.algebraic29, trivial, Local.algebraic30,
  trivial, AdamW.algebraic31, trivial,
  AdamW.algebraic32, trivial, AdamW.algebraic33,
  trivial, AdamW.algebraic34, trivial,
  AdamW.algebraic35, trivial, AdamW.algebraic36,
  trivial, AdamW.algebraic37, trivial,
  AdamW.algebraic38, trivial, AdamW.algebraic39,
  trivial, AdamW.algebraic40, trivial,
  Local.algebraic41, trivial, Local.algebraic42,
  trivial, Local.algebraic43, trivial,
  Local.algebraic44, trivial, Local.algebraic45,
  trivial, Local.algebraic46, trivial,
  Local.algebraic47, trivial, Local.algebraic48,
  trivial, Local.algebraic49, trivial,
  Local.algebraic50⟩

end Cert.Proof

end
